-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v2)) (v2 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v2) = v1 c
          ∧ r.2.mem ((c.tc : Thread Cert.Kernel5Ideal.nD Cert.Kernel5Ideal.τ).loc Cert.Kernel5Ideal.main_v0_1) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_v21) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v14) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v15) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)) (v1 : (c : Dev Cert.Kernel20Ideal.nD) → Buf (Elt Ideal) ((c.tc : Thread Cert.Kernel20Ideal.nD Cert.Kernel20Ideal.τ).loc Cert.Kernel20Ideal.main_v1_0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_v1_0) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v39) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Kernel2.lean ====
abbrev S8208x3072 : Shape := ⟨2, ![8208, 3072]⟩
abbrev S8208x1024 : Shape := ⟨2, ![8208, 1024]⟩
abbrev S3072x1024 : Shape := ⟨2, ![3072, 1024]⟩
abbrev S912x3072 : Shape := ⟨2, ![912, 3072]⟩
abbrev S912x512 : Shape := ⟨2, ![912, 512]⟩
abbrev S3072x512 : Shape := ⟨2, ![3072, 512]⟩

abbrev nBuf : Space → Nat
  | .hbm => 3
  | .vmem => 7
  | .smem => 0
  | _ => 0

abbrev bufTy : (tb : Table) → Fin (tcTables nBuf tb) → BufTy
  | .hbm, ⟨0, _⟩ => ⟨S8208x3072, .bf16⟩
  | .hbm, ⟨1, _⟩ => ⟨S8208x1024, .bf16⟩
  | .hbm, ⟨2, _⟩ => ⟨S3072x1024, .bf16⟩
  | .local _ .vmem, ⟨0, _⟩ => ⟨S912x3072, .bf16⟩
  | .local _ .vmem, ⟨1, _⟩ => ⟨S912x3072, .bf16⟩
  | .local _ .vmem, ⟨2, _⟩ => ⟨S912x512, .bf16⟩
  | .local _ .vmem, ⟨3, _⟩ => ⟨S912x512, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .f32⟩
  | _, _ => ⟨S8208x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8208x3072 : Shape := ⟨2, ![8208, 3072]⟩
abbrev S8208x1024 : Shape := ⟨2, ![8208, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8208x3072, .bf16⟩
  | .hbm, ⟨1, _⟩ => ⟨S8208x1024, .bf16⟩
  | .hbm, ⟨2, _⟩ => ⟨S8208x3072, .f32⟩
  | .hbm, ⟨3, _⟩ => ⟨S8208x1024, .f32⟩
  | .hbm, ⟨4, _⟩ => ⟨S_, .f32⟩
  | .hbm, ⟨5, _⟩ => ⟨S3072x1024, .f32⟩
  | .hbm, ⟨6, _⟩ => ⟨S8208x1024, .f32⟩
  | .hbm, ⟨7, _⟩ => ⟨S1024x3072, .f32⟩
  | .hbm, ⟨8, _⟩ => ⟨S3072x1024, .f32⟩
  | .hbm, ⟨9, _⟩ => ⟨S3072x1024, .bf16⟩
  | _, _ => ⟨S8208x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8208x6144 : Shape := ⟨2, ![8208, 6144]⟩
abbrev S1024x6144 : Shape := ⟨2, ![1024, 6144]⟩
abbrev S8208x1024 : Shape := ⟨2, ![8208, 1024]⟩
abbrev S1x1024 : Shape := ⟨2, ![1, 1024]⟩
abbrev S432x6144 : Shape := ⟨2, ![432, 6144]⟩
abbrev S432x1024 : Shape := ⟨2, ![432, 1024]⟩
abbrev S432 : Shape := ⟨1, ![432]⟩
abbrev S432x1 : Shape := ⟨2, ![432, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8208x6144, .bf16⟩
  | .hbm, ⟨1, _⟩ => ⟨S1024x6144, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .hbm, ⟨6, _⟩ => ⟨S1x1024, .f32⟩
  | .local _ .vmem, ⟨0, _⟩ => ⟨S432x6144, .bf16⟩
  | .local _ .vmem, ⟨1, _⟩ => ⟨S432x6144, .bf16⟩
  | .local _ .vmem, ⟨2, _⟩ => ⟨S1024x6144, .bf16⟩
  | .local _ .vmem, ⟨3, _⟩ => ⟨S432x1024, .f32⟩
  | .local _ .vmem, ⟨4, _⟩ => ⟨S432x1024, .f32⟩
  | .local _ .vmem, ⟨5, _⟩ => ⟨S1x1024, .f32⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | .local _ .vmem, ⟨10, _⟩ => ⟨S1x1024, .f32⟩
  | _, _ => ⟨S8208x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S8208x6144 : Shape := ⟨2, ![8208, 6144]⟩
abbrev S1024x6144 : Shape := ⟨2, ![1024, 6144]⟩
abbrev S8208x1024 : Shape := ⟨2, ![8208, 1024]⟩
abbrev S1x1024 : Shape := ⟨2, ![1, 1024]⟩
abbrev S_ : Shape := ⟨0, ![]⟩
abbrev S8208 : Shape := ⟨1, ![8208]⟩
abbrev S8208x1 : Shape := ⟨2, ![8208, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8208x6144, .bf16⟩
  | .hbm, ⟨1, _⟩ => ⟨S1024x6144, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S1024x6144, .f32⟩
  | .hbm, ⟨25, _⟩ => ⟨S8208x6144, .f32⟩
  | .hbm, ⟨26, _⟩ => ⟨S8208x6144, .f32⟩
  | .hbm, ⟨27, _⟩ => ⟨S8208x1024, .f32⟩
  | .hbm, ⟨28, _⟩ => ⟨S8208x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S8208, .f32⟩
  | .hbm, ⟨37, _⟩ => ⟨S8208x1, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1, .f32⟩
  | .hbm, ⟨42, _⟩ => ⟨S_, .f32⟩
  | .hbm, ⟨43, _⟩ => ⟨S8208x1, .f32⟩
  | .hbm, ⟨44, _⟩ => ⟨S8208x1, .f32⟩
  | .hbm, ⟨45, _⟩ => ⟨S_, .f32⟩
  | .hbm, ⟨46, _⟩ => ⟨S8208, .f32⟩
  | .hbm, ⟨47, _⟩ => ⟨S8208x1024, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | _, _ => ⟨S8208x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S8208x1024 : Shape := ⟨2, ![8208, 1024]⟩
abbrev S1x1024 : Shape := ⟨2, ![1, 1024]⟩
abbrev S3072x1024 : Shape := ⟨2, ![3072, 1024]⟩
abbrev S8208x3072 : Shape := ⟨2, ![8208, 3072]⟩
abbrev S432x1024 : Shape := ⟨2, ![432, 1024]⟩
abbrev S432x3072 : Shape := ⟨2, ![432, 3072]⟩
abbrev S432 : Shape := ⟨1, ![432]⟩
abbrev S432x1 : Shape := ⟨2, ![432, 1]⟩
abbrev S1024 : Shape := ⟨1, ![1024]⟩
abbrev S1536x1024 : Shape := ⟨2, ![1536, 1024]⟩
abbrev S432x1536 : Shape := ⟨2, ![432, 1536]⟩

abbrev nBuf : Space → Nat
  | .hbm => 7
  | .vmem => 11
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S3072x1024, .bf16⟩
  | .hbm, ⟨3, _⟩ => ⟨S8208x1024, .f32⟩
  | .hbm, ⟨4, _⟩ => ⟨S8208x3072, .f32⟩
  | .hbm, ⟨5, _⟩ => ⟨S8208x1024, .bf16⟩
  | .hbm, ⟨6, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S432x1024, .f32⟩
  | .local _ .vmem, ⟨4, _⟩ => ⟨S432x1024, .f32⟩
  | .local _ .vmem, ⟨5, _⟩ => ⟨S3072x1024, .bf16⟩
  | .local _ .vmem, ⟨6, _⟩ => ⟨S432x3072, .f32⟩
  | .local _ .vmem, ⟨7, _⟩ => ⟨S432x3072, .f32⟩
  | .local _ .vmem, ⟨8, _⟩ => ⟨S432x1024, .bf16⟩
  | .local _ .vmem, ⟨9, _⟩ => ⟨S432x1024, .bf16⟩
  | .local _ .vmem, ⟨10, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S8208x1024 : Shape := ⟨2, ![8208, 1024]⟩
abbrev S1x1024 : Shape := ⟨2, ![1, 1024]⟩
abbrev S3072x1024 : Shape := ⟨2, ![3072, 1024]⟩
abbrev S_ : Shape := ⟨0, ![]⟩
abbrev S8208 : Shape := ⟨1, ![8208]⟩
abbrev S8208x1 : Shape := ⟨2, ![8208, 1]⟩
abbrev S1024 : Shape := ⟨1, ![1024]⟩
abbrev S8208x3072 : Shape := ⟨2, ![8208, 3072]⟩

abbrev nBuf : Space → Nat
  | .hbm => 52
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S3072x1024, .bf16⟩
  | .hbm, ⟨3, _⟩ => ⟨S8208x1024, .f32⟩
  | .hbm, ⟨4, _⟩ => ⟨S8208x1024, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8208x1024, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S8208, .f32⟩
  | .hbm, ⟨32, _⟩ => ⟨S8208x1, .f32⟩
  | .hbm, ⟨33, _⟩ => ⟨S8208x1024, .f32⟩
  | .hbm, ⟨34, _⟩ => ⟨S8208x1024, .f32⟩
  | .hbm, ⟨35, _⟩ => ⟨S8208x1, .f32⟩
  | .hbm, ⟨36, _⟩ => ⟨S_, .f32⟩
  | .hbm, ⟨37, _⟩ => ⟨S8208x1, .f32⟩
  | .hbm, ⟨38, _⟩ => ⟨S8208x1, .f32⟩
  | .hbm, ⟨39, _⟩ => ⟨S_, .f32⟩
  | .hbm, ⟨40, _⟩ => ⟨S8208, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S_, .f32⟩
  | .hbm, ⟨47, _⟩ => ⟨S8208x3072, .f32⟩
  | .hbm, ⟨48, _⟩ => ⟨S3072x1024, .f32⟩
  | .hbm, ⟨49, _⟩ => ⟨S8208x1024, .f32⟩
  | .hbm, ⟨50, _⟩ => ⟨S8208x3072, .f32⟩
  | .hbm, ⟨51, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel5.lean ====
abbrev S8208x3072 : Shape := ⟨2, ![8208, 3072]⟩
abbrev S1024x3072 : Shape := ⟨2, ![1024, 3072]⟩
abbrev S8208x1024 : Shape := ⟨2, ![8208, 1024]⟩
abbrev S1x1024 : Shape := ⟨2, ![1, 1024]⟩
abbrev S432x3072 : Shape := ⟨2, ![432, 3072]⟩
abbrev S432x1024 : Shape := ⟨2, ![432, 1024]⟩
abbrev S432 : Shape := ⟨1, ![432]⟩
abbrev S432x1 : Shape := ⟨2, ![432, 1]⟩
abbrev S1024 : Shape := ⟨1, ![1024]⟩
abbrev S8192x1024 : Shape := ⟨2, ![8192, 1024]⟩
abbrev S16x1024 : Shape := ⟨2, ![16, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8208x3072, .bf16⟩
  | .hbm, ⟨1, _⟩ => ⟨S1024x3072, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .hbm, ⟨6, _⟩ => ⟨S1x1024, .f32⟩
  | .hbm, ⟨7, _⟩ => ⟨S8192x1024, .f32⟩
  | .hbm, ⟨8, _⟩ => ⟨S16x1024, .f32⟩
  | .local _ .vmem, ⟨0, _⟩ => ⟨S432x3072, .bf16⟩
  | .local _ .vmem, ⟨1, _⟩ => ⟨S432x3072, .bf16⟩
  | .local _ .vmem, ⟨2, _⟩ => ⟨S1024x3072, .bf16⟩
  | .local _ .vmem, ⟨3, _⟩ => ⟨S432x1024, .f32⟩
  | .local _ .vmem, ⟨4, _⟩ => ⟨S432x1024, .f32⟩
  | .local _ .vmem, ⟨5, _⟩ => ⟨S1x1024, .f32⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | .local _ .vmem, ⟨10, _⟩ => ⟨S1x1024, .f32⟩
  | _, _ => ⟨S8208x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8208x3072 : Shape := ⟨2, ![8208, 3072]⟩
abbrev S1024x3072 : Shape := ⟨2, ![1024, 3072]⟩
abbrev S8208x1024 : Shape := ⟨2, ![8208, 1024]⟩
abbrev S1x1024 : Shape := ⟨2, ![1, 1024]⟩
abbrev S_ : Shape := ⟨0, ![]⟩
abbrev S8208 : Shape := ⟨1, ![8208]⟩
abbrev S8208x1 : Shape := ⟨2, ![8208, 1]⟩
abbrev S1024 : Shape := ⟨1, ![1024]⟩
abbrev S8192x1024 : Shape := ⟨2, ![8192, 1024]⟩
abbrev S16x1024 : Shape := ⟨2, ![16, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8208x3072, .bf16⟩
  | .hbm, ⟨1, _⟩ => ⟨S1024x3072, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S_, .f32⟩
  | .hbm, ⟨18, _⟩ => ⟨S8208x1, .f32⟩
  | .hbm, ⟨19, _⟩ => ⟨S8208x1, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S1024x3072, .f32⟩
  | .hbm, ⟨25, _⟩ => ⟨S8208x3072, .f32⟩
  | .hbm, ⟨26, _⟩ => ⟨S8208x3072, .f32⟩
  | .hbm, ⟨27, _⟩ => ⟨S8208x1024, .f32⟩
  | .hbm, ⟨28, _⟩ => ⟨S8208x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8208x1024, .f32⟩
  | .hbm, ⟨33, _⟩ => ⟨S8208x1024, .f32⟩
  | .hbm, ⟨34, _⟩ => ⟨S8208x1024, .f32⟩
  | .hbm, ⟨35, _⟩ => ⟨S_, .f32⟩
  | .hbm, ⟨36, _⟩ => ⟨S8208, .f32⟩
  | .hbm, ⟨37, _⟩ => ⟨S8208x1, .f32⟩
  | .hbm, ⟨38, _⟩ => ⟨S8208x1024, .f32⟩
  | .hbm, ⟨39, _⟩ => ⟨S8208x1024, .f32⟩
  | .hbm, ⟨40, _⟩ => ⟨S8208x1024, .f32⟩
  | .hbm, ⟨41, _⟩ => ⟨S8208x1, .f32⟩
  | .hbm, ⟨42, _⟩ => ⟨S_, .f32⟩
  | .hbm, ⟨43, _⟩ => ⟨S8208x1, .f32⟩
  | .hbm, ⟨44, _⟩ => ⟨S8208x1, .f32⟩
  | .hbm, ⟨45, _⟩ => ⟨S_, .f32⟩
  | .hbm, ⟨46, _⟩ => ⟨S8208, .f32⟩
  | .hbm, ⟨47, _⟩ => ⟨S8208x1024, .f32⟩
  | .hbm, ⟨48, _⟩ => ⟨S8208x1024, .f32⟩
  | .hbm, ⟨49, _⟩ => ⟨S8208x1024, .f32⟩
  | .hbm, ⟨50, _⟩ => ⟨S8208x1024, .f32⟩
  | .hbm, ⟨51, _⟩ => ⟨S8208x1024, .f32⟩
  | .hbm, ⟨52, _⟩ => ⟨S8192x1024, .f32⟩
  | .hbm, ⟨53, _⟩ => ⟨S16x1024, .f32⟩
  | _, _ => ⟨S8208x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel6.lean ====
abbrev S8208x1024 : Shape := ⟨2, ![8208, 1024]⟩
abbrev S1x1024 : Shape := ⟨2, ![1, 1024]⟩
abbrev S1536x1024 : Shape := ⟨2, ![1536, 1024]⟩
abbrev S8208x1536 : Shape := ⟨2, ![8208, 1536]⟩
abbrev S432x1024 : Shape := ⟨2, ![432, 1024]⟩
abbrev S432x1536 : Shape := ⟨2, ![432, 1536]⟩
abbrev S432 : Shape := ⟨1, ![432]⟩
abbrev S432x1 : Shape := ⟨2, ![432, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1536x1024, .bf16⟩
  | .hbm, ⟨3, _⟩ => ⟨S8208x1024, .f32⟩
  | .hbm, ⟨4, _⟩ => ⟨S8208x1536, .f32⟩
  | .hbm, ⟨5, _⟩ => ⟨S8208x1024, .bf16⟩
  | .hbm, ⟨6, _⟩ => ⟨S1x1024, .f32⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S432x1024, .f32⟩
  | .local _ .vmem, ⟨4, _⟩ => ⟨S432x1024, .f32⟩
  | .local _ .vmem, ⟨5, _⟩ => ⟨S1536x1024, .bf16⟩
  | .local _ .vmem, ⟨6, _⟩ => ⟨S432x1536, .f32⟩
  | .local _ .vmem, ⟨7, _⟩ => ⟨S432x1536, .f32⟩
  | .local _ .vmem, ⟨8, _⟩ => ⟨S432x1024, .bf16⟩
  | .local _ .vmem, ⟨9, _⟩ => ⟨S432x1024, .bf16⟩
  | .local _ .vmem, ⟨10, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S8208x1024 : Shape := ⟨2, ![8208, 1024]⟩
abbrev S1x1024 : Shape := ⟨2, ![1, 1024]⟩
abbrev S1536x1024 : Shape := ⟨2, ![1536, 1024]⟩
abbrev S_ : Shape := ⟨0, ![]⟩
abbrev S8208 : Shape := ⟨1, ![8208]⟩
abbrev S8208x1 : Shape := ⟨2, ![8208, 1]⟩
abbrev S1024 : Shape := ⟨1, ![1024]⟩
abbrev S8208x1536 : Shape := ⟨2, ![8208, 1536]⟩

abbrev nBuf : Space → Nat
  | .hbm => 52
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1536x1024, .bf16⟩
  | .hbm, ⟨3, _⟩ => ⟨S8208x1024, .f32⟩
  | .hbm, ⟨4, _⟩ => ⟨S8208x1024, .f32⟩
  | .hbm, ⟨5, _⟩ => ⟨S_, .f32⟩
  | .hbm, ⟨6, _⟩ => ⟨S8208, .f32⟩
  | .hbm, ⟨7, _⟩ => ⟨S8208x1, .f32⟩
  | .hbm, ⟨8, _⟩ => ⟨S_, .f32⟩
  | .hbm, ⟨9, _⟩ => ⟨S8208x1, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S_, .f32⟩
  | .hbm, ⟨17, _⟩ => ⟨S8208x1, .f32⟩
  | .hbm, ⟨18, _⟩ => ⟨S8208x1, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | .hbm, ⟨23, _⟩ => ⟨S8208x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8208x1024, .f32⟩
  | .hbm, ⟨28, _⟩ => ⟨S8208x1024, .f32⟩
  | .hbm, ⟨29, _⟩ => ⟨S8208x1024, .f32⟩
  | .hbm, ⟨30, _⟩ => ⟨S_, .f32⟩
  | .hbm, ⟨31, _⟩ => ⟨S8208, .f32⟩
  | .hbm, ⟨32, _⟩ => ⟨S8208x1, .f32⟩
  | .hbm, ⟨33, _⟩ => ⟨S8208x1024, .f32⟩
  | .hbm, ⟨34, _⟩ => ⟨S8208x1024, .f32⟩
  | .hbm, ⟨35, _⟩ => ⟨S8208x1, .f32⟩
  | .hbm, ⟨36, _⟩ => ⟨S_, .f32⟩
  | .hbm, ⟨37, _⟩ => ⟨S8208x1, .f32⟩
  | .hbm, ⟨38, _⟩ => ⟨S8208x1, .f32⟩
  | .hbm, ⟨39, _⟩ => ⟨S_, .f32⟩
  | .hbm, ⟨40, _⟩ => ⟨S8208, .f32⟩
  | .hbm, ⟨41, _⟩ => ⟨S8208x1024, .f32⟩
  | .hbm, ⟨42, _⟩ => ⟨S8208x1024, .f32⟩
  | .hbm, ⟨43, _⟩ => ⟨S8208x1024, .f32⟩
  | .hbm, ⟨44, _⟩ => ⟨S8208x1024, .f32⟩
  | .hbm, ⟨45, _⟩ => ⟨S8208x1024, .f32⟩
  | .hbm, ⟨46, _⟩ => ⟨S_, .f32⟩
  | .hbm, ⟨47, _⟩ => ⟨S8208x1536, .f32⟩
  | .hbm, ⟨48, _⟩ => ⟨S1536x1024, .f32⟩
  | .hbm, ⟨49, _⟩ => ⟨S8208x1024, .f32⟩
  | .hbm, ⟨50, _⟩ => ⟨S8208x1536, .f32⟩
  | .hbm, ⟨51, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel7.lean ====
abbrev S8208x1024 : Shape := ⟨2, ![8208, 1024]⟩
abbrev S8208x6144 : Shape := ⟨2, ![8208, 6144]⟩
abbrev S1024x6144 : Shape := ⟨2, ![1024, 6144]⟩
abbrev S912x1024 : Shape := ⟨2, ![912, 1024]⟩
abbrev S912x1536 : Shape := ⟨2, ![912, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8208x1024, .bf16⟩
  | .hbm, ⟨1, _⟩ => ⟨S8208x6144, .bf16⟩
  | .hbm, ⟨2, _⟩ => ⟨S1024x6144, .bf16⟩
  | .local _ .vmem, ⟨0, _⟩ => ⟨S912x1024, .bf16⟩
  | .local _ .vmem, ⟨1, _⟩ => ⟨S912x1024, .bf16⟩
  | .local _ .vmem, ⟨2, _⟩ => ⟨S912x1536, .bf16⟩
  | .local _ .vmem, ⟨3, _⟩ => ⟨S912x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S8208x1024 : Shape := ⟨2, ![8208, 1024]⟩
abbrev S8208x6144 : Shape := ⟨2, ![8208, 6144]⟩
abbrev S_ : Shape := ⟨0, ![]⟩
abbrev S1024x6144 : Shape := ⟨2, ![1024, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x6144, .bf16⟩
  | .hbm, ⟨2, _⟩ => ⟨S8208x1024, .f32⟩
  | .hbm, ⟨3, _⟩ => ⟨S8208x6144, .f32⟩
  | .hbm, ⟨4, _⟩ => ⟨S_, .f32⟩
  | .hbm, ⟨5, _⟩ => ⟨S1024x6144, .f32⟩
  | .hbm, ⟨6, _⟩ => ⟨S8208x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8208x1536 : Shape := ⟨2, ![8208, 1536]⟩
abbrev S8208x1024 : Shape := ⟨2, ![8208, 1024]⟩
abbrev S1536x1024 : Shape := ⟨2, ![1536, 1024]⟩
abbrev S912x1536 : Shape := ⟨2, ![912, 1536]⟩
abbrev S912x1024 : Shape := ⟨2, ![912, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8208x1536, .bf16⟩
  | .hbm, ⟨1, _⟩ => ⟨S8208x1024, .bf16⟩
  | .hbm, ⟨2, _⟩ => ⟨S1536x1024, .bf16⟩
  | .local _ .vmem, ⟨0, _⟩ => ⟨S912x1536, .bf16⟩
  | .local _ .vmem, ⟨1, _⟩ => ⟨S912x1536, .bf16⟩
  | .local _ .vmem, ⟨2, _⟩ => ⟨S912x1024, .bf16⟩
  | .local _ .vmem, ⟨3, _⟩ => ⟨S912x1024, .bf16⟩
  | .local _ .vmem, ⟨4, _⟩ => ⟨S1536x1024, .bf16⟩
  | .local _ .vmem, ⟨5, _⟩ => ⟨S1536x1024, .f32⟩
  | _, _ => ⟨S8208x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S8208x1536 : Shape := ⟨2, ![8208, 1536]⟩
abbrev S8208x1024 : Shape := ⟨2, ![8208, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8208x1536, .bf16⟩
  | .hbm, ⟨1, _⟩ => ⟨S8208x1024, .bf16⟩
  | .hbm, ⟨2, _⟩ => ⟨S8208x1536, .f32⟩
  | .hbm, ⟨3, _⟩ => ⟨S8208x1024, .f32⟩
  | .hbm, ⟨4, _⟩ => ⟨S_, .f32⟩
  | .hbm, ⟨5, _⟩ => ⟨S1536x1024, .f32⟩
  | .hbm, ⟨6, _⟩ => ⟨S8208x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S8208x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8208x1024 : Shape := ⟨2, ![8208, 1024]⟩
abbrev S8208x3072 : Shape := ⟨2, ![8208, 3072]⟩
abbrev S1024x3072 : Shape := ⟨2, ![1024, 3072]⟩
abbrev S912x1024 : Shape := ⟨2, ![912, 1024]⟩
abbrev S912x1536 : Shape := ⟨2, ![912, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8208x1024, .bf16⟩
  | .hbm, ⟨1, _⟩ => ⟨S8208x3072, .bf16⟩
  | .hbm, ⟨2, _⟩ => ⟨S1024x3072, .bf16⟩
  | .local _ .vmem, ⟨0, _⟩ => ⟨S912x1024, .bf16⟩
  | .local _ .vmem, ⟨1, _⟩ => ⟨S912x1024, .bf16⟩
  | .local _ .vmem, ⟨2, _⟩ => ⟨S912x1536, .bf16⟩
  | .local _ .vmem, ⟨3, _⟩ => ⟨S912x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def k0_cond2 (i : grid0.Coords) : BitVec 1 :=
  let arg1 : BitVec 32 := BitVec.ofNat 32 (i 1).val
  let c8_i32 : BitVec 32 := 8#32
  let v11 : BitVec 1 := Scalar.cmpi .eq arg1 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S8208x1024 : Shape := ⟨2, ![8208, 1024]⟩
abbrev S8208x3072 : Shape := ⟨2, ![8208, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x3072, .bf16⟩
  | .hbm, ⟨2, _⟩ => ⟨S8208x1024, .f32⟩
  | .hbm, ⟨3, _⟩ => ⟨S8208x3072, .f32⟩
  | .hbm, ⟨4, _⟩ => ⟨S_, .f32⟩
  | .hbm, ⟨5, _⟩ => ⟨S1024x3072, .f32⟩
  | .hbm, ⟨6, _⟩ => ⟨S8208x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8208x1024 : Shape := ⟨2, ![8208, 1024]⟩
abbrev S1x1024 : Shape := ⟨2, ![1, 1024]⟩
abbrev S1024x3072 : Shape := ⟨2, ![1024, 3072]⟩
abbrev S8208x3072 : Shape := ⟨2, ![8208, 3072]⟩
abbrev S432x1024 : Shape := ⟨2, ![432, 1024]⟩
abbrev S432x3072 : Shape := ⟨2, ![432, 3072]⟩
abbrev S432 : Shape := ⟨1, ![432]⟩
abbrev S432x1 : Shape := ⟨2, ![432, 1]⟩
abbrev S1024x1536 : Shape := ⟨2, ![1024, 1536]⟩
abbrev S432x1536 : Shape := ⟨2, ![432, 1536]⟩

abbrev nBuf : Space → Nat
  | .hbm => 5
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x3072, .bf16⟩
  | .hbm, ⟨3, _⟩ => ⟨S8208x3072, .f32⟩
  | .hbm, ⟨4, _⟩ => ⟨S8208x1024, .bf16⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S1024x3072, .bf16⟩
  | .local _ .vmem, ⟨4, _⟩ => ⟨S432x3072, .f32⟩
  | .local _ .vmem, ⟨5, _⟩ => ⟨S432x3072, .f32⟩
  | .local _ .vmem, ⟨6, _⟩ => ⟨S432x1024, .bf16⟩
  | .local _ .vmem, ⟨7, _⟩ => ⟨S432x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S432x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8208x1024 : Shape := ⟨2, ![8208, 1024]⟩
abbrev S1x1024 : Shape := ⟨2, ![1, 1024]⟩
abbrev S1024x3072 : Shape := ⟨2, ![1024, 3072]⟩
abbrev S_ : Shape := ⟨0, ![]⟩
abbrev S8208 : Shape := ⟨1, ![8208]⟩
abbrev S8208x1 : Shape := ⟨2, ![8208, 1]⟩
abbrev S8208x3072 : Shape := ⟨2, ![8208, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x3072, .bf16⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S1024x3072, .f32⟩
  | .hbm, ⟨19, _⟩ => ⟨S8208x3072, .f32⟩
  | .hbm, ⟨20, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel11.lean ====
abbrev S8208x1024 : Shape := ⟨2, ![8208, 1024]⟩
abbrev S1x1024 : Shape := ⟨2, ![1, 1024]⟩
abbrev S1024x6144 : Shape := ⟨2, ![1024, 6144]⟩
abbrev S8208x6144 : Shape := ⟨2, ![8208, 6144]⟩
abbrev S432x1024 : Shape := ⟨2, ![432, 1024]⟩
abbrev S432x6144 : Shape := ⟨2, ![432, 6144]⟩
abbrev S432 : Shape := ⟨1, ![432]⟩
abbrev S432x1 : Shape := ⟨2, ![432, 1]⟩
abbrev S1024x1536 : Shape := ⟨2, ![1024, 1536]⟩
abbrev S432x1536 : Shape := ⟨2, ![432, 1536]⟩

abbrev nBuf : Space → Nat
  | .hbm => 5
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x6144, .bf16⟩
  | .hbm, ⟨3, _⟩ => ⟨S8208x6144, .f32⟩
  | .hbm, ⟨4, _⟩ => ⟨S8208x1024, .bf16⟩
  | .local _ .vmem, ⟨0, _⟩ => ⟨S432x1024, .f32⟩
  | .local _ .vmem, ⟨1, _⟩ => ⟨S432x1024, .f32⟩
  | .local _ .vmem, ⟨2, _⟩ => ⟨S1x1024, .f32⟩
  | .local _ .vmem, ⟨3, _⟩ => ⟨S1024x6144, .bf16⟩
  | .local _ .vmem, ⟨4, _⟩ => ⟨S432x6144, .f32⟩
  | .local _ .vmem, ⟨5, _⟩ => ⟨S432x6144, .f32⟩
  | .local _ .vmem, ⟨6, _⟩ => ⟨S432x1024, .bf16⟩
  | .local _ .vmem, ⟨7, _⟩ => ⟨S432x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S432x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S432x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S8208x1024 : Shape := ⟨2, ![8208, 1024]⟩
abbrev S1x1024 : Shape := ⟨2, ![1, 1024]⟩
abbrev S1024x6144 : Shape := ⟨2, ![1024, 6144]⟩
abbrev S_ : Shape := ⟨0, ![]⟩
abbrev S8208 : Shape := ⟨1, ![8208]⟩
abbrev S8208x1 : Shape := ⟨2, ![8208, 1]⟩
abbrev S8208x6144 : Shape := ⟨2, ![8208, 6144]⟩

abbrev nBuf : Space → Nat
  | .hbm => 21
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1024x6144, .bf16⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S1024x6144, .f32⟩
  | .hbm, ⟨19, _⟩ => ⟨S8208x6144, .f32⟩
  | .hbm, ⟨20, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S8208x1536 : Shape := ⟨2, ![8208, 1536]⟩
abbrev S1536x1024 : Shape := ⟨2, ![1536, 1024]⟩
abbrev S8208x1024 : Shape := ⟨2, ![8208, 1024]⟩
abbrev S1x1024 : Shape := ⟨2, ![1, 1024]⟩
abbrev S432x1536 : Shape := ⟨2, ![432, 1536]⟩
abbrev S432x1024 : Shape := ⟨2, ![432, 1024]⟩
abbrev S432 : Shape := ⟨1, ![432]⟩
abbrev S432x1 : Shape := ⟨2, ![432, 1]⟩

abbrev nBuf : Space → Nat
  | .hbm => 6
  | .vmem => 10
  | .smem => 0
  | _ => 0

abbrev bufTy : (tb : Table) → Fin (tcTables nBuf tb) → BufTy
  | .hbm, ⟨0, _⟩ => ⟨S8208x1536, .bf16⟩
  | .hbm, ⟨1, _⟩ => ⟨S1536x1024, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .local _ .vmem, ⟨0, _⟩ => ⟨S432x1536, .bf16⟩
  | .local _ .vmem, ⟨1, _⟩ => ⟨S432x1536, .bf16⟩
  | .local _ .vmem, ⟨2, _⟩ => ⟨S1536x1024, .bf16⟩
  | .local _ .vmem, ⟨3, _⟩ => ⟨S432x1024, .f32⟩
  | .local _ .vmem, ⟨4, _⟩ => ⟨S432x1024, .f32⟩
  | .local _ .vmem, ⟨5, _⟩ => ⟨S1x1024, .f32⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | _, _ => ⟨S8208x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8208x1536 : Shape := ⟨2, ![8208, 1536]⟩
abbrev S1536x1024 : Shape := ⟨2, ![1536, 1024]⟩
abbrev S8208x1024 : Shape := ⟨2, ![8208, 1024]⟩
abbrev S1x1024 : Shape := ⟨2, ![1, 1024]⟩
abbrev S_ : Shape := ⟨0, ![]⟩
abbrev S8208 : Shape := ⟨1, ![8208]⟩
abbrev S8208x1 : Shape := ⟨2, ![8208, 1]⟩

abbrev nBuf : Space → Nat
  | .hbm => 23
  | .vmem => 0
  | .smem => 0
  | _ => 0

abbrev bufTy : (tb : Table) → Fin (tcTables nBuf tb) → BufTy
  | .hbm, ⟨0, _⟩ => ⟨S8208x1536, .bf16⟩
  | .hbm, ⟨1, _⟩ => ⟨S1536x1024, .bf16⟩
  | .hbm, ⟨2, _⟩ => ⟨S8208x1024, .f32⟩
  | .hbm, ⟨3, _⟩ => ⟨S1x1024, .f32⟩
  | .hbm, ⟨4, _⟩ => ⟨S8208x1536, .f32⟩
  | .hbm, ⟨5, _⟩ => ⟨S1536x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | _, _ => ⟨S8208x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel13.lean ====
abbrev S8208x3072 : Shape := ⟨2, ![8208, 3072]⟩
abbrev S3072x1024 : Shape := ⟨2, ![3072, 1024]⟩
abbrev S8208x1024 : Shape := ⟨2, ![8208, 1024]⟩
abbrev S1x1024 : Shape := ⟨2, ![1, 1024]⟩
abbrev S432x3072 : Shape := ⟨2, ![432, 3072]⟩
abbrev S432x1024 : Shape := ⟨2, ![432, 1024]⟩
abbrev S432 : Shape := ⟨1, ![432]⟩
abbrev S432x1 : Shape := ⟨2, ![432, 1]⟩

abbrev nBuf : Space → Nat
  | .hbm => 6
  | .vmem => 10
  | .smem => 0
  | _ => 0

abbrev bufTy : (tb : Table) → Fin (tcTables nBuf tb) → BufTy
  | .hbm, ⟨0, _⟩ => ⟨S8208x3072, .bf16⟩
  | .hbm, ⟨1, _⟩ => ⟨S3072x1024, .bf16⟩
  | .hbm, ⟨2, _⟩ => ⟨S8208x1024, .f32⟩
  | .hbm, ⟨3, _⟩ => ⟨S1x1024, .f32⟩
  | .hbm, ⟨4, _⟩ => ⟨S8208x1024, .f32⟩
  | .hbm, ⟨5, _⟩ => ⟨S8208x1024, .f32⟩
  | .local _ .vmem, ⟨0, _⟩ => ⟨S432x3072, .bf16⟩
  | .local _ .vmem, ⟨1, _⟩ => ⟨S432x3072, .bf16⟩
  | .local _ .vmem, ⟨2, _⟩ => ⟨S3072x1024, .bf16⟩
  | .local _ .vmem, ⟨3, _⟩ => ⟨S432x1024, .f32⟩
  | .local _ .vmem, ⟨4, _⟩ => ⟨S432x1024, .f32⟩
  | .local _ .vmem, ⟨5, _⟩ => ⟨S1x1024, .f32⟩
  | .local _ .vmem, ⟨6, _⟩ => ⟨S432x1024, .f32⟩
  | .local _ .vmem, ⟨7, _⟩ => ⟨S432x1024, .f32⟩
  | .local _ .vmem, ⟨8, _⟩ => ⟨S432x1024, .f32⟩
  | .local _ .vmem, ⟨9, _⟩ => ⟨S432x1024, .f32⟩
  | _, _ => ⟨S8208x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S432x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S432x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S432x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S8208x3072 : Shape := ⟨2, ![8208, 3072]⟩
abbrev S3072x1024 : Shape := ⟨2, ![3072, 1024]⟩
abbrev S8208x1024 : Shape := ⟨2, ![8208, 1024]⟩
abbrev S1x1024 : Shape := ⟨2, ![1, 1024]⟩
abbrev S_ : Shape := ⟨0, ![]⟩
abbrev S8208 : Shape := ⟨1, ![8208]⟩
abbrev S8208x1 : Shape := ⟨2, ![8208, 1]⟩

abbrev nBuf : Space → Nat
  | .hbm => 23
  | .vmem => 0
  | .smem => 0
  | _ => 0

abbrev bufTy : (tb : Table) → Fin (tcTables nBuf tb) → BufTy
  | .hbm, ⟨0, _⟩ => ⟨S8208x3072, .bf16⟩
  | .hbm, ⟨1, _⟩ => ⟨S3072x1024, .bf16⟩
  | .hbm, ⟨2, _⟩ => ⟨S8208x1024, .f32⟩
  | .hbm, ⟨3, _⟩ => ⟨S1x1024, .f32⟩
  | .hbm, ⟨4, _⟩ => ⟨S8208x3072, .f32⟩
  | .hbm, ⟨5, _⟩ => ⟨S3072x1024, .f32⟩
  | .hbm, ⟨6, _⟩ => ⟨S8208x1024, .f32⟩
  | .hbm, ⟨7, _⟩ => ⟨S8208x1024, .f32⟩
  | .hbm, ⟨8, _⟩ => ⟨S_, .f32⟩
  | .hbm, ⟨9, _⟩ => ⟨S8208, .f32⟩
  | .hbm, ⟨10, _⟩ => ⟨S8208x1, .f32⟩
  | .hbm, ⟨11, _⟩ => ⟨S_, .f32⟩
  | .hbm, ⟨12, _⟩ => ⟨S8208x1, .f32⟩
  | .hbm, ⟨13, _⟩ => ⟨S8208x1, .f32⟩
  | .hbm, ⟨14, _⟩ => ⟨S_, .f32⟩
  | .hbm, ⟨15, _⟩ => ⟨S8208x1, .f32⟩
  | .hbm, ⟨16, _⟩ => ⟨S8208x1, .f32⟩
  | .hbm, ⟨17, _⟩ => ⟨S8208x1, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S8208x1024, .f32⟩
  | .hbm, ⟨22, _⟩ => ⟨S8208x1024, .f32⟩
  | _, _ => ⟨S8208x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel14.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S1536x1024 : Shape := ⟨2, ![1536, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S1536x1024, .f32⟩
  | .hbm, ⟨5, _⟩ => ⟨S1536x1024, .f32⟩
  | .hbm, ⟨6, _⟩ => ⟨S1536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S1536x1024 : Shape := ⟨2, ![1536, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1536x1024, .f32⟩
  | .hbm, ⟨1, _⟩ => ⟨S1536x1024, .f32⟩
  | .hbm, ⟨2, _⟩ => ⟨S1536x1024, .f32⟩
  | .hbm, ⟨3, _⟩ => ⟨S1536x1024, .f32⟩
  | .hbm, ⟨4, _⟩ => ⟨S_, .f32⟩
  | .hbm, ⟨5, _⟩ => ⟨S1536x1024, .f32⟩
  | .hbm, ⟨6, _⟩ => ⟨S1536x1024, .f32⟩
  | .hbm, ⟨7, _⟩ => ⟨S_, .f32⟩
  | .hbm, ⟨8, _⟩ => ⟨S1536x1024, .f32⟩
  | .hbm, ⟨9, _⟩ => ⟨S1536x1024, .f32⟩
  | .hbm, ⟨10, _⟩ => ⟨S1536x1024, .f32⟩
  | .hbm, ⟨11, _⟩ => ⟨S_, .f32⟩
  | .hbm, ⟨12, _⟩ => ⟨S1536x1024, .f32⟩
  | .hbm, ⟨13, _⟩ => ⟨S1536x1024, .f32⟩
  | .hbm, ⟨14, _⟩ => ⟨S1536x1024, .f32⟩
  | .hbm, ⟨15, _⟩ => ⟨S_, .f32⟩
  | .hbm, ⟨16, _⟩ => ⟨S1536x1024, .f32⟩
  | .hbm, ⟨17, _⟩ => ⟨S1536x1024, .f32⟩
  | .hbm, ⟨18, _⟩ => ⟨S1536x1024, .f32⟩
  | .hbm, ⟨19, _⟩ => ⟨S_, .f32⟩
  | .hbm, ⟨20, _⟩ => ⟨S1536x1024, .f32⟩
  | .hbm, ⟨21, _⟩ => ⟨S1536x1024, .f32⟩
  | .hbm, ⟨22, _⟩ => ⟨S_, .f32⟩
  | .hbm, ⟨23, _⟩ => ⟨S1536x1024, .f32⟩
  | .hbm, ⟨24, _⟩ => ⟨S1536x1024, .f32⟩
  | .hbm, ⟨25, _⟩ => ⟨S1536x1024, .f32⟩
  | .hbm, ⟨26, _⟩ => ⟨S_, .f32⟩
  | .hbm, ⟨27, _⟩ => ⟨S1536x1024, .f32⟩
  | .hbm, ⟨28, _⟩ => ⟨S1536x1024, .f32⟩
  | .hbm, ⟨29, _⟩ => ⟨S1536x1024, .f32⟩
  | .hbm, ⟨30, _⟩ => ⟨S_, .f32⟩
  | .hbm, ⟨31, _⟩ => ⟨S1536x1024, .f32⟩
  | .hbm, ⟨32, _⟩ => ⟨S1536x1024, .f32⟩
  | .hbm, ⟨33, _⟩ => ⟨S1536x1024, .f32⟩
  | .hbm, ⟨34, _⟩ => ⟨S_, .f32⟩
  | .hbm, ⟨35, _⟩ => ⟨S1536x1024, .f32⟩
  | .hbm, ⟨36, _⟩ => ⟨S1536x1024, .f32⟩
  | _, _ => ⟨S1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference16Ideal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S3072x1024 : Shape := ⟨2, ![3072, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S3072x1024, .f32⟩
  | .hbm, ⟨5, _⟩ => ⟨S3072x1024, .f32⟩
  | .hbm, ⟨6, _⟩ => ⟨S3072x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S3072x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S3072x1024 : Shape := ⟨2, ![3072, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3072x1024, .f32⟩
  | .hbm, ⟨1, _⟩ => ⟨S3072x1024, .f32⟩
  | .hbm, ⟨2, _⟩ => ⟨S3072x1024, .f32⟩
  | .hbm, ⟨3, _⟩ => ⟨S3072x1024, .f32⟩
  | .hbm, ⟨4, _⟩ => ⟨S_, .f32⟩
  | .hbm, ⟨5, _⟩ => ⟨S3072x1024, .f32⟩
  | .hbm, ⟨6, _⟩ => ⟨S3072x1024, .f32⟩
  | .hbm, ⟨7, _⟩ => ⟨S_, .f32⟩
  | .hbm, ⟨8, _⟩ => ⟨S3072x1024, .f32⟩
  | .hbm, ⟨9, _⟩ => ⟨S3072x1024, .f32⟩
  | .hbm, ⟨10, _⟩ => ⟨S3072x1024, .f32⟩
  | .hbm, ⟨11, _⟩ => ⟨S_, .f32⟩
  | .hbm, ⟨12, _⟩ => ⟨S3072x1024, .f32⟩
  | .hbm, ⟨13, _⟩ => ⟨S3072x1024, .f32⟩
  | .hbm, ⟨14, _⟩ => ⟨S3072x1024, .f32⟩
  | .hbm, ⟨15, _⟩ => ⟨S_, .f32⟩
  | .hbm, ⟨16, _⟩ => ⟨S3072x1024, .f32⟩
  | .hbm, ⟨17, _⟩ => ⟨S3072x1024, .f32⟩
  | .hbm, ⟨18, _⟩ => ⟨S3072x1024, .f32⟩
  | .hbm, ⟨19, _⟩ => ⟨S_, .f32⟩
  | .hbm, ⟨20, _⟩ => ⟨S3072x1024, .f32⟩
  | .hbm, ⟨21, _⟩ => ⟨S3072x1024, .f32⟩
  | .hbm, ⟨22, _⟩ => ⟨S_, .f32⟩
  | .hbm, ⟨23, _⟩ => ⟨S3072x1024, .f32⟩
  | .hbm, ⟨24, _⟩ => ⟨S3072x1024, .f32⟩
  | .hbm, ⟨25, _⟩ => ⟨S3072x1024, .f32⟩
  | .hbm, ⟨26, _⟩ => ⟨S_, .f32⟩
  | .hbm, ⟨27, _⟩ => ⟨S3072x1024, .f32⟩
  | .hbm, ⟨28, _⟩ => ⟨S3072x1024, .f32⟩
  | .hbm, ⟨29, _⟩ => ⟨S3072x1024, .f32⟩
  | .hbm, ⟨30, _⟩ => ⟨S_, .f32⟩
  | .hbm, ⟨31, _⟩ => ⟨S3072x1024, .f32⟩
  | .hbm, ⟨32, _⟩ => ⟨S3072x1024, .f32⟩
  | .hbm, ⟨33, _⟩ => ⟨S3072x1024, .f32⟩
  | .hbm, ⟨34, _⟩ => ⟨S_, .f32⟩
  | .hbm, ⟨35, _⟩ => ⟨S3072x1024, .f32⟩
  | .hbm, ⟨36, _⟩ => ⟨S3072x1024, .f32⟩
  | _, _ => ⟨S3072x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S1104x1024 : Shape := ⟨2, ![1104, 1024]⟩
abbrev S368x1024 : Shape := ⟨2, ![368, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1104x1024, .f32⟩
  | .hbm, ⟨1, _⟩ => ⟨S1104x1024, .f32⟩
  | .hbm, ⟨2, _⟩ => ⟨S1104x1024, .f32⟩
  | .hbm, ⟨3, _⟩ => ⟨S1104x1024, .f32⟩
  | .hbm, ⟨4, _⟩ => ⟨S1104x1024, .f32⟩
  | .hbm, ⟨5, _⟩ => ⟨S1104x1024, .f32⟩
  | .hbm, ⟨6, _⟩ => ⟨S1104x1024, .f32⟩
  | .local _ .vmem, ⟨0, _⟩ => ⟨S368x1024, .f32⟩
  | .local _ .vmem, ⟨1, _⟩ => ⟨S368x1024, .f32⟩
  | .local _ .vmem, ⟨2, _⟩ => ⟨S368x1024, .f32⟩
  | .local _ .vmem, ⟨3, _⟩ => ⟨S368x1024, .f32⟩
  | .local _ .vmem, ⟨4, _⟩ => ⟨S368x1024, .f32⟩
  | .local _ .vmem, ⟨5, _⟩ => ⟨S368x1024, .f32⟩
  | .local _ .vmem, ⟨6, _⟩ => ⟨S368x1024, .f32⟩
  | .local _ .vmem, ⟨7, _⟩ => ⟨S368x1024, .f32⟩
  | .local _ .vmem, ⟨8, _⟩ => ⟨S368x1024, .f32⟩
  | .local _ .vmem, ⟨9, _⟩ => ⟨S368x1024, .f32⟩
  | .local _ .vmem, ⟨10, _⟩ => ⟨S368x1024, .f32⟩
  | .local _ .vmem, ⟨11, _⟩ => ⟨S368x1024, .f32⟩
  | .local _ .vmem, ⟨12, _⟩ => ⟨S368x1024, .f32⟩
  | .local _ .vmem, ⟨13, _⟩ => ⟨S368x1024, .f32⟩
  | _, _ => ⟨S1104x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S368x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S1104x1024 : Shape := ⟨2, ![1104, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1104x1024, .f32⟩
  | .hbm, ⟨1, _⟩ => ⟨S1104x1024, .f32⟩
  | .hbm, ⟨2, _⟩ => ⟨S1104x1024, .f32⟩
  | .hbm, ⟨3, _⟩ => ⟨S1104x1024, .f32⟩
  | .hbm, ⟨4, _⟩ => ⟨S_, .f32⟩
  | .hbm, ⟨5, _⟩ => ⟨S1104x1024, .f32⟩
  | .hbm, ⟨6, _⟩ => ⟨S1104x1024, .f32⟩
  | .hbm, ⟨7, _⟩ => ⟨S_, .f32⟩
  | .hbm, ⟨8, _⟩ => ⟨S1104x1024, .f32⟩
  | .hbm, ⟨9, _⟩ => ⟨S1104x1024, .f32⟩
  | .hbm, ⟨10, _⟩ => ⟨S1104x1024, .f32⟩
  | .hbm, ⟨11, _⟩ => ⟨S_, .f32⟩
  | .hbm, ⟨12, _⟩ => ⟨S1104x1024, .f32⟩
  | .hbm, ⟨13, _⟩ => ⟨S1104x1024, .f32⟩
  | .hbm, ⟨14, _⟩ => ⟨S1104x1024, .f32⟩
  | .hbm, ⟨15, _⟩ => ⟨S_, .f32⟩
  | .hbm, ⟨16, _⟩ => ⟨S1104x1024, .f32⟩
  | .hbm, ⟨17, _⟩ => ⟨S1104x1024, .f32⟩
  | .hbm, ⟨18, _⟩ => ⟨S1104x1024, .f32⟩
  | .hbm, ⟨19, _⟩ => ⟨S_, .f32⟩
  | .hbm, ⟨20, _⟩ => ⟨S1104x1024, .f32⟩
  | .hbm, ⟨21, _⟩ => ⟨S1104x1024, .f32⟩
  | .hbm, ⟨22, _⟩ => ⟨S_, .f32⟩
  | .hbm, ⟨23, _⟩ => ⟨S1104x1024, .f32⟩
  | .hbm, ⟨24, _⟩ => ⟨S1104x1024, .f32⟩
  | .hbm, ⟨25, _⟩ => ⟨S1104x1024, .f32⟩
  | .hbm, ⟨26, _⟩ => ⟨S_, .f32⟩
  | .hbm, ⟨27, _⟩ => ⟨S1104x1024, .f32⟩
  | .hbm, ⟨28, _⟩ => ⟨S1104x1024, .f32⟩
  | .hbm, ⟨29, _⟩ => ⟨S1104x1024, .f32⟩
  | .hbm, ⟨30, _⟩ => ⟨S_, .f32⟩
  | .hbm, ⟨31, _⟩ => ⟨S1104x1024, .f32⟩
  | .hbm, ⟨32, _⟩ => ⟨S1104x1024, .f32⟩
  | .hbm, ⟨33, _⟩ => ⟨S1104x1024, .f32⟩
  | .hbm, ⟨34, _⟩ => ⟨S_, .f32⟩
  | .hbm, ⟨35, _⟩ => ⟨S1104x1024, .f32⟩
  | .hbm, ⟨36, _⟩ => ⟨S1104x1024, .f32⟩
  | _, _ => ⟨S1104x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S48x1024 : Shape := ⟨2, ![48, 1024]⟩

abbrev nBuf : Space → Nat
  | .hbm => 7
  | .vmem => 7
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S48x1024, .f32⟩
  | .hbm, ⟨5, _⟩ => ⟨S48x1024, .f32⟩
  | .hbm, ⟨6, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S48x1024 : Shape := ⟨2, ![48, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S_, .f32⟩
  | .hbm, ⟨5, _⟩ => ⟨S48x1024, .f32⟩
  | .hbm, ⟨6, _⟩ => ⟨S48x1024, .f32⟩
  | .hbm, ⟨7, _⟩ => ⟨S_, .f32⟩
  | .hbm, ⟨8, _⟩ => ⟨S48x1024, .f32⟩
  | .hbm, ⟨9, _⟩ => ⟨S48x1024, .f32⟩
  | .hbm, ⟨10, _⟩ => ⟨S48x1024, .f32⟩
  | .hbm, ⟨11, _⟩ => ⟨S_, .f32⟩
  | .hbm, ⟨12, _⟩ => ⟨S48x1024, .f32⟩
  | .hbm, ⟨13, _⟩ => ⟨S48x1024, .f32⟩
  | .hbm, ⟨14, _⟩ => ⟨S48x1024, .f32⟩
  | .hbm, ⟨15, _⟩ => ⟨S_, .f32⟩
  | .hbm, ⟨16, _⟩ => ⟨S48x1024, .f32⟩
  | .hbm, ⟨17, _⟩ => ⟨S48x1024, .f32⟩
  | .hbm, ⟨18, _⟩ => ⟨S48x1024, .f32⟩
  | .hbm, ⟨19, _⟩ => ⟨S_, .f32⟩
  | .hbm, ⟨20, _⟩ => ⟨S48x1024, .f32⟩
  | .hbm, ⟨21, _⟩ => ⟨S48x1024, .f32⟩
  | .hbm, ⟨22, _⟩ => ⟨S_, .f32⟩
  | .hbm, ⟨23, _⟩ => ⟨S48x1024, .f32⟩
  | .hbm, ⟨24, _⟩ => ⟨S48x1024, .f32⟩
  | .hbm, ⟨25, _⟩ => ⟨S48x1024, .f32⟩
  | .hbm, ⟨26, _⟩ => ⟨S_, .f32⟩
  | .hbm, ⟨27, _⟩ => ⟨S48x1024, .f32⟩
  | .hbm, ⟨28, _⟩ => ⟨S48x1024, .f32⟩
  | .hbm, ⟨29, _⟩ => ⟨S48x1024, .f32⟩
  | .hbm, ⟨30, _⟩ => ⟨S_, .f32⟩
  | .hbm, ⟨31, _⟩ => ⟨S48x1024, .f32⟩
  | .hbm, ⟨32, _⟩ => ⟨S48x1024, .f32⟩
  | .hbm, ⟨33, _⟩ => ⟨S48x1024, .f32⟩
  | .hbm, ⟨34, _⟩ => ⟨S_, .f32⟩
  | .hbm, ⟨35, _⟩ => ⟨S48x1024, .f32⟩
  | .hbm, ⟨36, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8208x1024 : Shape := ⟨2, ![8208, 1024]⟩
abbrev S8192x1024 : Shape := ⟨2, ![8192, 1024]⟩
abbrev S_ : Shape := ⟨0, ![]⟩
abbrev S1x1024 : Shape := ⟨2, ![1, 1024]⟩
abbrev S432x1024 : Shape := ⟨2, ![432, 1024]⟩
abbrev S1024 : Shape := ⟨1, ![1024]⟩

abbrev nBuf : Space → Nat
  | .hbm => 13
  | .vmem => 7
  | .smem => 0
  | _ => 0

abbrev bufTy : (tb : Table) → Fin (tcTables nBuf tb) → BufTy
  | .hbm, ⟨0, _⟩ => ⟨S8208x1024, .f32⟩
  | .hbm, ⟨1, _⟩ => ⟨S8192x1024, .f32⟩
  | .hbm, ⟨2, _⟩ => ⟨S_, .i32⟩
  | .hbm, ⟨3, _⟩ => ⟨S_, .f32⟩
  | .hbm, ⟨4, _⟩ => ⟨S8208x1024, .f32⟩
  | .hbm, ⟨5, _⟩ => ⟨S8208x1024, .f32⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S432x1024, .f32⟩
  | .local _ .vmem, ⟨1, _⟩ => ⟨S432x1024, .f32⟩
  | .local _ .vmem, ⟨2, _⟩ => ⟨S432x1024, .f32⟩
  | .local _ .vmem, ⟨3, _⟩ => ⟨S432x1024, .f32⟩
  | .local _ .vmem, ⟨4, _⟩ => ⟨S432x1024, .f32⟩
  | .local _ .vmem, ⟨5, _⟩ => ⟨S432x1024, .f32⟩
  | .local _ .vmem, ⟨6, _⟩ => ⟨S1x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![19], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S432x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S432x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S432x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference20Ideal.lean ====
abbrev S8208x1024 : Shape := ⟨2, ![8208, 1024]⟩
abbrev S8192x1024 : Shape := ⟨2, ![8192, 1024]⟩
abbrev S_ : Shape := ⟨0, ![]⟩
abbrev S8192 : Shape := ⟨1, ![8192]⟩

abbrev nBuf : Space → Nat
  | .hbm => 28
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8208x1024, .f32⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩

abbrev nD : Nat := 1
abbrev τ : Topo := Topo.v7x

variable {F : FTy → Type} [FloatOps F]
-- ==== Kernel21.lean ====
abbrev S8208x6144 : Shape := ⟨2, ![8208, 6144]⟩
abbrev S3x6144 : Shape := ⟨2, ![3, 6144]⟩
abbrev S1x6144 : Shape := ⟨2, ![1, 6144]⟩
abbrev S8208x3072 : Shape := ⟨2, ![8208, 3072]⟩
abbrev S144x6144 : Shape := ⟨2, ![144, 6144]⟩
abbrev S144x3072 : Shape := ⟨2, ![144, 3072]⟩
abbrev S8x6144 : Shape := ⟨2, ![8, 6144]⟩
abbrev S8x128 : Shape := ⟨2, ![8, 128]⟩
abbrev S16x128 : Shape := ⟨2, ![16, 128]⟩
abbrev S24x128 : Shape := ⟨2, ![24, 128]⟩
abbrev S1x128 : Shape := ⟨2, ![1, 128]⟩

abbrev nBuf : Space → Nat
  | .hbm => 4
  | .vmem => 7
  | .smem => 0
  | _ => 0

abbrev bufTy : (tb : Table) → Fin (tcTables nBuf tb) → BufTy
  | .hbm, ⟨0, _⟩ => ⟨S8208x6144, .f32⟩
  | .hbm, ⟨1, _⟩ => ⟨S3x6144, .f32⟩
  | .hbm, ⟨2, _⟩ => ⟨S1x6144, .f32⟩
  | .hbm, ⟨3, _⟩ => ⟨S8208x3072, .bf16⟩
  | .local _ .vmem, ⟨0, _⟩ => ⟨S144x6144, .f32⟩
  | .local _ .vmem, ⟨1, _⟩ => ⟨S144x6144, .f32⟩
  | .local _ .vmem, ⟨2, _⟩ => ⟨S3x6144, .f32⟩
  | .local _ .vmem, ⟨3, _⟩ => ⟨S1x6144, .f32⟩
  | .local _ .vmem, ⟨4, _⟩ => ⟨S144x3072, .bf16⟩
  | .local _ .vmem, ⟨5, _⟩ => ⟨S144x3072, .bf16⟩
  | .local _ .vmem, ⟨6, _⟩ => ⟨S8x6144, .f32⟩
  | _, _ => ⟨S8208x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![57], ![false]⟩

@[reducible] def k0_t1_loop : Scf.Loop 32 :=
  let c1_i32_670 : BitVec 32 := 1#32
  let c8_i32 : BitVec 32 := 8#32
  let v1444 : BitVec 32 := Scalar.addi c1_i32_670 c8_i32
  let c1_i32_671 : BitVec 32 := 1#32
  ⟨c1_i32_670, v1444, c1_i32_671⟩
def k0_mult1 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  v1449
def k0_mult2 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_676 : BitVec 32 := 16#32
  let v1451 : BitVec 32 := Scalar.muli arg6 c16_i32_676
  let c8_i32_677 : BitVec 32 := 8#32
  let v1452 : BitVec 32 := Scalar.subi v1451 c8_i32_677
  v1452
def k0_off1 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_676 : BitVec 32 := 16#32
  let v1451 : BitVec 32 := Scalar.muli arg6 c16_i32_676
  let c8_i32_677 : BitVec 32 := 8#32
  let v1452 : BitVec 32 := Scalar.subi v1451 c8_i32_677
  let v1453 : BitVec 32 := v1452
  let v1454 : Index := Scalar.indexCast v1453
  let c0_678 : Index := 0#32
  ![v1454.toNat, 0]
def k0_mult3 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_689 : BitVec 32 := 16#32
  let v1475 : BitVec 32 := Scalar.muli arg6 c16_i32_689
  let c8_i32_690 : BitVec 32 := 8#32
  let v1476 : BitVec 32 := Scalar.subi v1475 c8_i32_690
  v1476
def k0_off2 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_689 : BitVec 32 := 16#32
  let v1475 : BitVec 32 := Scalar.muli arg6 c16_i32_689
  let c8_i32_690 : BitVec 32 := 8#32
  let v1476 : BitVec 32 := Scalar.subi v1475 c8_i32_690
  let v1477 : BitVec 32 := v1476
  let v1478 : Index := Scalar.indexCast v1477
  let c3072_691 : Index := 3072#32
  ![v1478.toNat, 3072]
def k0_off3 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1514 : Index := Scalar.indexCast v1450
  let c0_706 : Index := 0#32
  ![v1514.toNat, 0]
def k0_mult4 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_707 : BitVec 32 := 16#32
  let v1516 : BitVec 32 := Scalar.muli arg6 c16_i32_707
  let c8_i32_708 : BitVec 32 := 8#32
  let v1517 : BitVec 32 := Scalar.subi v1516 c8_i32_708
  v1517
def k0_off4 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_707 : BitVec 32 := 16#32
  let v1516 : BitVec 32 := Scalar.muli arg6 c16_i32_707
  let c8_i32_708 : BitVec 32 := 8#32
  let v1517 : BitVec 32 := Scalar.subi v1516 c8_i32_708
  let v1518 : BitVec 32 := v1517
  let v1519 : Index := Scalar.indexCast v1518
  let c128_709 : Index := 128#32
  ![v1519.toNat, 128]
def k0_mult5 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_720 : BitVec 32 := 16#32
  let v1540 : BitVec 32 := Scalar.muli arg6 c16_i32_720
  let c8_i32_721 : BitVec 32 := 8#32
  let v1541 : BitVec 32 := Scalar.subi v1540 c8_i32_721
  v1541
def k0_off5 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_720 : BitVec 32 := 16#32
  let v1540 : BitVec 32 := Scalar.muli arg6 c16_i32_720
  let c8_i32_721 : BitVec 32 := 8#32
  let v1541 : BitVec 32 := Scalar.subi v1540 c8_i32_721
  let v1542 : BitVec 32 := v1541
  let v1543 : Index := Scalar.indexCast v1542
  let c3200_722 : Index := 3200#32
  ![v1543.toNat, 3200]
def k0_off6 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1579 : Index := Scalar.indexCast v1450
  let c128_737 : Index := 128#32
  ![v1579.toNat, 128]
def k0_mult6 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_738 : BitVec 32 := 16#32
  let v1581 : BitVec 32 := Scalar.muli arg6 c16_i32_738
  let c8_i32_739 : BitVec 32 := 8#32
  let v1582 : BitVec 32 := Scalar.subi v1581 c8_i32_739
  v1582
def k0_off7 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_738 : BitVec 32 := 16#32
  let v1581 : BitVec 32 := Scalar.muli arg6 c16_i32_738
  let c8_i32_739 : BitVec 32 := 8#32
  let v1582 : BitVec 32 := Scalar.subi v1581 c8_i32_739
  let v1583 : BitVec 32 := v1582
  let v1584 : Index := Scalar.indexCast v1583
  let c256_740 : Index := 256#32
  ![v1584.toNat, 256]
def k0_mult7 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_751 : BitVec 32 := 16#32
  let v1605 : BitVec 32 := Scalar.muli arg6 c16_i32_751
  let c8_i32_752 : BitVec 32 := 8#32
  let v1606 : BitVec 32 := Scalar.subi v1605 c8_i32_752
  v1606
def k0_off8 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_751 : BitVec 32 := 16#32
  let v1605 : BitVec 32 := Scalar.muli arg6 c16_i32_751
  let c8_i32_752 : BitVec 32 := 8#32
  let v1606 : BitVec 32 := Scalar.subi v1605 c8_i32_752
  let v1607 : BitVec 32 := v1606
  let v1608 : Index := Scalar.indexCast v1607
  let c3328_753 : Index := 3328#32
  ![v1608.toNat, 3328]
def k0_off9 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1644 : Index := Scalar.indexCast v1450
  let c256_768 : Index := 256#32
  ![v1644.toNat, 256]
def k0_mult8 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_769 : BitVec 32 := 16#32
  let v1646 : BitVec 32 := Scalar.muli arg6 c16_i32_769
  let c8_i32_770 : BitVec 32 := 8#32
  let v1647 : BitVec 32 := Scalar.subi v1646 c8_i32_770
  v1647
def k0_off10 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_769 : BitVec 32 := 16#32
  let v1646 : BitVec 32 := Scalar.muli arg6 c16_i32_769
  let c8_i32_770 : BitVec 32 := 8#32
  let v1647 : BitVec 32 := Scalar.subi v1646 c8_i32_770
  let v1648 : BitVec 32 := v1647
  let v1649 : Index := Scalar.indexCast v1648
  let c384_771 : Index := 384#32
  ![v1649.toNat, 384]
def k0_mult9 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_782 : BitVec 32 := 16#32
  let v1670 : BitVec 32 := Scalar.muli arg6 c16_i32_782
  let c8_i32_783 : BitVec 32 := 8#32
  let v1671 : BitVec 32 := Scalar.subi v1670 c8_i32_783
  v1671
def k0_off11 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_782 : BitVec 32 := 16#32
  let v1670 : BitVec 32 := Scalar.muli arg6 c16_i32_782
  let c8_i32_783 : BitVec 32 := 8#32
  let v1671 : BitVec 32 := Scalar.subi v1670 c8_i32_783
  let v1672 : BitVec 32 := v1671
  let v1673 : Index := Scalar.indexCast v1672
  let c3456_784 : Index := 3456#32
  ![v1673.toNat, 3456]
def k0_off12 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1709 : Index := Scalar.indexCast v1450
  let c384_799 : Index := 384#32
  ![v1709.toNat, 384]
def k0_mult10 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_800 : BitVec 32 := 16#32
  let v1711 : BitVec 32 := Scalar.muli arg6 c16_i32_800
  let c8_i32_801 : BitVec 32 := 8#32
  let v1712 : BitVec 32 := Scalar.subi v1711 c8_i32_801
  v1712
def k0_off13 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_800 : BitVec 32 := 16#32
  let v1711 : BitVec 32 := Scalar.muli arg6 c16_i32_800
  let c8_i32_801 : BitVec 32 := 8#32
  let v1712 : BitVec 32 := Scalar.subi v1711 c8_i32_801
  let v1713 : BitVec 32 := v1712
  let v1714 : Index := Scalar.indexCast v1713
  let c512_802 : Index := 512#32
  ![v1714.toNat, 512]
def k0_mult11 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_813 : BitVec 32 := 16#32
  let v1735 : BitVec 32 := Scalar.muli arg6 c16_i32_813
  let c8_i32_814 : BitVec 32 := 8#32
  let v1736 : BitVec 32 := Scalar.subi v1735 c8_i32_814
  v1736
def k0_off14 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_813 : BitVec 32 := 16#32
  let v1735 : BitVec 32 := Scalar.muli arg6 c16_i32_813
  let c8_i32_814 : BitVec 32 := 8#32
  let v1736 : BitVec 32 := Scalar.subi v1735 c8_i32_814
  let v1737 : BitVec 32 := v1736
  let v1738 : Index := Scalar.indexCast v1737
  let c3584_815 : Index := 3584#32
  ![v1738.toNat, 3584]
def k0_off15 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1774 : Index := Scalar.indexCast v1450
  let c512_830 : Index := 512#32
  ![v1774.toNat, 512]
def k0_mult12 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_831 : BitVec 32 := 16#32
  let v1776 : BitVec 32 := Scalar.muli arg6 c16_i32_831
  let c8_i32_832 : BitVec 32 := 8#32
  let v1777 : BitVec 32 := Scalar.subi v1776 c8_i32_832
  v1777
def k0_off16 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_831 : BitVec 32 := 16#32
  let v1776 : BitVec 32 := Scalar.muli arg6 c16_i32_831
  let c8_i32_832 : BitVec 32 := 8#32
  let v1777 : BitVec 32 := Scalar.subi v1776 c8_i32_832
  let v1778 : BitVec 32 := v1777
  let v1779 : Index := Scalar.indexCast v1778
  let c640_833 : Index := 640#32
  ![v1779.toNat, 640]
def k0_mult13 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_844 : BitVec 32 := 16#32
  let v1800 : BitVec 32 := Scalar.muli arg6 c16_i32_844
  let c8_i32_845 : BitVec 32 := 8#32
  let v1801 : BitVec 32 := Scalar.subi v1800 c8_i32_845
  v1801
def k0_off17 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_844 : BitVec 32 := 16#32
  let v1800 : BitVec 32 := Scalar.muli arg6 c16_i32_844
  let c8_i32_845 : BitVec 32 := 8#32
  let v1801 : BitVec 32 := Scalar.subi v1800 c8_i32_845
  let v1802 : BitVec 32 := v1801
  let v1803 : Index := Scalar.indexCast v1802
  let c3712_846 : Index := 3712#32
  ![v1803.toNat, 3712]
def k0_off18 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1839 : Index := Scalar.indexCast v1450
  let c640_861 : Index := 640#32
  ![v1839.toNat, 640]
def k0_mult14 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_862 : BitVec 32 := 16#32
  let v1841 : BitVec 32 := Scalar.muli arg6 c16_i32_862
  let c8_i32_863 : BitVec 32 := 8#32
  let v1842 : BitVec 32 := Scalar.subi v1841 c8_i32_863
  v1842
def k0_off19 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_862 : BitVec 32 := 16#32
  let v1841 : BitVec 32 := Scalar.muli arg6 c16_i32_862
  let c8_i32_863 : BitVec 32 := 8#32
  let v1842 : BitVec 32 := Scalar.subi v1841 c8_i32_863
  let v1843 : BitVec 32 := v1842
  let v1844 : Index := Scalar.indexCast v1843
  let c768_864 : Index := 768#32
  ![v1844.toNat, 768]
def k0_mult15 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_875 : BitVec 32 := 16#32
  let v1865 : BitVec 32 := Scalar.muli arg6 c16_i32_875
  let c8_i32_876 : BitVec 32 := 8#32
  let v1866 : BitVec 32 := Scalar.subi v1865 c8_i32_876
  v1866
def k0_off20 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_875 : BitVec 32 := 16#32
  let v1865 : BitVec 32 := Scalar.muli arg6 c16_i32_875
  let c8_i32_876 : BitVec 32 := 8#32
  let v1866 : BitVec 32 := Scalar.subi v1865 c8_i32_876
  let v1867 : BitVec 32 := v1866
  let v1868 : Index := Scalar.indexCast v1867
  let c3840_877 : Index := 3840#32
  ![v1868.toNat, 3840]
def k0_off21 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1904 : Index := Scalar.indexCast v1450
  let c768_892 : Index := 768#32
  ![v1904.toNat, 768]
def k0_mult16 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_893 : BitVec 32 := 16#32
  let v1906 : BitVec 32 := Scalar.muli arg6 c16_i32_893
  let c8_i32_894 : BitVec 32 := 8#32
  let v1907 : BitVec 32 := Scalar.subi v1906 c8_i32_894
  v1907
def k0_off22 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_893 : BitVec 32 := 16#32
  let v1906 : BitVec 32 := Scalar.muli arg6 c16_i32_893
  let c8_i32_894 : BitVec 32 := 8#32
  let v1907 : BitVec 32 := Scalar.subi v1906 c8_i32_894
  let v1908 : BitVec 32 := v1907
  let v1909 : Index := Scalar.indexCast v1908
  let c896_895 : Index := 896#32
  ![v1909.toNat, 896]
def k0_mult17 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_906 : BitVec 32 := 16#32
  let v1930 : BitVec 32 := Scalar.muli arg6 c16_i32_906
  let c8_i32_907 : BitVec 32 := 8#32
  let v1931 : BitVec 32 := Scalar.subi v1930 c8_i32_907
  v1931
def k0_off23 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_906 : BitVec 32 := 16#32
  let v1930 : BitVec 32 := Scalar.muli arg6 c16_i32_906
  let c8_i32_907 : BitVec 32 := 8#32
  let v1931 : BitVec 32 := Scalar.subi v1930 c8_i32_907
  let v1932 : BitVec 32 := v1931
  let v1933 : Index := Scalar.indexCast v1932
  let c3968_908 : Index := 3968#32
  ![v1933.toNat, 3968]
def k0_off24 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v1969 : Index := Scalar.indexCast v1450
  let c896_923 : Index := 896#32
  ![v1969.toNat, 896]
def k0_mult18 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_924 : BitVec 32 := 16#32
  let v1971 : BitVec 32 := Scalar.muli arg6 c16_i32_924
  let c8_i32_925 : BitVec 32 := 8#32
  let v1972 : BitVec 32 := Scalar.subi v1971 c8_i32_925
  v1972
def k0_off25 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_924 : BitVec 32 := 16#32
  let v1971 : BitVec 32 := Scalar.muli arg6 c16_i32_924
  let c8_i32_925 : BitVec 32 := 8#32
  let v1972 : BitVec 32 := Scalar.subi v1971 c8_i32_925
  let v1973 : BitVec 32 := v1972
  let v1974 : Index := Scalar.indexCast v1973
  let c1024_926 : Index := 1024#32
  ![v1974.toNat, 1024]
def k0_mult19 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_937 : BitVec 32 := 16#32
  let v1995 : BitVec 32 := Scalar.muli arg6 c16_i32_937
  let c8_i32_938 : BitVec 32 := 8#32
  let v1996 : BitVec 32 := Scalar.subi v1995 c8_i32_938
  v1996
def k0_off26 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_937 : BitVec 32 := 16#32
  let v1995 : BitVec 32 := Scalar.muli arg6 c16_i32_937
  let c8_i32_938 : BitVec 32 := 8#32
  let v1996 : BitVec 32 := Scalar.subi v1995 c8_i32_938
  let v1997 : BitVec 32 := v1996
  let v1998 : Index := Scalar.indexCast v1997
  let c4096_939 : Index := 4096#32
  ![v1998.toNat, 4096]
def k0_off27 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2034 : Index := Scalar.indexCast v1450
  let c1024_954 : Index := 1024#32
  ![v2034.toNat, 1024]
def k0_mult20 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_955 : BitVec 32 := 16#32
  let v2036 : BitVec 32 := Scalar.muli arg6 c16_i32_955
  let c8_i32_956 : BitVec 32 := 8#32
  let v2037 : BitVec 32 := Scalar.subi v2036 c8_i32_956
  v2037
def k0_off28 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_955 : BitVec 32 := 16#32
  let v2036 : BitVec 32 := Scalar.muli arg6 c16_i32_955
  let c8_i32_956 : BitVec 32 := 8#32
  let v2037 : BitVec 32 := Scalar.subi v2036 c8_i32_956
  let v2038 : BitVec 32 := v2037
  let v2039 : Index := Scalar.indexCast v2038
  let c1152_957 : Index := 1152#32
  ![v2039.toNat, 1152]
def k0_mult21 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_968 : BitVec 32 := 16#32
  let v2060 : BitVec 32 := Scalar.muli arg6 c16_i32_968
  let c8_i32_969 : BitVec 32 := 8#32
  let v2061 : BitVec 32 := Scalar.subi v2060 c8_i32_969
  v2061
def k0_off29 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_968 : BitVec 32 := 16#32
  let v2060 : BitVec 32 := Scalar.muli arg6 c16_i32_968
  let c8_i32_969 : BitVec 32 := 8#32
  let v2061 : BitVec 32 := Scalar.subi v2060 c8_i32_969
  let v2062 : BitVec 32 := v2061
  let v2063 : Index := Scalar.indexCast v2062
  let c4224_970 : Index := 4224#32
  ![v2063.toNat, 4224]
def k0_off30 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2099 : Index := Scalar.indexCast v1450
  let c1152_985 : Index := 1152#32
  ![v2099.toNat, 1152]
def k0_mult22 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_986 : BitVec 32 := 16#32
  let v2101 : BitVec 32 := Scalar.muli arg6 c16_i32_986
  let c8_i32_987 : BitVec 32 := 8#32
  let v2102 : BitVec 32 := Scalar.subi v2101 c8_i32_987
  v2102
def k0_off31 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_986 : BitVec 32 := 16#32
  let v2101 : BitVec 32 := Scalar.muli arg6 c16_i32_986
  let c8_i32_987 : BitVec 32 := 8#32
  let v2102 : BitVec 32 := Scalar.subi v2101 c8_i32_987
  let v2103 : BitVec 32 := v2102
  let v2104 : Index := Scalar.indexCast v2103
  let c1280_988 : Index := 1280#32
  ![v2104.toNat, 1280]
def k0_mult23 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_999 : BitVec 32 := 16#32
  let v2125 : BitVec 32 := Scalar.muli arg6 c16_i32_999
  let c8_i32_1000 : BitVec 32 := 8#32
  let v2126 : BitVec 32 := Scalar.subi v2125 c8_i32_1000
  v2126
def k0_off32 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_999 : BitVec 32 := 16#32
  let v2125 : BitVec 32 := Scalar.muli arg6 c16_i32_999
  let c8_i32_1000 : BitVec 32 := 8#32
  let v2126 : BitVec 32 := Scalar.subi v2125 c8_i32_1000
  let v2127 : BitVec 32 := v2126
  let v2128 : Index := Scalar.indexCast v2127
  let c4352_1001 : Index := 4352#32
  ![v2128.toNat, 4352]
def k0_off33 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2164 : Index := Scalar.indexCast v1450
  let c1280_1016 : Index := 1280#32
  ![v2164.toNat, 1280]
def k0_mult24 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1017 : BitVec 32 := 16#32
  let v2166 : BitVec 32 := Scalar.muli arg6 c16_i32_1017
  let c8_i32_1018 : BitVec 32 := 8#32
  let v2167 : BitVec 32 := Scalar.subi v2166 c8_i32_1018
  v2167
def k0_off34 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1017 : BitVec 32 := 16#32
  let v2166 : BitVec 32 := Scalar.muli arg6 c16_i32_1017
  let c8_i32_1018 : BitVec 32 := 8#32
  let v2167 : BitVec 32 := Scalar.subi v2166 c8_i32_1018
  let v2168 : BitVec 32 := v2167
  let v2169 : Index := Scalar.indexCast v2168
  let c1408_1019 : Index := 1408#32
  ![v2169.toNat, 1408]
def k0_mult25 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1030 : BitVec 32 := 16#32
  let v2190 : BitVec 32 := Scalar.muli arg6 c16_i32_1030
  let c8_i32_1031 : BitVec 32 := 8#32
  let v2191 : BitVec 32 := Scalar.subi v2190 c8_i32_1031
  v2191
def k0_off35 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1030 : BitVec 32 := 16#32
  let v2190 : BitVec 32 := Scalar.muli arg6 c16_i32_1030
  let c8_i32_1031 : BitVec 32 := 8#32
  let v2191 : BitVec 32 := Scalar.subi v2190 c8_i32_1031
  let v2192 : BitVec 32 := v2191
  let v2193 : Index := Scalar.indexCast v2192
  let c4480_1032 : Index := 4480#32
  ![v2193.toNat, 4480]
def k0_off36 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2229 : Index := Scalar.indexCast v1450
  let c1408_1047 : Index := 1408#32
  ![v2229.toNat, 1408]
def k0_mult26 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1048 : BitVec 32 := 16#32
  let v2231 : BitVec 32 := Scalar.muli arg6 c16_i32_1048
  let c8_i32_1049 : BitVec 32 := 8#32
  let v2232 : BitVec 32 := Scalar.subi v2231 c8_i32_1049
  v2232
def k0_off37 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1048 : BitVec 32 := 16#32
  let v2231 : BitVec 32 := Scalar.muli arg6 c16_i32_1048
  let c8_i32_1049 : BitVec 32 := 8#32
  let v2232 : BitVec 32 := Scalar.subi v2231 c8_i32_1049
  let v2233 : BitVec 32 := v2232
  let v2234 : Index := Scalar.indexCast v2233
  let c1536_1050 : Index := 1536#32
  ![v2234.toNat, 1536]
def k0_mult27 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1061 : BitVec 32 := 16#32
  let v2255 : BitVec 32 := Scalar.muli arg6 c16_i32_1061
  let c8_i32_1062 : BitVec 32 := 8#32
  let v2256 : BitVec 32 := Scalar.subi v2255 c8_i32_1062
  v2256
def k0_off38 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1061 : BitVec 32 := 16#32
  let v2255 : BitVec 32 := Scalar.muli arg6 c16_i32_1061
  let c8_i32_1062 : BitVec 32 := 8#32
  let v2256 : BitVec 32 := Scalar.subi v2255 c8_i32_1062
  let v2257 : BitVec 32 := v2256
  let v2258 : Index := Scalar.indexCast v2257
  let c4608_1063 : Index := 4608#32
  ![v2258.toNat, 4608]
def k0_off39 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2294 : Index := Scalar.indexCast v1450
  let c1536_1078 : Index := 1536#32
  ![v2294.toNat, 1536]
def k0_mult28 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1079 : BitVec 32 := 16#32
  let v2296 : BitVec 32 := Scalar.muli arg6 c16_i32_1079
  let c8_i32_1080 : BitVec 32 := 8#32
  let v2297 : BitVec 32 := Scalar.subi v2296 c8_i32_1080
  v2297
def k0_off40 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1079 : BitVec 32 := 16#32
  let v2296 : BitVec 32 := Scalar.muli arg6 c16_i32_1079
  let c8_i32_1080 : BitVec 32 := 8#32
  let v2297 : BitVec 32 := Scalar.subi v2296 c8_i32_1080
  let v2298 : BitVec 32 := v2297
  let v2299 : Index := Scalar.indexCast v2298
  let c1664_1081 : Index := 1664#32
  ![v2299.toNat, 1664]
def k0_mult29 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1092 : BitVec 32 := 16#32
  let v2320 : BitVec 32 := Scalar.muli arg6 c16_i32_1092
  let c8_i32_1093 : BitVec 32 := 8#32
  let v2321 : BitVec 32 := Scalar.subi v2320 c8_i32_1093
  v2321
def k0_off41 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1092 : BitVec 32 := 16#32
  let v2320 : BitVec 32 := Scalar.muli arg6 c16_i32_1092
  let c8_i32_1093 : BitVec 32 := 8#32
  let v2321 : BitVec 32 := Scalar.subi v2320 c8_i32_1093
  let v2322 : BitVec 32 := v2321
  let v2323 : Index := Scalar.indexCast v2322
  let c4736_1094 : Index := 4736#32
  ![v2323.toNat, 4736]
def k0_off42 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2359 : Index := Scalar.indexCast v1450
  let c1664_1109 : Index := 1664#32
  ![v2359.toNat, 1664]
def k0_mult30 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1110 : BitVec 32 := 16#32
  let v2361 : BitVec 32 := Scalar.muli arg6 c16_i32_1110
  let c8_i32_1111 : BitVec 32 := 8#32
  let v2362 : BitVec 32 := Scalar.subi v2361 c8_i32_1111
  v2362
def k0_off43 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1110 : BitVec 32 := 16#32
  let v2361 : BitVec 32 := Scalar.muli arg6 c16_i32_1110
  let c8_i32_1111 : BitVec 32 := 8#32
  let v2362 : BitVec 32 := Scalar.subi v2361 c8_i32_1111
  let v2363 : BitVec 32 := v2362
  let v2364 : Index := Scalar.indexCast v2363
  let c1792_1112 : Index := 1792#32
  ![v2364.toNat, 1792]
def k0_mult31 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1123 : BitVec 32 := 16#32
  let v2385 : BitVec 32 := Scalar.muli arg6 c16_i32_1123
  let c8_i32_1124 : BitVec 32 := 8#32
  let v2386 : BitVec 32 := Scalar.subi v2385 c8_i32_1124
  v2386
def k0_off44 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1123 : BitVec 32 := 16#32
  let v2385 : BitVec 32 := Scalar.muli arg6 c16_i32_1123
  let c8_i32_1124 : BitVec 32 := 8#32
  let v2386 : BitVec 32 := Scalar.subi v2385 c8_i32_1124
  let v2387 : BitVec 32 := v2386
  let v2388 : Index := Scalar.indexCast v2387
  let c4864_1125 : Index := 4864#32
  ![v2388.toNat, 4864]
def k0_off45 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2424 : Index := Scalar.indexCast v1450
  let c1792_1140 : Index := 1792#32
  ![v2424.toNat, 1792]
def k0_mult32 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1141 : BitVec 32 := 16#32
  let v2426 : BitVec 32 := Scalar.muli arg6 c16_i32_1141
  let c8_i32_1142 : BitVec 32 := 8#32
  let v2427 : BitVec 32 := Scalar.subi v2426 c8_i32_1142
  v2427
def k0_off46 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1141 : BitVec 32 := 16#32
  let v2426 : BitVec 32 := Scalar.muli arg6 c16_i32_1141
  let c8_i32_1142 : BitVec 32 := 8#32
  let v2427 : BitVec 32 := Scalar.subi v2426 c8_i32_1142
  let v2428 : BitVec 32 := v2427
  let v2429 : Index := Scalar.indexCast v2428
  let c1920_1143 : Index := 1920#32
  ![v2429.toNat, 1920]
def k0_mult33 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1154 : BitVec 32 := 16#32
  let v2450 : BitVec 32 := Scalar.muli arg6 c16_i32_1154
  let c8_i32_1155 : BitVec 32 := 8#32
  let v2451 : BitVec 32 := Scalar.subi v2450 c8_i32_1155
  v2451
def k0_off47 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1154 : BitVec 32 := 16#32
  let v2450 : BitVec 32 := Scalar.muli arg6 c16_i32_1154
  let c8_i32_1155 : BitVec 32 := 8#32
  let v2451 : BitVec 32 := Scalar.subi v2450 c8_i32_1155
  let v2452 : BitVec 32 := v2451
  let v2453 : Index := Scalar.indexCast v2452
  let c4992_1156 : Index := 4992#32
  ![v2453.toNat, 4992]
def k0_off48 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2489 : Index := Scalar.indexCast v1450
  let c1920_1171 : Index := 1920#32
  ![v2489.toNat, 1920]
def k0_mult34 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1172 : BitVec 32 := 16#32
  let v2491 : BitVec 32 := Scalar.muli arg6 c16_i32_1172
  let c8_i32_1173 : BitVec 32 := 8#32
  let v2492 : BitVec 32 := Scalar.subi v2491 c8_i32_1173
  v2492
def k0_off49 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1172 : BitVec 32 := 16#32
  let v2491 : BitVec 32 := Scalar.muli arg6 c16_i32_1172
  let c8_i32_1173 : BitVec 32 := 8#32
  let v2492 : BitVec 32 := Scalar.subi v2491 c8_i32_1173
  let v2493 : BitVec 32 := v2492
  let v2494 : Index := Scalar.indexCast v2493
  let c2048_1174 : Index := 2048#32
  ![v2494.toNat, 2048]
def k0_mult35 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1185 : BitVec 32 := 16#32
  let v2515 : BitVec 32 := Scalar.muli arg6 c16_i32_1185
  let c8_i32_1186 : BitVec 32 := 8#32
  let v2516 : BitVec 32 := Scalar.subi v2515 c8_i32_1186
  v2516
def k0_off50 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1185 : BitVec 32 := 16#32
  let v2515 : BitVec 32 := Scalar.muli arg6 c16_i32_1185
  let c8_i32_1186 : BitVec 32 := 8#32
  let v2516 : BitVec 32 := Scalar.subi v2515 c8_i32_1186
  let v2517 : BitVec 32 := v2516
  let v2518 : Index := Scalar.indexCast v2517
  let c5120_1187 : Index := 5120#32
  ![v2518.toNat, 5120]
def k0_off51 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2554 : Index := Scalar.indexCast v1450
  let c2048_1202 : Index := 2048#32
  ![v2554.toNat, 2048]
def k0_mult36 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1203 : BitVec 32 := 16#32
  let v2556 : BitVec 32 := Scalar.muli arg6 c16_i32_1203
  let c8_i32_1204 : BitVec 32 := 8#32
  let v2557 : BitVec 32 := Scalar.subi v2556 c8_i32_1204
  v2557
def k0_off52 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1203 : BitVec 32 := 16#32
  let v2556 : BitVec 32 := Scalar.muli arg6 c16_i32_1203
  let c8_i32_1204 : BitVec 32 := 8#32
  let v2557 : BitVec 32 := Scalar.subi v2556 c8_i32_1204
  let v2558 : BitVec 32 := v2557
  let v2559 : Index := Scalar.indexCast v2558
  let c2176_1205 : Index := 2176#32
  ![v2559.toNat, 2176]
def k0_mult37 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1216 : BitVec 32 := 16#32
  let v2580 : BitVec 32 := Scalar.muli arg6 c16_i32_1216
  let c8_i32_1217 : BitVec 32 := 8#32
  let v2581 : BitVec 32 := Scalar.subi v2580 c8_i32_1217
  v2581
def k0_off53 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1216 : BitVec 32 := 16#32
  let v2580 : BitVec 32 := Scalar.muli arg6 c16_i32_1216
  let c8_i32_1217 : BitVec 32 := 8#32
  let v2581 : BitVec 32 := Scalar.subi v2580 c8_i32_1217
  let v2582 : BitVec 32 := v2581
  let v2583 : Index := Scalar.indexCast v2582
  let c5248_1218 : Index := 5248#32
  ![v2583.toNat, 5248]
def k0_off54 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2619 : Index := Scalar.indexCast v1450
  let c2176_1233 : Index := 2176#32
  ![v2619.toNat, 2176]
def k0_mult38 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1234 : BitVec 32 := 16#32
  let v2621 : BitVec 32 := Scalar.muli arg6 c16_i32_1234
  let c8_i32_1235 : BitVec 32 := 8#32
  let v2622 : BitVec 32 := Scalar.subi v2621 c8_i32_1235
  v2622
def k0_off55 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1234 : BitVec 32 := 16#32
  let v2621 : BitVec 32 := Scalar.muli arg6 c16_i32_1234
  let c8_i32_1235 : BitVec 32 := 8#32
  let v2622 : BitVec 32 := Scalar.subi v2621 c8_i32_1235
  let v2623 : BitVec 32 := v2622
  let v2624 : Index := Scalar.indexCast v2623
  let c2304_1236 : Index := 2304#32
  ![v2624.toNat, 2304]
def k0_mult39 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1247 : BitVec 32 := 16#32
  let v2645 : BitVec 32 := Scalar.muli arg6 c16_i32_1247
  let c8_i32_1248 : BitVec 32 := 8#32
  let v2646 : BitVec 32 := Scalar.subi v2645 c8_i32_1248
  v2646
def k0_off56 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1247 : BitVec 32 := 16#32
  let v2645 : BitVec 32 := Scalar.muli arg6 c16_i32_1247
  let c8_i32_1248 : BitVec 32 := 8#32
  let v2646 : BitVec 32 := Scalar.subi v2645 c8_i32_1248
  let v2647 : BitVec 32 := v2646
  let v2648 : Index := Scalar.indexCast v2647
  let c5376_1249 : Index := 5376#32
  ![v2648.toNat, 5376]
def k0_off57 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2684 : Index := Scalar.indexCast v1450
  let c2304_1264 : Index := 2304#32
  ![v2684.toNat, 2304]
def k0_mult40 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1265 : BitVec 32 := 16#32
  let v2686 : BitVec 32 := Scalar.muli arg6 c16_i32_1265
  let c8_i32_1266 : BitVec 32 := 8#32
  let v2687 : BitVec 32 := Scalar.subi v2686 c8_i32_1266
  v2687
def k0_off58 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1265 : BitVec 32 := 16#32
  let v2686 : BitVec 32 := Scalar.muli arg6 c16_i32_1265
  let c8_i32_1266 : BitVec 32 := 8#32
  let v2687 : BitVec 32 := Scalar.subi v2686 c8_i32_1266
  let v2688 : BitVec 32 := v2687
  let v2689 : Index := Scalar.indexCast v2688
  let c2432_1267 : Index := 2432#32
  ![v2689.toNat, 2432]
def k0_mult41 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1278 : BitVec 32 := 16#32
  let v2710 : BitVec 32 := Scalar.muli arg6 c16_i32_1278
  let c8_i32_1279 : BitVec 32 := 8#32
  let v2711 : BitVec 32 := Scalar.subi v2710 c8_i32_1279
  v2711
def k0_off59 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1278 : BitVec 32 := 16#32
  let v2710 : BitVec 32 := Scalar.muli arg6 c16_i32_1278
  let c8_i32_1279 : BitVec 32 := 8#32
  let v2711 : BitVec 32 := Scalar.subi v2710 c8_i32_1279
  let v2712 : BitVec 32 := v2711
  let v2713 : Index := Scalar.indexCast v2712
  let c5504_1280 : Index := 5504#32
  ![v2713.toNat, 5504]
def k0_off60 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2749 : Index := Scalar.indexCast v1450
  let c2432_1295 : Index := 2432#32
  ![v2749.toNat, 2432]
def k0_mult42 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1296 : BitVec 32 := 16#32
  let v2751 : BitVec 32 := Scalar.muli arg6 c16_i32_1296
  let c8_i32_1297 : BitVec 32 := 8#32
  let v2752 : BitVec 32 := Scalar.subi v2751 c8_i32_1297
  v2752
def k0_off61 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1296 : BitVec 32 := 16#32
  let v2751 : BitVec 32 := Scalar.muli arg6 c16_i32_1296
  let c8_i32_1297 : BitVec 32 := 8#32
  let v2752 : BitVec 32 := Scalar.subi v2751 c8_i32_1297
  let v2753 : BitVec 32 := v2752
  let v2754 : Index := Scalar.indexCast v2753
  let c2560_1298 : Index := 2560#32
  ![v2754.toNat, 2560]
def k0_mult43 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1309 : BitVec 32 := 16#32
  let v2775 : BitVec 32 := Scalar.muli arg6 c16_i32_1309
  let c8_i32_1310 : BitVec 32 := 8#32
  let v2776 : BitVec 32 := Scalar.subi v2775 c8_i32_1310
  v2776
def k0_off62 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1309 : BitVec 32 := 16#32
  let v2775 : BitVec 32 := Scalar.muli arg6 c16_i32_1309
  let c8_i32_1310 : BitVec 32 := 8#32
  let v2776 : BitVec 32 := Scalar.subi v2775 c8_i32_1310
  let v2777 : BitVec 32 := v2776
  let v2778 : Index := Scalar.indexCast v2777
  let c5632_1311 : Index := 5632#32
  ![v2778.toNat, 5632]
def k0_off63 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2814 : Index := Scalar.indexCast v1450
  let c2560_1326 : Index := 2560#32
  ![v2814.toNat, 2560]
def k0_mult44 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1327 : BitVec 32 := 16#32
  let v2816 : BitVec 32 := Scalar.muli arg6 c16_i32_1327
  let c8_i32_1328 : BitVec 32 := 8#32
  let v2817 : BitVec 32 := Scalar.subi v2816 c8_i32_1328
  v2817
def k0_off64 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1327 : BitVec 32 := 16#32
  let v2816 : BitVec 32 := Scalar.muli arg6 c16_i32_1327
  let c8_i32_1328 : BitVec 32 := 8#32
  let v2817 : BitVec 32 := Scalar.subi v2816 c8_i32_1328
  let v2818 : BitVec 32 := v2817
  let v2819 : Index := Scalar.indexCast v2818
  let c2688_1329 : Index := 2688#32
  ![v2819.toNat, 2688]
def k0_mult45 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1340 : BitVec 32 := 16#32
  let v2840 : BitVec 32 := Scalar.muli arg6 c16_i32_1340
  let c8_i32_1341 : BitVec 32 := 8#32
  let v2841 : BitVec 32 := Scalar.subi v2840 c8_i32_1341
  v2841
def k0_off65 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1340 : BitVec 32 := 16#32
  let v2840 : BitVec 32 := Scalar.muli arg6 c16_i32_1340
  let c8_i32_1341 : BitVec 32 := 8#32
  let v2841 : BitVec 32 := Scalar.subi v2840 c8_i32_1341
  let v2842 : BitVec 32 := v2841
  let v2843 : Index := Scalar.indexCast v2842
  let c5760_1342 : Index := 5760#32
  ![v2843.toNat, 5760]
def k0_off66 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2879 : Index := Scalar.indexCast v1450
  let c2688_1357 : Index := 2688#32
  ![v2879.toNat, 2688]
def k0_mult46 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1358 : BitVec 32 := 16#32
  let v2881 : BitVec 32 := Scalar.muli arg6 c16_i32_1358
  let c8_i32_1359 : BitVec 32 := 8#32
  let v2882 : BitVec 32 := Scalar.subi v2881 c8_i32_1359
  v2882
def k0_off67 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1358 : BitVec 32 := 16#32
  let v2881 : BitVec 32 := Scalar.muli arg6 c16_i32_1358
  let c8_i32_1359 : BitVec 32 := 8#32
  let v2882 : BitVec 32 := Scalar.subi v2881 c8_i32_1359
  let v2883 : BitVec 32 := v2882
  let v2884 : Index := Scalar.indexCast v2883
  let c2816_1360 : Index := 2816#32
  ![v2884.toNat, 2816]
def k0_mult47 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1371 : BitVec 32 := 16#32
  let v2905 : BitVec 32 := Scalar.muli arg6 c16_i32_1371
  let c8_i32_1372 : BitVec 32 := 8#32
  let v2906 : BitVec 32 := Scalar.subi v2905 c8_i32_1372
  v2906
def k0_off68 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1371 : BitVec 32 := 16#32
  let v2905 : BitVec 32 := Scalar.muli arg6 c16_i32_1371
  let c8_i32_1372 : BitVec 32 := 8#32
  let v2906 : BitVec 32 := Scalar.subi v2905 c8_i32_1372
  let v2907 : BitVec 32 := v2906
  let v2908 : Index := Scalar.indexCast v2907
  let c5888_1373 : Index := 5888#32
  ![v2908.toNat, 5888]
def k0_off69 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v2944 : Index := Scalar.indexCast v1450
  let c2816_1388 : Index := 2816#32
  ![v2944.toNat, 2816]
def k0_mult48 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1389 : BitVec 32 := 16#32
  let v2946 : BitVec 32 := Scalar.muli arg6 c16_i32_1389
  let c8_i32_1390 : BitVec 32 := 8#32
  let v2947 : BitVec 32 := Scalar.subi v2946 c8_i32_1390
  v2947
def k0_off70 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1389 : BitVec 32 := 16#32
  let v2946 : BitVec 32 := Scalar.muli arg6 c16_i32_1389
  let c8_i32_1390 : BitVec 32 := 8#32
  let v2947 : BitVec 32 := Scalar.subi v2946 c8_i32_1390
  let v2948 : BitVec 32 := v2947
  let v2949 : Index := Scalar.indexCast v2948
  let c2944_1391 : Index := 2944#32
  ![v2949.toNat, 2944]
def k0_mult49 (k0_t1 : Fin k0_t1_loop.trips) : BitVec 32 :=
  let c1_i32_670 : BitVec 32 := 1#32
  let c1_i32_671 : BitVec 32 := 1#32
  let arg6 : BitVec 32 := Scf.iv c1_i32_670 c1_i32_671 k0_t1
  let c16_i32_1402 : BitVec 32 := 16#32
  let v2970 : BitVec 32 := Scalar.muli arg6 c16_i32_1402
  let c8_i32_1403 : BitVec 32 := 8#32
  let v2971 : BitVec 32 := Scalar.subi v2970 c8_i32_1403
  v2971
def k0_off71 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32_1402 : BitVec 32 := 16#32
  let v2970 : BitVec 32 := Scalar.muli arg6 c16_i32_1402
  let c8_i32_1403 : BitVec 32 := 8#32
  let v2971 : BitVec 32 := Scalar.subi v2970 c8_i32_1403
  let v2972 : BitVec 32 := v2971
  let v2973 : Index := Scalar.indexCast v2972
  let c6016_1404 : Index := 6016#32
  ![v2973.toNat, 6016]
def k0_off72 (k0_t1 : Fin k0_t1_loop.trips) : Fin 2 → Nat :=
  let c1_i32_670 : BitVec 32 := 1#32
  let c1_i32_671 : BitVec 32 := 1#32
  let arg6 : BitVec 32 := Scf.iv c1_i32_670 c1_i32_671 k0_t1
  let c16_i32 : BitVec 32 := 16#32
  let v1449 : BitVec 32 := Scalar.muli arg6 c16_i32
  let v1450 : BitVec 32 := v1449
  let v3009 : Index := Scalar.indexCast v1450
  let c2944_1419 : Index := 2944#32
  ![v3009.toNat, 2944]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S144x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference21Ideal.lean ====
abbrev S8208x6144 : Shape := ⟨2, ![8208, 6144]⟩
abbrev S3x6144 : Shape := ⟨2, ![3, 6144]⟩
abbrev S1x6144 : Shape := ⟨2, ![1, 6144]⟩
abbrev S6144 : Shape := ⟨1, ![6144]⟩
abbrev S_ : Shape := ⟨0, ![]⟩
abbrev S8210x6144 : Shape := ⟨2, ![8210, 6144]⟩
abbrev S8209x6144 : Shape := ⟨2, ![8209, 6144]⟩
abbrev S8208x3072 : Shape := ⟨2, ![8208, 3072]⟩

abbrev nBuf : Space → Nat
  | .hbm => 51
  | .vmem => 0
  | .smem => 0
  | _ => 0

abbrev bufTy : (tb : Table) → Fin (tcTables nBuf tb) → BufTy
  | .hbm, ⟨0, _⟩ => ⟨S8208x6144, .f32⟩
  | .hbm, ⟨1, _⟩ => ⟨S3x6144, .f32⟩
  | .hbm, ⟨2, _⟩ => ⟨S1x6144, .f32⟩
  | .hbm, ⟨3, _⟩ => ⟨S1x6144, .f32⟩
  | .hbm, ⟨4, _⟩ => ⟨S6144, .f32⟩
  | .hbm, ⟨5, _⟩ => ⟨S_, .i32⟩
  | .hbm, ⟨6, _⟩ => ⟨S_, .f32⟩
  | .hbm, ⟨7, _⟩ => ⟨S8210x6144, .f32⟩
  | .hbm, ⟨8, _⟩ => ⟨S8208x6144, .f32⟩
  | .hbm, ⟨9, _⟩ => ⟨S1x6144, .f32⟩
  | .hbm, ⟨10, _⟩ => ⟨S8208x6144, .f32⟩
  | .hbm, ⟨11, _⟩ => ⟨S8208x6144, .f32⟩
  | .hbm, ⟨12, _⟩ => ⟨S1x6144, .f32⟩
  | .hbm, ⟨13, _⟩ => ⟨S6144, .f32⟩
  | .hbm, ⟨14, _⟩ => ⟨S_, .i32⟩
  | .hbm, ⟨15, _⟩ => ⟨S_, .f32⟩
  | .hbm, ⟨16, _⟩ => ⟨S8209x6144, .f32⟩
  | .hbm, ⟨17, _⟩ => ⟨S8208x6144, .f32⟩
  | .hbm, ⟨18, _⟩ => ⟨S1x6144, .f32⟩
  | .hbm, ⟨19, _⟩ => ⟨S8208x6144, .f32⟩
  | .hbm, ⟨20, _⟩ => ⟨S8208x6144, .f32⟩
  | .hbm, ⟨21, _⟩ => ⟨S8208x6144, .f32⟩
  | .hbm, ⟨22, _⟩ => ⟨S1x6144, .f32⟩
  | .hbm, ⟨23, _⟩ => ⟨S6144, .f32⟩
  | .hbm, ⟨24, _⟩ => ⟨S1x6144, .f32⟩
  | .hbm, ⟨25, _⟩ => ⟨S8208x6144, .f32⟩
  | .hbm, ⟨26, _⟩ => ⟨S8208x6144, .f32⟩
  | .hbm, ⟨27, _⟩ => ⟨S8208x6144, .f32⟩
  | .hbm, ⟨28, _⟩ => ⟨S8208x6144, .f32⟩
  | .hbm, ⟨29, _⟩ => ⟨S8208x6144, .f32⟩
  | .hbm, ⟨30, _⟩ => ⟨S8208x3072, .f32⟩
  | .hbm, ⟨31, _⟩ => ⟨S8208x3072, .f32⟩
  | .hbm, ⟨32, _⟩ => ⟨S8208x3072, .f32⟩
  | .hbm, ⟨33, _⟩ => ⟨S8208x3072, .f32⟩
  | .hbm, ⟨34, _⟩ => ⟨S_, .f32⟩
  | .hbm, ⟨35, _⟩ => ⟨S8208x3072, .f32⟩
  | .hbm, ⟨36, _⟩ => ⟨S8208x3072, .f32⟩
  | .hbm, ⟨37, _⟩ => ⟨S8208x3072, .f32⟩
  | .hbm, ⟨38, _⟩ => ⟨S_, .f32⟩
  | .hbm, ⟨39, _⟩ => ⟨S8208x3072, .f32⟩
  | .hbm, ⟨40, _⟩ => ⟨S8208x3072, .f32⟩
  | .hbm, ⟨41, _⟩ => ⟨S8208x3072, .f32⟩
  | .hbm, ⟨42, _⟩ => ⟨S_, .f32⟩
  | .hbm, ⟨43, _⟩ => ⟨S8208x3072, .f32⟩
  | .hbm, ⟨44, _⟩ => ⟨S8208x3072, .f32⟩
  | .hbm, ⟨45, _⟩ => ⟨S_, .f32⟩
  | .hbm, ⟨46, _⟩ => ⟨S8208x3072, .f32⟩
  | .hbm, ⟨47, _⟩ => ⟨S8208x3072, .f32⟩
  | .hbm, ⟨48, _⟩ => ⟨S8208x3072, .f32⟩
  | .hbm, ⟨49, _⟩ => ⟨S8208x3072, .f32⟩
  | .hbm, ⟨50, _⟩ => ⟨S8208x3072, .bf16⟩
  | _, _ => ⟨S8208x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel22.lean ====
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x160x1024, .f32⟩
  | .hbm, ⟨1, _⟩ => ⟨S160x1024, .f32⟩
  | .local _ .vmem, ⟨0, _⟩ => ⟨S8x160x1024, .f32⟩
  | .local _ .vmem, ⟨1, _⟩ => ⟨S160x1024, .f32⟩
  | _, _ => ⟨S8x160x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference22Ideal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Sums.lean ====
/-
  A sum taken block by block. A kernel that walks the rows of a matrix `b` at a time adds one block's sum per step to
  what it has; after the last step it has the sum over all rows.
-/
module

public import Mathlib.Data.EReal.Operations
public import Mathlib.Algebra.BigOperators.Fin

@[expose] public section

noncomputable section

namespace Cert.Sums

open scoped BigOperators

/-- A list of `N` numbers as a function of every natural number, zero past its end. -/
def total {N : ℕ} (g : Fin N → EReal) (k : ℕ) : EReal := if h : k < N then g ⟨k, h⟩ else 0

theorem total_of_lt {N : ℕ} (g : Fin N → EReal) {k : ℕ} (h : k < N) : total g k = g ⟨k, h⟩ := dif_pos h

/-- The sum of the first `n` blocks of `b` terms. -/
def upTo {N : ℕ} (b : ℕ) (g : Fin N → EReal) (n : ℕ) : EReal :=
  ∑ s ∈ Finset.range n, ∑ r : Fin b, total g (b * s + r.val)

theorem upTo_zero {N : ℕ} (b : ℕ) (g : Fin N → EReal) : upTo b g 0 = 0 := rfl

/-- One more block. -/
theorem upTo_succ {N : ℕ} (b : ℕ) (g : Fin N → EReal) (n : ℕ) :
    upTo b g (n + 1) = upTo b g n + ∑ r : Fin b, total g (b * n + r.val) := Finset.sum_range_succ _ _

/-- The first `n` blocks are the first `b · n` terms. -/
theorem upTo_eq_range {N : ℕ} (b : ℕ) (g : Fin N → EReal) (n : ℕ) :
    upTo b g n = ∑ k ∈ Finset.range (b * n), total g k := by
  induction n with
  | zero => simp [upTo]
  | succ n ih =>
    rw [upTo_succ, ih, Nat.mul_succ, Finset.sum_range_add, Fin.sum_univ_eq_sum_range (fun r => total g (b * n + r)) b]

/-- All blocks together are the whole sum. -/
theorem upTo_all {N : ℕ} (b : ℕ) (g : Fin N → EReal) (n : ℕ) (h : b * n = N) : upTo b g n = ∑ k : Fin N, g k := by
  rw [upTo_eq_range, h, ← Fin.sum_univ_eq_sum_range (total g) N]
  exact Finset.sum_congr rfl fun k _ => total_of_lt g k.isLt

end Cert.Sums

end
-- ==== Proof.WeightGrad2.lean ====
/-
  The gradient of a weight as one product, `aᵀ · b`: the kernel takes the rows of both matrices 912 at a time, adds the
  product of each pair of row blocks to a float32 accumulator, and writes the accumulator out once it has seen all 8208
  rows. Over the extended reals the accumulator after a step is the sum over the rows seen so far, and the result is
  the sum over all rows, which is what the derivative of the plain product is.
-/
module

public import proofs.«01_k».proof.Defs
public import proofs.«01_k».proof.Proof.Sums
public import proofs.«01_k».proof.Proof.Gen.Kernel2Ideal.Value
public import proofs.«01_k».proof.Proof.Gen.Reference2Ideal.Run
public import proofs.«01_k».proof.Proof.Gen.Reference2Ideal.Read
public import Idealize.ShloMosaic.PureOps.Ideal.Laws
public import Idealize.ShloMosaic.Lib.ValueIdxCore
public import Idealize.ShloMosaic.Lib.Pipeline.Value
public import Idealize.ShloMosaic.Lib.Tactic
public import Idealize.ShloMosaic.Lib.Quiescent

@[expose] public section

set_option maxRecDepth 16384

noncomputable section

namespace Cert.Kernel2Ideal.WeightGrad

open Cert.Kernel2Ideal Cert.Kernel2Ideal.Gen Cert.Kernel2Ideal.Value
open Idealize.ShloMosaic Idealize.ShloMosaic.TcCoe Idealize.SL.Sem
open Idealize.ShloMosaic.ValueIdx
open Cert.Sums

theorem hz : (![0, 0] : Fin 2 → Nat) = fun _ => 0 := funext fun a => by fin_cases a <;> rfl

section Steps

variable {F : FTy → Type} [FloatOps F]

/-- A step that is neither first nor last leaves the accumulator plus the product of its two row blocks. -/
theorem middle (c : Dev nD) (i : grid0.Coords) (a2 : Memref sig .tc .vmem S912x3072 .bf16) (h2 : a2.IsWhole)
    (a3 : Memref sig .tc .vmem S912x512 .bf16) (h3 : a3.IsWhole) (a4 : Memref sig .tc .vmem S3072x512 .bf16)
    (h4 : a4.IsWhole) (a5 : Memref sig .tc .vmem S3072x512 .f32) (h5 : a5.IsWhole) (hc0 : ¬cond0_0 i) (hc1 : ¬cond0_1 i)
    (x0 : Vec F S912x3072 .bf16) (x1 : Vec F S912x512 .bf16) (s : Vec F S3072x512 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S3072x512) hz,
    View.ld_unit_zero (S := S912x3072) hz, View.ld_unit_zero (S := S912x512) hz]

/-- So does the last step. -/
theorem last (c : Dev nD) (i : grid0.Coords) (a2 : Memref sig .tc .vmem S912x3072 .bf16) (h2 : a2.IsWhole)
    (a3 : Memref sig .tc .vmem S912x512 .bf16) (h3 : a3.IsWhole) (a4 : Memref sig .tc .vmem S3072x512 .bf16)
    (h4 : a4.IsWhole) (a5 : Memref sig .tc .vmem S3072x512 .f32) (h5 : a5.IsWhole) (hc0 : ¬cond0_0 i) (hc1 : cond0_1 i)
    (x0 : Vec F S912x3072 .bf16) (x1 : Vec F S912x512 .bf16) (s : Vec F S3072x512 .f32) :
    sout0_C_0 c i a2 h2 a3 h3 a4 h4 a5 h5 hc0 hc1 x0 x1 s = k0_pay2 s x0 x1 := by
  unfold sout0_C_0
  rw [View.read_writes_eq_canon _ _ _ (scover0_C_0 c i a2 h2 a3 h3 a4 h4 a5 h5 hc0 hc1 x0 x1 s)]
  unfold kernelRun0_C
  dsimp only
  sl_unfold_words
  rw [View.canon_unit_zero hz]
  simp only [View.readAt_eq_ld, h2.read_unread, h3.read_unread, h5.read_unread, View.ld_unit_zero (S := S3072x512) hz,
    View.ld_unit_zero (S := S912x3072) hz, View.ld_unit_zero (S := S912x512) hz]

/-- The last step also writes that sum, rounded, to the result's block. -/
theorem last_out (c : Dev nD) (i : grid0.Coords) (a2 : Memref sig .tc .vmem S912x3072 .bf16) (h2 : a2.IsWhole)
    (a3 : Memref sig .tc .vmem S912x512 .bf16) (h3 : a3.IsWhole) (a4 : Memref sig .tc .vmem S3072x512 .bf16)
    (h4 : a4.IsWhole) (a5 : Memref sig .tc .vmem S3072x512 .f32) (h5 : a5.IsWhole) (hc0 : ¬cond0_0 i) (hc1 : cond0_1 i)
    (x0 : Vec F S912x3072 .bf16) (x1 : Vec F S912x512 .bf16) (s : Vec F S3072x512 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S3072x512) _ hz]
  simp only [View.readAt_eq_ld, h2.read_unread, h3.read_unread, h5.read_unread, View.ld_unit_zero (S := S3072x512) hz,
    View.ld_unit_zero (S := S912x3072) hz, View.ld_unit_zero (S := S912x512) hz]

/-- The first step clears the accumulator and adds its product. -/
theorem first (c : Dev nD) (i : grid0.Coords) (a2 : Memref sig .tc .vmem S912x3072 .bf16) (h2 : a2.IsWhole)
    (a3 : Memref sig .tc .vmem S912x512 .bf16) (h3 : a3.IsWhole) (a4 : Memref sig .tc .vmem S3072x512 .bf16)
    (h4 : a4.IsWhole) (a5 : Memref sig .tc .vmem S3072x512 .f32) (h5 : a5.IsWhole) (hc0 : cond0_0 i) (hc1 : ¬cond0_1 i)
    (x0 : Vec F S912x3072 .bf16) (x1 : Vec F S912x512 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S3072x512) hz, View.readCov_unit_zero (S := S3072x512) _ hz]
  simp only [View.readAt_eq_ld, h2.read_unread, h3.read_unread, View.ld_unit_zero (S := S912x3072) hz, View.ld_unit_zero (S := S912x512) hz]

end Steps

/-! ## One step's sum -/

abbrev dims := dot_S912x3072_S912x512_S3072x512_0_0_1_1_n_n

theorem lhs0 (j : S3072x512.Idx) (q : dims.contr.Idx) : (dims.lhsIdx j q 0).val = (q ⟨0, by decide⟩).val :=
  dims.lhsIdx_val_of_single rfl j q
theorem lhs1 (j : S3072x512.Idx) (q : dims.contr.Idx) : (dims.lhsIdx j q 1).val = (j 0).val := by
  unfold DotDims.lhsIdx
  rw [dif_neg (show ¬(1 : Fin S912x3072.rank) ∈ dims.lhsBatch by decide), dif_pos (show (1 : Fin S912x3072.rank) ∈ dims.lhsNonContracting by decide)]
  rfl
theorem rhs0 (j : S3072x512.Idx) (q : dims.contr.Idx) : (dims.rhsIdx j q 0).val = (q ⟨0, by decide⟩).val :=
  dims.rhsIdx_val_of_single rfl j q
theorem rhs1 (j : S3072x512.Idx) (q : dims.contr.Idx) : (dims.rhsIdx j q 1).val = (j 1).val := by
  unfold DotDims.rhsIdx
  rw [dif_neg (show ¬(1 : Fin S912x512.rank) ∈ dims.rhsBatch by decide), dif_pos (show (1 : Fin S912x512.rank) ∈ dims.rhsNonContracting by decide)]
  rfl

/-- Entry `(r, p)` of a matrix, as an extended real. -/
abbrev at2 {a b : ℕ} (x : (⟨2, ![a, b]⟩ : Shape).Idx → EReal) (r : Fin a) (p : Fin b) : EReal := x (ix2 r p)

/-- One step at an entry: what was there, plus the sum over the step's 912 rows. -/
theorem step_apply (s : Vec Ideal S3072x512 .f32) (x0 : Vec Ideal S912x3072 .bf16) (x1 : Vec Ideal S912x512 .bf16)
    (j : S3072x512.Idx) :
    k0_pay2 (F := Ideal) s x0 x1 j
      = s j + ∑ r : Fin 912, at2 x0 r ⟨(j 0).val, (j 0).isLt⟩ * at2 x1 r ⟨(j 1).val, (j 1).isLt⟩ := by
  unfold k0_pay2
  rw [shapeCast_self]
  refine congrArg (fun z : EReal => s j + z) (?_ : FloatOps.matmul (F := Ideal) (φ₁ := .bf16) (φ₂ := .bf16) dims none x0 x1 (constant S3072x512 .f32 0x00000000#32) j = _)
  rw [Ideal.matmul_constant_zero_apply, ← Equiv.sum_comp (contrEquiv1 dims 912 rfl rfl).symm]
  refine Finset.sum_congr rfl fun k _ => ?_
  have hk := contrEquiv1_symm_val dims 912 rfl rfl k
  have el : dims.lhsIdx j ((contrEquiv1 dims 912 rfl rfl).symm k) = ix2 k ⟨(j 0).val, (j 0).isLt⟩ := funext fun a => Fin.ext (by
    match a with
    | ⟨0, _⟩ => exact (lhs0 _ _).trans hk
    | ⟨1, _⟩ => exact lhs1 _ _)
  have er : dims.rhsIdx j ((contrEquiv1 dims 912 rfl rfl).symm k) = ix2 k ⟨(j 1).val, (j 1).isLt⟩ := funext fun a => Fin.ext (by
    match a with
    | ⟨0, _⟩ => exact (rhs0 _ _).trans hk
    | ⟨1, _⟩ => exact rhs1 _ _)
  rw [el, er]
  rfl

/-- The cleared accumulator is zero. -/
theorem cleared (j : S3072x512.Idx) : (k0_pay1 (F := Ideal) j : EReal) = 0 := by
  unfold k0_pay1
  rw [shapeCast_self]
  exact Ideal.ofBits_zero_f32

/-! ## The accumulator over the grid -/

variable (m : (ℓ : Loc nD τ sig) → Buf (Elt Ideal) ℓ) (ρ : Dev nD → PrngReg)

/-- The products whose sum is entry `(p, q)` of the result. -/
def term (c : Dev nD) (p : Fin 3072) (q : Fin 1024) (k : Fin 8208) : EReal :=
  at2 (m ((c : Thread nD τ).loc main_arg0)) k p * at2 (m ((c : Thread nD τ).loc main_arg1)) k q

theorem index_a : ∀ t : Fin cfg0.N, win0_0.index t (0 : Fin 2) = t.val % 9 ∧ win0_0.index t (1 : Fin 2) = 0 :=
  (by decide +kernel : ∀ t : Fin grid0.N, _)
theorem index_b : ∀ t : Fin cfg0.N, win0_1.index t (0 : Fin 2) = t.val % 9 ∧ win0_1.index t (1 : Fin 2) = t.val / 9 :=
  (by decide +kernel : ∀ t : Fin grid0.N, _)

/-- The point's block of `a`: the rows `912·(t mod 9) …`. -/
theorem block_a (c : Dev nD) (t : Fin cfg0.N) (r : Fin 912) (p : Fin 3072) (h : 912 * (t.val % 9) + r.val < 8208) :
    iblk m c 0 t (ix2 r p) = m ((c : Thread nD τ).loc main_arg0) (ix2 ⟨912 * (t.val % 9) + r.val, h⟩ p) := by
  obtain ⟨e0, e1⟩ := index_a t
  show m ((c : Thread nD τ).loc main_arg0) (((cfg0.win 0).blk t).view.emb (ix2 r p)) = _
  refine congrArg _ (funext fun a => Fin.ext ?_)
  match a with
  | ⟨0, _⟩ =>
    show win0_0.index t (0 : Fin 2) * 912 + 1 * r.val = 912 * (t.val % 9) + r.val
    rw [e0]; omega
  | ⟨1, _⟩ =>
    show win0_0.index t (1 : Fin 2) * 3072 + 1 * p.val = p.val
    rw [e1]; omega

/-- The point's block of `b`: the same rows, the columns `512·(t / 9) …`. -/
theorem block_b (c : Dev nD) (t : Fin cfg0.N) (r : Fin 912) (q : Fin 512) (h : 912 * (t.val % 9) + r.val < 8208)
    (h' : 512 * (t.val / 9) + q.val < 1024) :
    iblk m c 1 t (ix2 r q)
      = m ((c : Thread nD τ).loc main_arg1) (ix2 ⟨912 * (t.val % 9) + r.val, h⟩ ⟨512 * (t.val / 9) + q.val, h'⟩) := by
  obtain ⟨e0, e1⟩ := index_b t
  show m ((c : Thread nD τ).loc main_arg1) (((cfg0.win 1).blk t).view.emb (ix2 r q)) = _
  refine congrArg _ (funext fun a => Fin.ext ?_)
  match a with
  | ⟨0, _⟩ =>
    show win0_1.index t (0 : Fin 2) * 912 + 1 * r.val = 912 * (t.val % 9) + r.val
    rw [e0]; omega
  | ⟨1, _⟩ =>
    show win0_1.index t (1 : Fin 2) * 512 + 1 * q.val = 512 * (t.val / 9) + q.val
    rw [e1]; omega

theorem points (t : Fin cfg0.N) : t.val < 18 := lt_of_lt_of_eq t.isLt N_0

theorem column_lt (t : Fin cfg0.N) (q : Fin 512) : 512 * (t.val / 9) + q.val < 1024 := by
  have := points t; have := q.isLt; omega

/-- One point's contribution to an entry is the next block of its terms. -/
theorem contribution (c : Dev nD) (t : Fin cfg0.N) (p : Fin 3072) (q : Fin 512) :
    ∑ r : Fin 912, at2 (a := 912) (b := 3072) (iblk m c 0 t) r p * at2 (a := 912) (b := 512) (iblk m c 1 t) r q
      = ∑ r : Fin 912, total (term m c p ⟨512 * (t.val / 9) + q.val, column_lt t q⟩) (912 * (t.val % 9) + r.val) := by
  refine Finset.sum_congr rfl fun r _ => ?_
  have h : 912 * (t.val % 9) + r.val < 8208 := by have := r.isLt; have := Nat.mod_lt t.val (show 0 < 9 by decide); omega
  rw [total_of_lt _ h]
  exact congrArg₂ (fun x y : EReal => x * y) (block_a m c t r p h) (block_b m c t r q h (column_lt t q))

/-- The accumulator after point `t`: the terms of the row blocks met since the column block began. -/
theorem carried (c : Dev nD) : ∀ (n : ℕ) (hn : n < cfg0.N) (p : Fin 3072) (q : Fin 512),
    ((outsAt0 m c n hn).2 (ix2 p q) : EReal)
      = upTo 912 (term m c p ⟨512 * (n / 9) + q.val, column_lt ⟨n, hn⟩ q⟩) (n % 9 + 1) := by
  intro n
  induction n with
  | zero =>
    intro hn p q
    rw [outsAt0_A m c ⟨0, hn⟩ (Nat.zero_mod 9) (by show ¬ 0 % 9 = 8; omega)]
    dsimp only
    rw [first, step_apply, cleared, zero_add]
    have h := contribution m c ⟨0, hn⟩ p q
    exact h.trans (by rw [Nat.zero_mod, upTo_succ, upTo_zero, zero_add])
  | succ n ih =>
    intro hn p q
    have hN : n + 1 < 18 := lt_of_lt_of_eq hn N_0
    have h := contribution m c ⟨n + 1, hn⟩ p q
    by_cases h0 : (n + 1) % 9 = 0
    · rw [outsAt0_A m c ⟨n + 1, hn⟩ h0 (by show ¬ (n + 1) % 9 = 8; omega)]
      dsimp only
      rw [first, step_apply, cleared, zero_add]
      refine h.trans ?_
      dsimp only
      rw [h0, upTo_succ, upTo_zero, zero_add]
    · have e1 : (n + 1) / 9 = n / 9 := by omega
      have e2 : (n + 1) % 9 = n % 9 + 1 := by omega
      have hprev := ih (Nat.lt_of_succ_lt hn) p q
      have key : ((outsAt0 m c n (Nat.lt_of_succ_lt hn)).2 (ix2 p q) : EReal)
            + ∑ r : Fin 912, at2 (a := 912) (b := 3072) (iblk m c 0 ⟨n + 1, hn⟩) r p * at2 (a := 912) (b := 512) (iblk m c 1 ⟨n + 1, hn⟩) r q
          = upTo 912 (term m c p ⟨512 * ((n + 1) / 9) + q.val, column_lt ⟨n + 1, hn⟩ q⟩) ((n + 1) % 9 + 1) := by
        rw [hprev, h]
        simp only [e1, e2]
        exact (upTo_succ 912 _ _).symm
      by_cases h1 : (n + 1) % 9 = 8
      · rw [outsAt0_C m c ⟨n + 1, hn⟩ h0 h1]
        dsimp only
        rw [last, step_apply]
        exact key
      · rw [outsAt0_B m c ⟨n + 1, hn⟩ h0 h1]
        dsimp only
        rw [middle, step_apply]
        exact key

/-- What the last point of a column block writes out: the sum over all rows. -/
theorem written (c : Dev nD) (n : ℕ) (hn : n < cfg0.N) (h8 : n % 9 = 8) (p : Fin 3072) (q : Fin 512) :
    ((outsAt0 m c n hn).1 (ix2 p q) : EReal)
      = ∑ k : Fin 8208, term m c p ⟨512 * (n / 9) + q.val, column_lt ⟨n, hn⟩ q⟩ k := by
  have hc := carried m c n hn p q
  rw [h8, upTo_all 912 _ 9 rfl] at hc
  rw [← hc]
  have h0 : ¬ n % 9 = 0 := by omega
  rw [outsAt0_C m c ⟨n, hn⟩ h0 h8]
  dsimp only
  rw [last, last_out]
  rfl

/-- The result array. -/
def result (c : Dev nD) : Buf (Elt Ideal) ((c : Thread nD τ).loc main_v0) :=
  fun i => (∑ k : Fin 8208, term m c ⟨(i 0).val, (i 0).isLt⟩ ⟨(i 1).val, (i 1).isLt⟩ k : EReal)

theorem result_eq (c : Dev nD) : G2 m c = result m c := by
  funext i
  have hi0 : (i 0).val < 3072 := (i 0).isLt
  have hi1 : (i 1).val < 1024 := (i 1).isLt
  have hp : pt2Of i < cfg0.N := by
    show 9 * (2 * ((i 0).val / 3072 - 0) + 1 * ((i 1).val / 512 - 0)) + 8 < grid0.N
    rw [N_0]; omega
  have hr : run2Of i = (i 1).val / 512 := by
    show 2 * ((i 0).val / 3072 - 0) + 1 * ((i 1).val / 512 - 0) = _
    omega
  unfold G2
  rw [dif_pos hp, ← outsAt0_sweep m c (pt2Of i) hp]
  have hl : loc2Of i = ix2 ⟨(i 0).val % 3072, Nat.mod_lt _ (by decide)⟩ ⟨(i 1).val % 512, Nat.mod_lt _ (by decide)⟩ := by
    funext a
    match a with
    | ⟨0, _⟩ => rfl
    | ⟨1, _⟩ => rfl
  rw [hl]
  refine (written m c (pt2Of i) hp (by show (9 * run2Of i + 8) % 9 = 8; omega) _ _).trans ?_
  have e0 : (⟨(i 0).val % 3072, Nat.mod_lt _ (by decide)⟩ : Fin 3072) = ⟨(i 0).val, hi0⟩ := Fin.ext (Nat.mod_eq_of_lt hi0)
  have e1 : (⟨512 * (pt2Of i / 9) + (i 1).val % 512, column_lt ⟨pt2Of i, hp⟩ ⟨(i 1).val % 512, Nat.mod_lt _ (by decide)⟩⟩ : Fin 1024)
      = ⟨(i 1).val, hi1⟩ := Fin.ext (by
    show 512 * ((9 * run2Of i + 8) / 9) + (i 1).val % 512 = (i 1).val
    rw [hr]; omega)
  unfold result
  refine Finset.sum_congr rfl fun k _ => ?_
  rw [e0]
  exact congrArg (fun q => term m c _ q k) e1

/-! ## The claim -/

open Cert.Reference2Ideal.Read in
/-- The reference's result is the same array. -/
theorem reference_eq (c : Dev nD) :
    val_main_v6 (F := Ideal) (m ((c : Thread nD τ).loc main_arg0)) (m ((c : Thread nD τ).loc main_arg1)) = result m c := by
  funext i
  rw [val_main_v6_apply]
  show val_main_v5 (F := Ideal) _ _ i = _
  rw [val_main_v5_apply, val_main_v4_apply]
  unfold result
  refine Finset.sum_congr rfl fun k _ => ?_
  rw [val_main_v1_apply, val_main_v0_apply]
  refine (mul_comm _ _).trans ?_
  refine congrArg₂ (· * ·) (congrArg (m ((c : Thread nD τ).loc main_arg0)) ?_) (congrArg (m ((c : Thread nD τ).loc main_arg1)) ?_)
  · funext a
    match a with
    | ⟨0, _⟩ => rfl
    | ⟨1, _⟩ => rfl
  · funext a
    match a with
    | ⟨0, _⟩ => rfl
    | ⟨1, _⟩ => rfl

/-- The kernel computes the derivative of the plain product. -/
theorem algebraic : Cert.algebraic_Kernel2Ideal_Reference2Ideal := by
  intro m ρ m' ρ' _ hargs
  refine ⟨fun c => result m c, ?_, ?_⟩
  · exact (θ_run _ _ _).mono (fun r h c => ⟨(h c).1.trans (result_eq m c), (h c).2.1, (h c).2.2⟩) (run (F := Ideal) m ρ)
  · refine (θ_run _ _ _).mono (fun r h c => ⟨(h c).1.trans ?_, (h c).2.1, (h c).2.2⟩)
      (Cert.Reference2Ideal.Value.run (F := Ideal) m' ρ')
    rw [Cert.Reference2Ideal.Read.val_main_v6_eq, (hargs c).1, (hargs c).2]
    exact reference_eq m c

end Cert.Kernel2Ideal.WeightGrad

end
-- ==== Proof.RowNorm.lean ====
/-
  The root-mean-square norm of one row of 1024 extended reals, and its gradient in the two forms the programs have.

  The norm divides a row `x` by the root of its mean square plus a small constant: it multiplies by `scale x`. For a
  gradient `y` of the normed row (already multiplied by the gain) the kernels compute
      scale x · (y j − (x j · scale x) · mean (y · (x · scale x))),
  and the derivative that `jax.vjp` writes down is
      y j · scale x + x j · c + c · x j,    c = (∑ x · y) · (−1/2 · (scale x / v)) / 1024,   v = mean square + constant.
  They are equal on EVERY row of extended reals (`gradient_eq`): when `v` is infinite the scale is zero and both are
  zero; when it is finite every `x j` is a real number, the scale is a positive real, and only the two sums can be
  infinite, which products with reals keep.
-/
module

public import Idealize.ShloMosaic.PureOps.Ideal
public import Idealize.ShloMosaic.PureOps.Ideal.Laws
public import Mathlib.Data.EReal.Operations
public import Mathlib.Data.EReal.Inv

@[expose] public section

noncomputable section

namespace Cert.RowNorm

open Idealize.ShloMosaic

/-- The row's length as the programs write it, the float word of 1024. -/
abbrev width : EReal := Ideal.ofBits .f32 0x44800000#32

/-- The constant under the root, the float word nearest to 1e-6. -/
abbrev small : EReal := Ideal.ofBits .f32 0x358637BD#32

/-- Minus one half. -/
abbrev minusHalf : EReal := Ideal.ofBits .f32 0xBF000000#32

/-- Zero. -/
abbrev zero : EReal := Ideal.ofBits .f32 0x00000000#32

theorem zero_eq : zero = 0 := Ideal.ofBits_zero_f32

theorem width_eq : width = ((1024 : ℝ) : EReal) := by
  simp [width, Ideal.ofBits, Ideal.ieee]
  norm_num
  rw [← EReal.coe_mul]
  norm_num

theorem minusHalf_eq : minusHalf = ((-(1 / 2) : ℝ) : EReal) := by
  simp [minusHalf, Ideal.ofBits, Ideal.ieee]
  norm_num
  rw [← EReal.coe_mul]
  norm_num

theorem small_pos : ∃ e : ℝ, 0 < e ∧ small = (e : EReal) := by
  refine ⟨8796093 / 2 ^ 43, by positivity, ?_⟩
  simp [small, Ideal.ofBits, Ideal.ieee]
  norm_num
  rw [← EReal.coe_mul]
  norm_num

/-- The mean square of a row plus the small constant. -/
def meanSquare (x : Fin 1024 → EReal) : EReal := Ideal.div (∑ j, x j * x j) width + small

/-- The factor the norm multiplies a row by. -/
def scale (x : Fin 1024 → EReal) : EReal := Ideal.rsqrt (meanSquare x)

/-- The gradient of the norm as the kernels compute it. -/
def gradient (x y : Fin 1024 → EReal) (j : Fin 1024) : EReal :=
  scale x * (y j - (x j * scale x) * Ideal.div (∑ k, y k * (x k * scale x)) width)

/-- The factor `c` of the derivative's two equal terms. -/
def crossFactor (x y : Fin 1024 → EReal) : EReal :=
  zero + ∑ _k : Fin 1, Ideal.div ((zero + ∑ k, x k * y k) * (minusHalf * Ideal.div (scale x) (meanSquare x))) width

/-- The gradient of the norm as its derivative is written by differentiating the norm's lines. -/
def derivative (x y : Fin 1024 → EReal) (j : Fin 1024) : EReal :=
  y j * scale x + x j * crossFactor x y + crossFactor x y * x j

theorem square_nonneg (a : EReal) : 0 ≤ a * a := by
  induction a with
  | bot => simp
  | top => simp
  | coe r => exact_mod_cast mul_self_nonneg r

theorem finite_of_square_sum {x : Fin 1024 → EReal} {s : ℝ} (h : ∑ j, x j * x j = (s : EReal)) (j : Fin 1024) :
    ∃ r : ℝ, x j = (r : EReal) := by
  have hle : x j * x j ≤ (s : EReal) := by
    rw [← h]
    exact Finset.single_le_sum (f := fun j => x j * x j) (fun i _ => square_nonneg _) (Finset.mem_univ j)
  generalize x j = a at hle
  induction a with
  | bot => simp at hle
  | top => simp at hle
  | coe r => exact ⟨r, rfl⟩

/-- Either the mean square is infinite, or it is a positive real and every element of the row is real. -/
theorem meanSquare_cases (x : Fin 1024 → EReal) :
    meanSquare x = ⊤ ∨ ∃ v : ℝ, 0 < v ∧ meanSquare x = (v : EReal) ∧ ∀ j, ∃ r : ℝ, x j = (r : EReal) := by
  obtain ⟨e, he, hs⟩ := small_pos
  have h0 : 0 ≤ ∑ j, x j * x j := Finset.sum_nonneg fun i _ => square_nonneg _
  unfold meanSquare
  rw [hs, width_eq, Ideal.div_coe (by norm_num)]
  generalize hS : ∑ j, x j * x j = S at h0
  induction S with
  | bot => simp at h0
  | top =>
    left
    rw [EReal.top_mul_of_pos (by exact_mod_cast (by norm_num : (0 : ℝ) < 1 / 1024))]
    simp
  | coe s =>
    right
    have hs0 : 0 ≤ s := by exact_mod_cast h0
    refine ⟨s * (1 / 1024) + e, by positivity, by push_cast; rfl, finite_of_square_sum hS⟩

/-- A product with a positive real passes into a finite sum of extended reals. -/
theorem pos_mul_sum {ι : Type} (s : Finset ι) (f : ι → EReal) {r : ℝ} (hr : 0 < r) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr.le) (EReal.coe_ne_top r)]

/-- Twice an extended real times a real is the extended real times twice the real. -/
theorem add_self_mul (T : EReal) (b : ℝ) : T * (b : EReal) + T * (b : EReal) = T * ((2 * b : ℝ) : EReal) := by
  induction T with
  | coe t => norm_cast; ring
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- THE GRADIENT OF THE NORM: the kernels' form and the derivative's are the same, on every row. -/
theorem gradient_eq (x y : Fin 1024 → EReal) (j : Fin 1024) : gradient x y j = derivative x y j := by
  unfold gradient derivative crossFactor scale
  simp only [Fin.sum_univ_one, zero_eq, zero_add, width_eq, minusHalf_eq]
  rw [Ideal.div_coe (by norm_num), Ideal.div_coe (by norm_num)]
  rcases meanSquare_cases x with hv | ⟨v, hv0, hv, hx⟩
  · rw [hv]
    have h0 : Ideal.rsqrt ⊤ = 0 := rfl
    have h1 : Ideal.div 0 ⊤ = 0 := by simp [Ideal.div]
    simp [h0, h1]
  · rw [hv]
    obtain ⟨a, ha⟩ := hx j
    set r : ℝ := (Real.sqrt v)⁻¹ with hr
    have hsq : 0 < Real.sqrt v := Real.sqrt_pos.mpr hv0
    have hr0 : 0 < r := inv_pos.mpr hsq
    have hrs : Ideal.rsqrt (v : EReal) = (r : EReal) := by
      show (if v < 0 then (⊥ : EReal) else if v = 0 then ⊤ else ((Real.sqrt v)⁻¹ : ℝ)) = _
      rw [if_neg (not_lt.mpr hv0.le), if_neg hv0.ne']
    have hrr : r * r = 1 / v := by
      rw [hr, ← mul_inv, Real.mul_self_sqrt hv0.le, one_div]
    rw [hrs, Ideal.div_coe hv0.ne', ha]
    have hsum : ∑ k, y k * (x k * (r : EReal)) = (r : EReal) * ∑ k, x k * y k := by
      rw [pos_mul_sum _ _ hr0]
      exact Finset.sum_congr rfl fun k _ => by
        rw [mul_comm (x k) (r : EReal), ← mul_assoc, mul_comm (y k), mul_assoc, mul_comm (y k)]
    rw [hsum]
    generalize (∑ k, x k * y k : EReal) = T
    have e1 : (a : EReal) * (r : EReal) * ((r : EReal) * T * ((1 / 1024 : ℝ) : EReal))
        = T * ((a * r * r * (1 / 1024) : ℝ) : EReal) := by
      push_cast
      ac_rfl
    have e2 : (a : EReal) * (T * (((-(1 / 2) : ℝ) : EReal) * ((r : EReal) * ((1 / v : ℝ) : EReal))) * ((1 / 1024 : ℝ) : EReal))
        = T * ((a * (-(1 / 2)) * r * (1 / v) * (1 / 1024) : ℝ) : EReal) := by
      push_cast
      ac_rfl
    rw [mul_comm _ (a : EReal), e1, e2, add_assoc, add_self_mul, sub_eq_add_neg,
      EReal.left_distrib_of_nonneg_of_ne_top (by exact_mod_cast hr0.le) (EReal.coe_ne_top r), mul_comm (y j)]
    congr 1
    rw [← mul_neg, ← EReal.coe_neg, mul_left_comm, ← EReal.coe_mul]
    congr 2
    rw [← hrr]
    ring

end Cert.RowNorm

end
-- ==== Proof.NormTile.lean ====
/-
  The pieces the norm kernels share, read at an entry: sums over the columns and over the rows of a tile, a tile's
  scales, its normed rows, and the gradient of the norm over a tile of `a` rows. Each is what `RowNorm` says of the
  tile's row.
-/
module

public import proofs.«01_k».proof.Proof.RowNorm
public import Idealize.ShloMosaic.PureOps.Ideal.Laws
public import Idealize.ShloMosaic.Lib.ValueIdxCore
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.NormTile

open Idealize.ShloMosaic Idealize.ShloMosaic.ValueIdx
open scoped BigOperators

/-- A matrix of `a` rows and `b` columns. -/
abbrev Mat (a b : ℕ) : Shape := ⟨2, ![a, b]⟩
/-- A vector of `a` entries. -/
abbrev Row (a : ℕ) : Shape := ⟨1, ![a]⟩

/-- Entry `(r, p)` of a matrix, as an extended real. -/
abbrev at2 {a b : ℕ} (x : (Mat a b).Idx → EReal) (r : Fin a) (p : Fin b) : EReal := x (ix2 r p)

/-- The sum over a tile's columns. -/
theorem sumColumns_apply {a b : ℕ} (v : FVec Ideal (Mat a b) .f32) (h : (Mat a b).Reduces [1] (Row a))
    (hφ : FKind.Formats .f32) (hacc : (0x00000000#32 : BitVec FTy.f32.bits) = FKind.add.neutral .f32 hφ) (r : Fin a) :
    multiReduction .add [1] (Row a) v 0x00000000#32 h hφ hacc (ix1 r) = (∑ k : Fin b, at2 v r k : EReal) := by
  rw [Ideal.multiReduction_add_single]
  refine Finset.sum_congr rfl fun k _ => ?_
  refine congrArg v (funext fun c => Fin.ext ?_)
  match c with
  | ⟨0, _⟩ => rfl
  | ⟨1, _⟩ => rfl

/-- The sum over a tile's rows. -/
theorem sumRows_apply {a b : ℕ} (v : FVec Ideal (Mat a b) .f32) (h : (Mat a b).Reduces [0] (Row b))
    (hφ : FKind.Formats .f32) (hacc : (0x00000000#32 : BitVec FTy.f32.bits) = FKind.add.neutral .f32 hφ) (j : Fin b) :
    multiReduction .add [0] (Row b) v 0x00000000#32 h hφ hacc (ix1 j) = (∑ r : Fin a, at2 v r j : EReal) := by
  rw [Ideal.multiReduction_add_single]
  refine Finset.sum_congr rfl fun k _ => ?_
  refine congrArg v (funext fun c => Fin.ext ?_)
  match c with
  | ⟨0, _⟩ => rfl
  | ⟨1, _⟩ => rfl

/-- One column broadcast over the columns of a tile. -/
theorem spread_apply {a b : ℕ} (v : (Mat a 1).Idx → EReal) (h : (Mat a 1).Broadcasts (Mat a b)) (r : Fin a) (j : Fin b) :
    broadcastTo (Mat a b) v h (ix2 r j) = v (ix2 r 0) := by
  refine broadcastTo_apply v h (ix2 r j) (ix2 r 0) fun ax => ?_
  match ax with
  | ⟨0, _⟩ =>
    show r.val = if a = 1 then 0 else r.val
    split
    · have := r.isLt; omega
    · rfl
  | ⟨1, _⟩ => rfl

section Tile

variable {a : ℕ} (hr : (Mat a 1024).Reduces [1] (Row a)) (hs : (Row a).ShapeCasts (Mat a 1)) (hb : (Mat a 1).Broadcasts (Mat a 1024))
  (hg : (Mat 1 1024).Broadcasts (Mat a 1024)) (hφ : FKind.Formats .f32)
  (hacc : (0x00000000#32 : BitVec FTy.f32.bits) = FKind.add.neutral .f32 hφ)

/-- The mean of each row of a tile, as one column. -/
def meanTile (v : FVec Ideal (Mat a 1024) .f32) : FVec Ideal (Mat a 1) .f32 :=
  divf (shapeCast (Mat a 1) (multiReduction .add [1] (Row a) v 0x00000000#32 hr hφ hacc) hs)
    (broadcast (Mat a 1) (Scalar.ofBits (F := Ideal) .f32 0x44800000#32))

theorem meanTile_apply (v : FVec Ideal (Mat a 1024) .f32) (r : Fin a) (u : Fin 1) :
    meanTile hr hs hφ hacc v (ix2 r u) = Ideal.div (∑ k : Fin 1024, at2 v r k) RowNorm.width := by
  unfold meanTile
  show Ideal.div (shapeCast (Mat a 1) _ hs (ix2 r u)) RowNorm.width = _
  rw [shapeCast_a_a1_apply, sumColumns_apply]

/-- The scale of each row of a tile, as one column. -/
def scaleTile (x : FVec Ideal (Mat a 1024) .f32) : FVec Ideal (Mat a 1) .f32 :=
  rsqrt (addf (meanTile hr hs hφ hacc (mulf x x)) (broadcast (Mat a 1) (Scalar.ofBits (F := Ideal) .f32 0x358637BD#32)))

theorem scaleTile_apply (x : FVec Ideal (Mat a 1024) .f32) (r : Fin a) (u : Fin 1) :
    scaleTile hr hs hφ hacc x (ix2 r u) = RowNorm.scale (at2 x r) := by
  unfold scaleTile
  show Ideal.rsqrt (meanTile hr hs hφ hacc (mulf x x) (ix2 r u) + RowNorm.small) = _
  rw [meanTile_apply]
  rfl

/-- A tile with each row multiplied by its scale. -/
def normedTile (x : FVec Ideal (Mat a 1024) .f32) : FVec Ideal (Mat a 1024) .f32 :=
  mulf x (broadcastTo (Mat a 1024) (scaleTile hr hs hφ hacc x) hb)

theorem normedTile_apply (x : FVec Ideal (Mat a 1024) .f32) (r : Fin a) (j : Fin 1024) :
    normedTile hr hs hb hφ hacc x (ix2 r j) = at2 x r j * RowNorm.scale (at2 x r) := by
  unfold normedTile
  show at2 x r j * broadcastTo (Mat a 1024) (scaleTile hr hs hφ hacc x) hb (ix2 r j) = _
  rw [spread_apply, scaleTile_apply]

/-- The gradient of the norm over a tile: of the gradient `dz` of the normed, gained tile. -/
def gradientTile (dz x : FVec Ideal (Mat a 1024) .f32) (g : FVec Ideal (Mat 1 1024) .f32) : FVec Ideal (Mat a 1024) .f32 :=
  mulf (broadcastTo (Mat a 1024) (scaleTile hr hs hφ hacc x) hb)
    (subf (mulf dz (broadcastTo (Mat a 1024) g hg))
      (mulf (normedTile hr hs hb hφ hacc x)
        (broadcastTo (Mat a 1024)
          (meanTile hr hs hφ hacc (mulf (mulf dz (broadcastTo (Mat a 1024) g hg)) (normedTile hr hs hb hφ hacc x))) hb)))

theorem gradientTile_apply (dz x : FVec Ideal (Mat a 1024) .f32) (g : FVec Ideal (Mat 1 1024) .f32) (r : Fin a) (j : Fin 1024) :
    gradientTile hr hs hb hg hφ hacc dz x g (ix2 r j)
      = RowNorm.gradient (at2 x r) (fun k => at2 dz r k * at2 g 0 k) j := by
  have hy : ∀ k : Fin 1024, mulf dz (broadcastTo (Mat a 1024) g hg) (ix2 r k) = at2 dz r k * at2 g 0 k := fun k => by
    show at2 dz r k * broadcastTo (Mat a 1024) g hg (ix2 r k) = _
    rw [broadcastTo_1b_ab_apply]
  unfold gradientTile
  show broadcastTo (Mat a 1024) (scaleTile hr hs hφ hacc x) hb (ix2 r j)
      * (mulf dz (broadcastTo (Mat a 1024) g hg) (ix2 r j)
        - normedTile hr hs hb hφ hacc x (ix2 r j) * broadcastTo (Mat a 1024) (meanTile hr hs hφ hacc _) hb (ix2 r j)) = _
  rw [spread_apply, spread_apply, scaleTile_apply, meanTile_apply, normedTile_apply, hy]
  unfold RowNorm.gradient
  have hsum : (∑ k : Fin 1024, at2 (mulf (mulf dz (broadcastTo (Mat a 1024) g hg)) (normedTile hr hs hb hφ hacc x)) r k : EReal)
      = ∑ k : Fin 1024, (at2 dz r k * at2 g 0 k) * (at2 x r k * RowNorm.scale (at2 x r)) :=
    Finset.sum_congr rfl fun k _ => by
      show mulf dz (broadcastTo (Mat a 1024) g hg) (ix2 r k) * normedTile hr hs hb hφ hacc x (ix2 r k) = _
      rw [hy, normedTile_apply]
  rw [hsum]

/-- A tile's part of the gain's gradient, added to what was there: the sum over the tile's rows of `dz` times the normed row. -/
def gainTile (hc : (Mat a 1024).Reduces [0] (Row 1024)) (ht : (Row 1024).ShapeCasts (Mat 1 1024)) (hu : (Mat 1 1024).ShapeCasts (Mat 1 1024))
    (s : FVec Ideal (Mat 1 1024) .f32) (dz x : FVec Ideal (Mat a 1024) .f32) : FVec Ideal (Mat 1 1024) .f32 :=
  addf (shapeCast (Mat 1 1024) s hu)
    (shapeCast (Mat 1 1024) (multiReduction .add [0] (Row 1024) (mulf dz (normedTile hr hs hb hφ hacc x)) 0x00000000#32 hc hφ hacc) ht)

theorem gainTile_apply (hc : (Mat a 1024).Reduces [0] (Row 1024)) (ht : (Row 1024).ShapeCasts (Mat 1 1024)) (hu : (Mat 1 1024).ShapeCasts (Mat 1 1024))
    (s : FVec Ideal (Mat 1 1024) .f32) (dz x : FVec Ideal (Mat a 1024) .f32) (u : Fin 1) (j : Fin 1024) :
    gainTile hr hs hb hφ hacc hc ht hu s dz x (ix2 u j)
      = at2 s u j + ∑ r : Fin a, at2 dz r j * (at2 x r j * RowNorm.scale (at2 x r)) := by
  unfold gainTile
  rw [shapeCast_self]
  show at2 s u j + shapeCast (Mat 1 1024) _ ht (ix2 u j) = _
  rw [shapeCast_a_1a_apply, sumRows_apply]
  refine congrArg (fun z : EReal => at2 s u j + z) (Finset.sum_congr rfl fun r _ => ?_)
  show at2 dz r j * normedTile hr hs hb hφ hacc x (ix2 r j) = _
  rw [normedTile_apply]

end Tile

end Cert.NormTile

end
-- ==== Proof.NormedProductGrad3.lean ====
/-
  The gradient of a normed product, `z = rms_norm(h, g) · w`: the kernel multiplies a tile of 432 rows of the product's
  gradient by the transposed weight, takes the result back through the norm, and adds the gradient that comes along the
  residual path. It also adds up, over its 19 tiles, the gradient of the norm's gain. Over the extended reals the tiles
  hold what the derivative of the plain lines holds, row by row, and the gain's gradient is the sum over all rows.
-/
module

public import proofs.«01_k».proof.Defs
public import proofs.«01_k».proof.Proof.Sums
public import proofs.«01_k».proof.Proof.NormTile
public import proofs.«01_k».proof.Proof.Gen.Kernel3Ideal.Value
public import proofs.«01_k».proof.Proof.Gen.Reference3Ideal.Run
public import proofs.«01_k».proof.Proof.Gen.Reference3Ideal.Read
public import Idealize.ShloMosaic.Lib.MatmulPlain
public import Idealize.ShloMosaic.Lib.Pipeline.Value
public import Idealize.ShloMosaic.Lib.Tactic
public import Idealize.ShloMosaic.Lib.Quiescent

@[expose] public section

set_option maxRecDepth 16384

noncomputable section

namespace Cert.Kernel3Ideal.NormedProductGrad

open Cert.Kernel3Ideal Cert.Kernel3Ideal.Gen Cert.Kernel3Ideal.Value
open Idealize.ShloMosaic Idealize.ShloMosaic.TcCoe Idealize.SL.Sem
open Idealize.ShloMosaic.ValueIdx
open Cert.Sums Cert.NormTile

theorem hz : (![0, 0] : Fin 2 → Nat) = fun _ => 0 := funext fun a => by fin_cases a <;> rfl

section Steps

variable {F : FTy → Type} [FloatOps F]
variable (c : Dev nD) (i : grid0.Coords) (a1 : Memref sig .tc .vmem S432x6144 .bf16) (h1 : a1.IsWhole)
  (a2 : Memref sig .tc .vmem S1024x6144 .bf16) (h2 : a2.IsWhole) (a3 : Memref sig .tc .vmem S432x1024 .f32) (h3 : a3.IsWhole)
  (a4 : Memref sig .tc .vmem S1x1024 .f32) (h4 : a4.IsWhole) (a5 : Memref sig .tc .vmem S432x1024 .f32) (h5 : a5.IsWhole)
  (a6 : Memref sig .tc .vmem S432x1024 .f32) (h6 : a6.IsWhole) (a7 : Memref sig .tc .vmem S1x1024 .f32) (h7 : a7.IsWhole)
  (x0 : Vec F S432x6144 .bf16) (x1 : Vec F S1024x6144 .bf16) (x2 : Vec F S432x1024 .f32) (x3 : Vec F S1x1024 .f32)
  (x4 : Vec F S432x1024 .f32) (s : Vec F S1x1024 .f32)

/-- What the first point writes for its tile. -/
theorem tile_first (hc : cond0_0 i) :
    out0_A_5 c i a1 h1 a2 h2 a3 h3 a4 h4 a5 h5 a6 h6 a7 h7 hc x0 x1 x2 x3 x4 = k0_pay1 (k0_pay6 x0 x1 x2 x3) x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S432x6144) hz, View.ld_unit_zero (S := S1024x6144) hz, View.ld_unit_zero (S := S432x1024) hz,
    View.ld_unit_zero (S := S1x1024) hz]

/-- What a later point writes for its tile. -/
theorem tile_later (hc : ¬cond0_0 i) :
    out0_B_5 c i a1 h1 a2 h2 a3 h3 a4 h4 a5 h5 a6 h6 a7 h7 hc x0 x1 x2 x3 x4 s = k0_pay1 (k0_pay6 x0 x1 x2 x3) x4 := by
  unfold out0_B_5
  rw [View.read_writes_eq_canon _ _ _ (cover0_B_5 c i a1 h1 a2 h2 a3 h3 a4 h4 a5 h5 a6 h6 a7 h7 hc x0 x1 x2 x3 x4 s)]
  unfold kernelRun0_B
  dsimp only
  sl_unfold_words
  rw [View.canon_unit_zero hz]
  simp only [View.readAt_eq_ld, h1.read_unread, h2.read_unread, h3.read_unread, h4.read_unread, h5.read_unread,
    View.ld_unit_zero (S := S432x6144) hz, View.ld_unit_zero (S := S1024x6144) hz, View.ld_unit_zero (S := S432x1024) hz,
    View.ld_unit_zero (S := S1x1024) hz]

/-- The first point clears the gain's gradient and adds its tile's part. -/
theorem gain_first (hc : cond0_0 i) :
    out0_A_6 c i a1 h1 a2 h2 a3 h3 a4 h4 a5 h5 a6 h6 a7 h7 hc x0 x1 x2 x3 x4 = k0_pay7 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S432x6144) hz, View.ld_unit_zero (S := S1024x6144) hz, View.ld_unit_zero (S := S432x1024) hz,
    View.ld_unit_zero (S := S1x1024) hz]

/-- A later point adds its tile's part. -/
theorem gain_later (hc : ¬cond0_0 i) :
    out0_B_6 c i a1 h1 a2 h2 a3 h3 a4 h4 a5 h5 a6 h6 a7 h7 hc x0 x1 x2 x3 x4 s = k0_pay7 x0 x1 x2 s := by
  unfold out0_B_6
  rw [View.read_writes_eq_canon _ _ _ (cover0_B_6 c i a1 h1 a2 h2 a3 h3 a4 h4 a5 h5 a6 h6 a7 h7 hc x0 x1 x2 x3 x4 s)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S432x6144) hz, View.ld_unit_zero (S := S1024x6144) hz, View.ld_unit_zero (S := S432x1024) hz,
    View.ld_unit_zero (S := S1x1024) hz]

end Steps

/-! ## A tile's numbers -/

/-- The product's gradient times the transposed weight. -/
theorem product_apply (x0 : Vec Ideal S432x6144 .bf16) (x1 : Vec Ideal S1024x6144 .bf16) (r : Fin 432) (j : Fin 1024) :
    k0_pay3 (F := Ideal) x0 x1 (ix2 r j) = (∑ q : Fin 6144, at2 x0 r q * at2 x1 j q : EReal) := by
  unfold k0_pay3
  refine (Ideal.matmul_transposedRhs_apply (M := 432) (K := 6144) (N := 1024) (φ₁ := .bf16) (φ₂ := .bf16) none x0 x1
    (constant S432x1024 .f32 0x00000000#32) r j).trans ?_
  show Ideal.ofBits .f32 0x00000000#32 + _ = _
  rw [Ideal.ofBits_zero_f32, zero_add]

/-- The tile written out, at an entry. -/
theorem tile_apply (x0 : Vec Ideal S432x6144 .bf16) (x1 : Vec Ideal S1024x6144 .bf16) (x2 : Vec Ideal S432x1024 .f32)
    (x3 : Vec Ideal S1x1024 .f32) (x4 : Vec Ideal S432x1024 .f32) (r : Fin 432) (j : Fin 1024) :
    k0_pay1 (F := Ideal) (k0_pay6 x0 x1 x2 x3) x4 (ix2 r j)
      = at2 x4 r j + RowNorm.gradient (at2 x2 r) (fun k => (∑ q : Fin 6144, at2 x0 r q * at2 x1 k q) * at2 x3 0 k) j := by
  have h : k0_pay6 (F := Ideal) x0 x1 x2 x3 (ix2 r j)
      = RowNorm.gradient (at2 x2 r) (fun k => at2 (k0_pay3 (F := Ideal) x0 x1) r k * at2 x3 0 k) j :=
    gradientTile_apply reduces_S432x1024_S432 shapeCasts_S432_S432x1 broadcasts_S432x1_S432x1024 broadcasts_S1x1024_S432x1024
      (.inl rfl) rfl (k0_pay3 (F := Ideal) x0 x1) x2 x3 r j
  unfold k0_pay1
  show at2 x4 r j + k0_pay6 (F := Ideal) x0 x1 x2 x3 (ix2 r j) = _
  rw [h]
  refine congrArg (fun y => at2 x4 r j + RowNorm.gradient (at2 x2 r) y j) (funext fun k => ?_)
  exact congrArg (fun z : EReal => z * at2 x3 0 k) (product_apply x0 x1 r k)

/-- The gain's gradient after a tile, at an entry. -/
theorem gain_apply (x0 : Vec Ideal S432x6144 .bf16) (x1 : Vec Ideal S1024x6144 .bf16) (x2 : Vec Ideal S432x1024 .f32)
    (s : Vec Ideal S1x1024 .f32) (j : Fin 1024) :
    k0_pay7 (F := Ideal) x0 x1 x2 s (ix2 0 j)
      = at2 s 0 j + ∑ r : Fin 432, (∑ q : Fin 6144, at2 x0 r q * at2 x1 j q) * (at2 x2 r j * RowNorm.scale (at2 x2 r)) := by
  refine (gainTile_apply reduces_S432x1024_S432 shapeCasts_S432_S432x1 broadcasts_S432x1_S432x1024 (.inl rfl) rfl
    reduces_S432x1024_S1024 shapeCasts_S1024_S1x1024 shapeCasts_S1x1024_S1x1024 s (k0_pay3 (F := Ideal) x0 x1) x2 0 j).trans ?_
  refine congrArg (fun z : EReal => at2 s 0 j + z) (Finset.sum_congr rfl fun r _ => ?_)
  exact congrArg (fun z : EReal => z * (at2 x2 r j * RowNorm.scale (at2 x2 r))) (product_apply x0 x1 r j)

/-- The cleared gain's gradient is zero. -/
theorem cleared (j : Fin 1024) : at2 (k0_pay2 (F := Ideal)) 0 j = 0 := Ideal.ofBits_zero_f32

/-! ## Over the grid -/

variable (m : (ℓ : Loc nD τ sig) → Buf (Elt Ideal) ℓ) (ρ : Dev nD → PrngReg)

/-- The arguments, as matrices of extended reals. -/
abbrev argP (c : Dev nD) : (Mat 8208 6144).Idx → EReal := m ((c : Thread nD τ).loc main_arg0)
abbrev argW (c : Dev nD) : (Mat 1024 6144).Idx → EReal := m ((c : Thread nD τ).loc main_arg1)
abbrev argH (c : Dev nD) : (Mat 8208 1024).Idx → EReal := m ((c : Thread nD τ).loc main_arg2)
abbrev argG (c : Dev nD) : (Mat 1 1024).Idx → EReal := m ((c : Thread nD τ).loc main_arg3)
abbrev argD (c : Dev nD) : (Mat 8208 1024).Idx → EReal := m ((c : Thread nD τ).loc main_arg4)

theorem index_p : ∀ t : Fin cfg0.N, win0_0.index t (0 : Fin 2) = t.val ∧ win0_0.index t (1 : Fin 2) = 0 :=
  (by decide +kernel : ∀ t : Fin grid0.N, _)
theorem index_w : ∀ t : Fin cfg0.N, win0_1.index t (0 : Fin 2) = 0 ∧ win0_1.index t (1 : Fin 2) = 0 :=
  (by decide +kernel : ∀ t : Fin grid0.N, _)
theorem index_h : ∀ t : Fin cfg0.N, win0_2.index t (0 : Fin 2) = t.val ∧ win0_2.index t (1 : Fin 2) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_d : ∀ t : Fin cfg0.N, win0_4.index t (0 : Fin 2) = t.val ∧ win0_4.index t (1 : Fin 2) = 0 :=
  (by decide +kernel : ∀ t : Fin grid0.N, _)
theorem index_o : ∀ t : Fin cfg0.N, win0_5.index t (0 : Fin 2) = t.val ∧ win0_5.index t (1 : Fin 2) = 0 :=
  (by decide +kernel : ∀ t : Fin grid0.N, _)
theorem index_s : ∀ t : Fin cfg0.N, win0_6.index t (0 : Fin 2) = 0 ∧ win0_6.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_p (c : Dev nD) (t : Fin cfg0.N) (r : Fin 432) (q : Fin 6144) :
    at2 (a := 432) (b := 6144) (iblk m c 0 t) r q = at2 (argP m c) (rowOf t r) q := by
  obtain ⟨e0, e1⟩ := index_p t
  show argP m c (((cfg0.win 0).blk t).view.emb (ix2 r q)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 6144 + 1 * q.val = q.val; rw [e1]; omega

theorem block_w (c : Dev nD) (t : Fin cfg0.N) (j : Fin 1024) (q : Fin 6144) :
    at2 (a := 1024) (b := 6144) (iblk m c 1 t) j q = at2 (argW m c) j q := by
  obtain ⟨e0, e1⟩ := index_w t
  show argW m c (((cfg0.win 1).blk t).view.emb (ix2 j q)) = _
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 6144 + 1 * q.val = q.val; rw [e1]; omega

theorem block_h (c : Dev nD) (t : Fin cfg0.N) (r : Fin 432) (j : Fin 1024) :
    at2 (a := 432) (b := 1024) (iblk m c 2 t) r j = at2 (argH m c) (rowOf t r) j := by
  obtain ⟨e0, e1⟩ := index_h t
  show argH m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_g (c : Dev nD) (t : Fin cfg0.N) (j : Fin 1024) :
    at2 (a := 1) (b := 1024) (iblk m c 3 t) 0 j = at2 (argG m c) 0 j := by
  obtain ⟨e0, e1⟩ := index_g t
  show argG m c (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * j.val = j.val; rw [e1]; omega

theorem block_d (c : Dev nD) (t : Fin cfg0.N) (r : Fin 432) (j : Fin 1024) :
    at2 (a := 432) (b := 1024) (iblk m c 4 t) r j = at2 (argD m c) (rowOf t r) j := by
  obtain ⟨e0, e1⟩ := index_d t
  show argD m c (((cfg0.win 4).blk t).view.emb (ix2 r j)) = _
  refine congrArg _ (funext fun a => Fin.ext ?_)
  match a with
  | ⟨0, _⟩ => show win0_4.index t (0 : Fin 2) * 432 + 1 * r.val = 432 * t.val + r.val; rw [e0]; omega
  | ⟨1, _⟩ => show win0_4.index t (1 : Fin 2) * 1024 + 1 * j.val = j.val; rw [e1]; omega

/-- The gradient of the normed row `k`, before the gain: the product's gradient times the transposed weight. -/
def through (c : Dev nD) (k : Fin 8208) (j : Fin 1024) : EReal := ∑ q : Fin 6144, at2 (argP m c) k q * at2 (argW m c) j q

/-- The gradient of `h` at an entry. -/
def outAt (c : Dev nD) (k : Fin 8208) (j : Fin 1024) : EReal :=
  at2 (argD m c) k j + RowNorm.gradient (at2 (argH m c) k) (fun i => through m c k i * at2 (argG m c) 0 i) j

/-- One row's part of the gain's gradient. -/
def gainTerm (c : Dev nD) (j : Fin 1024) (k : Fin 8208) : EReal :=
  through m c k j * (at2 (argH m c) k j * RowNorm.scale (at2 (argH m c) k))

theorem row_h (c : Dev nD) (t : Fin cfg0.N) (r : Fin 432) : at2 (a := 432) (b := 1024) (iblk m c 2 t) r = at2 (argH m c) (rowOf t r) :=
  funext fun j => block_h m c t r j

theorem through_block (c : Dev nD) (t : Fin cfg0.N) (r : Fin 432) (j : Fin 1024) :
    (∑ q : Fin 6144, at2 (a := 432) (b := 6144) (iblk m c 0 t) r q * at2 (a := 1024) (b := 6144) (iblk m c 1 t) j q)
      = through m c (rowOf t r) j :=
  Finset.sum_congr rfl fun q _ => by rw [block_p, block_w]

/-- The tile a point writes. -/
theorem tile_at (c : Dev nD) (t : Fin cfg0.N) (r : Fin 432) (j : Fin 1024) :
    (outsAt0 m c t.val t.isLt).1 (ix2 r j) = outAt m c (rowOf t r) j := by
  have key : k0_pay1 (F := Ideal) (k0_pay6 (iblk m c 0 t) (iblk m c 1 t) (iblk m c 2 t) (iblk m c 3 t)) (iblk m c 4 t) (ix2 r j)
      = outAt m c (rowOf t r) j := by
    refine (tile_apply _ _ _ _ _ r j).trans ?_
    rw [block_d, row_h]
    unfold outAt
    refine congrArg (fun y => at2 (argD m c) (rowOf t r) j + RowNorm.gradient (at2 (argH m c) (rowOf t r)) y j) (funext fun k => ?_)
    rw [through_block, block_g]
  by_cases h0 : t.val % 19 = 0
  · rw [outsAt0_A m c t h0]
    dsimp only
    rw [tile_first]
    exact key
  · rw [outsAt0_B m c t h0]
    dsimp only
    rw [tile_later]
    exact key

/-- One tile's part of the gain's gradient is the next block of its terms. -/
theorem contribution (c : Dev nD) (t : Fin cfg0.N) (j : Fin 1024) :
    (∑ r : Fin 432, (∑ q : Fin 6144, at2 (a := 432) (b := 6144) (iblk m c 0 t) r q * at2 (a := 1024) (b := 6144) (iblk m c 1 t) j q)
        * (at2 (a := 432) (b := 1024) (iblk m c 2 t) r j * RowNorm.scale (at2 (a := 432) (b := 1024) (iblk m c 2 t) r)))
      = ∑ r : Fin 432, total (gainTerm m c j) (432 * t.val + r.val) := by
  refine Finset.sum_congr rfl fun r _ => ?_
  have h : 432 * t.val + r.val < 8208 := (rowOf t r).isLt
  rw [total_of_lt _ h, through_block, row_h]
  rfl

/-- The gain's gradient after point `n`: the sum over the rows of the tiles so far. -/
theorem carried (c : Dev nD) : ∀ (n : ℕ) (hn : n < cfg0.N) (j : Fin 1024),
    (outsAt0 m c n hn).2 (ix2 0 j) = upTo 432 (gainTerm m c j) (n + 1) := by
  intro n
  induction n with
  | zero =>
    intro hn j
    rw [outsAt0_A m c ⟨0, hn⟩ (Nat.zero_mod 19)]
    dsimp only
    rw [gain_first]
    refine (gain_apply _ _ _ _ j).trans ?_
    rw [cleared, zero_add, contribution m c ⟨0, hn⟩ j, upTo_succ, upTo_zero, zero_add]
  | succ n ih =>
    intro hn j
    have hN : n + 1 < 19 := lt_of_lt_of_eq hn N_0
    rw [outsAt0_B m c ⟨n + 1, hn⟩ (by show ¬(n + 1) % 19 = 0; omega)]
    dsimp only
    rw [gain_later]
    refine (gain_apply _ _ _ _ j).trans ?_
    rw [contribution m c ⟨n + 1, hn⟩ j, upTo_succ]
    exact congrArg (fun z : EReal => z + ∑ r : Fin 432, total (gainTerm m c j) (432 * (n + 1) + r.val)) (ih (Nat.lt_of_succ_lt hn) j)

/-! ## The two result arrays -/

/-- The gradient of `h`. -/
def result (c : Dev nD) : Buf (Elt Ideal) ((c : Thread nD τ).loc main_v0_0) :=
  fun i => outAt m c ⟨(i 0).val, (i 0).isLt⟩ ⟨(i 1).val, (i 1).isLt⟩

/-- The gradient of the gain. -/
def gain (c : Dev nD) : Buf (Elt Ideal) ((c : Thread nD τ).loc main_v0_1) :=
  fun i => (∑ k : Fin 8208, gainTerm m c ⟨(i 1).val, (i 1).isLt⟩ k : EReal)

theorem flushed_out (c : Dev nD) (t : Fin cfg0.N) :
    (dats m 0 c).flushed 5 t = ((cfg0.win 5).blk t).view.read (Elt Ideal) (result m c) := by
  rw [flushed5]
  obtain ⟨e0, e1⟩ := index_o t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show (outsAt0 m c t.val t.isLt).1 ((cfg0.win 5).xinj (grid0.coords t) y) = result m c (((cfg0.win 5).blk t).view.emb y)
  rw [hx, tile_at]
  unfold result
  refine congrArg₂ (outAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_out (c : Dev nD) : (dats m 0 c).arrAt 5 cfg0.N = result m c :=
  (dats m 0 c).arrAt_eq_of_cover 5 (result m c) (fun t _ => flushed_out m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_o ⟨(i 0 : Nat) / 432, ht⟩
    refine ⟨⟨(i 0 : Nat) / 432, ht⟩, flush0_5 _, ?_⟩
    show i ∈ ((View.whole main_v0_0).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

theorem flushed_gain (c : Dev nD) (t : Fin cfg0.N) (hf : (cfg0.win 6).flush t = true) :
    (dats m 0 c).flushed 6 t = ((cfg0.win 6).blk t).view.read (Elt Ideal) (gain m c) := by
  rw [flushed6]
  have hm : t.val = 18 := by have := (flush0_6 t).mp hf; have := points t; omega
  obtain ⟨e0, e1⟩ := index_s t
  funext y
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have hx : (cfg0.win 6).xinj (grid0.coords t) y = ix2 (0 : Fin 1) (⟨(y 1).val, hy1⟩ : Fin 1024) :=
    funext fun a => Fin.ext (match a with | ⟨0, _⟩ => (by show (y 0).val = 0; omega) | ⟨1, _⟩ => rfl)
  show (outsAt0 m c t.val t.isLt).2 ((cfg0.win 6).xinj (grid0.coords t) y) = gain m c (((cfg0.win 6).blk t).view.emb y)
  rw [hx, carried, hm, upTo_all 432 _ 19 rfl]
  unfold gain
  refine Finset.sum_congr rfl fun k _ => congrArg (fun j => gainTerm m c j k) (Fin.ext ?_)
  show (y 1).val = (((cfg0.win 6).blk t).view.emb y 1).val
  rw [hb1, e1]; omega

theorem final_gain (c : Dev nD) : (dats m 0 c).arrAt 6 cfg0.N = gain m c :=
  (dats m 0 c).arrAt_eq_of_cover 6 (gain m c) (flushed_gain m c) fun i => by
    have h0 : (i 0 : Nat) < 1 := (i 0).isLt
    have h1 : (i 1 : Nat) < 1024 := (i 1).isLt
    have ht : 18 < cfg0.N := by show _ < grid0.N; rw [N_0]; omega
    obtain ⟨e0, e1⟩ := index_s ⟨18, ht⟩
    refine ⟨⟨18, ht⟩, (flush0_6 _).mpr rfl, ?_⟩
    show i ∈ ((View.whole main_v0_1).slice (win0_6.rect ⟨18, ht⟩)).set
    rw [View.set_slice_whole, Rect.mem_set_unit]
    intro a
    match a with
    | ⟨0, _⟩ =>
      show win0_6.index ⟨18, ht⟩ (0 : Fin 2) * 1 ≤ (i 0).val ∧ (i 0).val < win0_6.index ⟨18, ht⟩ (0 : Fin 2) * 1 + 1
      rw [e0]; omega
    | ⟨1, _⟩ =>
      show win0_6.index ⟨18, ht⟩ (1 : Fin 2) * 1024 ≤ (i 1).val ∧ (i 1).val < win0_6.index ⟨18, ht⟩ (1 : Fin 2) * 1024 + 1024
      rw [e1]; omega

/-! ## The derivative of the plain lines -/

section Plain

open Cert.Reference3Ideal.Read

variable (x0 : (Mat 8208 6144).Idx → EReal) (x1 : (Mat 1024 6144).Idx → EReal) (x2 : (Mat 8208 1024).Idx → EReal)
  (x3 : (Mat 1 1024).Idx → EReal) (x4 : (Mat 8208 1024).Idx → EReal)

theorem plain_square (k : Fin 8208) : val_main_v6 (F := Ideal) x2 (ix2 k 0) = RowNorm.meanSquare (at2 x2 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x2 (funext fun a => ?_))
  match a with
  | ⟨0, _⟩ => rfl
  | ⟨1, _⟩ => rfl

theorem plain_scale (k : Fin 8208) : val_main_v7 (F := Ideal) x2 (ix2 k 0) = RowNorm.scale (at2 x2 k) := by
  rw [val_main_v7_apply, plain_square]; rfl

theorem plain_factor (k : Fin 8208) : val_main_v10 (F := Ideal) x2 (ix2 k 0)
    = RowNorm.minusHalf * Ideal.div (RowNorm.scale (at2 x2 k)) (RowNorm.meanSquare (at2 x2 k)) := by
  rw [val_main_v10_apply, val_main_v8_apply, plain_square, plain_scale]; rfl

theorem plain_normed (k : Fin 8208) (j : Fin 1024) : val_main_v12 (F := Ideal) x2 (ix2 k j)
    = at2 x2 k j * RowNorm.scale (at2 x2 k) := by
  rw [val_main_v12_apply, val_main_v11_apply]
  refine congrArg (fun z : EReal => at2 x2 k j * z) (Eq.trans (congrArg (val_main_v7 (F := Ideal) x2) ?_) (plain_scale x2 k))
  funext a
  match a with
  | ⟨0, _⟩ => rfl
  | ⟨1, _⟩ => rfl

theorem plain_product (k : Fin 8208) (j : Fin 1024) : val_main_v18 (F := Ideal) x0 x1 (ix2 k j)
    = (∑ q : Fin 6144, at2 x0 k q * at2 x1 j q : EReal) := by
  rw [val_main_v18_apply]
  refine Finset.sum_congr rfl fun q _ => ?_
  rw [val_main_v17_apply, val_main_v15_apply]
  refine congrArg₂ (fun u v : EReal => u * v) (congrArg x0 ?_) (congrArg x1 ?_)
  · funext a
    match a with
    | ⟨0, _⟩ => rfl
    | ⟨1, _⟩ => rfl
  · funext a
    match a with
    | ⟨0, _⟩ => rfl
    | ⟨1, _⟩ => rfl

theorem plain_gained (k : Fin 8208) (j : Fin 1024) : val_main_v23 (F := Ideal) x0 x1 x3 (ix2 k j)
    = (∑ q : Fin 6144, at2 x0 k q * at2 x1 j q : EReal) * at2 x3 0 j := by
  rw [val_main_v23_apply, plain_product, val_main_v22_apply]
  refine congrArg (fun z : EReal => (∑ q : Fin 6144, at2 x0 k q * at2 x1 j q : EReal) * z) (congrArg x3 ?_)
  funext a
  match a with
  | ⟨0, _⟩ => rfl
  | ⟨1, _⟩ => rfl

/-- The gain's gradient, as the plain lines give it. -/
theorem plain_gain (u : Fin 1) (j : Fin 1024) : val_main_v21 (F := Ideal) x0 x1 x2 (ix2 u j)
    = ∑ k : Fin 8208, (∑ q : Fin 6144, at2 x0 k q * at2 x1 j q : EReal) * (at2 x2 k j * RowNorm.scale (at2 x2 k)) := by
  rw [val_main_v21_apply, val_main_v20_apply]
  show RowNorm.zero + ∑ k : Fin 8208, _ = _
  rw [RowNorm.zero_eq, zero_add]
  refine Finset.sum_congr rfl fun k _ => ?_
  have e : idx_main_v20 (idx_main_v21 (ix2 u j)) k = ix2 k j := funext fun a => Fin.ext (by
    match a with
    | ⟨0, _⟩ => rfl
    | ⟨1, _⟩ => show u.val * 1024 + j.val = j.val; have := u.isLt; omega)
  rw [e, val_main_v19_apply, plain_normed, plain_product]
  exact mul_comm _ _

theorem plain_cross (k : Fin 8208) : val_main_v33 (F := Ideal) x0 x1 x2 x3 (ix1 k)
    = RowNorm.crossFactor (at2 x2 k) (fun i => (∑ q : Fin 6144, at2 x0 k q * at2 x1 i q : EReal) * at2 x3 0 i) := by
  rw [val_main_v33_apply]
  unfold RowNorm.crossFactor
  refine congrArg (fun z : EReal => RowNorm.zero + z) (Finset.sum_congr rfl fun u _ => ?_)
  have e : idx_main_v33 (ix1 k) u = ix2 k 0 := funext fun a => Fin.ext (by
    match a with
    | ⟨0, _⟩ => rfl
    | ⟨1, _⟩ => show u.val = 0; have := u.isLt; omega)
  rw [e, val_main_v32_apply, val_main_v30_apply, plain_factor, val_main_v26_apply, val_main_v25_apply]
  refine congrArg (fun z : EReal => Ideal.div ((RowNorm.zero + z)
    * (RowNorm.minusHalf * Ideal.div (RowNorm.scale (at2 x2 k)) (RowNorm.meanSquare (at2 x2 k)))) RowNorm.width)
    (Finset.sum_congr rfl fun i _ => ?_)
  have e' : idx_main_v25 (idx_main_v26 (ix2 k 0)) i = ix2 k i := funext fun a => Fin.ext (by
    match a with
    | ⟨0, _⟩ => show k.val * 1 + 0 = k.val; omega
    | ⟨1, _⟩ => rfl)
  rw [e', val_main_v24_apply, plain_gained]
  rfl

/-- The gradient of `h`, as the plain lines give it. -/
theorem plain_out (k : Fin 8208) (j : Fin 1024) : val_main_v38 (F := Ideal) x0 x1 x2 x3 x4 (ix2 k j)
    = at2 x4 k j + RowNorm.gradient (at2 x2 k) (fun i => (∑ q : Fin 6144, at2 x0 k q * at2 x1 i q : EReal) * at2 x3 0 i) j := by
  have e27 : idx_main_v27 (ix2 k j) = ix2 k 0 := funext fun a => by
    match a with
    | ⟨0, _⟩ => rfl
    | ⟨1, _⟩ => rfl
  have e34 : idx_main_v34 (ix2 k j) = ix1 k := funext fun a => by
    match a with
    | ⟨0, _⟩ => rfl
  rw [val_main_v38_apply, val_main_v36_apply, val_main_v37_apply, val_main_v35_apply, val_main_v34_apply, val_main_v29_apply,
    val_main_v28_apply, val_main_v27_apply, e27, e34, plain_scale, plain_cross, plain_gained, RowNorm.gradient_eq]
  unfold RowNorm.derivative
  refine (congrArg (fun z : EReal => z + _) (add_assoc (at2 x4 k j) _ _)).trans ?_
  exact add_assoc (at2 x4 k j) _ _

end Plain

theorem plain_result (c : Dev nD) : Cert.Reference3Ideal.Read.val_main_v38 (F := Ideal) (argP m c) (argW m c) (argH m c) (argG m c) (argD m c)
    = result m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_out _ _ _ _ _ _ _

theorem plain_gain_result (c : Dev nD) : Cert.Reference3Ideal.Read.val_main_v21 (F := Ideal) (argP m c) (argW m c) (argH m c)
    = gain m c := by
  funext i
  have hi : i = ix2 (⟨(i 0).val, (i 0).isLt⟩ : Fin 1) (⟨(i 1).val, (i 1).isLt⟩ : Fin 1024) :=
    funext fun a => by
      match a with
      | ⟨0, _⟩ => rfl
      | ⟨1, _⟩ => rfl
  rw [hi]
  exact plain_gain _ _ _ _ _

/-- The kernel computes the derivative of the normed product, and of its gain. -/
theorem algebraic : Cert.algebraic_Kernel3Ideal_Reference3Ideal := by
  intro m ρ m' ρ' _ hargs
  refine ⟨fun c => result m c, fun c => gain m c, ?_, ?_⟩
  · exact (θ_run _ _ _).mono (fun r h c => ⟨(h c).1.trans (final_out m c), (h c).2.1.trans (final_gain m c), (h c).2.2⟩)
      (run_blocks (F := Ideal) m ρ)
  · refine (θ_run _ _ _).mono (fun r h c => ⟨(h c).1.trans ?_, (h c).2.1.trans ?_, (h c).2.2⟩)
      (Cert.Reference3Ideal.Value.run (F := Ideal) m' ρ')
    · rw [Cert.Reference3Ideal.Read.val_main_v38_eq, (hargs c).1, (hargs c).2.1, (hargs c).2.2.1, (hargs c).2.2.2.1, (hargs c).2.2.2.2]
      exact plain_result m c
    · rw [(hargs c).1, (hargs c).2.1, (hargs c).2.2.1]
      exact (Cert.Reference3Ideal.Read.val_main_v21_eq _ _ _).trans (plain_gain_result m c)

end Cert.Kernel3Ideal.NormedProductGrad

end
-- ==== Proof.ProductNormGrad4.lean ====
/-
  The gradient of a normed result behind a product, `h + rms_norm(a · w, g)`: the kernel takes a tile of 432 rows of the
  gradient back through the norm, multiplies it by the transposed weight, and adds up over its 19 tiles the gradient of the
  norm's gain. Over the extended reals the tiles hold what the derivatives of the plain lines hold, row by row, and the
  gain's gradient is the sum over all rows.
-/
module

public import proofs.«01_k».proof.Defs
public import proofs.«01_k».proof.Proof.Sums
public import proofs.«01_k».proof.Proof.NormTile
public import proofs.«01_k».proof.Proof.Gen.Kernel4Ideal.Value
public import proofs.«01_k».proof.Proof.Gen.Reference4Ideal.Run
public import proofs.«01_k».proof.Proof.Gen.Reference4Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel4Ideal.ProductNormGrad

open Cert.Kernel4Ideal Cert.Kernel4Ideal.Gen Cert.Kernel4Ideal.Value
open Idealize.ShloMosaic Idealize.ShloMosaic.TcCoe Idealize.SL.Sem
open Idealize.ShloMosaic.ValueIdx
open Cert.Sums Cert.NormTile

theorem hz : (![0, 0] : Fin 2 → Nat) = fun _ => 0 := funext fun a => by fin_cases a <;> rfl

section Steps

variable {F : FTy → Type} [FloatOps F]
variable (c : Dev nD) (i : grid0.Coords) (a1 : Memref sig .tc .vmem S432x1024 .f32) (h1 : a1.IsWhole)
  (a2 : Memref sig .tc .vmem S1x1024 .f32) (h2 : a2.IsWhole) (a3 : Memref sig .tc .vmem S432x1024 .f32) (h3 : a3.IsWhole)
  (a4 : Memref sig .tc .vmem S3072x1024 .bf16) (h4 : a4.IsWhole) (a5 : Memref sig .tc .vmem S432x3072 .f32) (h5 : a5.IsWhole)
  (a6 : Memref sig .tc .vmem S432x1024 .bf16) (h6 : a6.IsWhole) (a7 : Memref sig .tc .vmem S1x1024 .f32) (h7 : a7.IsWhole)
  (x0 : Vec F S432x1024 .f32) (x1 : Vec F S1x1024 .f32) (x2 : Vec F S432x1024 .f32) (x3 : Vec F S3072x1024 .bf16)
  (s : Vec F S1x1024 .f32)

/-- The tile of the norm's gradient the first point writes. -/
theorem grad_first (hc : cond0_0 i) :
    out0_A_5 c i a1 h1 a2 h2 a3 h3 a4 h4 a5 h5 a6 h6 a7 h7 hc x0 x1 x2 x3 = k0_pay7 x2 x0 x1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S432x1024) hz, View.ld_unit_zero (S := S1x1024) hz]

/-- The tile of the norm's gradient a later point writes. -/
theorem grad_later (hc : ¬cond0_0 i) :
    out0_B_5 c i a1 h1 a2 h2 a3 h3 a4 h4 a5 h5 a6 h6 a7 h7 hc x0 x1 x2 x3 s = k0_pay7 x2 x0 x1 := by
  unfold out0_B_5
  rw [View.read_writes_eq_canon _ _ _ (cover0_B_5 c i a1 h1 a2 h2 a3 h3 a4 h4 a5 h5 a6 h6 a7 h7 hc x0 x1 x2 x3 s)]
  unfold kernelRun0_B
  dsimp only
  sl_unfold_words
  rw [View.canon_unit_zero hz]
  simp only [View.readAt_eq_ld, h1.read_unread, h2.read_unread, h3.read_unread, h4.read_unread,
    View.ld_unit_zero (S := S432x1024) hz, View.ld_unit_zero (S := S1x1024) hz]

/-- The first point clears the gain's gradient and adds its tile's part. -/
theorem gain_first (hc : cond0_0 i) :
    out0_A_6 c i a1 h1 a2 h2 a3 h3 a4 h4 a5 h5 a6 h6 a7 h7 hc x0 x1 x2 x3 = k0_pay6 x2 x0 k0_pay3 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S432x1024) hz, View.ld_unit_zero (S := S1x1024) hz]

/-- A later point adds its tile's part. -/
theorem gain_later (hc : ¬cond0_0 i) :
    out0_B_6 c i a1 h1 a2 h2 a3 h3 a4 h4 a5 h5 a6 h6 a7 h7 hc x0 x1 x2 x3 s = k0_pay6 x2 x0 s := by
  unfold out0_B_6
  rw [View.read_writes_eq_canon _ _ _ (cover0_B_6 c i a1 h1 a2 h2 a3 h3 a4 h4 a5 h5 a6 h6 a7 h7 hc x0 x1 x2 x3 s)]
  unfold kernelRun0_B
  dsimp only
  sl_unfold_words
  rw [View.canon_unit_zero hz]
  simp only [View.readAt_eq_ld, h1.read_unread, h2.read_unread, h3.read_unread, h4.read_unread, h7.read_unread,
    View.ld_unit_zero (S := S432x1024) hz, View.ld_unit_zero (S := S1x1024) hz]

end Steps

/-! ## A tile's numbers -/

/-- A chunk of 1536 columns of the product with the transposed weight. -/
theorem k0_pay1_apply (v : Vec Ideal S432x1024 .bf16) (w : Vec Ideal S1536x1024 .bf16) (x : S432x1536.Idx) :
    k0_pay1 (F := Ideal) v w x = (∑ q : Fin 1024, at2 v (x 0) q * at2 w (x 1) q : EReal) := by
  obtain ⟨a, b, rfl⟩ : ∃ (a : Fin 432) (b : Fin 1536), x = ix2 a b := ⟨x 0, x 1, eq_ix2 x⟩
  unfold k0_pay1
  refine (Ideal.matmul_transposedRhs_apply (M := 432) (K := 1024) (N := 1536) (φ₁ := .bf16) (φ₂ := .bf16) none v w
    (constant S432x1536 .f32 0x00000000#32) a b).trans ?_
  show Ideal.ofBits .f32 0x00000000#32 + _ = _
  rw [Ideal.ofBits_zero_f32, zero_add]

theorem k0_pay2_apply (v : Vec Ideal S432x1024 .bf16) (w : Vec Ideal S1536x1024 .bf16) (x : S432x1536.Idx) :
    k0_pay2 (F := Ideal) v w x = (∑ q : Fin 1024, at2 v (x 0) q * at2 w (x 1) q : EReal) := k0_pay1_apply v w x

/-- The norm's gradient on a tile, at an entry. -/
theorem grad_apply (x0 : Vec Ideal S432x1024 .f32) (x1 : Vec Ideal S1x1024 .f32) (x2 : Vec Ideal S432x1024 .f32)
    (r : Fin 432) (j : Fin 1024) :
    k0_pay7 (F := Ideal) x2 x0 x1 (ix2 r j) = RowNorm.gradient (at2 x0 r) (fun k => at2 x2 r k * at2 x1 0 k) j :=
  gradientTile_apply reduces_S432x1024_S432 shapeCasts_S432_S432x1 broadcasts_S432x1_S432x1024 broadcasts_S1x1024_S432x1024
    (.inl rfl) rfl x2 x0 x1 r j

/-- The gain's gradient after a tile, at an entry. -/
theorem gain_apply (x0 : Vec Ideal S432x1024 .f32) (x2 : Vec Ideal S432x1024 .f32) (s : Vec Ideal S1x1024 .f32) (j : Fin 1024) :
    k0_pay6 (F := Ideal) x2 x0 s (ix2 0 j)
      = at2 s 0 j + ∑ r : Fin 432, at2 x2 r j * (at2 x0 r j * RowNorm.scale (at2 x0 r)) :=
  gainTile_apply reduces_S432x1024_S432 shapeCasts_S432_S432x1 broadcasts_S432x1_S432x1024 (.inl rfl) rfl
    reduces_S432x1024_S1024 shapeCasts_S1024_S1x1024 shapeCasts_S1x1024_S1x1024 s x2 x0 0 j

/-- The cleared gain's gradient is zero. -/
theorem cleared (j : Fin 1024) : at2 (k0_pay3 (F := Ideal)) 0 j = 0 := Ideal.ofBits_zero_f32

section Wide

variable (c : Dev nD) (i : grid0.Coords) (a1 : Memref sig .tc .vmem S432x1024 .f32) (h1 : a1.IsWhole)
  (a2 : Memref sig .tc .vmem S1x1024 .f32) (h2 : a2.IsWhole) (a3 : Memref sig .tc .vmem S432x1024 .f32) (h3 : a3.IsWhole)
  (a4 : Memref sig .tc .vmem S3072x1024 .bf16) (h4 : a4.IsWhole) (a5 : Memref sig .tc .vmem S432x3072 .f32) (h5 : a5.IsWhole)
  (a6 : Memref sig .tc .vmem S432x1024 .bf16) (h6 : a6.IsWhole) (a7 : Memref sig .tc .vmem S1x1024 .f32) (h7 : a7.IsWhole)
  (x0 : Vec Ideal S432x1024 .f32) (x1 : Vec Ideal S1x1024 .f32) (x2 : Vec Ideal S432x1024 .f32) (x3 : Vec Ideal S3072x1024 .bf16)
  (s : Vec Ideal S1x1024 .f32)

/-- One chunk's entries: columns `off …` of the product. -/
theorem chunk_at (r : Fin 432) (p : Fin 3072) (off : ℕ) (w : Vec Ideal S1536x1024 .bf16) (x : S432x1536.Idx)
    (hr : r.val = 0 + (x 0).val) (hp : p.val = off + (x 1).val) (y : EReal)
    (hy : y = (∑ q : Fin 1024, at2 (k0_pay7 (F := Ideal) x2 x0 x1) (x 0) q * at2 w (x 1) q : EReal))
    (hw : ∀ q : Fin 1024, off + 1 * (x 1).val = p.val → at2 w (x 1) q = at2 x3 p q) :
    y = (∑ q : Fin 1024, RowNorm.gradient (at2 x0 r) (fun k => at2 x2 r k * at2 x1 0 k) q * at2 x3 p q : EReal) := by
  have er : (x 0 : Fin 432) = r := Fin.ext (by omega)
  rw [hy]
  refine Finset.sum_congr rfl fun q _ => ?_
  rw [hw q (by omega)]
  refine congrArg (fun z : EReal => z * at2 x3 p q) (Eq.trans ?_ (grad_apply x0 x1 x2 r q))
  exact congrArg (fun r' => at2 (k0_pay7 (F := Ideal) x2 x0 x1) r' q) er

/-- What the first point writes of the wide result. -/
theorem wide_first (hc : cond0_0 i) (r : Fin 432) (p : Fin 3072) :
    out0_A_4 (F := Ideal) c i a1 h1 a2 h2 a3 h3 a4 h4 a5 h5 a6 h6 a7 h7 hc x0 x1 x2 x3 (ix2 r p)
      = (∑ q : Fin 1024, RowNorm.gradient (at2 x0 r) (fun k => at2 x2 r k * at2 x1 0 k) q * at2 x3 p q : EReal) := by
  unfold out0_A_4
  rw [View.read_writes_eq_canon _ _ _ (cover0_A_4 c i a1 h1 a2 h2 a3 h3 a4 h4 a5 h5 a6 h6 a7 h7 hc x0 x1 x2 x3)]
  refine View.canon_eq_of_allAt _ _ _ (cover0_A_4 c i a1 h1 a2 h2 a3 h3 a4 h4 a5 h5 a6 h6 a7 h7 hc x0 x1 x2 x3 _) ?_
  unfold kernelRun0_A
  dsimp only
  sl_unfold_words
  simp only [View.readAt_eq_ld, h1.read_unread, h2.read_unread, h3.read_unread, h4.read_unread,
    View.ld_unit_zero (S := S432x1024) hz, View.ld_unit_zero (S := S1x1024) hz]
  refine View.allAt_cons_unit _ _ _ _ _ (fun x hx => chunk_at x0 x1 x2 x3 r p 1536 _ x (hx 0) (hx 1) _ (k0_pay2_apply _ _ x) fun q hq => ?_) ?_
  · refine congrArg x3 (funext fun a => Fin.ext ?_)
    match a with
    | ⟨0, _⟩ => show 1536 + 1 * (x 1).val = p.val; exact hq
    | ⟨1, _⟩ => show 0 + 1 * q.val = q.val; omega
  refine View.allAt_cons_unit _ _ _ _ _ (fun x hx => chunk_at x0 x1 x2 x3 r p 0 _ x (hx 0) (hx 1) _ (k0_pay1_apply _ _ x) fun q hq => ?_) ?_
  · refine congrArg x3 (funext fun a => Fin.ext ?_)
    match a with
    | ⟨0, _⟩ => show 0 + 1 * (x 1).val = p.val; exact hq
    | ⟨1, _⟩ => show 0 + 1 * q.val = q.val; omega
  exact View.allAt_nil _ _

/-- What a later point writes of it. -/
theorem wide_later (hc : ¬cond0_0 i) (r : Fin 432) (p : Fin 3072) :
    out0_B_4 (F := Ideal) c i a1 h1 a2 h2 a3 h3 a4 h4 a5 h5 a6 h6 a7 h7 hc x0 x1 x2 x3 s (ix2 r p)
      = (∑ q : Fin 1024, RowNorm.gradient (at2 x0 r) (fun k => at2 x2 r k * at2 x1 0 k) q * at2 x3 p q : EReal) := by
  unfold out0_B_4
  rw [View.read_writes_eq_canon _ _ _ (cover0_B_4 c i a1 h1 a2 h2 a3 h3 a4 h4 a5 h5 a6 h6 a7 h7 hc x0 x1 x2 x3 s)]
  refine View.canon_eq_of_allAt _ _ _ (cover0_B_4 c i a1 h1 a2 h2 a3 h3 a4 h4 a5 h5 a6 h6 a7 h7 hc x0 x1 x2 x3 s _) ?_
  unfold kernelRun0_B
  dsimp only
  sl_unfold_words
  simp only [View.readAt_eq_ld, h1.read_unread, h2.read_unread, h3.read_unread, h4.read_unread,
    View.ld_unit_zero (S := S432x1024) hz, View.ld_unit_zero (S := S1x1024) hz]
  refine View.allAt_cons_unit _ _ _ _ _ (fun x hx => chunk_at x0 x1 x2 x3 r p 1536 _ x (hx 0) (hx 1) _ (k0_pay2_apply _ _ x) fun q hq => ?_) ?_
  · refine congrArg x3 (funext fun a => Fin.ext ?_)
    match a with
    | ⟨0, _⟩ => show 1536 + 1 * (x 1).val = p.val; exact hq
    | ⟨1, _⟩ => show 0 + 1 * q.val = q.val; omega
  refine View.allAt_cons_unit _ _ _ _ _ (fun x hx => chunk_at x0 x1 x2 x3 r p 0 _ x (hx 0) (hx 1) _ (k0_pay1_apply _ _ x) fun q hq => ?_) ?_
  · refine congrArg x3 (funext fun a => Fin.ext ?_)
    match a with
    | ⟨0, _⟩ => show 0 + 1 * (x 1).val = p.val; exact hq
    | ⟨1, _⟩ => show 0 + 1 * q.val = q.val; omega
  exact View.allAt_nil _ _

end Wide

/-! ## Over the grid -/

variable (m : (ℓ : Loc nD τ sig) → Buf (Elt Ideal) ℓ) (ρ : Dev nD → PrngReg)

/-- The arguments, as matrices of extended reals. -/
abbrev argF (c : Dev nD) : (Mat 8208 1024).Idx → EReal := m ((c : Thread nD τ).loc main_arg0)
abbrev argG (c : Dev nD) : (Mat 1 1024).Idx → EReal := m ((c : Thread nD τ).loc main_arg1)
abbrev argW (c : Dev nD) : (Mat 3072 1024).Idx → EReal := m ((c : Thread nD τ).loc main_arg2)
abbrev argY (c : Dev nD) : (Mat 8208 1024).Idx → EReal := m ((c : Thread nD τ).loc main_arg3)

theorem index_f : ∀ t : Fin cfg0.N, win0_0.index t (0 : Fin 2) = t.val ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_y : ∀ t : Fin cfg0.N, win0_2.index t (0 : Fin 2) = t.val ∧ win0_2.index t (1 : Fin 2) = 0 :=
  (by decide +kernel : ∀ t : Fin grid0.N, _)
theorem index_w : ∀ t : Fin cfg0.N, win0_3.index t (0 : Fin 2) = 0 ∧ win0_3.index t (1 : Fin 2) = 0 :=
  (by decide +kernel : ∀ t : Fin grid0.N, _)
theorem index_a : ∀ t : Fin cfg0.N, win0_4.index t (0 : Fin 2) = t.val ∧ win0_4.index t (1 : Fin 2) = 0 :=
  (by decide +kernel : ∀ t : Fin grid0.N, _)
theorem index_o : ∀ t : Fin cfg0.N, win0_5.index t (0 : Fin 2) = t.val ∧ win0_5.index t (1 : Fin 2) = 0 :=
  (by decide +kernel : ∀ t : Fin grid0.N, _)
theorem index_s : ∀ t : Fin cfg0.N, win0_6.index t (0 : Fin 2) = 0 ∧ win0_6.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_f (c : Dev nD) (t : Fin cfg0.N) (r : Fin 432) (j : Fin 1024) :
    at2 (a := 432) (b := 1024) (iblk m c 0 t) r j = at2 (argF m c) (rowOf t r) j := by
  obtain ⟨e0, e1⟩ := index_f t
  show argF m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1024 + 1 * j.val = j.val; rw [e1]; omega

theorem block_g (c : Dev nD) (t : Fin cfg0.N) (j : Fin 1024) :
    at2 (a := 1) (b := 1024) (iblk m c 1 t) 0 j = at2 (argG m c) 0 j := by
  obtain ⟨e0, e1⟩ := index_g t
  show argG m c (((cfg0.win 1).blk t).view.emb (ix2 0 j)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 1024 + 1 * j.val = j.val; rw [e1]; omega

theorem block_y (c : Dev nD) (t : Fin cfg0.N) (r : Fin 432) (j : Fin 1024) :
    at2 (a := 432) (b := 1024) (iblk m c 2 t) r j = at2 (argY m c) (rowOf t r) j := by
  obtain ⟨e0, e1⟩ := index_y t
  show argY m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_w (c : Dev nD) (t : Fin cfg0.N) (r : Fin 3072) (j : Fin 1024) :
    at2 (a := 3072) (b := 1024) (iblk m c 3 t) r j = at2 (argW m c) r j := by
  obtain ⟨e0, e1⟩ := index_w t
  show argW m c (((cfg0.win 3).blk t).view.emb (ix2 r j)) = _
  refine congrArg _ (funext fun a => Fin.ext ?_)
  match a with
  | ⟨0, _⟩ => show win0_3.index t (0 : Fin 2) * 3072 + 1 * r.val = r.val; rw [e0]; omega
  | ⟨1, _⟩ => show win0_3.index t (1 : Fin 2) * 1024 + 1 * j.val = j.val; rw [e1]; omega

theorem row_f (c : Dev nD) (t : Fin cfg0.N) (r : Fin 432) : at2 (a := 432) (b := 1024) (iblk m c 0 t) r = at2 (argF m c) (rowOf t r) :=
  funext fun j => block_f m c t r j

/-- The norm's gradient at an entry. -/
def gradAt (c : Dev nD) (k : Fin 8208) (j : Fin 1024) : EReal :=
  RowNorm.gradient (at2 (argF m c) k) (fun i => at2 (argY m c) k i * at2 (argG m c) 0 i) j

/-- The product with the transposed weight at an entry. -/
def wideAt (c : Dev nD) (k : Fin 8208) (p : Fin 3072) : EReal := ∑ q : Fin 1024, gradAt m c k q * at2 (argW m c) p q

/-- One row's part of the gain's gradient. -/
def gainTerm (c : Dev nD) (j : Fin 1024) (k : Fin 8208) : EReal :=
  at2 (argY m c) k j * (at2 (argF m c) k j * RowNorm.scale (at2 (argF m c) k))

theorem grad_block (c : Dev nD) (t : Fin cfg0.N) (r : Fin 432) (j : Fin 1024) :
    RowNorm.gradient (at2 (a := 432) (b := 1024) (iblk m c 0 t) r)
      (fun k => at2 (a := 432) (b := 1024) (iblk m c 2 t) r k * at2 (a := 1) (b := 1024) (iblk m c 1 t) 0 k) j
      = gradAt m c (rowOf t r) j := by
  rw [row_f]
  unfold gradAt
  refine congrArg (fun y => RowNorm.gradient (at2 (argF m c) (rowOf t r)) y j) (funext fun k => ?_)
  rw [block_y, block_g]

/-- The tile of the norm's gradient a point writes. -/
theorem grad_at (c : Dev nD) (t : Fin cfg0.N) (r : Fin 432) (j : Fin 1024) :
    (outsAt0 m c t.val t.isLt).2.1 (ix2 r j) = gradAt m c (rowOf t r) j := by
  by_cases h0 : t.val % 19 = 0
  · rw [outsAt0_A m c t h0]
    dsimp only
    rw [grad_first]
    exact (grad_apply _ _ _ r j).trans (grad_block m c t r j)
  · rw [outsAt0_B m c t h0]
    dsimp only
    rw [grad_later]
    exact (grad_apply _ _ _ r j).trans (grad_block m c t r j)

/-- The tile of the wide result a point writes. -/
theorem wide_at (c : Dev nD) (t : Fin cfg0.N) (r : Fin 432) (p : Fin 3072) :
    (outsAt0 m c t.val t.isLt).1 (ix2 r p) = wideAt m c (rowOf t r) p := by
  by_cases h0 : t.val % 19 = 0
  · rw [outsAt0_A m c t h0]
    dsimp only
    rw [wide_first]
    exact Finset.sum_congr rfl fun q _ => by rw [grad_block, block_w]
  · rw [outsAt0_B m c t h0]
    dsimp only
    rw [wide_later]
    exact Finset.sum_congr rfl fun q _ => by rw [grad_block, block_w]

/-- One tile's part of the gain's gradient is the next block of its terms. -/
theorem contribution (c : Dev nD) (t : Fin cfg0.N) (j : Fin 1024) :
    (∑ r : Fin 432, at2 (a := 432) (b := 1024) (iblk m c 2 t) r j
        * (at2 (a := 432) (b := 1024) (iblk m c 0 t) r j * RowNorm.scale (at2 (a := 432) (b := 1024) (iblk m c 0 t) r)))
      = ∑ r : Fin 432, total (gainTerm m c j) (432 * t.val + r.val) := by
  refine Finset.sum_congr rfl fun r _ => ?_
  have h : 432 * t.val + r.val < 8208 := (rowOf t r).isLt
  rw [total_of_lt _ h, block_y, row_f]
  rfl

/-- The gain's gradient after point `n`: the sum over the rows of the tiles so far. -/
theorem carried (c : Dev nD) : ∀ (n : ℕ) (hn : n < cfg0.N) (j : Fin 1024),
    (outsAt0 m c n hn).2.2 (ix2 0 j) = upTo 432 (gainTerm m c j) (n + 1) := by
  intro n
  induction n with
  | zero =>
    intro hn j
    rw [outsAt0_A m c ⟨0, hn⟩ (Nat.zero_mod 19)]
    dsimp only
    rw [gain_first]
    refine (gain_apply _ _ _ j).trans ?_
    rw [cleared, zero_add, contribution m c ⟨0, hn⟩ j, upTo_succ, upTo_zero, zero_add]
  | succ n ih =>
    intro hn j
    have hN : n + 1 < 19 := lt_of_lt_of_eq hn N_0
    rw [outsAt0_B m c ⟨n + 1, hn⟩ (by show ¬(n + 1) % 19 = 0; omega)]
    dsimp only
    rw [gain_later]
    refine (gain_apply _ _ _ j).trans ?_
    rw [contribution m c ⟨n + 1, hn⟩ j, upTo_succ]
    exact congrArg (fun z : EReal => z + ∑ r : Fin 432, total (gainTerm m c j) (432 * (n + 1) + r.val)) (ih (Nat.lt_of_succ_lt hn) j)

/-! ## The three result arrays -/

/-- The gradient of the product's left factor. -/
def wide (c : Dev nD) : Buf (Elt Ideal) ((c : Thread nD τ).loc main_v0_0) :=
  fun i => wideAt m c ⟨(i 0).val, (i 0).isLt⟩ ⟨(i 1).val, (i 1).isLt⟩

/-- The gradient of the norm's argument. -/
def result (c : Dev nD) : Buf (Elt Ideal) ((c : Thread nD τ).loc main_v0_1) :=
  fun i => gradAt m c ⟨(i 0).val, (i 0).isLt⟩ ⟨(i 1).val, (i 1).isLt⟩

/-- The gradient of the gain. -/
def gain (c : Dev nD) : Buf (Elt Ideal) ((c : Thread nD τ).loc main_v0_2) :=
  fun i => (∑ k : Fin 8208, gainTerm m c ⟨(i 1).val, (i 1).isLt⟩ k : EReal)

theorem flushed_a (c : Dev nD) (t : Fin cfg0.N) :
    (dats m 0 c).flushed 4 t = ((cfg0.win 4).blk t).view.read (Elt Ideal) (wide m c) := by
  rw [flushed4]
  obtain ⟨e0, e1⟩ := index_a t
  funext y
  have hy0 : (y 0).val < 432 := (y 0).isLt
  have hy1 : (y 1).val < 3072 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 3072 + 1 * (y 1).val := rfl
  have hx : (cfg0.win 4).xinj (grid0.coords t) y = ix2 (⟨(y 0).val, hy0⟩ : Fin 432) (⟨(y 1).val, hy1⟩ : Fin 3072) :=
    funext fun a => Fin.ext (match a with | ⟨0, _⟩ => rfl | ⟨1, _⟩ => rfl)
  show (outsAt0 m c t.val t.isLt).1 ((cfg0.win 4).xinj (grid0.coords t) y) = wide m c (((cfg0.win 4).blk t).view.emb y)
  rw [hx, wide_at]
  unfold wide
  refine congrArg₂ (wideAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_a (c : Dev nD) : (dats m 0 c).arrAt 4 cfg0.N = wide m c :=
  (dats m 0 c).arrAt_eq_of_cover 4 (wide m c) (fun t _ => flushed_a m c t) fun i => by
    have h0 : (i 0 : Nat) < 8208 := (i 0).isLt
    have h1 : (i 1 : Nat) < 3072 := (i 1).isLt
    have ht : (i 0 : Nat) / 432 < cfg0.N := by show _ < grid0.N; rw [N_0]; omega
    obtain ⟨e0, e1⟩ := index_a ⟨(i 0 : Nat) / 432, ht⟩
    refine ⟨⟨(i 0 : Nat) / 432, ht⟩, flush0_4 _, ?_⟩
    show i ∈ ((View.whole main_v0_0).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 3072 ≤ (i 1).val ∧ (i 1).val < win0_4.index ⟨(i 0 : Nat) / 432, ht⟩ (1 : Fin 2) * 3072 + 3072
      rw [e1]; omega

theorem flushed_o (c : Dev nD) (t : Fin cfg0.N) :
    (dats m 0 c).flushed 5 t = ((cfg0.win 5).blk t).view.read (Elt Ideal) (result m c) := by
  rw [flushed5]
  obtain ⟨e0, e1⟩ := index_o t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show (outsAt0 m c t.val t.isLt).2.1 ((cfg0.win 5).xinj (grid0.coords t) y) = result m c (((cfg0.win 5).blk t).view.emb y)
  rw [hx, grad_at]
  unfold result
  refine congrArg₂ (gradAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_o (c : Dev nD) : (dats m 0 c).arrAt 5 cfg0.N = result m c :=
  (dats m 0 c).arrAt_eq_of_cover 5 (result m c) (fun t _ => flushed_o m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_o ⟨(i 0 : Nat) / 432, ht⟩
    refine ⟨⟨(i 0 : Nat) / 432, ht⟩, flush0_5 _, ?_⟩
    show i ∈ ((View.whole main_v0_1).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

theorem flushed_gain (c : Dev nD) (t : Fin cfg0.N) (hf : (cfg0.win 6).flush t = true) :
    (dats m 0 c).flushed 6 t = ((cfg0.win 6).blk t).view.read (Elt Ideal) (gain m c) := by
  rw [flushed6]
  have hm : t.val = 18 := by have := (flush0_6 t).mp hf; have := points t; omega
  obtain ⟨e0, e1⟩ := index_s t
  funext y
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have hx : (cfg0.win 6).xinj (grid0.coords t) y = ix2 (0 : Fin 1) (⟨(y 1).val, hy1⟩ : Fin 1024) :=
    funext fun a => Fin.ext (match a with | ⟨0, _⟩ => (by show (y 0).val = 0; omega) | ⟨1, _⟩ => rfl)
  show (outsAt0 m c t.val t.isLt).2.2 ((cfg0.win 6).xinj (grid0.coords t) y) = gain m c (((cfg0.win 6).blk t).view.emb y)
  rw [hx, carried, hm, upTo_all 432 _ 19 rfl]
  unfold gain
  refine Finset.sum_congr rfl fun k _ => congrArg (fun j => gainTerm m c j k) (Fin.ext ?_)
  show (y 1).val = (((cfg0.win 6).blk t).view.emb y 1).val
  rw [hb1, e1]; omega

theorem final_gain (c : Dev nD) : (dats m 0 c).arrAt 6 cfg0.N = gain m c :=
  (dats m 0 c).arrAt_eq_of_cover 6 (gain m c) (flushed_gain m c) fun i => by
    have h0 : (i 0 : Nat) < 1 := (i 0).isLt
    have h1 : (i 1 : Nat) < 1024 := (i 1).isLt
    have ht : 18 < cfg0.N := by show _ < grid0.N; rw [N_0]; omega
    obtain ⟨e0, e1⟩ := index_s ⟨18, ht⟩
    refine ⟨⟨18, ht⟩, (flush0_6 _).mpr rfl, ?_⟩
    show i ∈ ((View.whole main_v0_2).slice (win0_6.rect ⟨18, ht⟩)).set
    rw [View.set_slice_whole, Rect.mem_set_unit]
    intro a
    match a with
    | ⟨0, _⟩ =>
      show win0_6.index ⟨18, ht⟩ (0 : Fin 2) * 1 ≤ (i 0).val ∧ (i 0).val < win0_6.index ⟨18, ht⟩ (0 : Fin 2) * 1 + 1
      rw [e0]; omega
    | ⟨1, _⟩ =>
      show win0_6.index ⟨18, ht⟩ (1 : Fin 2) * 1024 ≤ (i 1).val ∧ (i 1).val < win0_6.index ⟨18, ht⟩ (1 : Fin 2) * 1024 + 1024
      rw [e1]; omega

/-! ## The derivative of the plain lines -/

section Plain

open Cert.Reference4Ideal.Read

variable (x0 : (Mat 8208 1024).Idx → EReal) (x1 : (Mat 1 1024).Idx → EReal) (x2 : (Mat 3072 1024).Idx → EReal)
  (x3 : (Mat 8208 1024).Idx → EReal)

theorem plain_square (k : Fin 8208) : val_main_v6 (F := Ideal) x0 (ix2 k 0) = RowNorm.meanSquare (at2 x0 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x0 (funext fun a => ?_))
  match a with
  | ⟨0, _⟩ => rfl
  | ⟨1, _⟩ => rfl

theorem plain_scale (k : Fin 8208) : val_main_v7 (F := Ideal) x0 (ix2 k 0) = RowNorm.scale (at2 x0 k) := by
  rw [val_main_v7_apply, plain_square]; rfl

theorem plain_factor (k : Fin 8208) : val_main_v10 (F := Ideal) x0 (ix2 k 0)
    = RowNorm.minusHalf * Ideal.div (RowNorm.scale (at2 x0 k)) (RowNorm.meanSquare (at2 x0 k)) := by
  rw [val_main_v10_apply, val_main_v8_apply, plain_square, plain_scale]; rfl

theorem plain_normed (k : Fin 8208) (j : Fin 1024) : val_main_v12 (F := Ideal) x0 (ix2 k j)
    = at2 x0 k j * RowNorm.scale (at2 x0 k) := by
  rw [val_main_v12_apply, val_main_v11_apply]
  refine congrArg (fun z : EReal => at2 x0 k j * z) (Eq.trans (congrArg (val_main_v7 (F := Ideal) x0) ?_) (plain_scale x0 k))
  funext a
  match a with
  | ⟨0, _⟩ => rfl
  | ⟨1, _⟩ => rfl

theorem plain_gained (k : Fin 8208) (j : Fin 1024) : val_main_v19 (F := Ideal) x1 x3 (ix2 k j) = at2 x3 k j * at2 x1 0 j := by
  rw [val_main_v19_apply, val_main_v18_apply]
  refine congrArg (fun z : EReal => at2 x3 k j * z) (congrArg x1 ?_)
  funext a
  match a with
  | ⟨0, _⟩ => rfl
  | ⟨1, _⟩ => rfl

/-- The gain's gradient, as the plain lines give it. -/
theorem plain_gain (u : Fin 1) (j : Fin 1024) : val_main_v17 (F := Ideal) x0 x3 (ix2 u j)
    = ∑ k : Fin 8208, at2 x3 k j * (at2 x0 k j * RowNorm.scale (at2 x0 k)) := by
  rw [val_main_v17_apply, val_main_v16_apply]
  show RowNorm.zero + ∑ k : Fin 8208, _ = _
  rw [RowNorm.zero_eq, zero_add]
  refine Finset.sum_congr rfl fun k _ => ?_
  have e : idx_main_v16 (idx_main_v17 (ix2 u j)) k = ix2 k j := funext fun a => Fin.ext (by
    match a with
    | ⟨0, _⟩ => rfl
    | ⟨1, _⟩ => show u.val * 1024 + j.val = j.val; have := u.isLt; omega)
  rw [e, val_main_v15_apply, plain_normed]
  exact mul_comm _ _

theorem plain_cross (k : Fin 8208) : val_main_v28 (F := Ideal) x0 x1 x3 (ix1 k)
    = RowNorm.crossFactor (at2 x0 k) (fun i => at2 x3 k i * at2 x1 0 i) := by
  rw [val_main_v28_apply]
  unfold RowNorm.crossFactor
  refine congrArg (fun z : EReal => RowNorm.zero + z) (Finset.sum_congr rfl fun u _ => ?_)
  have e : idx_main_v28 (ix1 k) u = ix2 k 0 := funext fun a => Fin.ext (by
    match a with
    | ⟨0, _⟩ => rfl
    | ⟨1, _⟩ => show u.val = 0; have := u.isLt; omega)
  rw [e, val_main_v27_apply, val_main_v25_apply, plain_factor, val_main_v22_apply, val_main_v21_apply]
  refine congrArg (fun z : EReal => Ideal.div ((RowNorm.zero + z)
    * (RowNorm.minusHalf * Ideal.div (RowNorm.scale (at2 x0 k)) (RowNorm.meanSquare (at2 x0 k)))) RowNorm.width)
    (Finset.sum_congr rfl fun i _ => ?_)
  have e' : idx_main_v21 (idx_main_v22 (ix2 k 0)) i = ix2 k i := funext fun a => Fin.ext (by
    match a with
    | ⟨0, _⟩ => show k.val * 1 + 0 = k.val; omega
    | ⟨1, _⟩ => rfl)
  rw [e', val_main_v20_apply, plain_gained]
  rfl

/-- The norm's gradient, as the plain lines give it. -/
theorem plain_grad (k : Fin 8208) (j : Fin 1024) : val_main_v33 (F := Ideal) x0 x1 x3 (ix2 k j)
    = RowNorm.gradient (at2 x0 k) (fun i => at2 x3 k i * at2 x1 0 i) j := by
  have e23 : idx_main_v23 (ix2 k j) = ix2 k 0 := funext fun a => by
    match a with
    | ⟨0, _⟩ => rfl
    | ⟨1, _⟩ => rfl
  have e29 : idx_main_v29 (ix2 k j) = ix1 k := funext fun a => by
    match a with
    | ⟨0, _⟩ => rfl
  rw [val_main_v33_apply, val_main_v31_apply, val_main_v32_apply, val_main_v30_apply, val_main_v29_apply, val_main_v24_apply,
    val_main_v23_apply, e23, e29, plain_scale, plain_cross, plain_gained, RowNorm.gradient_eq]
  rfl

/-- The product's gradient, as the plain lines give it. -/
theorem plain_wide (k : Fin 8208) (p : Fin 3072) : val_main_v37 (F := Ideal) x0 x1 x2 x3 (ix2 k p)
    = (∑ q : Fin 1024, RowNorm.gradient (at2 x0 k) (fun i => at2 x3 k i * at2 x1 0 i) q * at2 x2 p q : EReal) := by
  rw [val_main_v37_apply]
  refine Finset.sum_congr rfl fun q _ => ?_
  rw [val_main_v35_apply]
  refine congrArg₂ (fun u v : EReal => u * v) (Eq.trans (congrArg (val_main_v33 (F := Ideal) x0 x1 x3) ?_) (plain_grad x0 x1 x3 k q)) (congrArg x2 ?_)
  · funext a
    match a with
    | ⟨0, _⟩ => rfl
    | ⟨1, _⟩ => rfl
  · funext a
    match a with
    | ⟨0, _⟩ => rfl
    | ⟨1, _⟩ => rfl

end Plain

theorem plain_wide_result (c : Dev nD) : Cert.Reference4Ideal.Read.val_main_v37 (F := Ideal) (argF m c) (argG m c) (argW m c) (argY m c) = wide m c := by
  funext i
  have hi : i = ix2 (⟨(i 0).val, (i 0).isLt⟩ : Fin 8208) (⟨(i 1).val, (i 1).isLt⟩ : Fin 3072) :=
    funext fun a => by
      match a with
      | ⟨0, _⟩ => rfl
      | ⟨1, _⟩ => rfl
  rw [hi]
  exact plain_wide _ _ _ _ _ _

theorem plain_result (c : Dev nD) : Cert.Reference4Ideal.Read.val_main_v38 (F := Ideal) (argF m c) (argG m c) (argY m c) = result m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi, Cert.Reference4Ideal.Read.val_main_v38_apply]
  exact plain_grad _ _ _ _ _

theorem plain_gain_result (c : Dev nD) : Cert.Reference4Ideal.Read.val_main_v17 (F := Ideal) (argF m c) (argY m c) = gain m c := by
  funext i
  have hi : i = ix2 (⟨(i 0).val, (i 0).isLt⟩ : Fin 1) (⟨(i 1).val, (i 1).isLt⟩ : Fin 1024) :=
    funext fun a => by
      match a with
      | ⟨0, _⟩ => rfl
      | ⟨1, _⟩ => rfl
  rw [hi]
  exact plain_gain _ _ _ _

/-- The kernel computes the derivatives of the product and of the norm behind it. -/
theorem algebraic : Cert.algebraic_Kernel4Ideal_Reference4Ideal := by
  intro m ρ m' ρ' _ hargs
  refine ⟨fun c => wide m c, fun c => result m c, fun c => gain m c, ?_, ?_⟩
  · exact (θ_run _ _ _).mono (fun r h c => ⟨(h c).1.trans (final_a m c), (h c).2.1.trans (final_o m c),
      (h c).2.2.1.trans (final_gain m c), (h c).2.2.2⟩) (run_blocks (F := Ideal) m ρ)
  · refine (θ_run _ _ _).mono (fun r h c => ⟨(h c).1.trans ?_, (h c).2.1.trans ?_, (h c).2.2.1.trans ?_, (h c).2.2.2⟩)
      (Cert.Reference4Ideal.Value.run (F := Ideal) m' ρ')
    · rw [(hargs c).1, (hargs c).2.1, (hargs c).2.2.1, (hargs c).2.2.2]
      exact (Cert.Reference4Ideal.Read.val_main_v37_eq _ _ _ _).trans (plain_wide_result m c)
    · rw [(hargs c).1, (hargs c).2.1, (hargs c).2.2.2]
      exact (Cert.Reference4Ideal.Read.val_main_v38_eq _ _ _).trans (plain_result m c)
    · rw [(hargs c).1, (hargs c).2.2.2]
      exact (Cert.Reference4Ideal.Read.val_main_v17_eq _ _).trans (plain_gain_result m c)

end Cert.Kernel4Ideal.ProductNormGrad

end
-- ==== Proof.NormedProductGrad5.lean ====
/-
  The gradient of a normed product, `z = rms_norm(h, g) · w`: the kernel multiplies a tile of 432 rows of the product's
  gradient by the transposed weight, takes the result back through the norm, and adds the gradient that comes along the
  residual path. It also adds up, over its 19 tiles, the gradient of the norm's gain. Over the extended reals the tiles
  hold what the derivative of the plain lines holds, row by row, and the gain's gradient is the sum over all rows. The lines behind
  the kernel part the 16 rows before the tokens from the others.
-/
module

public import proofs.«01_k».proof.Defs
public import proofs.«01_k».proof.Proof.Sums
public import proofs.«01_k».proof.Proof.NormTile
public import proofs.«01_k».proof.Proof.Gen.Kernel5Ideal.Frame
public import proofs.«01_k».proof.Proof.Gen.Reference5Ideal.Run
public import proofs.«01_k».proof.Proof.Gen.Reference5Ideal.Read
public import Idealize.ShloMosaic.Lib.MatmulPlain
public import Idealize.ShloMosaic.Lib.Pipeline.Value
public import Idealize.ShloMosaic.Lib.Tactic
public import Idealize.ShloMosaic.Lib.Quiescent

@[expose] public section

set_option maxRecDepth 16384

noncomputable section

namespace Cert.Kernel5Ideal.NormedProductGrad

open Cert.Kernel5Ideal Cert.Kernel5Ideal.Gen
open Idealize.ShloMosaic Idealize.ShloMosaic.TcCoe Idealize.SL.Sem
open Idealize.ShloMosaic.ValueIdx
open Cert.Sums Cert.NormTile

theorem hz : (![0, 0] : Fin 2 → Nat) = fun _ => 0 := funext fun a => by fin_cases a <;> rfl

section Steps

variable {F : FTy → Type} [FloatOps F]
variable (c : Dev nD) (i : grid0.Coords) (a1 : Memref sig .tc .vmem S432x3072 .bf16) (h1 : a1.IsWhole)
  (a2 : Memref sig .tc .vmem S1024x3072 .bf16) (h2 : a2.IsWhole) (a3 : Memref sig .tc .vmem S432x1024 .f32) (h3 : a3.IsWhole)
  (a4 : Memref sig .tc .vmem S1x1024 .f32) (h4 : a4.IsWhole) (a5 : Memref sig .tc .vmem S432x1024 .f32) (h5 : a5.IsWhole)
  (a6 : Memref sig .tc .vmem S432x1024 .f32) (h6 : a6.IsWhole) (a7 : Memref sig .tc .vmem S1x1024 .f32) (h7 : a7.IsWhole)
  (x0 : Vec F S432x3072 .bf16) (x1 : Vec F S1024x3072 .bf16) (x2 : Vec F S432x1024 .f32) (x3 : Vec F S1x1024 .f32)
  (x4 : Vec F S432x1024 .f32) (s : Vec F S1x1024 .f32)

/-- What the first point writes for its tile. -/
theorem tile_first (hc : cond0_0 i) :
    out0_A_5 c i a1 h1 a2 h2 a3 h3 a4 h4 a5 h5 a6 h6 a7 h7 hc x0 x1 x2 x3 x4 = k0_pay1 (k0_pay6 x0 x1 x2 x3) x4 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S432x3072) hz, View.ld_unit_zero (S := S1024x3072) hz, View.ld_unit_zero (S := S432x1024) hz,
    View.ld_unit_zero (S := S1x1024) hz]

/-- What a later point writes for its tile. -/
theorem tile_later (hc : ¬cond0_0 i) :
    out0_B_5 c i a1 h1 a2 h2 a3 h3 a4 h4 a5 h5 a6 h6 a7 h7 hc x0 x1 x2 x3 x4 s = k0_pay1 (k0_pay6 x0 x1 x2 x3) x4 := by
  unfold out0_B_5
  rw [View.read_writes_eq_canon _ _ _ (cover0_B_5 c i a1 h1 a2 h2 a3 h3 a4 h4 a5 h5 a6 h6 a7 h7 hc x0 x1 x2 x3 x4 s)]
  unfold kernelRun0_B
  dsimp only
  sl_unfold_words
  rw [View.canon_unit_zero hz]
  simp only [View.readAt_eq_ld, h1.read_unread, h2.read_unread, h3.read_unread, h4.read_unread, h5.read_unread,
    View.ld_unit_zero (S := S432x3072) hz, View.ld_unit_zero (S := S1024x3072) hz, View.ld_unit_zero (S := S432x1024) hz,
    View.ld_unit_zero (S := S1x1024) hz]

/-- The first point clears the gain's gradient and adds its tile's part. -/
theorem gain_first (hc : cond0_0 i) :
    out0_A_6 c i a1 h1 a2 h2 a3 h3 a4 h4 a5 h5 a6 h6 a7 h7 hc x0 x1 x2 x3 x4 = k0_pay7 x0 x1 x2 k0_pay2 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S432x3072) hz, View.ld_unit_zero (S := S1024x3072) hz, View.ld_unit_zero (S := S432x1024) hz,
    View.ld_unit_zero (S := S1x1024) hz]

/-- A later point adds its tile's part. -/
theorem gain_later (hc : ¬cond0_0 i) :
    out0_B_6 c i a1 h1 a2 h2 a3 h3 a4 h4 a5 h5 a6 h6 a7 h7 hc x0 x1 x2 x3 x4 s = k0_pay7 x0 x1 x2 s := by
  unfold out0_B_6
  rw [View.read_writes_eq_canon _ _ _ (cover0_B_6 c i a1 h1 a2 h2 a3 h3 a4 h4 a5 h5 a6 h6 a7 h7 hc x0 x1 x2 x3 x4 s)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S432x3072) hz, View.ld_unit_zero (S := S1024x3072) hz, View.ld_unit_zero (S := S432x1024) hz,
    View.ld_unit_zero (S := S1x1024) hz]

end Steps

/-! ## A tile's numbers -/

/-- The product's gradient times the transposed weight. -/
theorem product_apply (x0 : Vec Ideal S432x3072 .bf16) (x1 : Vec Ideal S1024x3072 .bf16) (r : Fin 432) (j : Fin 1024) :
    k0_pay3 (F := Ideal) x0 x1 (ix2 r j) = (∑ q : Fin 3072, at2 x0 r q * at2 x1 j q : EReal) := by
  unfold k0_pay3
  refine (Ideal.matmul_transposedRhs_apply (M := 432) (K := 3072) (N := 1024) (φ₁ := .bf16) (φ₂ := .bf16) none x0 x1
    (constant S432x1024 .f32 0x00000000#32) r j).trans ?_
  show Ideal.ofBits .f32 0x00000000#32 + _ = _
  rw [Ideal.ofBits_zero_f32, zero_add]

/-- The tile written out, at an entry. -/
theorem tile_apply (x0 : Vec Ideal S432x3072 .bf16) (x1 : Vec Ideal S1024x3072 .bf16) (x2 : Vec Ideal S432x1024 .f32)
    (x3 : Vec Ideal S1x1024 .f32) (x4 : Vec Ideal S432x1024 .f32) (r : Fin 432) (j : Fin 1024) :
    k0_pay1 (F := Ideal) (k0_pay6 x0 x1 x2 x3) x4 (ix2 r j)
      = at2 x4 r j + RowNorm.gradient (at2 x2 r) (fun k => (∑ q : Fin 3072, at2 x0 r q * at2 x1 k q) * at2 x3 0 k) j := by
  have h : k0_pay6 (F := Ideal) x0 x1 x2 x3 (ix2 r j)
      = RowNorm.gradient (at2 x2 r) (fun k => at2 (k0_pay3 (F := Ideal) x0 x1) r k * at2 x3 0 k) j :=
    gradientTile_apply reduces_S432x1024_S432 shapeCasts_S432_S432x1 broadcasts_S432x1_S432x1024 broadcasts_S1x1024_S432x1024
      (.inl rfl) rfl (k0_pay3 (F := Ideal) x0 x1) x2 x3 r j
  unfold k0_pay1
  show at2 x4 r j + k0_pay6 (F := Ideal) x0 x1 x2 x3 (ix2 r j) = _
  rw [h]
  refine congrArg (fun y => at2 x4 r j + RowNorm.gradient (at2 x2 r) y j) (funext fun k => ?_)
  exact congrArg (fun z : EReal => z * at2 x3 0 k) (product_apply x0 x1 r k)

/-- The gain's gradient after a tile, at an entry. -/
theorem gain_apply (x0 : Vec Ideal S432x3072 .bf16) (x1 : Vec Ideal S1024x3072 .bf16) (x2 : Vec Ideal S432x1024 .f32)
    (s : Vec Ideal S1x1024 .f32) (j : Fin 1024) :
    k0_pay7 (F := Ideal) x0 x1 x2 s (ix2 0 j)
      = at2 s 0 j + ∑ r : Fin 432, (∑ q : Fin 3072, at2 x0 r q * at2 x1 j q) * (at2 x2 r j * RowNorm.scale (at2 x2 r)) := by
  refine (gainTile_apply reduces_S432x1024_S432 shapeCasts_S432_S432x1 broadcasts_S432x1_S432x1024 (.inl rfl) rfl
    reduces_S432x1024_S1024 shapeCasts_S1024_S1x1024 shapeCasts_S1x1024_S1x1024 s (k0_pay3 (F := Ideal) x0 x1) x2 0 j).trans ?_
  refine congrArg (fun z : EReal => at2 s 0 j + z) (Finset.sum_congr rfl fun r _ => ?_)
  exact congrArg (fun z : EReal => z * (at2 x2 r j * RowNorm.scale (at2 x2 r))) (product_apply x0 x1 r j)

/-- The cleared gain's gradient is zero. -/
theorem cleared (j : Fin 1024) : at2 (k0_pay2 (F := Ideal)) 0 j = 0 := Ideal.ofBits_zero_f32

/-! ## Over the grid -/

variable (m : (ℓ : Loc nD τ sig) → Buf (Elt Ideal) ℓ) (ρ : Dev nD → PrngReg)

/-- The arguments, as matrices of extended reals. -/
abbrev argP (c : Dev nD) : (Mat 8208 3072).Idx → EReal := m ((c : Thread nD τ).loc main_arg0)
abbrev argW (c : Dev nD) : (Mat 1024 3072).Idx → EReal := m ((c : Thread nD τ).loc main_arg1)
abbrev argH (c : Dev nD) : (Mat 8208 1024).Idx → EReal := m ((c : Thread nD τ).loc main_arg2)
abbrev argG (c : Dev nD) : (Mat 1 1024).Idx → EReal := m ((c : Thread nD τ).loc main_arg3)
abbrev argD (c : Dev nD) : (Mat 8208 1024).Idx → EReal := m ((c : Thread nD τ).loc main_arg4)

theorem index_p : ∀ t : Fin cfg0.N, win0_0.index t (0 : Fin 2) = t.val ∧ win0_0.index t (1 : Fin 2) = 0 :=
  (by decide +kernel : ∀ t : Fin grid0.N, _)
theorem index_w : ∀ t : Fin cfg0.N, win0_1.index t (0 : Fin 2) = 0 ∧ win0_1.index t (1 : Fin 2) = 0 :=
  (by decide +kernel : ∀ t : Fin grid0.N, _)
theorem index_h : ∀ t : Fin cfg0.N, win0_2.index t (0 : Fin 2) = t.val ∧ win0_2.index t (1 : Fin 2) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_d : ∀ t : Fin cfg0.N, win0_4.index t (0 : Fin 2) = t.val ∧ win0_4.index t (1 : Fin 2) = 0 :=
  (by decide +kernel : ∀ t : Fin grid0.N, _)
theorem index_o : ∀ t : Fin cfg0.N, win0_5.index t (0 : Fin 2) = t.val ∧ win0_5.index t (1 : Fin 2) = 0 :=
  (by decide +kernel : ∀ t : Fin grid0.N, _)
theorem index_s : ∀ t : Fin cfg0.N, win0_6.index t (0 : Fin 2) = 0 ∧ win0_6.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_p (c : Dev nD) (t : Fin cfg0.N) (r : Fin 432) (q : Fin 3072) :
    at2 (a := 432) (b := 3072) (iblk m c 0 t) r q = at2 (argP m c) (rowOf t r) q := by
  obtain ⟨e0, e1⟩ := index_p t
  show argP m c (((cfg0.win 0).blk t).view.emb (ix2 r q)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 3072 + 1 * q.val = q.val; rw [e1]; omega

theorem block_w (c : Dev nD) (t : Fin cfg0.N) (j : Fin 1024) (q : Fin 3072) :
    at2 (a := 1024) (b := 3072) (iblk m c 1 t) j q = at2 (argW m c) j q := by
  obtain ⟨e0, e1⟩ := index_w t
  show argW m c (((cfg0.win 1).blk t).view.emb (ix2 j q)) = _
  refine congrArg _ (funext fun a => Fin.ext ?_)
  match a with
  | ⟨0, _⟩ => show win0_1.index t (0 : Fin 2) * 1024 + 1 * j.val = j.val; rw [e0]; omega
  | ⟨1, _⟩ => show win0_1.index t (1 : Fin 2) * 3072 + 1 * q.val = q.val; rw [e1]; omega

theorem block_h (c : Dev nD) (t : Fin cfg0.N) (r : Fin 432) (j : Fin 1024) :
    at2 (a := 432) (b := 1024) (iblk m c 2 t) r j = at2 (argH m c) (rowOf t r) j := by
  obtain ⟨e0, e1⟩ := index_h t
  show argH m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_g (c : Dev nD) (t : Fin cfg0.N) (j : Fin 1024) :
    at2 (a := 1) (b := 1024) (iblk m c 3 t) 0 j = at2 (argG m c) 0 j := by
  obtain ⟨e0, e1⟩ := index_g t
  show argG m c (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * j.val = j.val; rw [e1]; omega

theorem block_d (c : Dev nD) (t : Fin cfg0.N) (r : Fin 432) (j : Fin 1024) :
    at2 (a := 432) (b := 1024) (iblk m c 4 t) r j = at2 (argD m c) (rowOf t r) j := by
  obtain ⟨e0, e1⟩ := index_d t
  show argD m c (((cfg0.win 4).blk t).view.emb (ix2 r j)) = _
  refine congrArg _ (funext fun a => Fin.ext ?_)
  match a with
  | ⟨0, _⟩ => show win0_4.index t (0 : Fin 2) * 432 + 1 * r.val = 432 * t.val + r.val; rw [e0]; omega
  | ⟨1, _⟩ => show win0_4.index t (1 : Fin 2) * 1024 + 1 * j.val = j.val; rw [e1]; omega

/-- The gradient of the normed row `k`, before the gain: the product's gradient times the transposed weight. -/
def through (c : Dev nD) (k : Fin 8208) (j : Fin 1024) : EReal := ∑ q : Fin 3072, at2 (argP m c) k q * at2 (argW m c) j q

/-- The gradient of `h` at an entry. -/
def outAt (c : Dev nD) (k : Fin 8208) (j : Fin 1024) : EReal :=
  at2 (argD m c) k j + RowNorm.gradient (at2 (argH m c) k) (fun i => through m c k i * at2 (argG m c) 0 i) j

/-- One row's part of the gain's gradient. -/
def gainTerm (c : Dev nD) (j : Fin 1024) (k : Fin 8208) : EReal :=
  through m c k j * (at2 (argH m c) k j * RowNorm.scale (at2 (argH m c) k))

theorem row_h (c : Dev nD) (t : Fin cfg0.N) (r : Fin 432) : at2 (a := 432) (b := 1024) (iblk m c 2 t) r = at2 (argH m c) (rowOf t r) :=
  funext fun j => block_h m c t r j

theorem through_block (c : Dev nD) (t : Fin cfg0.N) (r : Fin 432) (j : Fin 1024) :
    (∑ q : Fin 3072, at2 (a := 432) (b := 3072) (iblk m c 0 t) r q * at2 (a := 1024) (b := 3072) (iblk m c 1 t) j q)
      = through m c (rowOf t r) j :=
  Finset.sum_congr rfl fun q _ => by rw [block_p, block_w]

/-- The tile a point writes. -/
theorem tile_at (c : Dev nD) (t : Fin cfg0.N) (r : Fin 432) (j : Fin 1024) :
    (outsAt0 m c t.val t.isLt).1 (ix2 r j) = outAt m c (rowOf t r) j := by
  have key : k0_pay1 (F := Ideal) (k0_pay6 (iblk m c 0 t) (iblk m c 1 t) (iblk m c 2 t) (iblk m c 3 t)) (iblk m c 4 t) (ix2 r j)
      = outAt m c (rowOf t r) j := by
    refine (tile_apply _ _ _ _ _ r j).trans ?_
    rw [block_d, row_h]
    unfold outAt
    refine congrArg (fun y => at2 (argD m c) (rowOf t r) j + RowNorm.gradient (at2 (argH m c) (rowOf t r)) y j) (funext fun k => ?_)
    rw [through_block, block_g]
  by_cases h0 : t.val % 19 = 0
  · rw [outsAt0_A m c t h0]
    dsimp only
    rw [tile_first]
    exact key
  · rw [outsAt0_B m c t h0]
    dsimp only
    rw [tile_later]
    exact key

/-- One tile's part of the gain's gradient is the next block of its terms. -/
theorem contribution (c : Dev nD) (t : Fin cfg0.N) (j : Fin 1024) :
    (∑ r : Fin 432, (∑ q : Fin 3072, at2 (a := 432) (b := 3072) (iblk m c 0 t) r q * at2 (a := 1024) (b := 3072) (iblk m c 1 t) j q)
        * (at2 (a := 432) (b := 1024) (iblk m c 2 t) r j * RowNorm.scale (at2 (a := 432) (b := 1024) (iblk m c 2 t) r)))
      = ∑ r : Fin 432, total (gainTerm m c j) (432 * t.val + r.val) := by
  refine Finset.sum_congr rfl fun r _ => ?_
  have h : 432 * t.val + r.val < 8208 := (rowOf t r).isLt
  rw [total_of_lt _ h, through_block, row_h]
  rfl

/-- The gain's gradient after point `n`: the sum over the rows of the tiles so far. -/
theorem carried (c : Dev nD) : ∀ (n : ℕ) (hn : n < cfg0.N) (j : Fin 1024),
    (outsAt0 m c n hn).2 (ix2 0 j) = upTo 432 (gainTerm m c j) (n + 1) := by
  intro n
  induction n with
  | zero =>
    intro hn j
    rw [outsAt0_A m c ⟨0, hn⟩ (Nat.zero_mod 19)]
    dsimp only
    rw [gain_first]
    refine (gain_apply _ _ _ _ j).trans ?_
    rw [cleared, zero_add, contribution m c ⟨0, hn⟩ j, upTo_succ, upTo_zero, zero_add]
  | succ n ih =>
    intro hn j
    have hN : n + 1 < 19 := lt_of_lt_of_eq hn N_0
    rw [outsAt0_B m c ⟨n + 1, hn⟩ (by show ¬(n + 1) % 19 = 0; omega)]
    dsimp only
    rw [gain_later]
    refine (gain_apply _ _ _ _ j).trans ?_
    rw [contribution m c ⟨n + 1, hn⟩ j, upTo_succ]
    exact congrArg (fun z : EReal => z + ∑ r : Fin 432, total (gainTerm m c j) (432 * (n + 1) + r.val)) (ih (Nat.lt_of_succ_lt hn) j)

/-! ## The two result arrays -/

/-- The gradient of `h`. -/
def result (c : Dev nD) : Buf (Elt Ideal) ((c : Thread nD τ).loc main_v0_0) :=
  fun i => outAt m c ⟨(i 0).val, (i 0).isLt⟩ ⟨(i 1).val, (i 1).isLt⟩

/-- The gradient of the gain. -/
def gain (c : Dev nD) : Buf (Elt Ideal) ((c : Thread nD τ).loc main_v0_1) :=
  fun i => (∑ k : Fin 8208, gainTerm m c ⟨(i 1).val, (i 1).isLt⟩ k : EReal)

theorem flushed_out (c : Dev nD) (t : Fin cfg0.N) :
    (dats m 0 c).flushed 5 t = ((cfg0.win 5).blk t).view.read (Elt Ideal) (result m c) := by
  obtain ⟨e0, e1⟩ := index_o t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show (dats m 0 c).after 5 t ((cfg0.win 5).xinj (grid0.coords t) y) = result m c (((cfg0.win 5).blk t).view.emb y)
  rw [after0_5]
  show (outsAt0 m c t.val t.isLt).1 ((cfg0.win 5).xinj (grid0.coords t) y) = result m c (((cfg0.win 5).blk t).view.emb y)
  rw [hx, tile_at]
  unfold result
  refine congrArg₂ (outAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_out (c : Dev nD) : (dats m 0 c).arrAt 5 cfg0.N = result m c :=
  (dats m 0 c).arrAt_eq_of_cover 5 (result m c) (fun t _ => flushed_out m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_o ⟨(i 0 : Nat) / 432, ht⟩
    refine ⟨⟨(i 0 : Nat) / 432, ht⟩, flush0_5 _, ?_⟩
    show i ∈ ((View.whole main_v0_0).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

theorem flushed_gain (c : Dev nD) (t : Fin cfg0.N) (hf : (cfg0.win 6).flush t = true) :
    (dats m 0 c).flushed 6 t = ((cfg0.win 6).blk t).view.read (Elt Ideal) (gain m c) := by
  have hm : t.val = 18 := by have := (flush0_6 t).mp hf; have := points t; omega
  obtain ⟨e0, e1⟩ := index_s t
  funext y
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have hx : (cfg0.win 6).xinj (grid0.coords t) y = ix2 (0 : Fin 1) (⟨(y 1).val, hy1⟩ : Fin 1024) :=
    funext fun a => Fin.ext (match a with | ⟨0, _⟩ => (by show (y 0).val = 0; omega) | ⟨1, _⟩ => rfl)
  show (dats m 0 c).after 6 t ((cfg0.win 6).xinj (grid0.coords t) y) = gain m c (((cfg0.win 6).blk t).view.emb y)
  rw [after0_6]
  show (outsAt0 m c t.val t.isLt).2 ((cfg0.win 6).xinj (grid0.coords t) y) = gain m c (((cfg0.win 6).blk t).view.emb y)
  rw [hx, carried, hm, upTo_all 432 _ 19 rfl]
  unfold gain
  refine Finset.sum_congr rfl fun k _ => congrArg (fun j => gainTerm m c j k) (Fin.ext ?_)
  show (y 1).val = (((cfg0.win 6).blk t).view.emb y 1).val
  rw [hb1, e1]; omega

theorem final_gain (c : Dev nD) : (dats m 0 c).arrAt 6 cfg0.N = gain m c :=
  (dats m 0 c).arrAt_eq_of_cover 6 (gain m c) (flushed_gain m c) fun i => by
    have h0 : (i 0 : Nat) < 1 := (i 0).isLt
    have h1 : (i 1 : Nat) < 1024 := (i 1).isLt
    have ht : 18 < cfg0.N := by show _ < grid0.N; rw [N_0]; omega
    obtain ⟨e0, e1⟩ := index_s ⟨18, ht⟩
    refine ⟨⟨18, ht⟩, (flush0_6 _).mpr rfl, ?_⟩
    show i ∈ ((View.whole main_v0_1).slice (win0_6.rect ⟨18, ht⟩)).set
    rw [View.set_slice_whole, Rect.mem_set_unit]
    intro a
    match a with
    | ⟨0, _⟩ =>
      show win0_6.index ⟨18, ht⟩ (0 : Fin 2) * 1 ≤ (i 0).val ∧ (i 0).val < win0_6.index ⟨18, ht⟩ (0 : Fin 2) * 1 + 1
      rw [e0]; omega
    | ⟨1, _⟩ =>
      show win0_6.index ⟨18, ht⟩ (1 : Fin 2) * 1024 ≤ (i 1).val ∧ (i 1).val < win0_6.index ⟨18, ht⟩ (1 : Fin 2) * 1024 + 1024
      rw [e1]; omega

/-! ## The first 16 rows and those behind them -/

/-- The gradient of the layer's input, without the 16 rows before the tokens. -/
def tokens (c : Dev nD) : Buf (Elt Ideal) ((c : Thread nD τ).loc main_v1) :=
  extractStridedSlice S8192x1024 ![16, 0] (result m c) slices_S8208x1024_S8192x1024_16_0

/-- The gradient of the 16 rows before the tokens. -/
def before (c : Dev nD) : Buf (Elt Ideal) ((c : Thread nD τ).loc main_v2) :=
  extractStridedSlice S16x1024 ![0, 0] (result m c) slices_S8208x1024_S16x1024_0_0

theorem arrays_distinct : Function.Injective (Pipeline.arrRef spec0) := by decide

/-- The first line behind the kernel takes the tokens' rows. -/
theorem tail_tokens (c : Dev nD) : Pipeline.afterTail₀ cfgs (dats m) 0 (V0 m) [hostOps1] c main_v1 = tokens m c := by
  have hw : Pipeline.withArrays spec0 c (V0 m c) (fun w => (dats m 0 c).arrAt w cfg0.N) (Proc.devRef .tc main_v0_0) = result m c :=
    (Pipeline.withArrays_arr spec0 arrays_distinct c (V0 m c) (fun w => (dats m 0 c).arrAt w cfg0.N) 5).trans (final_out m c)
  unfold tokens
  rw [← hw]
  unfold Pipeline.afterTail₀
  show StableHlo.after (List.flatten [hostOps1]) (Pipeline.withArrays spec0 c (V0 m c) fun w => (dats m 0 c).arrAt w cfg0.N)
    (Proc.devRef .tc main_v1) = _
  generalize Pipeline.withArrays spec0 c (V0 m c) (fun w => (dats m 0 c).arrAt w cfg0.N) = W
  simp only [List.flatten_cons, List.flatten_nil, List.append_nil]
  after_results

/-- The second takes the rows before them. -/
theorem tail_before (c : Dev nD) : Pipeline.afterTail₀ cfgs (dats m) 0 (V0 m) [hostOps1] c main_v2 = before m c := by
  have hw : Pipeline.withArrays spec0 c (V0 m c) (fun w => (dats m 0 c).arrAt w cfg0.N) (Proc.devRef .tc main_v0_0) = result m c :=
    (Pipeline.withArrays_arr spec0 arrays_distinct c (V0 m c) (fun w => (dats m 0 c).arrAt w cfg0.N) 5).trans (final_out m c)
  unfold before
  rw [← hw]
  unfold Pipeline.afterTail₀
  show StableHlo.after (List.flatten [hostOps1]) (Pipeline.withArrays spec0 c (V0 m c) fun w => (dats m 0 c).arrAt w cfg0.N)
    (Proc.devRef .tc main_v2) = _
  generalize Pipeline.withArrays spec0 c (V0 m c) (fun w => (dats m 0 c).arrAt w cfg0.N) = W
  simp only [List.flatten_cons, List.flatten_nil, List.append_nil]
  after_results

/-! ## The derivative of the plain lines -/

section Plain

open Cert.Reference5Ideal.Read

variable (x0 : (Mat 8208 3072).Idx → EReal) (x1 : (Mat 1024 3072).Idx → EReal) (x2 : (Mat 8208 1024).Idx → EReal)
  (x3 : (Mat 1 1024).Idx → EReal) (x4 : (Mat 8208 1024).Idx → EReal)

theorem plain_square (k : Fin 8208) : val_main_v6 (F := Ideal) x2 (ix2 k 0) = RowNorm.meanSquare (at2 x2 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x2 (funext fun a => ?_))
  match a with
  | ⟨0, _⟩ => rfl
  | ⟨1, _⟩ => rfl

theorem plain_scale (k : Fin 8208) : val_main_v7 (F := Ideal) x2 (ix2 k 0) = RowNorm.scale (at2 x2 k) := by
  rw [val_main_v7_apply, plain_square]; rfl

theorem plain_factor (k : Fin 8208) : val_main_v10 (F := Ideal) x2 (ix2 k 0)
    = RowNorm.minusHalf * Ideal.div (RowNorm.scale (at2 x2 k)) (RowNorm.meanSquare (at2 x2 k)) := by
  rw [val_main_v10_apply, val_main_v8_apply, plain_square, plain_scale]; rfl

theorem plain_normed (k : Fin 8208) (j : Fin 1024) : val_main_v12 (F := Ideal) x2 (ix2 k j)
    = at2 x2 k j * RowNorm.scale (at2 x2 k) := by
  rw [val_main_v12_apply, val_main_v11_apply]
  refine congrArg (fun z : EReal => at2 x2 k j * z) (Eq.trans (congrArg (val_main_v7 (F := Ideal) x2) ?_) (plain_scale x2 k))
  funext a
  match a with
  | ⟨0, _⟩ => rfl
  | ⟨1, _⟩ => rfl

theorem plain_product (k : Fin 8208) (j : Fin 1024) : val_main_v18 (F := Ideal) x0 x1 (ix2 k j)
    = (∑ q : Fin 3072, at2 x0 k q * at2 x1 j q : EReal) := by
  rw [val_main_v18_apply]
  refine Finset.sum_congr rfl fun q _ => ?_
  rw [val_main_v17_apply, val_main_v15_apply]
  refine congrArg₂ (fun u v : EReal => u * v) (congrArg x0 ?_) (congrArg x1 ?_)
  · funext a
    match a with
    | ⟨0, _⟩ => rfl
    | ⟨1, _⟩ => rfl
  · funext a
    match a with
    | ⟨0, _⟩ => rfl
    | ⟨1, _⟩ => rfl

theorem plain_gained (k : Fin 8208) (j : Fin 1024) : val_main_v23 (F := Ideal) x0 x1 x3 (ix2 k j)
    = (∑ q : Fin 3072, at2 x0 k q * at2 x1 j q : EReal) * at2 x3 0 j := by
  rw [val_main_v23_apply, plain_product, val_main_v22_apply]
  refine congrArg (fun z : EReal => (∑ q : Fin 3072, at2 x0 k q * at2 x1 j q : EReal) * z) (congrArg x3 ?_)
  funext a
  match a with
  | ⟨0, _⟩ => rfl
  | ⟨1, _⟩ => rfl

/-- The gain's gradient, as the plain lines give it. -/
theorem plain_gain (u : Fin 1) (j : Fin 1024) : val_main_v21 (F := Ideal) x0 x1 x2 (ix2 u j)
    = ∑ k : Fin 8208, (∑ q : Fin 3072, at2 x0 k q * at2 x1 j q : EReal) * (at2 x2 k j * RowNorm.scale (at2 x2 k)) := by
  rw [val_main_v21_apply, val_main_v20_apply]
  show RowNorm.zero + ∑ k : Fin 8208, _ = _
  rw [RowNorm.zero_eq, zero_add]
  refine Finset.sum_congr rfl fun k _ => ?_
  have e : idx_main_v20 (idx_main_v21 (ix2 u j)) k = ix2 k j := funext fun a => Fin.ext (by
    match a with
    | ⟨0, _⟩ => rfl
    | ⟨1, _⟩ => show u.val * 1024 + j.val = j.val; have := u.isLt; omega)
  rw [e, val_main_v19_apply, plain_normed, plain_product]
  exact mul_comm _ _

theorem plain_cross (k : Fin 8208) : val_main_v33 (F := Ideal) x0 x1 x2 x3 (ix1 k)
    = RowNorm.crossFactor (at2 x2 k) (fun i => (∑ q : Fin 3072, at2 x0 k q * at2 x1 i q : EReal) * at2 x3 0 i) := by
  rw [val_main_v33_apply]
  unfold RowNorm.crossFactor
  refine congrArg (fun z : EReal => RowNorm.zero + z) (Finset.sum_congr rfl fun u _ => ?_)
  have e : idx_main_v33 (ix1 k) u = ix2 k 0 := funext fun a => Fin.ext (by
    match a with
    | ⟨0, _⟩ => rfl
    | ⟨1, _⟩ => show u.val = 0; have := u.isLt; omega)
  rw [e, val_main_v32_apply, val_main_v30_apply, plain_factor, val_main_v26_apply, val_main_v25_apply]
  refine congrArg (fun z : EReal => Ideal.div ((RowNorm.zero + z)
    * (RowNorm.minusHalf * Ideal.div (RowNorm.scale (at2 x2 k)) (RowNorm.meanSquare (at2 x2 k)))) RowNorm.width)
    (Finset.sum_congr rfl fun i _ => ?_)
  have e' : idx_main_v25 (idx_main_v26 (ix2 k 0)) i = ix2 k i := funext fun a => Fin.ext (by
    match a with
    | ⟨0, _⟩ => show k.val * 1 + 0 = k.val; omega
    | ⟨1, _⟩ => rfl)
  rw [e', val_main_v24_apply, plain_gained]
  rfl

/-- The gradient of `h`, as the plain lines give it. -/
theorem plain_out (k : Fin 8208) (j : Fin 1024) : val_main_v38 (F := Ideal) x0 x1 x2 x3 x4 (ix2 k j)
    = at2 x4 k j + RowNorm.gradient (at2 x2 k) (fun i => (∑ q : Fin 3072, at2 x0 k q * at2 x1 i q : EReal) * at2 x3 0 i) j := by
  have e27 : idx_main_v27 (ix2 k j) = ix2 k 0 := funext fun a => by
    match a with
    | ⟨0, _⟩ => rfl
    | ⟨1, _⟩ => rfl
  have e34 : idx_main_v34 (ix2 k j) = ix1 k := funext fun a => by
    match a with
    | ⟨0, _⟩ => rfl
  rw [val_main_v38_apply, val_main_v36_apply, val_main_v37_apply, val_main_v35_apply, val_main_v34_apply, val_main_v29_apply,
    val_main_v28_apply, val_main_v27_apply, e27, e34, plain_scale, plain_cross, plain_gained, RowNorm.gradient_eq]
  unfold RowNorm.derivative
  refine (congrArg (fun z : EReal => z + _) (add_assoc (at2 x4 k j) _ _)).trans ?_
  exact add_assoc (at2 x4 k j) _ _

end Plain

theorem plain_result (c : Dev nD) : Cert.Reference5Ideal.Read.val_main_v38 (F := Ideal) (argP m c) (argW m c) (argH m c) (argG m c) (argD m c)
    = result m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_out _ _ _ _ _ _ _

theorem plain_gain_result (c : Dev nD) : Cert.Reference5Ideal.Read.val_main_v21 (F := Ideal) (argP m c) (argW m c) (argH m c)
    = gain m c := by
  funext i
  have hi : i = ix2 (⟨(i 0).val, (i 0).isLt⟩ : Fin 1) (⟨(i 1).val, (i 1).isLt⟩ : Fin 1024) :=
    funext fun a => by
      match a with
      | ⟨0, _⟩ => rfl
      | ⟨1, _⟩ => rfl
  rw [hi]
  exact plain_gain _ _ _ _ _

/-- The kernel and the lines behind it compute the derivative of the normed product, and of its gain. -/
theorem algebraic : Cert.algebraic_Kernel5Ideal_Reference5Ideal := by
  intro m ρ m' ρ' _ hargs
  refine ⟨fun c => tokens m c, fun c => before m c, fun c => gain m c, ?_, ?_⟩
  · exact (θ_run _ _ _).mono (fun r h c =>
      ⟨((h c).2 main_v1 (Pipeline.mem_restRefs_of main_v1 (by decide) (by decide))).trans (tail_tokens m c),
       ((h c).2 main_v2 (Pipeline.mem_restRefs_of main_v2 (by decide) (by decide))).trans (tail_before m c),
       ((h c).1 6).trans (final_gain m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c))),
       ((h c).1 4).trans (((dats m 0 c).arrAt_in 4 rfl _).trans ((A_eq m c 4).trans (V_main_arg4 m c)))⟩)
      (run_main (F := Ideal) m ρ)
  · refine (θ_run _ _ _).mono (fun r h c => ⟨(h c).1.trans ?_, (h c).2.1.trans ?_, (h c).2.2.1.trans ?_, (h c).2.2.2⟩)
      (Cert.Reference5Ideal.Value.run (F := Ideal) m' ρ')
    · rw [Cert.Reference5Ideal.Read.val_main_v39_eq, (hargs c).1, (hargs c).2.1, (hargs c).2.2.1, (hargs c).2.2.2.1, (hargs c).2.2.2.2]
      exact congrArg (fun z => extractStridedSlice S8192x1024 ![16, 0] z slices_S8208x1024_S8192x1024_16_0) (plain_result m c)
    · rw [Cert.Reference5Ideal.Read.val_main_v40_eq, (hargs c).1, (hargs c).2.1, (hargs c).2.2.1, (hargs c).2.2.2.1, (hargs c).2.2.2.2]
      exact congrArg (fun z => extractStridedSlice S16x1024 ![0, 0] z slices_S8208x1024_S16x1024_0_0) (plain_result m c)
    · rw [(hargs c).1, (hargs c).2.1, (hargs c).2.2.1]
      exact (Cert.Reference5Ideal.Read.val_main_v21_eq _ _ _).trans (plain_gain_result m c)

end Cert.Kernel5Ideal.NormedProductGrad

end
-- ==== Proof.ProductNormGrad6.lean ====
/-
  The gradient of a normed result behind a product, `h + rms_norm(a · w, g)`: the kernel takes a tile of 432 rows of the
  gradient back through the norm, multiplies it by the transposed weight, and adds up over its 19 tiles the gradient of the
  norm's gain. Over the extended reals the tiles hold what the derivatives of the plain lines hold, row by row, and the
  gain's gradient is the sum over all rows.
-/
module

public import proofs.«01_k».proof.Defs
public import proofs.«01_k».proof.Proof.Sums
public import proofs.«01_k».proof.Proof.NormTile
public import proofs.«01_k».proof.Proof.Gen.Kernel6Ideal.Value
public import proofs.«01_k».proof.Proof.Gen.Reference6Ideal.Run
public import proofs.«01_k».proof.Proof.Gen.Reference6Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel6Ideal.ProductNormGrad

open Cert.Kernel6Ideal Cert.Kernel6Ideal.Gen Cert.Kernel6Ideal.Value
open Idealize.ShloMosaic Idealize.ShloMosaic.TcCoe Idealize.SL.Sem
open Idealize.ShloMosaic.ValueIdx
open Cert.Sums Cert.NormTile

theorem hz : (![0, 0] : Fin 2 → Nat) = fun _ => 0 := funext fun a => by fin_cases a <;> rfl

section Steps

variable {F : FTy → Type} [FloatOps F]
variable (c : Dev nD) (i : grid0.Coords) (a1 : Memref sig .tc .vmem S432x1024 .f32) (h1 : a1.IsWhole)
  (a2 : Memref sig .tc .vmem S1x1024 .f32) (h2 : a2.IsWhole) (a3 : Memref sig .tc .vmem S432x1024 .f32) (h3 : a3.IsWhole)
  (a4 : Memref sig .tc .vmem S1536x1024 .bf16) (h4 : a4.IsWhole) (a5 : Memref sig .tc .vmem S432x1536 .f32) (h5 : a5.IsWhole)
  (a6 : Memref sig .tc .vmem S432x1024 .bf16) (h6 : a6.IsWhole) (a7 : Memref sig .tc .vmem S1x1024 .f32) (h7 : a7.IsWhole)
  (x0 : Vec F S432x1024 .f32) (x1 : Vec F S1x1024 .f32) (x2 : Vec F S432x1024 .f32) (x3 : Vec F S1536x1024 .bf16)
  (s : Vec F S1x1024 .f32)

/-- The tile of the norm's gradient the first point writes. -/
theorem grad_first (hc : cond0_0 i) :
    out0_A_5 c i a1 h1 a2 h2 a3 h3 a4 h4 a5 h5 a6 h6 a7 h7 hc x0 x1 x2 x3 = k0_pay6 x2 x0 x1 := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S432x1024) hz, View.ld_unit_zero (S := S1x1024) hz]

/-- The tile of the norm's gradient a later point writes. -/
theorem grad_later (hc : ¬cond0_0 i) :
    out0_B_5 c i a1 h1 a2 h2 a3 h3 a4 h4 a5 h5 a6 h6 a7 h7 hc x0 x1 x2 x3 s = k0_pay6 x2 x0 x1 := by
  unfold out0_B_5
  rw [View.read_writes_eq_canon _ _ _ (cover0_B_5 c i a1 h1 a2 h2 a3 h3 a4 h4 a5 h5 a6 h6 a7 h7 hc x0 x1 x2 x3 s)]
  unfold kernelRun0_B
  dsimp only
  sl_unfold_words
  rw [View.canon_unit_zero hz]
  simp only [View.readAt_eq_ld, h1.read_unread, h2.read_unread, h3.read_unread, h4.read_unread,
    View.ld_unit_zero (S := S432x1024) hz, View.ld_unit_zero (S := S1x1024) hz]

/-- The first point clears the gain's gradient and adds its tile's part. -/
theorem gain_first (hc : cond0_0 i) :
    out0_A_6 c i a1 h1 a2 h2 a3 h3 a4 h4 a5 h5 a6 h6 a7 h7 hc x0 x1 x2 x3 = k0_pay5 x2 x0 k0_pay2 := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread,
    View.ld_unit_zero (S := S432x1024) hz, View.ld_unit_zero (S := S1x1024) hz]

/-- A later point adds its tile's part. -/
theorem gain_later (hc : ¬cond0_0 i) :
    out0_B_6 c i a1 h1 a2 h2 a3 h3 a4 h4 a5 h5 a6 h6 a7 h7 hc x0 x1 x2 x3 s = k0_pay5 x2 x0 s := by
  unfold out0_B_6
  rw [View.read_writes_eq_canon _ _ _ (cover0_B_6 c i a1 h1 a2 h2 a3 h3 a4 h4 a5 h5 a6 h6 a7 h7 hc x0 x1 x2 x3 s)]
  unfold kernelRun0_B
  dsimp only
  sl_unfold_words
  rw [View.canon_unit_zero hz]
  simp only [View.readAt_eq_ld, h1.read_unread, h2.read_unread, h3.read_unread, h4.read_unread, h7.read_unread,
    View.ld_unit_zero (S := S432x1024) hz, View.ld_unit_zero (S := S1x1024) hz]

end Steps

/-! ## A tile's numbers -/

/-- A chunk of 1536 columns of the product with the transposed weight. -/
theorem k0_pay1_apply (v : Vec Ideal S432x1024 .bf16) (w : Vec Ideal S1536x1024 .bf16) (x : S432x1536.Idx) :
    k0_pay1 (F := Ideal) v w x = (∑ q : Fin 1024, at2 v (x 0) q * at2 w (x 1) q : EReal) := by
  obtain ⟨a, b, rfl⟩ : ∃ (a : Fin 432) (b : Fin 1536), x = ix2 a b := ⟨x 0, x 1, eq_ix2 x⟩
  unfold k0_pay1
  refine (Ideal.matmul_transposedRhs_apply (M := 432) (K := 1024) (N := 1536) (φ₁ := .bf16) (φ₂ := .bf16) none v w
    (constant S432x1536 .f32 0x00000000#32) a b).trans ?_
  show Ideal.ofBits .f32 0x00000000#32 + _ = _
  rw [Ideal.ofBits_zero_f32, zero_add]

/-- The norm's gradient on a tile, at an entry. -/
theorem grad_apply (x0 : Vec Ideal S432x1024 .f32) (x1 : Vec Ideal S1x1024 .f32) (x2 : Vec Ideal S432x1024 .f32)
    (r : Fin 432) (j : Fin 1024) :
    k0_pay6 (F := Ideal) x2 x0 x1 (ix2 r j) = RowNorm.gradient (at2 x0 r) (fun k => at2 x2 r k * at2 x1 0 k) j :=
  gradientTile_apply reduces_S432x1024_S432 shapeCasts_S432_S432x1 broadcasts_S432x1_S432x1024 broadcasts_S1x1024_S432x1024
    (.inl rfl) rfl x2 x0 x1 r j

/-- The gain's gradient after a tile, at an entry. -/
theorem gain_apply (x0 : Vec Ideal S432x1024 .f32) (x2 : Vec Ideal S432x1024 .f32) (s : Vec Ideal S1x1024 .f32) (j : Fin 1024) :
    k0_pay5 (F := Ideal) x2 x0 s (ix2 0 j)
      = at2 s 0 j + ∑ r : Fin 432, at2 x2 r j * (at2 x0 r j * RowNorm.scale (at2 x0 r)) :=
  gainTile_apply reduces_S432x1024_S432 shapeCasts_S432_S432x1 broadcasts_S432x1_S432x1024 (.inl rfl) rfl
    reduces_S432x1024_S1024 shapeCasts_S1024_S1x1024 shapeCasts_S1x1024_S1x1024 s x2 x0 0 j

/-- The cleared gain's gradient is zero. -/
theorem cleared (j : Fin 1024) : at2 (k0_pay2 (F := Ideal)) 0 j = 0 := Ideal.ofBits_zero_f32

section Wide

variable (c : Dev nD) (i : grid0.Coords) (a1 : Memref sig .tc .vmem S432x1024 .f32) (h1 : a1.IsWhole)
  (a2 : Memref sig .tc .vmem S1x1024 .f32) (h2 : a2.IsWhole) (a3 : Memref sig .tc .vmem S432x1024 .f32) (h3 : a3.IsWhole)
  (a4 : Memref sig .tc .vmem S1536x1024 .bf16) (h4 : a4.IsWhole) (a5 : Memref sig .tc .vmem S432x1536 .f32) (h5 : a5.IsWhole)
  (a6 : Memref sig .tc .vmem S432x1024 .bf16) (h6 : a6.IsWhole) (a7 : Memref sig .tc .vmem S1x1024 .f32) (h7 : a7.IsWhole)
  (x0 : Vec Ideal S432x1024 .f32) (x1 : Vec Ideal S1x1024 .f32) (x2 : Vec Ideal S432x1024 .f32) (x3 : Vec Ideal S1536x1024 .bf16)
  (s : Vec Ideal S1x1024 .f32)

/-- One chunk's entries: columns `off …` of the product. -/
theorem chunk_at (r : Fin 432) (p : Fin 1536) (off : ℕ) (w : Vec Ideal S1536x1024 .bf16) (x : S432x1536.Idx)
    (hr : r.val = 0 + (x 0).val) (hp : p.val = off + (x 1).val) (y : EReal)
    (hy : y = (∑ q : Fin 1024, at2 (k0_pay6 (F := Ideal) x2 x0 x1) (x 0) q * at2 w (x 1) q : EReal))
    (hw : ∀ q : Fin 1024, off + 1 * (x 1).val = p.val → at2 w (x 1) q = at2 x3 p q) :
    y = (∑ q : Fin 1024, RowNorm.gradient (at2 x0 r) (fun k => at2 x2 r k * at2 x1 0 k) q * at2 x3 p q : EReal) := by
  have er : (x 0 : Fin 432) = r := Fin.ext (by omega)
  rw [hy]
  refine Finset.sum_congr rfl fun q _ => ?_
  rw [hw q (by omega)]
  refine congrArg (fun z : EReal => z * at2 x3 p q) (Eq.trans ?_ (grad_apply x0 x1 x2 r q))
  exact congrArg (fun r' => at2 (k0_pay6 (F := Ideal) x2 x0 x1) r' q) er

/-- What the first point writes of the wide result. -/
theorem wide_first (hc : cond0_0 i) (r : Fin 432) (p : Fin 1536) :
    out0_A_4 (F := Ideal) c i a1 h1 a2 h2 a3 h3 a4 h4 a5 h5 a6 h6 a7 h7 hc x0 x1 x2 x3 (ix2 r p)
      = (∑ q : Fin 1024, RowNorm.gradient (at2 x0 r) (fun k => at2 x2 r k * at2 x1 0 k) q * at2 x3 p q : EReal) := by
  unfold out0_A_4
  rw [View.read_writes_eq_canon _ _ _ (cover0_A_4 c i a1 h1 a2 h2 a3 h3 a4 h4 a5 h5 a6 h6 a7 h7 hc x0 x1 x2 x3)]
  refine View.canon_eq_of_allAt _ _ _ (cover0_A_4 c i a1 h1 a2 h2 a3 h3 a4 h4 a5 h5 a6 h6 a7 h7 hc x0 x1 x2 x3 _) ?_
  unfold kernelRun0_A
  dsimp only
  sl_unfold_words
  simp only [View.readAt_eq_ld, h1.read_unread, h2.read_unread, h3.read_unread, h4.read_unread,
    View.ld_unit_zero (S := S432x1024) hz, View.ld_unit_zero (S := S1x1024) hz]
  refine View.allAt_cons_unit _ _ _ _ _ (fun x hx => chunk_at x0 x1 x2 x3 r p 0 _ x (hx 0) (hx 1) _ (k0_pay1_apply _ _ x) fun q hq => ?_) ?_
  · refine congrArg x3 (funext fun a => Fin.ext ?_)
    match a with
    | ⟨0, _⟩ => show 0 + 1 * (x 1).val = p.val; exact hq
    | ⟨1, _⟩ => show 0 + 1 * q.val = q.val; omega
  exact View.allAt_nil _ _

/-- What a later point writes of it. -/
theorem wide_later (hc : ¬cond0_0 i) (r : Fin 432) (p : Fin 1536) :
    out0_B_4 (F := Ideal) c i a1 h1 a2 h2 a3 h3 a4 h4 a5 h5 a6 h6 a7 h7 hc x0 x1 x2 x3 s (ix2 r p)
      = (∑ q : Fin 1024, RowNorm.gradient (at2 x0 r) (fun k => at2 x2 r k * at2 x1 0 k) q * at2 x3 p q : EReal) := by
  unfold out0_B_4
  rw [View.read_writes_eq_canon _ _ _ (cover0_B_4 c i a1 h1 a2 h2 a3 h3 a4 h4 a5 h5 a6 h6 a7 h7 hc x0 x1 x2 x3 s)]
  refine View.canon_eq_of_allAt _ _ _ (cover0_B_4 c i a1 h1 a2 h2 a3 h3 a4 h4 a5 h5 a6 h6 a7 h7 hc x0 x1 x2 x3 s _) ?_
  unfold kernelRun0_B
  dsimp only
  sl_unfold_words
  simp only [View.readAt_eq_ld, h1.read_unread, h2.read_unread, h3.read_unread, h4.read_unread,
    View.ld_unit_zero (S := S432x1024) hz, View.ld_unit_zero (S := S1x1024) hz]
  refine View.allAt_cons_unit _ _ _ _ _ (fun x hx => chunk_at x0 x1 x2 x3 r p 0 _ x (hx 0) (hx 1) _ (k0_pay1_apply _ _ x) fun q hq => ?_) ?_
  · refine congrArg x3 (funext fun a => Fin.ext ?_)
    match a with
    | ⟨0, _⟩ => show 0 + 1 * (x 1).val = p.val; exact hq
    | ⟨1, _⟩ => show 0 + 1 * q.val = q.val; omega
  exact View.allAt_nil _ _

end Wide

/-! ## Over the grid -/

variable (m : (ℓ : Loc nD τ sig) → Buf (Elt Ideal) ℓ) (ρ : Dev nD → PrngReg)

/-- The arguments, as matrices of extended reals. -/
abbrev argF (c : Dev nD) : (Mat 8208 1024).Idx → EReal := m ((c : Thread nD τ).loc main_arg0)
abbrev argG (c : Dev nD) : (Mat 1 1024).Idx → EReal := m ((c : Thread nD τ).loc main_arg1)
abbrev argW (c : Dev nD) : (Mat 1536 1024).Idx → EReal := m ((c : Thread nD τ).loc main_arg2)
abbrev argY (c : Dev nD) : (Mat 8208 1024).Idx → EReal := m ((c : Thread nD τ).loc main_arg3)

theorem index_f : ∀ t : Fin cfg0.N, win0_0.index t (0 : Fin 2) = t.val ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_y : ∀ t : Fin cfg0.N, win0_2.index t (0 : Fin 2) = t.val ∧ win0_2.index t (1 : Fin 2) = 0 :=
  (by decide +kernel : ∀ t : Fin grid0.N, _)
theorem index_w : ∀ t : Fin cfg0.N, win0_3.index t (0 : Fin 2) = 0 ∧ win0_3.index t (1 : Fin 2) = 0 :=
  (by decide +kernel : ∀ t : Fin grid0.N, _)
theorem index_a : ∀ t : Fin cfg0.N, win0_4.index t (0 : Fin 2) = t.val ∧ win0_4.index t (1 : Fin 2) = 0 :=
  (by decide +kernel : ∀ t : Fin grid0.N, _)
theorem index_o : ∀ t : Fin cfg0.N, win0_5.index t (0 : Fin 2) = t.val ∧ win0_5.index t (1 : Fin 2) = 0 :=
  (by decide +kernel : ∀ t : Fin grid0.N, _)
theorem index_s : ∀ t : Fin cfg0.N, win0_6.index t (0 : Fin 2) = 0 ∧ win0_6.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_f (c : Dev nD) (t : Fin cfg0.N) (r : Fin 432) (j : Fin 1024) :
    at2 (a := 432) (b := 1024) (iblk m c 0 t) r j = at2 (argF m c) (rowOf t r) j := by
  obtain ⟨e0, e1⟩ := index_f t
  show argF m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1024 + 1 * j.val = j.val; rw [e1]; omega

theorem block_g (c : Dev nD) (t : Fin cfg0.N) (j : Fin 1024) :
    at2 (a := 1) (b := 1024) (iblk m c 1 t) 0 j = at2 (argG m c) 0 j := by
  obtain ⟨e0, e1⟩ := index_g t
  show argG m c (((cfg0.win 1).blk t).view.emb (ix2 0 j)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 1024 + 1 * j.val = j.val; rw [e1]; omega

theorem block_y (c : Dev nD) (t : Fin cfg0.N) (r : Fin 432) (j : Fin 1024) :
    at2 (a := 432) (b := 1024) (iblk m c 2 t) r j = at2 (argY m c) (rowOf t r) j := by
  obtain ⟨e0, e1⟩ := index_y t
  show argY m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_w (c : Dev nD) (t : Fin cfg0.N) (r : Fin 1536) (j : Fin 1024) :
    at2 (a := 1536) (b := 1024) (iblk m c 3 t) r j = at2 (argW m c) r j := by
  obtain ⟨e0, e1⟩ := index_w t
  show argW m c (((cfg0.win 3).blk t).view.emb (ix2 r j)) = _
  refine congrArg _ (funext fun a => Fin.ext ?_)
  match a with
  | ⟨0, _⟩ => show win0_3.index t (0 : Fin 2) * 1536 + 1 * r.val = r.val; rw [e0]; omega
  | ⟨1, _⟩ => show win0_3.index t (1 : Fin 2) * 1024 + 1 * j.val = j.val; rw [e1]; omega

theorem row_f (c : Dev nD) (t : Fin cfg0.N) (r : Fin 432) : at2 (a := 432) (b := 1024) (iblk m c 0 t) r = at2 (argF m c) (rowOf t r) :=
  funext fun j => block_f m c t r j

/-- The norm's gradient at an entry. -/
def gradAt (c : Dev nD) (k : Fin 8208) (j : Fin 1024) : EReal :=
  RowNorm.gradient (at2 (argF m c) k) (fun i => at2 (argY m c) k i * at2 (argG m c) 0 i) j

/-- The product with the transposed weight at an entry. -/
def wideAt (c : Dev nD) (k : Fin 8208) (p : Fin 1536) : EReal := ∑ q : Fin 1024, gradAt m c k q * at2 (argW m c) p q

/-- One row's part of the gain's gradient. -/
def gainTerm (c : Dev nD) (j : Fin 1024) (k : Fin 8208) : EReal :=
  at2 (argY m c) k j * (at2 (argF m c) k j * RowNorm.scale (at2 (argF m c) k))

theorem grad_block (c : Dev nD) (t : Fin cfg0.N) (r : Fin 432) (j : Fin 1024) :
    RowNorm.gradient (at2 (a := 432) (b := 1024) (iblk m c 0 t) r)
      (fun k => at2 (a := 432) (b := 1024) (iblk m c 2 t) r k * at2 (a := 1) (b := 1024) (iblk m c 1 t) 0 k) j
      = gradAt m c (rowOf t r) j := by
  rw [row_f]
  unfold gradAt
  refine congrArg (fun y => RowNorm.gradient (at2 (argF m c) (rowOf t r)) y j) (funext fun k => ?_)
  rw [block_y, block_g]

/-- The tile of the norm's gradient a point writes. -/
theorem grad_at (c : Dev nD) (t : Fin cfg0.N) (r : Fin 432) (j : Fin 1024) :
    (outsAt0 m c t.val t.isLt).2.1 (ix2 r j) = gradAt m c (rowOf t r) j := by
  by_cases h0 : t.val % 19 = 0
  · rw [outsAt0_A m c t h0]
    dsimp only
    rw [grad_first]
    exact (grad_apply _ _ _ r j).trans (grad_block m c t r j)
  · rw [outsAt0_B m c t h0]
    dsimp only
    rw [grad_later]
    exact (grad_apply _ _ _ r j).trans (grad_block m c t r j)

/-- The tile of the wide result a point writes. -/
theorem wide_at (c : Dev nD) (t : Fin cfg0.N) (r : Fin 432) (p : Fin 1536) :
    (outsAt0 m c t.val t.isLt).1 (ix2 r p) = wideAt m c (rowOf t r) p := by
  by_cases h0 : t.val % 19 = 0
  · rw [outsAt0_A m c t h0]
    dsimp only
    rw [wide_first]
    exact Finset.sum_congr rfl fun q _ => by rw [grad_block, block_w]
  · rw [outsAt0_B m c t h0]
    dsimp only
    rw [wide_later]
    exact Finset.sum_congr rfl fun q _ => by rw [grad_block, block_w]

/-- One tile's part of the gain's gradient is the next block of its terms. -/
theorem contribution (c : Dev nD) (t : Fin cfg0.N) (j : Fin 1024) :
    (∑ r : Fin 432, at2 (a := 432) (b := 1024) (iblk m c 2 t) r j
        * (at2 (a := 432) (b := 1024) (iblk m c 0 t) r j * RowNorm.scale (at2 (a := 432) (b := 1024) (iblk m c 0 t) r)))
      = ∑ r : Fin 432, total (gainTerm m c j) (432 * t.val + r.val) := by
  refine Finset.sum_congr rfl fun r _ => ?_
  have h : 432 * t.val + r.val < 8208 := (rowOf t r).isLt
  rw [total_of_lt _ h, block_y, row_f]
  rfl

/-- The gain's gradient after point `n`: the sum over the rows of the tiles so far. -/
theorem carried (c : Dev nD) : ∀ (n : ℕ) (hn : n < cfg0.N) (j : Fin 1024),
    (outsAt0 m c n hn).2.2 (ix2 0 j) = upTo 432 (gainTerm m c j) (n + 1) := by
  intro n
  induction n with
  | zero =>
    intro hn j
    rw [outsAt0_A m c ⟨0, hn⟩ (Nat.zero_mod 19)]
    dsimp only
    rw [gain_first]
    refine (gain_apply _ _ _ j).trans ?_
    rw [cleared, zero_add, contribution m c ⟨0, hn⟩ j, upTo_succ, upTo_zero, zero_add]
  | succ n ih =>
    intro hn j
    have hN : n + 1 < 19 := lt_of_lt_of_eq hn N_0
    rw [outsAt0_B m c ⟨n + 1, hn⟩ (by show ¬(n + 1) % 19 = 0; omega)]
    dsimp only
    rw [gain_later]
    refine (gain_apply _ _ _ j).trans ?_
    rw [contribution m c ⟨n + 1, hn⟩ j, upTo_succ]
    exact congrArg (fun z : EReal => z + ∑ r : Fin 432, total (gainTerm m c j) (432 * (n + 1) + r.val)) (ih (Nat.lt_of_succ_lt hn) j)

/-! ## The three result arrays -/

/-- The gradient of the product's left factor. -/
def wide (c : Dev nD) : Buf (Elt Ideal) ((c : Thread nD τ).loc main_v0_0) :=
  fun i => wideAt m c ⟨(i 0).val, (i 0).isLt⟩ ⟨(i 1).val, (i 1).isLt⟩

/-- The gradient of the norm's argument. -/
def result (c : Dev nD) : Buf (Elt Ideal) ((c : Thread nD τ).loc main_v0_1) :=
  fun i => gradAt m c ⟨(i 0).val, (i 0).isLt⟩ ⟨(i 1).val, (i 1).isLt⟩

/-- The gradient of the gain. -/
def gain (c : Dev nD) : Buf (Elt Ideal) ((c : Thread nD τ).loc main_v0_2) :=
  fun i => (∑ k : Fin 8208, gainTerm m c ⟨(i 1).val, (i 1).isLt⟩ k : EReal)

theorem flushed_a (c : Dev nD) (t : Fin cfg0.N) :
    (dats m 0 c).flushed 4 t = ((cfg0.win 4).blk t).view.read (Elt Ideal) (wide m c) := by
  rw [flushed4]
  obtain ⟨e0, e1⟩ := index_a t
  funext y
  have hy0 : (y 0).val < 432 := (y 0).isLt
  have hy1 : (y 1).val < 1536 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 1536 + 1 * (y 1).val := rfl
  have hx : (cfg0.win 4).xinj (grid0.coords t) y = ix2 (⟨(y 0).val, hy0⟩ : Fin 432) (⟨(y 1).val, hy1⟩ : Fin 1536) :=
    funext fun a => Fin.ext (match a with | ⟨0, _⟩ => rfl | ⟨1, _⟩ => rfl)
  show (outsAt0 m c t.val t.isLt).1 ((cfg0.win 4).xinj (grid0.coords t) y) = wide m c (((cfg0.win 4).blk t).view.emb y)
  rw [hx, wide_at]
  unfold wide
  refine congrArg₂ (wideAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_a (c : Dev nD) : (dats m 0 c).arrAt 4 cfg0.N = wide m c :=
  (dats m 0 c).arrAt_eq_of_cover 4 (wide m c) (fun t _ => flushed_a m c t) fun i => by
    have h0 : (i 0 : Nat) < 8208 := (i 0).isLt
    have h1 : (i 1 : Nat) < 1536 := (i 1).isLt
    have ht : (i 0 : Nat) / 432 < cfg0.N := by show _ < grid0.N; rw [N_0]; omega
    obtain ⟨e0, e1⟩ := index_a ⟨(i 0 : Nat) / 432, ht⟩
    refine ⟨⟨(i 0 : Nat) / 432, ht⟩, flush0_4 _, ?_⟩
    show i ∈ ((View.whole main_v0_0).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 1536 ≤ (i 1).val ∧ (i 1).val < win0_4.index ⟨(i 0 : Nat) / 432, ht⟩ (1 : Fin 2) * 1536 + 1536
      rw [e1]; omega

theorem flushed_o (c : Dev nD) (t : Fin cfg0.N) :
    (dats m 0 c).flushed 5 t = ((cfg0.win 5).blk t).view.read (Elt Ideal) (result m c) := by
  rw [flushed5]
  obtain ⟨e0, e1⟩ := index_o t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show (outsAt0 m c t.val t.isLt).2.1 ((cfg0.win 5).xinj (grid0.coords t) y) = result m c (((cfg0.win 5).blk t).view.emb y)
  rw [hx, grad_at]
  unfold result
  refine congrArg₂ (gradAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_o (c : Dev nD) : (dats m 0 c).arrAt 5 cfg0.N = result m c :=
  (dats m 0 c).arrAt_eq_of_cover 5 (result m c) (fun t _ => flushed_o m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_o ⟨(i 0 : Nat) / 432, ht⟩
    refine ⟨⟨(i 0 : Nat) / 432, ht⟩, flush0_5 _, ?_⟩
    show i ∈ ((View.whole main_v0_1).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

theorem flushed_gain (c : Dev nD) (t : Fin cfg0.N) (hf : (cfg0.win 6).flush t = true) :
    (dats m 0 c).flushed 6 t = ((cfg0.win 6).blk t).view.read (Elt Ideal) (gain m c) := by
  rw [flushed6]
  have hm : t.val = 18 := by have := (flush0_6 t).mp hf; have := points t; omega
  obtain ⟨e0, e1⟩ := index_s t
  funext y
  have hy0 : (y 0).val < 1 := (y 0).isLt
  have hy1 : (y 1).val < 1024 := (y 1).isLt
  have hb1 : (((cfg0.win 6).blk t).view.emb y 1).val = win0_6.index t (1 : Fin 2) * 1024 + 1 * (y 1).val := rfl
  have hx : (cfg0.win 6).xinj (grid0.coords t) y = ix2 (0 : Fin 1) (⟨(y 1).val, hy1⟩ : Fin 1024) :=
    funext fun a => Fin.ext (match a with | ⟨0, _⟩ => (by show (y 0).val = 0; omega) | ⟨1, _⟩ => rfl)
  show (outsAt0 m c t.val t.isLt).2.2 ((cfg0.win 6).xinj (grid0.coords t) y) = gain m c (((cfg0.win 6).blk t).view.emb y)
  rw [hx, carried, hm, upTo_all 432 _ 19 rfl]
  unfold gain
  refine Finset.sum_congr rfl fun k _ => congrArg (fun j => gainTerm m c j k) (Fin.ext ?_)
  show (y 1).val = (((cfg0.win 6).blk t).view.emb y 1).val
  rw [hb1, e1]; omega

theorem final_gain (c : Dev nD) : (dats m 0 c).arrAt 6 cfg0.N = gain m c :=
  (dats m 0 c).arrAt_eq_of_cover 6 (gain m c) (flushed_gain m c) fun i => by
    have h0 : (i 0 : Nat) < 1 := (i 0).isLt
    have h1 : (i 1 : Nat) < 1024 := (i 1).isLt
    have ht : 18 < cfg0.N := by show _ < grid0.N; rw [N_0]; omega
    obtain ⟨e0, e1⟩ := index_s ⟨18, ht⟩
    refine ⟨⟨18, ht⟩, (flush0_6 _).mpr rfl, ?_⟩
    show i ∈ ((View.whole main_v0_2).slice (win0_6.rect ⟨18, ht⟩)).set
    rw [View.set_slice_whole, Rect.mem_set_unit]
    intro a
    match a with
    | ⟨0, _⟩ =>
      show win0_6.index ⟨18, ht⟩ (0 : Fin 2) * 1 ≤ (i 0).val ∧ (i 0).val < win0_6.index ⟨18, ht⟩ (0 : Fin 2) * 1 + 1
      rw [e0]; omega
    | ⟨1, _⟩ =>
      show win0_6.index ⟨18, ht⟩ (1 : Fin 2) * 1024 ≤ (i 1).val ∧ (i 1).val < win0_6.index ⟨18, ht⟩ (1 : Fin 2) * 1024 + 1024
      rw [e1]; omega

/-! ## The derivative of the plain lines -/

section Plain

open Cert.Reference6Ideal.Read

variable (x0 : (Mat 8208 1024).Idx → EReal) (x1 : (Mat 1 1024).Idx → EReal) (x2 : (Mat 1536 1024).Idx → EReal)
  (x3 : (Mat 8208 1024).Idx → EReal)

theorem plain_square (k : Fin 8208) : val_main_v6 (F := Ideal) x0 (ix2 k 0) = RowNorm.meanSquare (at2 x0 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x0 (funext fun a => ?_))
  match a with
  | ⟨0, _⟩ => rfl
  | ⟨1, _⟩ => rfl

theorem plain_scale (k : Fin 8208) : val_main_v7 (F := Ideal) x0 (ix2 k 0) = RowNorm.scale (at2 x0 k) := by
  rw [val_main_v7_apply, plain_square]; rfl

theorem plain_factor (k : Fin 8208) : val_main_v10 (F := Ideal) x0 (ix2 k 0)
    = RowNorm.minusHalf * Ideal.div (RowNorm.scale (at2 x0 k)) (RowNorm.meanSquare (at2 x0 k)) := by
  rw [val_main_v10_apply, val_main_v8_apply, plain_square, plain_scale]; rfl

theorem plain_normed (k : Fin 8208) (j : Fin 1024) : val_main_v12 (F := Ideal) x0 (ix2 k j)
    = at2 x0 k j * RowNorm.scale (at2 x0 k) := by
  rw [val_main_v12_apply, val_main_v11_apply]
  refine congrArg (fun z : EReal => at2 x0 k j * z) (Eq.trans (congrArg (val_main_v7 (F := Ideal) x0) ?_) (plain_scale x0 k))
  funext a
  match a with
  | ⟨0, _⟩ => rfl
  | ⟨1, _⟩ => rfl

theorem plain_gained (k : Fin 8208) (j : Fin 1024) : val_main_v19 (F := Ideal) x1 x3 (ix2 k j) = at2 x3 k j * at2 x1 0 j := by
  rw [val_main_v19_apply, val_main_v18_apply]
  refine congrArg (fun z : EReal => at2 x3 k j * z) (congrArg x1 ?_)
  funext a
  match a with
  | ⟨0, _⟩ => rfl
  | ⟨1, _⟩ => rfl

/-- The gain's gradient, as the plain lines give it. -/
theorem plain_gain (u : Fin 1) (j : Fin 1024) : val_main_v17 (F := Ideal) x0 x3 (ix2 u j)
    = ∑ k : Fin 8208, at2 x3 k j * (at2 x0 k j * RowNorm.scale (at2 x0 k)) := by
  rw [val_main_v17_apply, val_main_v16_apply]
  show RowNorm.zero + ∑ k : Fin 8208, _ = _
  rw [RowNorm.zero_eq, zero_add]
  refine Finset.sum_congr rfl fun k _ => ?_
  have e : idx_main_v16 (idx_main_v17 (ix2 u j)) k = ix2 k j := funext fun a => Fin.ext (by
    match a with
    | ⟨0, _⟩ => rfl
    | ⟨1, _⟩ => show u.val * 1024 + j.val = j.val; have := u.isLt; omega)
  rw [e, val_main_v15_apply, plain_normed]
  exact mul_comm _ _

theorem plain_cross (k : Fin 8208) : val_main_v28 (F := Ideal) x0 x1 x3 (ix1 k)
    = RowNorm.crossFactor (at2 x0 k) (fun i => at2 x3 k i * at2 x1 0 i) := by
  rw [val_main_v28_apply]
  unfold RowNorm.crossFactor
  refine congrArg (fun z : EReal => RowNorm.zero + z) (Finset.sum_congr rfl fun u _ => ?_)
  have e : idx_main_v28 (ix1 k) u = ix2 k 0 := funext fun a => Fin.ext (by
    match a with
    | ⟨0, _⟩ => rfl
    | ⟨1, _⟩ => show u.val = 0; have := u.isLt; omega)
  rw [e, val_main_v27_apply, val_main_v25_apply, plain_factor, val_main_v22_apply, val_main_v21_apply]
  refine congrArg (fun z : EReal => Ideal.div ((RowNorm.zero + z)
    * (RowNorm.minusHalf * Ideal.div (RowNorm.scale (at2 x0 k)) (RowNorm.meanSquare (at2 x0 k)))) RowNorm.width)
    (Finset.sum_congr rfl fun i _ => ?_)
  have e' : idx_main_v21 (idx_main_v22 (ix2 k 0)) i = ix2 k i := funext fun a => Fin.ext (by
    match a with
    | ⟨0, _⟩ => show k.val * 1 + 0 = k.val; omega
    | ⟨1, _⟩ => rfl)
  rw [e', val_main_v20_apply, plain_gained]
  rfl

/-- The norm's gradient, as the plain lines give it. -/
theorem plain_grad (k : Fin 8208) (j : Fin 1024) : val_main_v33 (F := Ideal) x0 x1 x3 (ix2 k j)
    = RowNorm.gradient (at2 x0 k) (fun i => at2 x3 k i * at2 x1 0 i) j := by
  have e23 : idx_main_v23 (ix2 k j) = ix2 k 0 := funext fun a => by
    match a with
    | ⟨0, _⟩ => rfl
    | ⟨1, _⟩ => rfl
  have e29 : idx_main_v29 (ix2 k j) = ix1 k := funext fun a => by
    match a with
    | ⟨0, _⟩ => rfl
  rw [val_main_v33_apply, val_main_v31_apply, val_main_v32_apply, val_main_v30_apply, val_main_v29_apply, val_main_v24_apply,
    val_main_v23_apply, e23, e29, plain_scale, plain_cross, plain_gained, RowNorm.gradient_eq]
  rfl

/-- The product's gradient, as the plain lines give it. -/
theorem plain_wide (k : Fin 8208) (p : Fin 1536) : val_main_v37 (F := Ideal) x0 x1 x2 x3 (ix2 k p)
    = (∑ q : Fin 1024, RowNorm.gradient (at2 x0 k) (fun i => at2 x3 k i * at2 x1 0 i) q * at2 x2 p q : EReal) := by
  rw [val_main_v37_apply]
  refine Finset.sum_congr rfl fun q _ => ?_
  rw [val_main_v35_apply]
  refine congrArg₂ (fun u v : EReal => u * v) (Eq.trans (congrArg (val_main_v33 (F := Ideal) x0 x1 x3) ?_) (plain_grad x0 x1 x3 k q)) (congrArg x2 ?_)
  · funext a
    match a with
    | ⟨0, _⟩ => rfl
    | ⟨1, _⟩ => rfl
  · funext a
    match a with
    | ⟨0, _⟩ => rfl
    | ⟨1, _⟩ => rfl

end Plain

theorem plain_wide_result (c : Dev nD) : Cert.Reference6Ideal.Read.val_main_v37 (F := Ideal) (argF m c) (argG m c) (argW m c) (argY m c) = wide m c := by
  funext i
  have hi : i = ix2 (⟨(i 0).val, (i 0).isLt⟩ : Fin 8208) (⟨(i 1).val, (i 1).isLt⟩ : Fin 1536) :=
    funext fun a => by
      match a with
      | ⟨0, _⟩ => rfl
      | ⟨1, _⟩ => rfl
  rw [hi]
  exact plain_wide _ _ _ _ _ _

theorem plain_result (c : Dev nD) : Cert.Reference6Ideal.Read.val_main_v38 (F := Ideal) (argF m c) (argG m c) (argY m c) = result m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi, Cert.Reference6Ideal.Read.val_main_v38_apply]
  exact plain_grad _ _ _ _ _

theorem plain_gain_result (c : Dev nD) : Cert.Reference6Ideal.Read.val_main_v17 (F := Ideal) (argF m c) (argY m c) = gain m c := by
  funext i
  have hi : i = ix2 (⟨(i 0).val, (i 0).isLt⟩ : Fin 1) (⟨(i 1).val, (i 1).isLt⟩ : Fin 1024) :=
    funext fun a => by
      match a with
      | ⟨0, _⟩ => rfl
      | ⟨1, _⟩ => rfl
  rw [hi]
  exact plain_gain _ _ _ _

/-- The kernel computes the derivatives of the product and of the norm behind it. -/
theorem algebraic : Cert.algebraic_Kernel6Ideal_Reference6Ideal := by
  intro m ρ m' ρ' _ hargs
  refine ⟨fun c => wide m c, fun c => result m c, fun c => gain m c, ?_, ?_⟩
  · exact (θ_run _ _ _).mono (fun r h c => ⟨(h c).1.trans (final_a m c), (h c).2.1.trans (final_o m c),
      (h c).2.2.1.trans (final_gain m c), (h c).2.2.2⟩) (run_blocks (F := Ideal) m ρ)
  · refine (θ_run _ _ _).mono (fun r h c => ⟨(h c).1.trans ?_, (h c).2.1.trans ?_, (h c).2.2.1.trans ?_, (h c).2.2.2⟩)
      (Cert.Reference6Ideal.Value.run (F := Ideal) m' ρ')
    · rw [(hargs c).1, (hargs c).2.1, (hargs c).2.2.1, (hargs c).2.2.2]
      exact (Cert.Reference6Ideal.Read.val_main_v37_eq _ _ _ _).trans (plain_wide_result m c)
    · rw [(hargs c).1, (hargs c).2.1, (hargs c).2.2.2]
      exact (Cert.Reference6Ideal.Read.val_main_v38_eq _ _ _).trans (plain_result m c)
    · rw [(hargs c).1, (hargs c).2.2.2]
      exact (Cert.Reference6Ideal.Read.val_main_v17_eq _ _).trans (plain_gain_result m c)

end Cert.Kernel6Ideal.ProductNormGrad

end
-- ==== Proof.WeightGrad7.lean ====
/-
  The gradient of a weight as one product, `aᵀ · b`: the kernel takes the rows of both matrices 912 at a time, adds the
  product of each pair of row blocks to a float32 accumulator, and writes the accumulator out once it has seen all 8208
  rows. Over the extended reals the accumulator after a step is the sum over the rows seen so far, and the result is
  the sum over all rows, which is what the derivative of the plain product is.
-/
module

public import proofs.«01_k».proof.Defs
public import proofs.«01_k».proof.Proof.Sums
public import proofs.«01_k».proof.Proof.Gen.Kernel7Ideal.Value
public import proofs.«01_k».proof.Proof.Gen.Reference7Ideal.Run
public import proofs.«01_k».proof.Proof.Gen.Reference7Ideal.Read
public import Idealize.ShloMosaic.PureOps.Ideal.Laws
public import Idealize.ShloMosaic.Lib.ValueIdxCore
public import Idealize.ShloMosaic.Lib.Pipeline.Value
public import Idealize.ShloMosaic.Lib.Tactic
public import Idealize.ShloMosaic.Lib.Quiescent

@[expose] public section

set_option maxRecDepth 16384

noncomputable section

namespace Cert.Kernel7Ideal.WeightGrad

open Cert.Kernel7Ideal Cert.Kernel7Ideal.Gen Cert.Kernel7Ideal.Value
open Idealize.ShloMosaic Idealize.ShloMosaic.TcCoe Idealize.SL.Sem
open Idealize.ShloMosaic.ValueIdx
open Cert.Sums

theorem hz : (![0, 0] : Fin 2 → Nat) = fun _ => 0 := funext fun a => by fin_cases a <;> rfl

section Steps

variable {F : FTy → Type} [FloatOps F]

/-- A step that is neither first nor last leaves the accumulator plus the product of its two row blocks. -/
theorem middle (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : ¬cond0_1 i)
    (x0 : Vec F S912x1024 .bf16) (x1 : Vec F S912x1536 .bf16) (s : Vec F S1024x1536 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x1536) hz,
    View.ld_unit_zero (S := S912x1024) hz, View.ld_unit_zero (S := S912x1536) hz]

/-- So does the last step. -/
theorem last (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : cond0_1 i)
    (x0 : Vec F S912x1024 .bf16) (x1 : Vec F S912x1536 .bf16) (s : Vec F S1024x1536 .f32) :
    sout0_C_0 c i a2 h2 a3 h3 a4 h4 a5 h5 hc0 hc1 x0 x1 s = k0_pay2 s x0 x1 := by
  unfold sout0_C_0
  rw [View.read_writes_eq_canon _ _ _ (scover0_C_0 c i a2 h2 a3 h3 a4 h4 a5 h5 hc0 hc1 x0 x1 s)]
  unfold kernelRun0_C
  dsimp only
  sl_unfold_words
  rw [View.canon_unit_zero hz]
  simp only [View.readAt_eq_ld, h2.read_unread, h3.read_unread, h5.read_unread, View.ld_unit_zero (S := S1024x1536) hz,
    View.ld_unit_zero (S := S912x1024) hz, View.ld_unit_zero (S := S912x1536) hz]

/-- The last step also writes that sum, rounded, to the result's block. -/
theorem last_out (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : cond0_1 i)
    (x0 : Vec F S912x1024 .bf16) (x1 : Vec F S912x1536 .bf16) (s : Vec F S1024x1536 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S1024x1536) _ hz]
  simp only [View.readAt_eq_ld, h2.read_unread, h3.read_unread, h5.read_unread, View.ld_unit_zero (S := S1024x1536) hz,
    View.ld_unit_zero (S := S912x1024) hz, View.ld_unit_zero (S := S912x1536) hz]

/-- The first step clears the accumulator and adds its product. -/
theorem first (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : cond0_0 i) (hc1 : ¬cond0_1 i)
    (x0 : Vec F S912x1024 .bf16) (x1 : Vec F S912x1536 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1536) hz, View.readCov_unit_zero (S := S1024x1536) _ hz]
  simp only [View.readAt_eq_ld, h2.read_unread, h3.read_unread, View.ld_unit_zero (S := S912x1024) hz, View.ld_unit_zero (S := S912x1536) hz]

end Steps

/-! ## One step's sum -/

abbrev dims := dot_S912x1024_S912x1536_S1024x1536_0_0_1_1_n_n

theorem lhs0 (j : S1024x1536.Idx) (q : dims.contr.Idx) : (dims.lhsIdx j q 0).val = (q ⟨0, by decide⟩).val :=
  dims.lhsIdx_val_of_single rfl j q
theorem lhs1 (j : S1024x1536.Idx) (q : dims.contr.Idx) : (dims.lhsIdx j q 1).val = (j 0).val := by
  unfold DotDims.lhsIdx
  rw [dif_neg (show ¬(1 : Fin S912x1024.rank) ∈ dims.lhsBatch by decide), dif_pos (show (1 : Fin S912x1024.rank) ∈ dims.lhsNonContracting by decide)]
  rfl
theorem rhs0 (j : S1024x1536.Idx) (q : dims.contr.Idx) : (dims.rhsIdx j q 0).val = (q ⟨0, by decide⟩).val :=
  dims.rhsIdx_val_of_single rfl j q
theorem rhs1 (j : S1024x1536.Idx) (q : dims.contr.Idx) : (dims.rhsIdx j q 1).val = (j 1).val := by
  unfold DotDims.rhsIdx
  rw [dif_neg (show ¬(1 : Fin S912x1536.rank) ∈ dims.rhsBatch by decide), dif_pos (show (1 : Fin S912x1536.rank) ∈ dims.rhsNonContracting by decide)]
  rfl

/-- Entry `(r, p)` of a matrix, as an extended real. -/
abbrev at2 {a b : ℕ} (x : (⟨2, ![a, b]⟩ : Shape).Idx → EReal) (r : Fin a) (p : Fin b) : EReal := x (ix2 r p)

/-- One step at an entry: what was there, plus the sum over the step's 912 rows. -/
theorem step_apply (s : Vec Ideal S1024x1536 .f32) (x0 : Vec Ideal S912x1024 .bf16) (x1 : Vec Ideal S912x1536 .bf16)
    (j : S1024x1536.Idx) :
    k0_pay2 (F := Ideal) s x0 x1 j
      = s j + ∑ r : Fin 912, at2 x0 r ⟨(j 0).val, (j 0).isLt⟩ * at2 x1 r ⟨(j 1).val, (j 1).isLt⟩ := by
  unfold k0_pay2
  rw [shapeCast_self]
  refine congrArg (fun z : EReal => s j + z) (?_ : FloatOps.matmul (F := Ideal) (φ₁ := .bf16) (φ₂ := .bf16) dims none x0 x1 (constant S1024x1536 .f32 0x00000000#32) j = _)
  rw [Ideal.matmul_constant_zero_apply, ← Equiv.sum_comp (contrEquiv1 dims 912 rfl rfl).symm]
  refine Finset.sum_congr rfl fun k _ => ?_
  have hk := contrEquiv1_symm_val dims 912 rfl rfl k
  have el : dims.lhsIdx j ((contrEquiv1 dims 912 rfl rfl).symm k) = ix2 k ⟨(j 0).val, (j 0).isLt⟩ := funext fun a => Fin.ext (by
    match a with
    | ⟨0, _⟩ => exact (lhs0 _ _).trans hk
    | ⟨1, _⟩ => exact lhs1 _ _)
  have er : dims.rhsIdx j ((contrEquiv1 dims 912 rfl rfl).symm k) = ix2 k ⟨(j 1).val, (j 1).isLt⟩ := funext fun a => Fin.ext (by
    match a with
    | ⟨0, _⟩ => exact (rhs0 _ _).trans hk
    | ⟨1, _⟩ => exact rhs1 _ _)
  rw [el, er]
  rfl

/-- The cleared accumulator is zero. -/
theorem cleared (j : S1024x1536.Idx) : (k0_pay1 (F := Ideal) j : EReal) = 0 := by
  unfold k0_pay1
  rw [shapeCast_self]
  exact Ideal.ofBits_zero_f32

/-! ## The accumulator over the grid -/

variable (m : (ℓ : Loc nD τ sig) → Buf (Elt Ideal) ℓ) (ρ : Dev nD → PrngReg)

/-- The products whose sum is entry `(p, q)` of the result. -/
def term (c : Dev nD) (p : Fin 1024) (q : Fin 6144) (k : Fin 8208) : EReal :=
  at2 (m ((c : Thread nD τ).loc main_arg0)) k p * at2 (m ((c : Thread nD τ).loc main_arg1)) k q

theorem index_a : ∀ t : Fin cfg0.N, win0_0.index t (0 : Fin 2) = t.val % 9 ∧ win0_0.index t (1 : Fin 2) = 0 :=
  (by decide +kernel : ∀ t : Fin grid0.N, _)
theorem index_b : ∀ t : Fin cfg0.N, win0_1.index t (0 : Fin 2) = t.val % 9 ∧ win0_1.index t (1 : Fin 2) = t.val / 9 :=
  (by decide +kernel : ∀ t : Fin grid0.N, _)

/-- The point's block of `a`: the rows `912·(t mod 9) …`. -/
theorem block_a (c : Dev nD) (t : Fin cfg0.N) (r : Fin 912) (p : Fin 1024) (h : 912 * (t.val % 9) + r.val < 8208) :
    iblk m c 0 t (ix2 r p) = m ((c : Thread nD τ).loc main_arg0) (ix2 ⟨912 * (t.val % 9) + r.val, h⟩ p) := by
  obtain ⟨e0, e1⟩ := index_a t
  show m ((c : Thread nD τ).loc main_arg0) (((cfg0.win 0).blk t).view.emb (ix2 r p)) = _
  refine congrArg _ (funext fun a => Fin.ext ?_)
  match a with
  | ⟨0, _⟩ =>
    show win0_0.index t (0 : Fin 2) * 912 + 1 * r.val = 912 * (t.val % 9) + r.val
    rw [e0]; omega
  | ⟨1, _⟩ =>
    show win0_0.index t (1 : Fin 2) * 1024 + 1 * p.val = p.val
    rw [e1]; omega

/-- The point's block of `b`: the same rows, the columns `1536·(t / 9) …`. -/
theorem block_b (c : Dev nD) (t : Fin cfg0.N) (r : Fin 912) (q : Fin 1536) (h : 912 * (t.val % 9) + r.val < 8208)
    (h' : 1536 * (t.val / 9) + q.val < 6144) :
    iblk m c 1 t (ix2 r q)
      = m ((c : Thread nD τ).loc main_arg1) (ix2 ⟨912 * (t.val % 9) + r.val, h⟩ ⟨1536 * (t.val / 9) + q.val, h'⟩) := by
  obtain ⟨e0, e1⟩ := index_b t
  show m ((c : Thread nD τ).loc main_arg1) (((cfg0.win 1).blk t).view.emb (ix2 r q)) = _
  refine congrArg _ (funext fun a => Fin.ext ?_)
  match a with
  | ⟨0, _⟩ =>
    show win0_1.index t (0 : Fin 2) * 912 + 1 * r.val = 912 * (t.val % 9) + r.val
    rw [e0]; omega
  | ⟨1, _⟩ =>
    show win0_1.index t (1 : Fin 2) * 1536 + 1 * q.val = 1536 * (t.val / 9) + q.val
    rw [e1]; omega

theorem points (t : Fin cfg0.N) : t.val < 36 := lt_of_lt_of_eq t.isLt N_0

theorem column_lt (t : Fin cfg0.N) (q : Fin 1536) : 1536 * (t.val / 9) + q.val < 6144 := by
  have := points t; have := q.isLt; omega

/-- One point's contribution to an entry is the next block of its terms. -/
theorem contribution (c : Dev nD) (t : Fin cfg0.N) (p : Fin 1024) (q : Fin 1536) :
    ∑ r : Fin 912, at2 (a := 912) (b := 1024) (iblk m c 0 t) r p * at2 (a := 912) (b := 1536) (iblk m c 1 t) r q
      = ∑ r : Fin 912, total (term m c p ⟨1536 * (t.val / 9) + q.val, column_lt t q⟩) (912 * (t.val % 9) + r.val) := by
  refine Finset.sum_congr rfl fun r _ => ?_
  have h : 912 * (t.val % 9) + r.val < 8208 := by have := r.isLt; have := Nat.mod_lt t.val (show 0 < 9 by decide); omega
  rw [total_of_lt _ h]
  exact congrArg₂ (fun x y : EReal => x * y) (block_a m c t r p h) (block_b m c t r q h (column_lt t q))

/-- The accumulator after point `t`: the terms of the row blocks met since the column block began. -/
theorem carried (c : Dev nD) : ∀ (n : ℕ) (hn : n < cfg0.N) (p : Fin 1024) (q : Fin 1536),
    ((outsAt0 m c n hn).2 (ix2 p q) : EReal)
      = upTo 912 (term m c p ⟨1536 * (n / 9) + q.val, column_lt ⟨n, hn⟩ q⟩) (n % 9 + 1) := by
  intro n
  induction n with
  | zero =>
    intro hn p q
    rw [outsAt0_A m c ⟨0, hn⟩ (Nat.zero_mod 9) (by show ¬ 0 % 9 = 8; omega)]
    dsimp only
    rw [first, step_apply, cleared, zero_add]
    have h := contribution m c ⟨0, hn⟩ p q
    exact h.trans (by rw [Nat.zero_mod, upTo_succ, upTo_zero, zero_add])
  | succ n ih =>
    intro hn p q
    have hN : n + 1 < 36 := lt_of_lt_of_eq hn N_0
    have h := contribution m c ⟨n + 1, hn⟩ p q
    by_cases h0 : (n + 1) % 9 = 0
    · rw [outsAt0_A m c ⟨n + 1, hn⟩ h0 (by show ¬ (n + 1) % 9 = 8; omega)]
      dsimp only
      rw [first, step_apply, cleared, zero_add]
      refine h.trans ?_
      dsimp only
      rw [h0, upTo_succ, upTo_zero, zero_add]
    · have e1 : (n + 1) / 9 = n / 9 := by omega
      have e2 : (n + 1) % 9 = n % 9 + 1 := by omega
      have hprev := ih (Nat.lt_of_succ_lt hn) p q
      have key : ((outsAt0 m c n (Nat.lt_of_succ_lt hn)).2 (ix2 p q) : EReal)
            + ∑ r : Fin 912, at2 (a := 912) (b := 1024) (iblk m c 0 ⟨n + 1, hn⟩) r p * at2 (a := 912) (b := 1536) (iblk m c 1 ⟨n + 1, hn⟩) r q
          = upTo 912 (term m c p ⟨1536 * ((n + 1) / 9) + q.val, column_lt ⟨n + 1, hn⟩ q⟩) ((n + 1) % 9 + 1) := by
        rw [hprev, h]
        simp only [e1, e2]
        exact (upTo_succ 912 _ _).symm
      by_cases h1 : (n + 1) % 9 = 8
      · rw [outsAt0_C m c ⟨n + 1, hn⟩ h0 h1]
        dsimp only
        rw [last, step_apply]
        exact key
      · rw [outsAt0_B m c ⟨n + 1, hn⟩ h0 h1]
        dsimp only
        rw [middle, step_apply]
        exact key

/-- What the last point of a column block writes out: the sum over all rows. -/
theorem written (c : Dev nD) (n : ℕ) (hn : n < cfg0.N) (h8 : n % 9 = 8) (p : Fin 1024) (q : Fin 1536) :
    ((outsAt0 m c n hn).1 (ix2 p q) : EReal)
      = ∑ k : Fin 8208, term m c p ⟨1536 * (n / 9) + q.val, column_lt ⟨n, hn⟩ q⟩ k := by
  have hc := carried m c n hn p q
  rw [h8, upTo_all 912 _ 9 rfl] at hc
  rw [← hc]
  have h0 : ¬ n % 9 = 0 := by omega
  rw [outsAt0_C m c ⟨n, hn⟩ h0 h8]
  dsimp only
  rw [last, last_out]
  rfl

/-- The result array. -/
def result (c : Dev nD) : Buf (Elt Ideal) ((c : Thread nD τ).loc main_v0) :=
  fun i => (∑ k : Fin 8208, term m c ⟨(i 0).val, (i 0).isLt⟩ ⟨(i 1).val, (i 1).isLt⟩ k : EReal)

theorem result_eq (c : Dev nD) : G2 m c = result m c := by
  funext i
  have hi0 : (i 0).val < 1024 := (i 0).isLt
  have hi1 : (i 1).val < 6144 := (i 1).isLt
  have hp : pt2Of i < cfg0.N := by
    show 9 * (4 * ((i 0).val / 1024 - 0) + 1 * ((i 1).val / 1536 - 0)) + 8 < grid0.N
    rw [N_0]; omega
  have hr : run2Of i = (i 1).val / 1536 := by
    show 4 * ((i 0).val / 1024 - 0) + 1 * ((i 1).val / 1536 - 0) = _
    omega
  unfold G2
  rw [dif_pos hp, ← outsAt0_sweep m c (pt2Of i) hp]
  have hl : loc2Of i = ix2 ⟨(i 0).val % 1024, Nat.mod_lt _ (by decide)⟩ ⟨(i 1).val % 1536, Nat.mod_lt _ (by decide)⟩ := by
    funext a
    match a with
    | ⟨0, _⟩ => rfl
    | ⟨1, _⟩ => rfl
  rw [hl]
  refine (written m c (pt2Of i) hp (by show (9 * run2Of i + 8) % 9 = 8; omega) _ _).trans ?_
  have e0 : (⟨(i 0).val % 1024, Nat.mod_lt _ (by decide)⟩ : Fin 1024) = ⟨(i 0).val, hi0⟩ := Fin.ext (Nat.mod_eq_of_lt hi0)
  have e1 : (⟨1536 * (pt2Of i / 9) + (i 1).val % 1536, column_lt ⟨pt2Of i, hp⟩ ⟨(i 1).val % 1536, Nat.mod_lt _ (by decide)⟩⟩ : Fin 6144)
      = ⟨(i 1).val, hi1⟩ := Fin.ext (by
    show 1536 * ((9 * run2Of i + 8) / 9) + (i 1).val % 1536 = (i 1).val
    rw [hr]; omega)
  unfold result
  refine Finset.sum_congr rfl fun k _ => ?_
  rw [e0]
  exact congrArg (fun q => term m c _ q k) e1

/-! ## The claim -/

open Cert.Reference7Ideal.Read in
/-- The reference's result is the same array. -/
theorem reference_eq (c : Dev nD) :
    val_main_v6 (F := Ideal) (m ((c : Thread nD τ).loc main_arg0)) (m ((c : Thread nD τ).loc main_arg1)) = result m c := by
  funext i
  rw [val_main_v6_apply]
  show val_main_v5 (F := Ideal) _ _ i = _
  rw [val_main_v5_apply, val_main_v4_apply]
  unfold result
  refine Finset.sum_congr rfl fun k _ => ?_
  rw [val_main_v1_apply, val_main_v0_apply]
  refine (mul_comm _ _).trans ?_
  refine congrArg₂ (· * ·) (congrArg (m ((c : Thread nD τ).loc main_arg0)) ?_) (congrArg (m ((c : Thread nD τ).loc main_arg1)) ?_)
  · funext a
    match a with
    | ⟨0, _⟩ => rfl
    | ⟨1, _⟩ => rfl
  · funext a
    match a with
    | ⟨0, _⟩ => rfl
    | ⟨1, _⟩ => rfl

/-- The kernel computes the derivative of the plain product. -/
theorem algebraic : Cert.algebraic_Kernel7Ideal_Reference7Ideal := by
  intro m ρ m' ρ' _ hargs
  refine ⟨fun c => result m c, ?_, ?_⟩
  · exact (θ_run _ _ _).mono (fun r h c => ⟨(h c).1.trans (result_eq m c), (h c).2.1, (h c).2.2⟩) (run (F := Ideal) m ρ)
  · refine (θ_run _ _ _).mono (fun r h c => ⟨(h c).1.trans ?_, (h c).2.1, (h c).2.2⟩)
      (Cert.Reference7Ideal.Value.run (F := Ideal) m' ρ')
    rw [Cert.Reference7Ideal.Read.val_main_v6_eq, (hargs c).1, (hargs c).2]
    exact reference_eq m c

end Cert.Kernel7Ideal.WeightGrad

end
-- ==== Proof.WeightGrad8.lean ====
/-
  The gradient of a weight as one product, `aᵀ · b`: the kernel takes the rows of both matrices 912 at a time, adds the
  product of each pair of row blocks to a float32 accumulator, and writes the accumulator out once it has seen all 8208
  rows. Over the extended reals the accumulator after a step is the sum over the rows seen so far, and the result is
  the sum over all rows, which is what the derivative of the plain product is.
-/
module

public import proofs.«01_k».proof.Defs
public import proofs.«01_k».proof.Proof.Sums
public import proofs.«01_k».proof.Proof.Gen.Kernel8Ideal.Value
public import proofs.«01_k».proof.Proof.Gen.Reference8Ideal.Run
public import proofs.«01_k».proof.Proof.Gen.Reference8Ideal.Read
public import Idealize.ShloMosaic.PureOps.Ideal.Laws
public import Idealize.ShloMosaic.Lib.ValueIdxCore
public import Idealize.ShloMosaic.Lib.Pipeline.Value
public import Idealize.ShloMosaic.Lib.Tactic
public import Idealize.ShloMosaic.Lib.Quiescent

@[expose] public section

set_option maxRecDepth 16384

noncomputable section

namespace Cert.Kernel8Ideal.WeightGrad

open Cert.Kernel8Ideal Cert.Kernel8Ideal.Gen Cert.Kernel8Ideal.Value
open Idealize.ShloMosaic Idealize.ShloMosaic.TcCoe Idealize.SL.Sem
open Idealize.ShloMosaic.ValueIdx
open Cert.Sums

theorem hz : (![0, 0] : Fin 2 → Nat) = fun _ => 0 := funext fun a => by fin_cases a <;> rfl

section Steps

variable {F : FTy → Type} [FloatOps F]

/-- A step that is neither first nor last leaves the accumulator plus the product of its two row blocks. -/
theorem middle (c : Dev nD) (i : grid0.Coords) (a2 : Memref sig .tc .vmem S912x1536 .bf16) (h2 : a2.IsWhole)
    (a3 : Memref sig .tc .vmem S912x1024 .bf16) (h3 : a3.IsWhole) (a4 : Memref sig .tc .vmem S1536x1024 .bf16)
    (h4 : a4.IsWhole) (a5 : Memref sig .tc .vmem S1536x1024 .f32) (h5 : a5.IsWhole) (hc0 : ¬cond0_0 i) (hc1 : ¬cond0_1 i)
    (x0 : Vec F S912x1536 .bf16) (x1 : Vec F S912x1024 .bf16) (s : Vec F S1536x1024 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1536x1024) hz,
    View.ld_unit_zero (S := S912x1536) hz, View.ld_unit_zero (S := S912x1024) hz]

/-- So does the last step. -/
theorem last (c : Dev nD) (i : grid0.Coords) (a2 : Memref sig .tc .vmem S912x1536 .bf16) (h2 : a2.IsWhole)
    (a3 : Memref sig .tc .vmem S912x1024 .bf16) (h3 : a3.IsWhole) (a4 : Memref sig .tc .vmem S1536x1024 .bf16)
    (h4 : a4.IsWhole) (a5 : Memref sig .tc .vmem S1536x1024 .f32) (h5 : a5.IsWhole) (hc0 : ¬cond0_0 i) (hc1 : cond0_1 i)
    (x0 : Vec F S912x1536 .bf16) (x1 : Vec F S912x1024 .bf16) (s : Vec F S1536x1024 .f32) :
    sout0_C_0 c i a2 h2 a3 h3 a4 h4 a5 h5 hc0 hc1 x0 x1 s = k0_pay2 s x0 x1 := by
  unfold sout0_C_0
  rw [View.read_writes_eq_canon _ _ _ (scover0_C_0 c i a2 h2 a3 h3 a4 h4 a5 h5 hc0 hc1 x0 x1 s)]
  unfold kernelRun0_C
  dsimp only
  sl_unfold_words
  rw [View.canon_unit_zero hz]
  simp only [View.readAt_eq_ld, h2.read_unread, h3.read_unread, h5.read_unread, View.ld_unit_zero (S := S1536x1024) hz,
    View.ld_unit_zero (S := S912x1536) hz, View.ld_unit_zero (S := S912x1024) hz]

/-- The last step also writes that sum, rounded, to the result's block. -/
theorem last_out (c : Dev nD) (i : grid0.Coords) (a2 : Memref sig .tc .vmem S912x1536 .bf16) (h2 : a2.IsWhole)
    (a3 : Memref sig .tc .vmem S912x1024 .bf16) (h3 : a3.IsWhole) (a4 : Memref sig .tc .vmem S1536x1024 .bf16)
    (h4 : a4.IsWhole) (a5 : Memref sig .tc .vmem S1536x1024 .f32) (h5 : a5.IsWhole) (hc0 : ¬cond0_0 i) (hc1 : cond0_1 i)
    (x0 : Vec F S912x1536 .bf16) (x1 : Vec F S912x1024 .bf16) (s : Vec F S1536x1024 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S1536x1024) _ hz]
  simp only [View.readAt_eq_ld, h2.read_unread, h3.read_unread, h5.read_unread, View.ld_unit_zero (S := S1536x1024) hz,
    View.ld_unit_zero (S := S912x1536) hz, View.ld_unit_zero (S := S912x1024) hz]

/-- The first step clears the accumulator and adds its product. -/
theorem first (c : Dev nD) (i : grid0.Coords) (a2 : Memref sig .tc .vmem S912x1536 .bf16) (h2 : a2.IsWhole)
    (a3 : Memref sig .tc .vmem S912x1024 .bf16) (h3 : a3.IsWhole) (a4 : Memref sig .tc .vmem S1536x1024 .bf16)
    (h4 : a4.IsWhole) (a5 : Memref sig .tc .vmem S1536x1024 .f32) (h5 : a5.IsWhole) (hc0 : cond0_0 i) (hc1 : ¬cond0_1 i)
    (x0 : Vec F S912x1536 .bf16) (x1 : Vec F S912x1024 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1536x1024) hz, View.readCov_unit_zero (S := S1536x1024) _ hz]
  simp only [View.readAt_eq_ld, h2.read_unread, h3.read_unread, View.ld_unit_zero (S := S912x1536) hz, View.ld_unit_zero (S := S912x1024) hz]

end Steps

/-! ## One step's sum -/

abbrev dims := dot_S912x1536_S912x1024_S1536x1024_0_0_1_1_n_n

theorem lhs0 (j : S1536x1024.Idx) (q : dims.contr.Idx) : (dims.lhsIdx j q 0).val = (q ⟨0, by decide⟩).val :=
  dims.lhsIdx_val_of_single rfl j q
theorem lhs1 (j : S1536x1024.Idx) (q : dims.contr.Idx) : (dims.lhsIdx j q 1).val = (j 0).val := by
  unfold DotDims.lhsIdx
  rw [dif_neg (show ¬(1 : Fin S912x1536.rank) ∈ dims.lhsBatch by decide), dif_pos (show (1 : Fin S912x1536.rank) ∈ dims.lhsNonContracting by decide)]
  rfl
theorem rhs0 (j : S1536x1024.Idx) (q : dims.contr.Idx) : (dims.rhsIdx j q 0).val = (q ⟨0, by decide⟩).val :=
  dims.rhsIdx_val_of_single rfl j q
theorem rhs1 (j : S1536x1024.Idx) (q : dims.contr.Idx) : (dims.rhsIdx j q 1).val = (j 1).val := by
  unfold DotDims.rhsIdx
  rw [dif_neg (show ¬(1 : Fin S912x1024.rank) ∈ dims.rhsBatch by decide), dif_pos (show (1 : Fin S912x1024.rank) ∈ dims.rhsNonContracting by decide)]
  rfl

/-- Entry `(r, p)` of a matrix, as an extended real. -/
abbrev at2 {a b : ℕ} (x : (⟨2, ![a, b]⟩ : Shape).Idx → EReal) (r : Fin a) (p : Fin b) : EReal := x (ix2 r p)

/-- One step at an entry: what was there, plus the sum over the step's 912 rows. -/
theorem step_apply (s : Vec Ideal S1536x1024 .f32) (x0 : Vec Ideal S912x1536 .bf16) (x1 : Vec Ideal S912x1024 .bf16)
    (j : S1536x1024.Idx) :
    k0_pay2 (F := Ideal) s x0 x1 j
      = s j + ∑ r : Fin 912, at2 x0 r ⟨(j 0).val, (j 0).isLt⟩ * at2 x1 r ⟨(j 1).val, (j 1).isLt⟩ := by
  unfold k0_pay2
  rw [shapeCast_self]
  refine congrArg (fun z : EReal => s j + z) (?_ : FloatOps.matmul (F := Ideal) (φ₁ := .bf16) (φ₂ := .bf16) dims none x0 x1 (constant S1536x1024 .f32 0x00000000#32) j = _)
  rw [Ideal.matmul_constant_zero_apply, ← Equiv.sum_comp (contrEquiv1 dims 912 rfl rfl).symm]
  refine Finset.sum_congr rfl fun k _ => ?_
  have hk := contrEquiv1_symm_val dims 912 rfl rfl k
  have el : dims.lhsIdx j ((contrEquiv1 dims 912 rfl rfl).symm k) = ix2 k ⟨(j 0).val, (j 0).isLt⟩ := funext fun a => Fin.ext (by
    match a with
    | ⟨0, _⟩ => exact (lhs0 _ _).trans hk
    | ⟨1, _⟩ => exact lhs1 _ _)
  have er : dims.rhsIdx j ((contrEquiv1 dims 912 rfl rfl).symm k) = ix2 k ⟨(j 1).val, (j 1).isLt⟩ := funext fun a => Fin.ext (by
    match a with
    | ⟨0, _⟩ => exact (rhs0 _ _).trans hk
    | ⟨1, _⟩ => exact rhs1 _ _)
  rw [el, er]
  rfl

/-- The cleared accumulator is zero. -/
theorem cleared (j : S1536x1024.Idx) : (k0_pay1 (F := Ideal) j : EReal) = 0 := by
  unfold k0_pay1
  rw [shapeCast_self]
  exact Ideal.ofBits_zero_f32

/-! ## The accumulator over the grid -/

variable (m : (ℓ : Loc nD τ sig) → Buf (Elt Ideal) ℓ) (ρ : Dev nD → PrngReg)

/-- The products whose sum is entry `(p, q)` of the result. -/
def term (c : Dev nD) (p : Fin 1536) (q : Fin 1024) (k : Fin 8208) : EReal :=
  at2 (m ((c : Thread nD τ).loc main_arg0)) k p * at2 (m ((c : Thread nD τ).loc main_arg1)) k q

theorem index_a : ∀ t : Fin cfg0.N, win0_0.index t (0 : Fin 2) = t.val % 9 ∧ win0_0.index t (1 : Fin 2) = 0 :=
  (by decide +kernel : ∀ t : Fin grid0.N, _)
theorem index_b : ∀ t : Fin cfg0.N, win0_1.index t (0 : Fin 2) = t.val % 9 ∧ win0_1.index t (1 : Fin 2) = t.val / 9 :=
  (by decide +kernel : ∀ t : Fin grid0.N, _)

/-- The point's block of `a`: the rows `912·(t mod 9) …`. -/
theorem block_a (c : Dev nD) (t : Fin cfg0.N) (r : Fin 912) (p : Fin 1536) (h : 912 * (t.val % 9) + r.val < 8208) :
    iblk m c 0 t (ix2 r p) = m ((c : Thread nD τ).loc main_arg0) (ix2 ⟨912 * (t.val % 9) + r.val, h⟩ p) := by
  obtain ⟨e0, e1⟩ := index_a t
  show m ((c : Thread nD τ).loc main_arg0) (((cfg0.win 0).blk t).view.emb (ix2 r p)) = _
  refine congrArg _ (funext fun a => Fin.ext ?_)
  match a with
  | ⟨0, _⟩ =>
    show win0_0.index t (0 : Fin 2) * 912 + 1 * r.val = 912 * (t.val % 9) + r.val
    rw [e0]; omega
  | ⟨1, _⟩ =>
    show win0_0.index t (1 : Fin 2) * 1536 + 1 * p.val = p.val
    rw [e1]; omega

/-- The point's block of `b`: the same rows, the columns `1024·(t / 9) …`. -/
theorem block_b (c : Dev nD) (t : Fin cfg0.N) (r : Fin 912) (q : Fin 1024) (h : 912 * (t.val % 9) + r.val < 8208)
    (h' : 1024 * (t.val / 9) + q.val < 1024) :
    iblk m c 1 t (ix2 r q)
      = m ((c : Thread nD τ).loc main_arg1) (ix2 ⟨912 * (t.val % 9) + r.val, h⟩ ⟨1024 * (t.val / 9) + q.val, h'⟩) := by
  obtain ⟨e0, e1⟩ := index_b t
  show m ((c : Thread nD τ).loc main_arg1) (((cfg0.win 1).blk t).view.emb (ix2 r q)) = _
  refine congrArg _ (funext fun a => Fin.ext ?_)
  match a with
  | ⟨0, _⟩ =>
    show win0_1.index t (0 : Fin 2) * 912 + 1 * r.val = 912 * (t.val % 9) + r.val
    rw [e0]; omega
  | ⟨1, _⟩ =>
    show win0_1.index t (1 : Fin 2) * 1024 + 1 * q.val = 1024 * (t.val / 9) + q.val
    rw [e1]; omega

theorem points (t : Fin cfg0.N) : t.val < 9 := lt_of_lt_of_eq t.isLt N_0

theorem column_lt (t : Fin cfg0.N) (q : Fin 1024) : 1024 * (t.val / 9) + q.val < 1024 := by
  have := points t; have := q.isLt; omega

/-- One point's contribution to an entry is the next block of its terms. -/
theorem contribution (c : Dev nD) (t : Fin cfg0.N) (p : Fin 1536) (q : Fin 1024) :
    ∑ r : Fin 912, at2 (a := 912) (b := 1536) (iblk m c 0 t) r p * at2 (a := 912) (b := 1024) (iblk m c 1 t) r q
      = ∑ r : Fin 912, total (term m c p ⟨1024 * (t.val / 9) + q.val, column_lt t q⟩) (912 * (t.val % 9) + r.val) := by
  refine Finset.sum_congr rfl fun r _ => ?_
  have h : 912 * (t.val % 9) + r.val < 8208 := by have := r.isLt; have := Nat.mod_lt t.val (show 0 < 9 by decide); omega
  rw [total_of_lt _ h]
  exact congrArg₂ (fun x y : EReal => x * y) (block_a m c t r p h) (block_b m c t r q h (column_lt t q))

/-- The accumulator after point `t`: the terms of the row blocks met since the column block began. -/
theorem carried (c : Dev nD) : ∀ (n : ℕ) (hn : n < cfg0.N) (p : Fin 1536) (q : Fin 1024),
    ((outsAt0 m c n hn).2 (ix2 p q) : EReal)
      = upTo 912 (term m c p ⟨1024 * (n / 9) + q.val, column_lt ⟨n, hn⟩ q⟩) (n % 9 + 1) := by
  intro n
  induction n with
  | zero =>
    intro hn p q
    rw [outsAt0_A m c ⟨0, hn⟩ (Nat.zero_mod 9) (by show ¬ 0 % 9 = 8; omega)]
    dsimp only
    rw [first, step_apply, cleared, zero_add]
    have h := contribution m c ⟨0, hn⟩ p q
    exact h.trans (by rw [Nat.zero_mod, upTo_succ, upTo_zero, zero_add])
  | succ n ih =>
    intro hn p q
    have hN : n + 1 < 9 := lt_of_lt_of_eq hn N_0
    have h := contribution m c ⟨n + 1, hn⟩ p q
    by_cases h0 : (n + 1) % 9 = 0
    · rw [outsAt0_A m c ⟨n + 1, hn⟩ h0 (by show ¬ (n + 1) % 9 = 8; omega)]
      dsimp only
      rw [first, step_apply, cleared, zero_add]
      refine h.trans ?_
      dsimp only
      rw [h0, upTo_succ, upTo_zero, zero_add]
    · have e1 : (n + 1) / 9 = n / 9 := by omega
      have e2 : (n + 1) % 9 = n % 9 + 1 := by omega
      have hprev := ih (Nat.lt_of_succ_lt hn) p q
      have key : ((outsAt0 m c n (Nat.lt_of_succ_lt hn)).2 (ix2 p q) : EReal)
            + ∑ r : Fin 912, at2 (a := 912) (b := 1536) (iblk m c 0 ⟨n + 1, hn⟩) r p * at2 (a := 912) (b := 1024) (iblk m c 1 ⟨n + 1, hn⟩) r q
          = upTo 912 (term m c p ⟨1024 * ((n + 1) / 9) + q.val, column_lt ⟨n + 1, hn⟩ q⟩) ((n + 1) % 9 + 1) := by
        rw [hprev, h]
        simp only [e1, e2]
        exact (upTo_succ 912 _ _).symm
      by_cases h1 : (n + 1) % 9 = 8
      · rw [outsAt0_C m c ⟨n + 1, hn⟩ h0 h1]
        dsimp only
        rw [last, step_apply]
        exact key
      · rw [outsAt0_B m c ⟨n + 1, hn⟩ h0 h1]
        dsimp only
        rw [middle, step_apply]
        exact key

/-- What the last point of a column block writes out: the sum over all rows. -/
theorem written (c : Dev nD) (n : ℕ) (hn : n < cfg0.N) (h8 : n % 9 = 8) (p : Fin 1536) (q : Fin 1024) :
    ((outsAt0 m c n hn).1 (ix2 p q) : EReal)
      = ∑ k : Fin 8208, term m c p ⟨1024 * (n / 9) + q.val, column_lt ⟨n, hn⟩ q⟩ k := by
  have hc := carried m c n hn p q
  rw [h8, upTo_all 912 _ 9 rfl] at hc
  rw [← hc]
  have h0 : ¬ n % 9 = 0 := by omega
  rw [outsAt0_C m c ⟨n, hn⟩ h0 h8]
  dsimp only
  rw [last, last_out]
  rfl

/-- The result array. -/
def result (c : Dev nD) : Buf (Elt Ideal) ((c : Thread nD τ).loc main_v0) :=
  fun i => (∑ k : Fin 8208, term m c ⟨(i 0).val, (i 0).isLt⟩ ⟨(i 1).val, (i 1).isLt⟩ k : EReal)

theorem result_eq (c : Dev nD) : G2 m c = result m c := by
  funext i
  have hi0 : (i 0).val < 1536 := (i 0).isLt
  have hi1 : (i 1).val < 1024 := (i 1).isLt
  have hp : pt2Of i < cfg0.N := by
    show 9 * (1 * ((i 0).val / 1536 - 0) + 1 * ((i 1).val / 1024 - 0)) + 8 < grid0.N
    rw [N_0]; omega
  have hr : run2Of i = (i 1).val / 1024 := by
    show 1 * ((i 0).val / 1536 - 0) + 1 * ((i 1).val / 1024 - 0) = _
    omega
  unfold G2
  rw [dif_pos hp, ← outsAt0_sweep m c (pt2Of i) hp]
  have hl : loc2Of i = ix2 ⟨(i 0).val % 1536, Nat.mod_lt _ (by decide)⟩ ⟨(i 1).val % 1024, Nat.mod_lt _ (by decide)⟩ := by
    funext a
    match a with
    | ⟨0, _⟩ => rfl
    | ⟨1, _⟩ => rfl
  rw [hl]
  refine (written m c (pt2Of i) hp (by show (9 * run2Of i + 8) % 9 = 8; omega) _ _).trans ?_
  have e0 : (⟨(i 0).val % 1536, Nat.mod_lt _ (by decide)⟩ : Fin 1536) = ⟨(i 0).val, hi0⟩ := Fin.ext (Nat.mod_eq_of_lt hi0)
  have e1 : (⟨1024 * (pt2Of i / 9) + (i 1).val % 1024, column_lt ⟨pt2Of i, hp⟩ ⟨(i 1).val % 1024, Nat.mod_lt _ (by decide)⟩⟩ : Fin 1024)
      = ⟨(i 1).val, hi1⟩ := Fin.ext (by
    show 1024 * ((9 * run2Of i + 8) / 9) + (i 1).val % 1024 = (i 1).val
    rw [hr]; omega)
  unfold result
  refine Finset.sum_congr rfl fun k _ => ?_
  rw [e0]
  exact congrArg (fun q => term m c _ q k) e1

/-! ## The claim -/

open Cert.Reference8Ideal.Read in
/-- The reference's result is the same array. -/
theorem reference_eq (c : Dev nD) :
    val_main_v6 (F := Ideal) (m ((c : Thread nD τ).loc main_arg0)) (m ((c : Thread nD τ).loc main_arg1)) = result m c := by
  funext i
  rw [val_main_v6_apply]
  show val_main_v5 (F := Ideal) _ _ i = _
  rw [val_main_v5_apply, val_main_v4_apply]
  unfold result
  refine Finset.sum_congr rfl fun k _ => ?_
  rw [val_main_v1_apply, val_main_v0_apply]
  refine (mul_comm _ _).trans ?_
  refine congrArg₂ (· * ·) (congrArg (m ((c : Thread nD τ).loc main_arg0)) ?_) (congrArg (m ((c : Thread nD τ).loc main_arg1)) ?_)
  · funext a
    match a with
    | ⟨0, _⟩ => rfl
    | ⟨1, _⟩ => rfl
  · funext a
    match a with
    | ⟨0, _⟩ => rfl
    | ⟨1, _⟩ => rfl

/-- The kernel computes the derivative of the plain product. -/
theorem algebraic : Cert.algebraic_Kernel8Ideal_Reference8Ideal := by
  intro m ρ m' ρ' _ hargs
  refine ⟨fun c => result m c, ?_, ?_⟩
  · exact (θ_run _ _ _).mono (fun r h c => ⟨(h c).1.trans (result_eq m c), (h c).2.1, (h c).2.2⟩) (run (F := Ideal) m ρ)
  · refine (θ_run _ _ _).mono (fun r h c => ⟨(h c).1.trans ?_, (h c).2.1, (h c).2.2⟩)
      (Cert.Reference8Ideal.Value.run (F := Ideal) m' ρ')
    rw [Cert.Reference8Ideal.Read.val_main_v6_eq, (hargs c).1, (hargs c).2]
    exact reference_eq m c

end Cert.Kernel8Ideal.WeightGrad

end
-- ==== Proof.WeightGrad9.lean ====
/-
  The gradient of a weight as one product, `aᵀ · b`: the kernel takes the rows of both matrices 912 at a time, adds the
  product of each pair of row blocks to a float32 accumulator, and writes the accumulator out once it has seen all 8208
  rows. Over the extended reals the accumulator after a step is the sum over the rows seen so far, and the result is
  the sum over all rows, which is what the derivative of the plain product is.
-/
module

public import proofs.«01_k».proof.Defs
public import proofs.«01_k».proof.Proof.Sums
public import proofs.«01_k».proof.Proof.Gen.Kernel9Ideal.Value
public import proofs.«01_k».proof.Proof.Gen.Reference9Ideal.Run
public import proofs.«01_k».proof.Proof.Gen.Reference9Ideal.Read
public import Idealize.ShloMosaic.PureOps.Ideal.Laws
public import Idealize.ShloMosaic.Lib.ValueIdxCore
public import Idealize.ShloMosaic.Lib.Pipeline.Value
public import Idealize.ShloMosaic.Lib.Tactic
public import Idealize.ShloMosaic.Lib.Quiescent

@[expose] public section

set_option maxRecDepth 16384

noncomputable section

namespace Cert.Kernel9Ideal.WeightGrad

open Cert.Kernel9Ideal Cert.Kernel9Ideal.Gen Cert.Kernel9Ideal.Value
open Idealize.ShloMosaic Idealize.ShloMosaic.TcCoe Idealize.SL.Sem
open Idealize.ShloMosaic.ValueIdx
open Cert.Sums

theorem hz : (![0, 0] : Fin 2 → Nat) = fun _ => 0 := funext fun a => by fin_cases a <;> rfl

section Steps

variable {F : FTy → Type} [FloatOps F]

/-- A step that is neither first nor last leaves the accumulator plus the product of its two row blocks. -/
theorem middle (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : ¬cond0_1 i)
    (x0 : Vec F S912x1024 .bf16) (x1 : Vec F S912x1536 .bf16) (s : Vec F S1024x1536 .f32) :
    sout0_B_0 c i a2 h2 a3 h3 a4 h4 a5 h5 hc0 hc1 x0 x1 s = k0_pay2 s x0 x1 := by
  unfold sout0_B_0
  rw [View.read_writes_eq_canon _ _ _ (scover0_B_0 c i a2 h2 a3 h3 a4 h4 a5 h5 hc0 hc1 x0 x1 s)]
  unfold kernelRun0_B
  dsimp only
  rw [View.canon_unit_zero hz]
  simp only [View.readAt_eq_ld, h2.read_unread, h3.read_unread, h5.read_unread, View.ld_unit_zero (S := S1024x1536) hz,
    View.ld_unit_zero (S := S912x1024) hz, View.ld_unit_zero (S := S912x1536) hz]

/-- So does the last step. -/
theorem last (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : cond0_1 i)
    (x0 : Vec F S912x1024 .bf16) (x1 : Vec F S912x1536 .bf16) (s : Vec F S1024x1536 .f32) :
    sout0_C_0 c i a2 h2 a3 h3 a4 h4 a5 h5 hc0 hc1 x0 x1 s = k0_pay2 s x0 x1 := by
  unfold sout0_C_0
  rw [View.read_writes_eq_canon _ _ _ (scover0_C_0 c i a2 h2 a3 h3 a4 h4 a5 h5 hc0 hc1 x0 x1 s)]
  unfold kernelRun0_C
  dsimp only
  sl_unfold_words
  rw [View.canon_unit_zero hz]
  simp only [View.readAt_eq_ld, h2.read_unread, h3.read_unread, h5.read_unread, View.ld_unit_zero (S := S1024x1536) hz,
    View.ld_unit_zero (S := S912x1024) hz, View.ld_unit_zero (S := S912x1536) hz]

/-- The last step also writes that sum, rounded, to the result's block. -/
theorem last_out (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : ¬cond0_0 i) (hc1 : cond0_1 i)
    (x0 : Vec F S912x1024 .bf16) (x1 : Vec F S912x1536 .bf16) (s : Vec F S1024x1536 .f32) :
    out0_C_2 c i a2 h2 a3 h3 a4 h4 a5 h5 hc0 hc1 x0 x1 s = k0_pay3 (k0_pay2 s x0 x1) := by
  unfold out0_C_2
  rw [View.read_writes_eq_canon _ _ _ (cover0_C_2 c i a2 h2 a3 h3 a4 h4 a5 h5 hc0 hc1 x0 x1 s)]
  unfold kernelRun0_C
  dsimp only
  sl_unfold_words
  rw [View.canon_unit_zero hz, View.readCov_unit_zero (S := S1024x1536) _ hz]
  simp only [View.readAt_eq_ld, h2.read_unread, h3.read_unread, h5.read_unread, View.ld_unit_zero (S := S1024x1536) hz,
    View.ld_unit_zero (S := S912x1024) hz, View.ld_unit_zero (S := S912x1536) hz]

/-- The first step clears the accumulator and adds its product. -/
theorem first (c : Dev nD) (i : grid0.Coords) (a2 : Memref sig .tc .vmem S912x1024 .bf16) (h2 : a2.IsWhole)
    (a3 : Memref sig .tc .vmem S912x1536 .bf16) (h3 : a3.IsWhole) (a4 : Memref sig .tc .vmem S1024x1536 .bf16)
    (h4 : a4.IsWhole) (a5 : Memref sig .tc .vmem S1024x1536 .f32) (h5 : a5.IsWhole) (hc0 : cond0_0 i) (hc1 : ¬cond0_1 i)
    (x0 : Vec F S912x1024 .bf16) (x1 : Vec F S912x1536 .bf16) :
    sout0_A_0 c i a2 h2 a3 h3 a4 h4 a5 h5 hc0 hc1 x0 x1 = k0_pay2 k0_pay1 x0 x1 := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x1536) hz, View.readCov_unit_zero (S := S1024x1536) _ hz]
  simp only [View.readAt_eq_ld, h2.read_unread, h3.read_unread, View.ld_unit_zero (S := S912x1024) hz, View.ld_unit_zero (S := S912x1536) hz]

end Steps

/-! ## One step's sum -/

abbrev dims := dot_S912x1024_S912x1536_S1024x1536_0_0_1_1_n_n

theorem lhs0 (j : S1024x1536.Idx) (q : dims.contr.Idx) : (dims.lhsIdx j q 0).val = (q ⟨0, by decide⟩).val :=
  dims.lhsIdx_val_of_single rfl j q
theorem lhs1 (j : S1024x1536.Idx) (q : dims.contr.Idx) : (dims.lhsIdx j q 1).val = (j 0).val := by
  unfold DotDims.lhsIdx
  rw [dif_neg (show ¬(1 : Fin S912x1024.rank) ∈ dims.lhsBatch by decide), dif_pos (show (1 : Fin S912x1024.rank) ∈ dims.lhsNonContracting by decide)]
  rfl
theorem rhs0 (j : S1024x1536.Idx) (q : dims.contr.Idx) : (dims.rhsIdx j q 0).val = (q ⟨0, by decide⟩).val :=
  dims.rhsIdx_val_of_single rfl j q
theorem rhs1 (j : S1024x1536.Idx) (q : dims.contr.Idx) : (dims.rhsIdx j q 1).val = (j 1).val := by
  unfold DotDims.rhsIdx
  rw [dif_neg (show ¬(1 : Fin S912x1536.rank) ∈ dims.rhsBatch by decide), dif_pos (show (1 : Fin S912x1536.rank) ∈ dims.rhsNonContracting by decide)]
  rfl

/-- Entry `(r, p)` of a matrix, as an extended real. -/
abbrev at2 {a b : ℕ} (x : (⟨2, ![a, b]⟩ : Shape).Idx → EReal) (r : Fin a) (p : Fin b) : EReal := x (ix2 r p)

/-- One step at an entry: what was there, plus the sum over the step's 912 rows. -/
theorem step_apply (s : Vec Ideal S1024x1536 .f32) (x0 : Vec Ideal S912x1024 .bf16) (x1 : Vec Ideal S912x1536 .bf16)
    (j : S1024x1536.Idx) :
    k0_pay2 (F := Ideal) s x0 x1 j
      = s j + ∑ r : Fin 912, at2 x0 r ⟨(j 0).val, (j 0).isLt⟩ * at2 x1 r ⟨(j 1).val, (j 1).isLt⟩ := by
  unfold k0_pay2
  rw [shapeCast_self]
  refine congrArg (fun z : EReal => s j + z) (?_ : FloatOps.matmul (F := Ideal) (φ₁ := .bf16) (φ₂ := .bf16) dims none x0 x1 (constant S1024x1536 .f32 0x00000000#32) j = _)
  rw [Ideal.matmul_constant_zero_apply, ← Equiv.sum_comp (contrEquiv1 dims 912 rfl rfl).symm]
  refine Finset.sum_congr rfl fun k _ => ?_
  have hk := contrEquiv1_symm_val dims 912 rfl rfl k
  have el : dims.lhsIdx j ((contrEquiv1 dims 912 rfl rfl).symm k) = ix2 k ⟨(j 0).val, (j 0).isLt⟩ := funext fun a => Fin.ext (by
    match a with
    | ⟨0, _⟩ => exact (lhs0 _ _).trans hk
    | ⟨1, _⟩ => exact lhs1 _ _)
  have er : dims.rhsIdx j ((contrEquiv1 dims 912 rfl rfl).symm k) = ix2 k ⟨(j 1).val, (j 1).isLt⟩ := funext fun a => Fin.ext (by
    match a with
    | ⟨0, _⟩ => exact (rhs0 _ _).trans hk
    | ⟨1, _⟩ => exact rhs1 _ _)
  rw [el, er]
  rfl

/-- The cleared accumulator is zero. -/
theorem cleared (j : S1024x1536.Idx) : (k0_pay1 (F := Ideal) j : EReal) = 0 := by
  unfold k0_pay1
  rw [shapeCast_self]
  exact Ideal.ofBits_zero_f32

/-! ## The accumulator over the grid -/

variable (m : (ℓ : Loc nD τ sig) → Buf (Elt Ideal) ℓ) (ρ : Dev nD → PrngReg)

/-- The products whose sum is entry `(p, q)` of the result. -/
def term (c : Dev nD) (p : Fin 1024) (q : Fin 3072) (k : Fin 8208) : EReal :=
  at2 (m ((c : Thread nD τ).loc main_arg0)) k p * at2 (m ((c : Thread nD τ).loc main_arg1)) k q

theorem index_a : ∀ t : Fin cfg0.N, win0_0.index t (0 : Fin 2) = t.val % 9 ∧ win0_0.index t (1 : Fin 2) = 0 :=
  (by decide +kernel : ∀ t : Fin grid0.N, _)
theorem index_b : ∀ t : Fin cfg0.N, win0_1.index t (0 : Fin 2) = t.val % 9 ∧ win0_1.index t (1 : Fin 2) = t.val / 9 :=
  (by decide +kernel : ∀ t : Fin grid0.N, _)

/-- The point's block of `a`: the rows `912·(t mod 9) …`. -/
theorem block_a (c : Dev nD) (t : Fin cfg0.N) (r : Fin 912) (p : Fin 1024) (h : 912 * (t.val % 9) + r.val < 8208) :
    iblk m c 0 t (ix2 r p) = m ((c : Thread nD τ).loc main_arg0) (ix2 ⟨912 * (t.val % 9) + r.val, h⟩ p) := by
  obtain ⟨e0, e1⟩ := index_a t
  show m ((c : Thread nD τ).loc main_arg0) (((cfg0.win 0).blk t).view.emb (ix2 r p)) = _
  refine congrArg _ (funext fun a => Fin.ext ?_)
  match a with
  | ⟨0, _⟩ =>
    show win0_0.index t (0 : Fin 2) * 912 + 1 * r.val = 912 * (t.val % 9) + r.val
    rw [e0]; omega
  | ⟨1, _⟩ =>
    show win0_0.index t (1 : Fin 2) * 1024 + 1 * p.val = p.val
    rw [e1]; omega

/-- The point's block of `b`: the same rows, the columns `1536·(t / 9) …`. -/
theorem block_b (c : Dev nD) (t : Fin cfg0.N) (r : Fin 912) (q : Fin 1536) (h : 912 * (t.val % 9) + r.val < 8208)
    (h' : 1536 * (t.val / 9) + q.val < 3072) :
    iblk m c 1 t (ix2 r q)
      = m ((c : Thread nD τ).loc main_arg1) (ix2 ⟨912 * (t.val % 9) + r.val, h⟩ ⟨1536 * (t.val / 9) + q.val, h'⟩) := by
  obtain ⟨e0, e1⟩ := index_b t
  show m ((c : Thread nD τ).loc main_arg1) (((cfg0.win 1).blk t).view.emb (ix2 r q)) = _
  refine congrArg _ (funext fun a => Fin.ext ?_)
  match a with
  | ⟨0, _⟩ =>
    show win0_1.index t (0 : Fin 2) * 912 + 1 * r.val = 912 * (t.val % 9) + r.val
    rw [e0]; omega
  | ⟨1, _⟩ =>
    show win0_1.index t (1 : Fin 2) * 1536 + 1 * q.val = 1536 * (t.val / 9) + q.val
    rw [e1]; omega

theorem points (t : Fin cfg0.N) : t.val < 18 := lt_of_lt_of_eq t.isLt N_0

theorem column_lt (t : Fin cfg0.N) (q : Fin 1536) : 1536 * (t.val / 9) + q.val < 3072 := by
  have := points t; have := q.isLt; omega

/-- One point's contribution to an entry is the next block of its terms. -/
theorem contribution (c : Dev nD) (t : Fin cfg0.N) (p : Fin 1024) (q : Fin 1536) :
    ∑ r : Fin 912, at2 (a := 912) (b := 1024) (iblk m c 0 t) r p * at2 (a := 912) (b := 1536) (iblk m c 1 t) r q
      = ∑ r : Fin 912, total (term m c p ⟨1536 * (t.val / 9) + q.val, column_lt t q⟩) (912 * (t.val % 9) + r.val) := by
  refine Finset.sum_congr rfl fun r _ => ?_
  have h : 912 * (t.val % 9) + r.val < 8208 := by have := r.isLt; have := Nat.mod_lt t.val (show 0 < 9 by decide); omega
  rw [total_of_lt _ h]
  exact congrArg₂ (fun x y : EReal => x * y) (block_a m c t r p h) (block_b m c t r q h (column_lt t q))

/-- The accumulator after point `t`: the terms of the row blocks met since the column block began. -/
theorem carried (c : Dev nD) : ∀ (n : ℕ) (hn : n < cfg0.N) (p : Fin 1024) (q : Fin 1536),
    ((outsAt0 m c n hn).2 (ix2 p q) : EReal)
      = upTo 912 (term m c p ⟨1536 * (n / 9) + q.val, column_lt ⟨n, hn⟩ q⟩) (n % 9 + 1) := by
  intro n
  induction n with
  | zero =>
    intro hn p q
    rw [outsAt0_A m c ⟨0, hn⟩ (Nat.zero_mod 9) (by show ¬ 0 % 9 = 8; omega)]
    dsimp only
    rw [first, step_apply, cleared, zero_add]
    have h := contribution m c ⟨0, hn⟩ p q
    exact h.trans (by rw [Nat.zero_mod, upTo_succ, upTo_zero, zero_add])
  | succ n ih =>
    intro hn p q
    have hN : n + 1 < 18 := lt_of_lt_of_eq hn N_0
    have h := contribution m c ⟨n + 1, hn⟩ p q
    by_cases h0 : (n + 1) % 9 = 0
    · rw [outsAt0_A m c ⟨n + 1, hn⟩ h0 (by show ¬ (n + 1) % 9 = 8; omega)]
      dsimp only
      rw [first, step_apply, cleared, zero_add]
      refine h.trans ?_
      dsimp only
      rw [h0, upTo_succ, upTo_zero, zero_add]
    · have e1 : (n + 1) / 9 = n / 9 := by omega
      have e2 : (n + 1) % 9 = n % 9 + 1 := by omega
      have hprev := ih (Nat.lt_of_succ_lt hn) p q
      have key : ((outsAt0 m c n (Nat.lt_of_succ_lt hn)).2 (ix2 p q) : EReal)
            + ∑ r : Fin 912, at2 (a := 912) (b := 1024) (iblk m c 0 ⟨n + 1, hn⟩) r p * at2 (a := 912) (b := 1536) (iblk m c 1 ⟨n + 1, hn⟩) r q
          = upTo 912 (term m c p ⟨1536 * ((n + 1) / 9) + q.val, column_lt ⟨n + 1, hn⟩ q⟩) ((n + 1) % 9 + 1) := by
        rw [hprev, h]
        simp only [e1, e2]
        exact (upTo_succ 912 _ _).symm
      by_cases h1 : (n + 1) % 9 = 8
      · rw [outsAt0_C m c ⟨n + 1, hn⟩ h0 h1]
        dsimp only
        rw [last, step_apply]
        exact key
      · rw [outsAt0_B m c ⟨n + 1, hn⟩ h0 h1]
        dsimp only
        rw [middle, step_apply]
        exact key

/-- What the last point of a column block writes out: the sum over all rows. -/
theorem written (c : Dev nD) (n : ℕ) (hn : n < cfg0.N) (h8 : n % 9 = 8) (p : Fin 1024) (q : Fin 1536) :
    ((outsAt0 m c n hn).1 (ix2 p q) : EReal)
      = ∑ k : Fin 8208, term m c p ⟨1536 * (n / 9) + q.val, column_lt ⟨n, hn⟩ q⟩ k := by
  have hc := carried m c n hn p q
  rw [h8, upTo_all 912 _ 9 rfl] at hc
  rw [← hc]
  have h0 : ¬ n % 9 = 0 := by omega
  rw [outsAt0_C m c ⟨n, hn⟩ h0 h8]
  dsimp only
  rw [last, last_out]
  rfl

/-- The result array. -/
def result (c : Dev nD) : Buf (Elt Ideal) ((c : Thread nD τ).loc main_v0) :=
  fun i => (∑ k : Fin 8208, term m c ⟨(i 0).val, (i 0).isLt⟩ ⟨(i 1).val, (i 1).isLt⟩ k : EReal)

theorem result_eq (c : Dev nD) : G2 m c = result m c := by
  funext i
  have hi0 : (i 0).val < 1024 := (i 0).isLt
  have hi1 : (i 1).val < 3072 := (i 1).isLt
  have hp : pt2Of i < cfg0.N := by
    show 9 * (2 * ((i 0).val / 1024 - 0) + 1 * ((i 1).val / 1536 - 0)) + 8 < grid0.N
    rw [N_0]; omega
  have hr : run2Of i = (i 1).val / 1536 := by
    show 2 * ((i 0).val / 1024 - 0) + 1 * ((i 1).val / 1536 - 0) = _
    omega
  unfold G2
  rw [dif_pos hp, ← outsAt0_sweep m c (pt2Of i) hp]
  have hl : loc2Of i = ix2 ⟨(i 0).val % 1024, Nat.mod_lt _ (by decide)⟩ ⟨(i 1).val % 1536, Nat.mod_lt _ (by decide)⟩ := by
    funext a
    match a with
    | ⟨0, _⟩ => rfl
    | ⟨1, _⟩ => rfl
  rw [hl]
  refine (written m c (pt2Of i) hp (by show (9 * run2Of i + 8) % 9 = 8; omega) _ _).trans ?_
  have e0 : (⟨(i 0).val % 1024, Nat.mod_lt _ (by decide)⟩ : Fin 1024) = ⟨(i 0).val, hi0⟩ := Fin.ext (Nat.mod_eq_of_lt hi0)
  have e1 : (⟨1536 * (pt2Of i / 9) + (i 1).val % 1536, column_lt ⟨pt2Of i, hp⟩ ⟨(i 1).val % 1536, Nat.mod_lt _ (by decide)⟩⟩ : Fin 3072)
      = ⟨(i 1).val, hi1⟩ := Fin.ext (by
    show 1536 * ((9 * run2Of i + 8) / 9) + (i 1).val % 1536 = (i 1).val
    rw [hr]; omega)
  unfold result
  refine Finset.sum_congr rfl fun k _ => ?_
  rw [e0]
  exact congrArg (fun q => term m c _ q k) e1

/-! ## The claim -/

open Cert.Reference9Ideal.Read in
/-- The reference's result is the same array. -/
theorem reference_eq (c : Dev nD) :
    val_main_v6 (F := Ideal) (m ((c : Thread nD τ).loc main_arg0)) (m ((c : Thread nD τ).loc main_arg1)) = result m c := by
  funext i
  rw [val_main_v6_apply]
  show val_main_v5 (F := Ideal) _ _ i = _
  rw [val_main_v5_apply, val_main_v4_apply]
  unfold result
  refine Finset.sum_congr rfl fun k _ => ?_
  rw [val_main_v1_apply, val_main_v0_apply]
  refine (mul_comm _ _).trans ?_
  refine congrArg₂ (· * ·) (congrArg (m ((c : Thread nD τ).loc main_arg0)) ?_) (congrArg (m ((c : Thread nD τ).loc main_arg1)) ?_)
  · funext a
    match a with
    | ⟨0, _⟩ => rfl
    | ⟨1, _⟩ => rfl
  · funext a
    match a with
    | ⟨0, _⟩ => rfl
    | ⟨1, _⟩ => rfl

/-- The kernel computes the derivative of the plain product. -/
theorem algebraic : Cert.algebraic_Kernel9Ideal_Reference9Ideal := by
  intro m ρ m' ρ' _ hargs
  refine ⟨fun c => result m c, ?_, ?_⟩
  · exact (θ_run _ _ _).mono (fun r h c => ⟨(h c).1.trans (result_eq m c), (h c).2.1, (h c).2.2⟩) (run (F := Ideal) m ρ)
  · refine (θ_run _ _ _).mono (fun r h c => ⟨(h c).1.trans ?_, (h c).2.1, (h c).2.2⟩)
      (Cert.Reference9Ideal.Value.run (F := Ideal) m' ρ')
    rw [Cert.Reference9Ideal.Read.val_main_v6_eq, (hargs c).1, (hargs c).2]
    exact reference_eq m c

end Cert.Kernel9Ideal.WeightGrad

end
-- ==== Proof.NormedProduct10.lean ====
/-
  A product of a normed matrix with a weight, `rms_norm(h, g) · w`: the kernel norms a tile of 432 rows and multiplies it by
  the weight, 1536 columns at a time. Over the extended reals each entry is the plain lines'.
-/
module

public import proofs.«01_k».proof.Defs
public import proofs.«01_k».proof.Proof.NormTile
public import proofs.«01_k».proof.Proof.Gen.Kernel10Ideal.Value
public import proofs.«01_k».proof.Proof.Gen.Reference10Ideal.Run
public import proofs.«01_k».proof.Proof.Gen.Reference10Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel10Ideal.NormedProduct

open Cert.Kernel10Ideal Cert.Kernel10Ideal.Gen Cert.Kernel10Ideal.Value
open Idealize.ShloMosaic Idealize.ShloMosaic.TcCoe Idealize.SL.Sem
open Idealize.ShloMosaic.ValueIdx
open Cert.NormTile

theorem hz : (![0, 0] : Fin 2 → Nat) = fun _ => 0 := funext fun a => by fin_cases a <;> rfl

/-! ## A tile's numbers -/

/-- The normed tile, at an entry. -/
theorem normed_apply (x0 : Vec Ideal S432x1024 .f32) (x1 : Vec Ideal S1x1024 .f32) (r : Fin 432) (j : Fin 1024) :
    k0_pay1 (F := Ideal) x0 x1 (ix2 r j) = (at2 x0 r j * RowNorm.scale (at2 x0 r)) * at2 x1 0 j := by
  have h := normedTile_apply reduces_S432x1024_S432 shapeCasts_S432_S432x1 broadcasts_S432x1_S432x1024 (.inl rfl) rfl x0 r j
  have hg : broadcastTo (Mat 432 1024) (x1 : (Mat 1 1024).Idx → EReal) broadcasts_S1x1024_S432x1024 (ix2 r j) = at2 x1 0 j :=
    broadcastTo_1b_ab_apply _ _ r j
  unfold k0_pay1
  exact congrArg₂ (fun u v : EReal => u * v) h hg

/-- A chunk of 1536 columns of the product. -/
theorem k0_pay2_apply (x0 : Vec Ideal S432x1024 .f32) (x1 : Vec Ideal S1x1024 .f32) (w : Vec Ideal S1024x1536 .bf16) (x : S432x1536.Idx) :
    k0_pay2 (F := Ideal) x0 x1 w x = (∑ q : Fin 1024, at2 (k0_pay1 (F := Ideal) x0 x1) (x 0) q * at2 w q (x 1) : EReal) := by
  obtain ⟨a, b, rfl⟩ : ∃ (a : Fin 432) (b : Fin 1536), x = ix2 a b := ⟨x 0, x 1, eq_ix2 x⟩
  unfold k0_pay2
  refine (Ideal.matmul_plain_apply (M := 432) (K := 1024) (N := 1536) (φ₁ := .bf16) (φ₂ := .bf16) none (k0_pay1 (F := Ideal) x0 x1) w
    (constant S432x1536 .f32 0x00000000#32) a b).trans ?_
  show Ideal.ofBits .f32 0x00000000#32 + _ = _
  rw [Ideal.ofBits_zero_f32, zero_add]

theorem k0_pay3_apply (x0 : Vec Ideal S432x1024 .f32) (x1 : Vec Ideal S1x1024 .f32) (w : Vec Ideal S1024x1536 .bf16) (x : S432x1536.Idx) :
    k0_pay3 (F := Ideal) x0 x1 w x = (∑ q : Fin 1024, at2 (k0_pay1 (F := Ideal) x0 x1) (x 0) q * at2 w q (x 1) : EReal) := k0_pay2_apply x0 x1 w x

/-- One chunk's entries: columns `off …` of the product. -/
theorem chunk_at (x0 : Vec Ideal S432x1024 .f32) (x1 : Vec Ideal S1x1024 .f32) (x2 : Vec Ideal S1024x3072 .bf16)
    (r : Fin 432) (p : Fin 3072) (off : ℕ) (w : Vec Ideal S1024x1536 .bf16) (x : S432x1536.Idx)
    (hr : r.val = 0 + (x 0).val) (hp : p.val = off + (x 1).val) (y : EReal)
    (hy : y = (∑ q : Fin 1024, at2 (k0_pay1 (F := Ideal) x0 x1) (x 0) q * at2 w q (x 1) : EReal))
    (hw : ∀ q : Fin 1024, off + 1 * (x 1).val = p.val → at2 w q (x 1) = at2 x2 q p) :
    y = (∑ q : Fin 1024, ((at2 x0 r q * RowNorm.scale (at2 x0 r)) * at2 x1 0 q) * at2 x2 q p : EReal) := by
  have er : (x 0 : Fin 432) = r := Fin.ext (by omega)
  rw [hy]
  refine Finset.sum_congr rfl fun q _ => ?_
  rw [hw q (by omega)]
  refine congrArg (fun z : EReal => z * at2 x2 q p) (Eq.trans ?_ (normed_apply x0 x1 r q))
  exact congrArg (fun r' => at2 (k0_pay1 (F := Ideal) x0 x1) r' q) er

/-- What a point leaves of the product. -/
theorem tile_apply (x0 : Vec Ideal S432x1024 .f32) (x1 : Vec Ideal S1x1024 .f32) (x2 : Vec Ideal S1024x3072 .bf16) (r : Fin 432) (p : Fin 3072) :
    out0_3 (F := Ideal) x0 x1 x2 (ix2 r p)
      = (∑ q : Fin 1024, ((at2 x0 r q * RowNorm.scale (at2 x0 r)) * at2 x1 0 q) * at2 x2 q p : EReal) := by
  unfold out0_3
  rw [View.ld_unit_zero (S := S432x1024) hz, View.ld_unit_zero (S := S1x1024) hz]
  refine View.canon_eq_of_allAt _ _ _ (cover0_3 _ _ _) ?_
  refine View.allAt_cons_unit _ _ _ _ _ (fun x hx => chunk_at x0 x1 x2 r p 1536 _ x (hx 0) (hx 1) _ (k0_pay3_apply _ _ _ x) fun q hq => ?_) ?_
  · refine congrArg x2 (funext fun a => Fin.ext ?_)
    match a with
    | ⟨0, _⟩ => show 0 + 1 * q.val = q.val; omega
    | ⟨1, _⟩ => show 1536 + 1 * (x 1).val = p.val; exact hq
  refine View.allAt_cons_unit _ _ _ _ _ (fun x hx => chunk_at x0 x1 x2 r p 0 _ x (hx 0) (hx 1) _ (k0_pay2_apply _ _ _ x) fun q hq => ?_) ?_
  · refine congrArg x2 (funext fun a => Fin.ext ?_)
    match a with
    | ⟨0, _⟩ => show 0 + 1 * q.val = q.val; omega
    | ⟨1, _⟩ => show 0 + 1 * (x 1).val = p.val; exact hq
  exact View.allAt_nil _ _

/-- What a point leaves of the normed matrix. -/
theorem normed_out (x0 : Vec Ideal S432x1024 .f32) (x1 : Vec Ideal S1x1024 .f32) (x2 : Vec Ideal S1024x3072 .bf16) :
    out0_4 (F := Ideal) x0 x1 x2 = k0_pay1 x0 x1 := by
  unfold out0_4
  rw [View.canon_unit_zero hz, View.ld_unit_zero (S := S432x1024) hz, View.ld_unit_zero (S := S1x1024) hz]

/-! ## Over the grid -/

variable (m : (ℓ : Loc nD τ sig) → Buf (Elt Ideal) ℓ) (ρ : Dev nD → PrngReg)

/-- The arguments, as matrices of extended reals. -/
abbrev argH (c : Dev nD) : (Mat 8208 1024).Idx → EReal := m ((c : Thread nD τ).loc main_arg0)
abbrev argG (c : Dev nD) : (Mat 1 1024).Idx → EReal := m ((c : Thread nD τ).loc main_arg1)
abbrev argW (c : Dev nD) : (Mat 1024 3072).Idx → EReal := m ((c : Thread nD τ).loc main_arg2)

theorem index_h : ∀ t : Fin cfg0.N, win0_0.index t (0 : Fin 2) = t.val ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_w : ∀ t : Fin cfg0.N, win0_2.index t (0 : Fin 2) = 0 ∧ win0_2.index t (1 : Fin 2) = 0 :=
  (by decide +kernel : ∀ t : Fin grid0.N, _)
theorem index_p : ∀ t : Fin cfg0.N, win0_3.index t (0 : Fin 2) = t.val ∧ win0_3.index t (1 : Fin 2) = 0 :=
  (by decide +kernel : ∀ t : Fin grid0.N, _)
theorem index_z : ∀ t : Fin cfg0.N, win0_4.index t (0 : Fin 2) = t.val ∧ win0_4.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_h (c : Dev nD) (t : Fin cfg0.N) (r : Fin 432) (j : Fin 1024) :
    at2 (a := 432) (b := 1024) (iblk m c 0 t) r j = at2 (argH m c) (rowOf t r) j := by
  obtain ⟨e0, e1⟩ := index_h t
  show argH m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1024 + 1 * j.val = j.val; rw [e1]; omega

theorem block_g (c : Dev nD) (t : Fin cfg0.N) (j : Fin 1024) :
    at2 (a := 1) (b := 1024) (iblk m c 1 t) 0 j = at2 (argG m c) 0 j := by
  obtain ⟨e0, e1⟩ := index_g t
  show argG m c (((cfg0.win 1).blk t).view.emb (ix2 0 j)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 1024 + 1 * j.val = j.val; rw [e1]; omega

theorem block_w (c : Dev nD) (t : Fin cfg0.N) (r : Fin 1024) (j : Fin 3072) :
    at2 (a := 1024) (b := 3072) (iblk m c 2 t) r j = at2 (argW m c) r j := by
  obtain ⟨e0, e1⟩ := index_w t
  show argW m c (((cfg0.win 2).blk t).view.emb (ix2 r j)) = _
  refine congrArg _ (funext fun a => Fin.ext ?_)
  match a with
  | ⟨0, _⟩ => show win0_2.index t (0 : Fin 2) * 1024 + 1 * r.val = r.val; rw [e0]; omega
  | ⟨1, _⟩ => show win0_2.index t (1 : Fin 2) * 3072 + 1 * j.val = j.val; rw [e1]; omega

theorem row_h (c : Dev nD) (t : Fin cfg0.N) (r : Fin 432) : at2 (a := 432) (b := 1024) (iblk m c 0 t) r = at2 (argH m c) (rowOf t r) :=
  funext fun j => block_h m c t r j

/-- The normed matrix at an entry. -/
def normedAt (c : Dev nD) (k : Fin 8208) (j : Fin 1024) : EReal :=
  (at2 (argH m c) k j * RowNorm.scale (at2 (argH m c) k)) * at2 (argG m c) 0 j

/-- The product at an entry. -/
def productAt (c : Dev nD) (k : Fin 8208) (p : Fin 3072) : EReal := ∑ q : Fin 1024, normedAt m c k q * at2 (argW m c) q p

/-- A tile's normed entries are the whole's. -/
theorem normed_block (c : Dev nD) (t : Fin cfg0.N) (r : Fin 432) (j : Fin 1024) :
    ((at2 (a := 432) (b := 1024) (iblk m c 0 t) r j * RowNorm.scale (at2 (a := 432) (b := 1024) (iblk m c 0 t) r))
      * at2 (a := 1) (b := 1024) (iblk m c 1 t) 0 j : EReal) = normedAt m c (rowOf t r) j := by
  rw [row_h, block_g]
  rfl

theorem normed_at (c : Dev nD) (t : Fin cfg0.N) (r : Fin 432) (j : Fin 1024) :
    out0_4 (F := Ideal) (iblk m c 0 t) (iblk m c 1 t) (iblk m c 2 t) (ix2 r j) = normedAt m c (rowOf t r) j := by
  rw [normed_out]
  exact (normed_apply _ _ r j).trans (normed_block m c t r j)

theorem product_at (c : Dev nD) (t : Fin cfg0.N) (r : Fin 432) (p : Fin 3072) :
    out0_3 (F := Ideal) (iblk m c 0 t) (iblk m c 1 t) (iblk m c 2 t) (ix2 r p) = productAt m c (rowOf t r) p := by
  refine (tile_apply _ _ _ r p).trans ?_
  exact Finset.sum_congr rfl fun q _ => by rw [normed_block, block_w]

/-! ## The two result arrays -/

/-- The product. -/
def product (c : Dev nD) : Buf (Elt Ideal) ((c : Thread nD τ).loc main_v0_0) :=
  fun i => productAt m c ⟨(i 0).val, (i 0).isLt⟩ ⟨(i 1).val, (i 1).isLt⟩

/-- The normed matrix. -/
def normed (c : Dev nD) : Buf (Elt Ideal) ((c : Thread nD τ).loc main_v0_1) :=
  fun i => normedAt m c ⟨(i 0).val, (i 0).isLt⟩ ⟨(i 1).val, (i 1).isLt⟩

theorem flushed_p (c : Dev nD) (t : Fin cfg0.N) :
    (dats m 0 c).flushed 3 t = ((cfg0.win 3).blk t).view.read (Elt Ideal) (product m c) := by
  rw [flushed3]
  obtain ⟨e0, e1⟩ := index_p t
  funext y
  have hy0 : (y 0).val < 432 := (y 0).isLt
  have hy1 : (y 1).val < 3072 := (y 1).isLt
  have hb0 : (((cfg0.win 3).blk t).view.emb y 0).val = win0_3.index t (0 : Fin 2) * 432 + 1 * (y 0).val := rfl
  have hb1 : (((cfg0.win 3).blk t).view.emb y 1).val = win0_3.index t (1 : Fin 2) * 3072 + 1 * (y 1).val := rfl
  have hx : (cfg0.win 3).xinj (grid0.coords t) y = ix2 (⟨(y 0).val, hy0⟩ : Fin 432) (⟨(y 1).val, hy1⟩ : Fin 3072) :=
    funext fun a => Fin.ext (match a with | ⟨0, _⟩ => rfl | ⟨1, _⟩ => rfl)
  show out0_3 (F := Ideal) (iblk m c 0 t) (iblk m c 1 t) (iblk m c 2 t) ((cfg0.win 3).xinj (grid0.coords t) y) = product m c (((cfg0.win 3).blk t).view.emb y)
  rw [hx, product_at]
  unfold product
  refine congrArg₂ (productAt m c) (Fin.ext ?_) (Fin.ext ?_)
  · show 432 * t.val + (y 0).val = (((cfg0.win 3).blk t).view.emb y 0).val
    rw [hb0, e0]; omega
  · show (y 1).val = (((cfg0.win 3).blk t).view.emb y 1).val
    rw [hb1, e1]; omega

theorem final_p (c : Dev nD) : (dats m 0 c).arrAt 3 cfg0.N = product m c :=
  (dats m 0 c).arrAt_eq_of_cover 3 (product m c) (fun t _ => flushed_p m c t) fun i => by
    have h0 : (i 0 : Nat) < 8208 := (i 0).isLt
    have h1 : (i 1 : Nat) < 3072 := (i 1).isLt
    have ht : (i 0 : Nat) / 432 < cfg0.N := by show _ < grid0.N; rw [N_0]; omega
    obtain ⟨e0, e1⟩ := index_p ⟨(i 0 : Nat) / 432, ht⟩
    refine ⟨⟨(i 0 : Nat) / 432, ht⟩, flush0_3 _, ?_⟩
    show i ∈ ((View.whole main_v0_0).slice (win0_3.rect ⟨(i 0 : Nat) / 432, ht⟩)).set
    rw [View.set_slice_whole, Rect.mem_set_unit]
    intro a
    match a with
    | ⟨0, _⟩ =>
      show win0_3.index ⟨(i 0 : Nat) / 432, ht⟩ (0 : Fin 2) * 432 ≤ (i 0).val ∧ (i 0).val < win0_3.index ⟨(i 0 : Nat) / 432, ht⟩ (0 : Fin 2) * 432 + 432
      rw [e0]; dsimp only; omega
    | ⟨1, _⟩ =>
      show win0_3.index ⟨(i 0 : Nat) / 432, ht⟩ (1 : Fin 2) * 3072 ≤ (i 1).val ∧ (i 1).val < win0_3.index ⟨(i 0 : Nat) / 432, ht⟩ (1 : Fin 2) * 3072 + 3072
      rw [e1]; omega

theorem flushed_z (c : Dev nD) (t : Fin cfg0.N) :
    (dats m 0 c).flushed 4 t = ((cfg0.win 4).blk t).view.read (Elt Ideal) (normed m c) := by
  rw [flushed4]
  obtain ⟨e0, e1⟩ := index_z t
  funext y
  have hy0 : (y 0).val < 432 := (y 0).isLt
  have hy1 : (y 1).val < 1024 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 1024 + 1 * (y 1).val := rfl
  have hx : (cfg0.win 4).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_4 (F := Ideal) (iblk m c 0 t) (iblk m c 1 t) (iblk m c 2 t) ((cfg0.win 4).xinj (grid0.coords t) y) = normed m c (((cfg0.win 4).blk t).view.emb y)
  rw [hx, normed_at]
  unfold normed
  refine congrArg₂ (normedAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_z (c : Dev nD) : (dats m 0 c).arrAt 4 cfg0.N = normed m c :=
  (dats m 0 c).arrAt_eq_of_cover 4 (normed m c) (fun t _ => flushed_z m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_z ⟨(i 0 : Nat) / 432, ht⟩
    refine ⟨⟨(i 0 : Nat) / 432, ht⟩, flush0_4 _, ?_⟩
    show i ∈ ((View.whole main_v0_1).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 1024 ≤ (i 1).val ∧ (i 1).val < win0_4.index ⟨(i 0 : Nat) / 432, ht⟩ (1 : Fin 2) * 1024 + 1024
      rw [e1]; omega

/-! ## The plain lines -/

section Plain

open Cert.Reference10Ideal.Read

variable (x0 : (Mat 8208 1024).Idx → EReal) (x1 : (Mat 1 1024).Idx → EReal) (x2 : (Mat 1024 3072).Idx → EReal)

theorem plain_square (k : Fin 8208) : val_main_v6 (F := Ideal) x0 (ix2 k 0) = RowNorm.meanSquare (at2 x0 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x0 (funext fun a => ?_))
  match a with
  | ⟨0, _⟩ => rfl
  | ⟨1, _⟩ => rfl

theorem plain_scale (k : Fin 8208) : val_main_v7 (F := Ideal) x0 (ix2 k 0) = RowNorm.scale (at2 x0 k) := by
  rw [val_main_v7_apply, plain_square]; rfl

/-- The normed matrix, as the plain lines give it. -/
theorem plain_normed (k : Fin 8208) (j : Fin 1024) : val_main_v11 (F := Ideal) x0 x1 (ix2 k j)
    = (at2 x0 k j * RowNorm.scale (at2 x0 k)) * at2 x1 0 j := by
  rw [val_main_v11_apply, val_main_v9_apply, val_main_v8_apply, val_main_v10_apply]
  refine congrArg₂ (fun u v : EReal => (at2 x0 k j * u) * v)
    (Eq.trans (congrArg (val_main_v7 (F := Ideal) x0) ?_) (plain_scale x0 k)) (congrArg x1 ?_)
  · funext a
    match a with
    | ⟨0, _⟩ => rfl
    | ⟨1, _⟩ => rfl
  · funext a
    match a with
    | ⟨0, _⟩ => rfl
    | ⟨1, _⟩ => rfl

/-- The product, as the plain lines give it. -/
theorem plain_product (k : Fin 8208) (p : Fin 3072) : val_main_v13 (F := Ideal) x0 x1 x2 (ix2 k p)
    = (∑ q : Fin 1024, ((at2 x0 k q * RowNorm.scale (at2 x0 k)) * at2 x1 0 q) * at2 x2 q p : EReal) := by
  rw [val_main_v13_apply]
  refine Finset.sum_congr rfl fun q _ => ?_
  rw [val_main_v12_apply]
  refine congrArg₂ (fun u v : EReal => u * v) (Eq.trans (congrArg (val_main_v11 (F := Ideal) x0 x1) ?_) (plain_normed x0 x1 k q)) (congrArg x2 ?_)
  · funext a
    match a with
    | ⟨0, _⟩ => rfl
    | ⟨1, _⟩ => rfl
  · funext a
    match a with
    | ⟨0, _⟩ => rfl
    | ⟨1, _⟩ => rfl

end Plain

theorem plain_product_result (c : Dev nD) : Cert.Reference10Ideal.Read.val_main_v13 (F := Ideal) (argH m c) (argG m c) (argW m c) = product m c := by
  funext i
  have hi : i = ix2 (⟨(i 0).val, (i 0).isLt⟩ : Fin 8208) (⟨(i 1).val, (i 1).isLt⟩ : Fin 3072) :=
    funext fun a => by
      match a with
      | ⟨0, _⟩ => rfl
      | ⟨1, _⟩ => rfl
  rw [hi]
  exact plain_product _ _ _ _ _

theorem plain_normed_result (c : Dev nD) : Cert.Reference10Ideal.Read.val_main_v14 (F := Ideal) (argH m c) (argG m c) = normed m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi, Cert.Reference10Ideal.Read.val_main_v14_apply]
  exact plain_normed _ _ _ _

/-- The kernel computes the normed matrix and its product with the weight. -/
theorem algebraic : Cert.algebraic_Kernel10Ideal_Reference10Ideal := by
  intro m ρ m' ρ' _ hargs
  refine ⟨fun c => product m c, fun c => normed m c, ?_, ?_⟩
  · exact (θ_run _ _ _).mono (fun r h c => ⟨(h c).1.trans (final_p m c), (h c).2.1.trans (final_z m c), (h c).2.2⟩)
      (run_blocks (F := Ideal) m ρ)
  · refine (θ_run _ _ _).mono (fun r h c => ⟨(h c).1.trans ?_, (h c).2.1.trans ?_, (h c).2.2⟩)
      (Cert.Reference10Ideal.Value.run (F := Ideal) m' ρ')
    · rw [(hargs c).1, (hargs c).2.1, (hargs c).2.2]
      exact (Cert.Reference10Ideal.Read.val_main_v13_eq _ _ _).trans (plain_product_result m c)
    · rw [(hargs c).1, (hargs c).2.1]
      exact (Cert.Reference10Ideal.Read.val_main_v14_eq _ _).trans (plain_normed_result m c)

end Cert.Kernel10Ideal.NormedProduct

end
-- ==== Proof.NormedProduct11.lean ====
/-
  A product of a normed matrix with a weight, `rms_norm(h, g) · w`: the kernel norms a tile of 432 rows and multiplies it by
  the weight, 1536 columns at a time. Over the extended reals each entry is the plain lines'.
-/
module

public import proofs.«01_k».proof.Defs
public import proofs.«01_k».proof.Proof.NormTile
public import proofs.«01_k».proof.Proof.Gen.Kernel11Ideal.Value
public import proofs.«01_k».proof.Proof.Gen.Reference11Ideal.Run
public import proofs.«01_k».proof.Proof.Gen.Reference11Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel11Ideal.NormedProduct

open Cert.Kernel11Ideal Cert.Kernel11Ideal.Gen Cert.Kernel11Ideal.Value
open Idealize.ShloMosaic Idealize.ShloMosaic.TcCoe Idealize.SL.Sem
open Idealize.ShloMosaic.ValueIdx
open Cert.NormTile

theorem hz : (![0, 0] : Fin 2 → Nat) = fun _ => 0 := funext fun a => by fin_cases a <;> rfl

/-! ## A tile's numbers -/

/-- The normed tile, at an entry. -/
theorem normed_apply (x0 : Vec Ideal S432x1024 .f32) (x1 : Vec Ideal S1x1024 .f32) (r : Fin 432) (j : Fin 1024) :
    k0_pay1 (F := Ideal) x0 x1 (ix2 r j) = (at2 x0 r j * RowNorm.scale (at2 x0 r)) * at2 x1 0 j := by
  have h := normedTile_apply reduces_S432x1024_S432 shapeCasts_S432_S432x1 broadcasts_S432x1_S432x1024 (.inl rfl) rfl x0 r j
  have hg : broadcastTo (Mat 432 1024) (x1 : (Mat 1 1024).Idx → EReal) broadcasts_S1x1024_S432x1024 (ix2 r j) = at2 x1 0 j :=
    broadcastTo_1b_ab_apply _ _ r j
  unfold k0_pay1
  exact congrArg₂ (fun u v : EReal => u * v) h hg

/-- A chunk of 1536 columns of the product. -/
theorem k0_pay2_apply (x0 : Vec Ideal S432x1024 .f32) (x1 : Vec Ideal S1x1024 .f32) (w : Vec Ideal S1024x1536 .bf16) (x : S432x1536.Idx) :
    k0_pay2 (F := Ideal) x0 x1 w x = (∑ q : Fin 1024, at2 (k0_pay1 (F := Ideal) x0 x1) (x 0) q * at2 w q (x 1) : EReal) := by
  obtain ⟨a, b, rfl⟩ : ∃ (a : Fin 432) (b : Fin 1536), x = ix2 a b := ⟨x 0, x 1, eq_ix2 x⟩
  unfold k0_pay2
  refine (Ideal.matmul_plain_apply (M := 432) (K := 1024) (N := 1536) (φ₁ := .bf16) (φ₂ := .bf16) none (k0_pay1 (F := Ideal) x0 x1) w
    (constant S432x1536 .f32 0x00000000#32) a b).trans ?_
  show Ideal.ofBits .f32 0x00000000#32 + _ = _
  rw [Ideal.ofBits_zero_f32, zero_add]

theorem k0_pay3_apply (x0 : Vec Ideal S432x1024 .f32) (x1 : Vec Ideal S1x1024 .f32) (w : Vec Ideal S1024x1536 .bf16) (x : S432x1536.Idx) :
    k0_pay3 (F := Ideal) x0 x1 w x = (∑ q : Fin 1024, at2 (k0_pay1 (F := Ideal) x0 x1) (x 0) q * at2 w q (x 1) : EReal) := k0_pay2_apply x0 x1 w x

theorem k0_pay4_apply (x0 : Vec Ideal S432x1024 .f32) (x1 : Vec Ideal S1x1024 .f32) (w : Vec Ideal S1024x1536 .bf16) (x : S432x1536.Idx) :
    k0_pay4 (F := Ideal) x0 x1 w x = (∑ q : Fin 1024, at2 (k0_pay1 (F := Ideal) x0 x1) (x 0) q * at2 w q (x 1) : EReal) := k0_pay2_apply x0 x1 w x

theorem k0_pay5_apply (x0 : Vec Ideal S432x1024 .f32) (x1 : Vec Ideal S1x1024 .f32) (w : Vec Ideal S1024x1536 .bf16) (x : S432x1536.Idx) :
    k0_pay5 (F := Ideal) x0 x1 w x = (∑ q : Fin 1024, at2 (k0_pay1 (F := Ideal) x0 x1) (x 0) q * at2 w q (x 1) : EReal) := k0_pay2_apply x0 x1 w x

/-- One chunk's entries: columns `off …` of the product. -/
theorem chunk_at (x0 : Vec Ideal S432x1024 .f32) (x1 : Vec Ideal S1x1024 .f32) (x2 : Vec Ideal S1024x6144 .bf16)
    (r : Fin 432) (p : Fin 6144) (off : ℕ) (w : Vec Ideal S1024x1536 .bf16) (x : S432x1536.Idx)
    (hr : r.val = 0 + (x 0).val) (hp : p.val = off + (x 1).val) (y : EReal)
    (hy : y = (∑ q : Fin 1024, at2 (k0_pay1 (F := Ideal) x0 x1) (x 0) q * at2 w q (x 1) : EReal))
    (hw : ∀ q : Fin 1024, off + 1 * (x 1).val = p.val → at2 w q (x 1) = at2 x2 q p) :
    y = (∑ q : Fin 1024, ((at2 x0 r q * RowNorm.scale (at2 x0 r)) * at2 x1 0 q) * at2 x2 q p : EReal) := by
  have er : (x 0 : Fin 432) = r := Fin.ext (by omega)
  rw [hy]
  refine Finset.sum_congr rfl fun q _ => ?_
  rw [hw q (by omega)]
  refine congrArg (fun z : EReal => z * at2 x2 q p) (Eq.trans ?_ (normed_apply x0 x1 r q))
  exact congrArg (fun r' => at2 (k0_pay1 (F := Ideal) x0 x1) r' q) er

/-- What a point leaves of the product. -/
theorem tile_apply (x0 : Vec Ideal S432x1024 .f32) (x1 : Vec Ideal S1x1024 .f32) (x2 : Vec Ideal S1024x6144 .bf16) (r : Fin 432) (p : Fin 6144) :
    out0_3 (F := Ideal) x0 x1 x2 (ix2 r p)
      = (∑ q : Fin 1024, ((at2 x0 r q * RowNorm.scale (at2 x0 r)) * at2 x1 0 q) * at2 x2 q p : EReal) := by
  unfold out0_3
  rw [View.ld_unit_zero (S := S432x1024) hz, View.ld_unit_zero (S := S1x1024) hz]
  refine View.canon_eq_of_allAt _ _ _ (cover0_3 _ _ _ _ _) ?_
  refine View.allAt_cons_unit _ _ _ _ _ (fun x hx => chunk_at x0 x1 x2 r p 4608 _ x (hx 0) (hx 1) _ (k0_pay5_apply _ _ _ x) fun q hq => ?_) ?_
  · refine congrArg x2 (funext fun a => Fin.ext ?_)
    match a with
    | ⟨0, _⟩ => show 0 + 1 * q.val = q.val; omega
    | ⟨1, _⟩ => show 4608 + 1 * (x 1).val = p.val; exact hq
  refine View.allAt_cons_unit _ _ _ _ _ (fun x hx => chunk_at x0 x1 x2 r p 3072 _ x (hx 0) (hx 1) _ (k0_pay4_apply _ _ _ x) fun q hq => ?_) ?_
  · refine congrArg x2 (funext fun a => Fin.ext ?_)
    match a with
    | ⟨0, _⟩ => show 0 + 1 * q.val = q.val; omega
    | ⟨1, _⟩ => show 3072 + 1 * (x 1).val = p.val; exact hq
  refine View.allAt_cons_unit _ _ _ _ _ (fun x hx => chunk_at x0 x1 x2 r p 1536 _ x (hx 0) (hx 1) _ (k0_pay3_apply _ _ _ x) fun q hq => ?_) ?_
  · refine congrArg x2 (funext fun a => Fin.ext ?_)
    match a with
    | ⟨0, _⟩ => show 0 + 1 * q.val = q.val; omega
    | ⟨1, _⟩ => show 1536 + 1 * (x 1).val = p.val; exact hq
  refine View.allAt_cons_unit _ _ _ _ _ (fun x hx => chunk_at x0 x1 x2 r p 0 _ x (hx 0) (hx 1) _ (k0_pay2_apply _ _ _ x) fun q hq => ?_) ?_
  · refine congrArg x2 (funext fun a => Fin.ext ?_)
    match a with
    | ⟨0, _⟩ => show 0 + 1 * q.val = q.val; omega
    | ⟨1, _⟩ => show 0 + 1 * (x 1).val = p.val; exact hq
  exact View.allAt_nil _ _

/-- What a point leaves of the normed matrix. -/
theorem normed_out (x0 : Vec Ideal S432x1024 .f32) (x1 : Vec Ideal S1x1024 .f32) (x2 : Vec Ideal S1024x6144 .bf16) :
    out0_4 (F := Ideal) x0 x1 x2 = k0_pay1 x0 x1 := by
  unfold out0_4
  rw [View.canon_unit_zero hz, View.ld_unit_zero (S := S432x1024) hz, View.ld_unit_zero (S := S1x1024) hz]

/-! ## Over the grid -/

variable (m : (ℓ : Loc nD τ sig) → Buf (Elt Ideal) ℓ) (ρ : Dev nD → PrngReg)

/-- The arguments, as matrices of extended reals. -/
abbrev argH (c : Dev nD) : (Mat 8208 1024).Idx → EReal := m ((c : Thread nD τ).loc main_arg0)
abbrev argG (c : Dev nD) : (Mat 1 1024).Idx → EReal := m ((c : Thread nD τ).loc main_arg1)
abbrev argW (c : Dev nD) : (Mat 1024 6144).Idx → EReal := m ((c : Thread nD τ).loc main_arg2)

theorem index_h : ∀ t : Fin cfg0.N, win0_0.index t (0 : Fin 2) = t.val ∧ win0_0.index t (1 : Fin 2) = 0 :=
  (by decide +kernel : ∀ t : Fin grid0.N, _)
theorem index_g : ∀ t : Fin cfg0.N, win0_1.index t (0 : Fin 2) = 0 ∧ win0_1.index t (1 : Fin 2) = 0 :=
  (by decide +kernel : ∀ t : Fin grid0.N, _)
theorem index_w : ∀ t : Fin cfg0.N, win0_2.index t (0 : Fin 2) = 0 ∧ win0_2.index t (1 : Fin 2) = 0 :=
  (by decide +kernel : ∀ t : Fin grid0.N, _)
theorem index_p : ∀ t : Fin cfg0.N, win0_3.index t (0 : Fin 2) = t.val ∧ win0_3.index t (1 : Fin 2) = 0 :=
  (by decide +kernel : ∀ t : Fin grid0.N, _)
theorem index_z : ∀ t : Fin cfg0.N, win0_4.index t (0 : Fin 2) = t.val ∧ win0_4.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_h (c : Dev nD) (t : Fin cfg0.N) (r : Fin 432) (j : Fin 1024) :
    at2 (a := 432) (b := 1024) (iblk m c 0 t) r j = at2 (argH m c) (rowOf t r) j := by
  obtain ⟨e0, e1⟩ := index_h t
  show argH m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1024 + 1 * j.val = j.val; rw [e1]; omega

theorem block_g (c : Dev nD) (t : Fin cfg0.N) (j : Fin 1024) :
    at2 (a := 1) (b := 1024) (iblk m c 1 t) 0 j = at2 (argG m c) 0 j := by
  obtain ⟨e0, e1⟩ := index_g t
  show argG m c (((cfg0.win 1).blk t).view.emb (ix2 0 j)) = _
  refine congrArg _ (funext fun a => Fin.ext ?_)
  match a with
  | ⟨0, _⟩ => show win0_1.index t (0 : Fin 2) * 1 + 1 * 0 = 0; rw [e0]
  | ⟨1, _⟩ => show win0_1.index t (1 : Fin 2) * 1024 + 1 * j.val = j.val; rw [e1]; omega

theorem block_w (c : Dev nD) (t : Fin cfg0.N) (r : Fin 1024) (j : Fin 6144) :
    at2 (a := 1024) (b := 6144) (iblk m c 2 t) r j = at2 (argW m c) r j := by
  obtain ⟨e0, e1⟩ := index_w t
  show argW m c (((cfg0.win 2).blk t).view.emb (ix2 r j)) = _
  refine congrArg _ (funext fun a => Fin.ext ?_)
  match a with
  | ⟨0, _⟩ => show win0_2.index t (0 : Fin 2) * 1024 + 1 * r.val = r.val; rw [e0]; omega
  | ⟨1, _⟩ => show win0_2.index t (1 : Fin 2) * 6144 + 1 * j.val = j.val; rw [e1]; omega

theorem row_h (c : Dev nD) (t : Fin cfg0.N) (r : Fin 432) : at2 (a := 432) (b := 1024) (iblk m c 0 t) r = at2 (argH m c) (rowOf t r) :=
  funext fun j => block_h m c t r j

/-- The normed matrix at an entry. -/
def normedAt (c : Dev nD) (k : Fin 8208) (j : Fin 1024) : EReal :=
  (at2 (argH m c) k j * RowNorm.scale (at2 (argH m c) k)) * at2 (argG m c) 0 j

/-- The product at an entry. -/
def productAt (c : Dev nD) (k : Fin 8208) (p : Fin 6144) : EReal := ∑ q : Fin 1024, normedAt m c k q * at2 (argW m c) q p

/-- A tile's normed entries are the whole's. -/
theorem normed_block (c : Dev nD) (t : Fin cfg0.N) (r : Fin 432) (j : Fin 1024) :
    ((at2 (a := 432) (b := 1024) (iblk m c 0 t) r j * RowNorm.scale (at2 (a := 432) (b := 1024) (iblk m c 0 t) r))
      * at2 (a := 1) (b := 1024) (iblk m c 1 t) 0 j : EReal) = normedAt m c (rowOf t r) j := by
  rw [row_h, block_g]
  rfl

theorem normed_at (c : Dev nD) (t : Fin cfg0.N) (r : Fin 432) (j : Fin 1024) :
    out0_4 (F := Ideal) (iblk m c 0 t) (iblk m c 1 t) (iblk m c 2 t) (ix2 r j) = normedAt m c (rowOf t r) j := by
  rw [normed_out]
  exact (normed_apply _ _ r j).trans (normed_block m c t r j)

theorem product_at (c : Dev nD) (t : Fin cfg0.N) (r : Fin 432) (p : Fin 6144) :
    out0_3 (F := Ideal) (iblk m c 0 t) (iblk m c 1 t) (iblk m c 2 t) (ix2 r p) = productAt m c (rowOf t r) p := by
  refine (tile_apply _ _ _ r p).trans ?_
  exact Finset.sum_congr rfl fun q _ => by rw [normed_block, block_w]

/-! ## The two result arrays -/

/-- The product. -/
def product (c : Dev nD) : Buf (Elt Ideal) ((c : Thread nD τ).loc main_v0_0) :=
  fun i => productAt m c ⟨(i 0).val, (i 0).isLt⟩ ⟨(i 1).val, (i 1).isLt⟩

/-- The normed matrix. -/
def normed (c : Dev nD) : Buf (Elt Ideal) ((c : Thread nD τ).loc main_v0_1) :=
  fun i => normedAt m c ⟨(i 0).val, (i 0).isLt⟩ ⟨(i 1).val, (i 1).isLt⟩

theorem flushed_p (c : Dev nD) (t : Fin cfg0.N) :
    (dats m 0 c).flushed 3 t = ((cfg0.win 3).blk t).view.read (Elt Ideal) (product m c) := by
  rw [flushed3]
  obtain ⟨e0, e1⟩ := index_p t
  funext y
  have hy0 : (y 0).val < 432 := (y 0).isLt
  have hy1 : (y 1).val < 6144 := (y 1).isLt
  have hb0 : (((cfg0.win 3).blk t).view.emb y 0).val = win0_3.index t (0 : Fin 2) * 432 + 1 * (y 0).val := rfl
  have hb1 : (((cfg0.win 3).blk t).view.emb y 1).val = win0_3.index t (1 : Fin 2) * 6144 + 1 * (y 1).val := rfl
  have hx : (cfg0.win 3).xinj (grid0.coords t) y = ix2 (⟨(y 0).val, hy0⟩ : Fin 432) (⟨(y 1).val, hy1⟩ : Fin 6144) :=
    funext fun a => Fin.ext (match a with | ⟨0, _⟩ => rfl | ⟨1, _⟩ => rfl)
  show out0_3 (F := Ideal) (iblk m c 0 t) (iblk m c 1 t) (iblk m c 2 t) ((cfg0.win 3).xinj (grid0.coords t) y) = product m c (((cfg0.win 3).blk t).view.emb y)
  rw [hx, product_at]
  unfold product
  refine congrArg₂ (productAt m c) (Fin.ext ?_) (Fin.ext ?_)
  · show 432 * t.val + (y 0).val = (((cfg0.win 3).blk t).view.emb y 0).val
    rw [hb0, e0]; omega
  · show (y 1).val = (((cfg0.win 3).blk t).view.emb y 1).val
    rw [hb1, e1]; omega

theorem final_p (c : Dev nD) : (dats m 0 c).arrAt 3 cfg0.N = product m c :=
  (dats m 0 c).arrAt_eq_of_cover 3 (product m c) (fun t _ => flushed_p m c t) fun i => by
    have h0 : (i 0 : Nat) < 8208 := (i 0).isLt
    have h1 : (i 1 : Nat) < 6144 := (i 1).isLt
    have ht : (i 0 : Nat) / 432 < cfg0.N := by show _ < grid0.N; rw [N_0]; omega
    obtain ⟨e0, e1⟩ := index_p ⟨(i 0 : Nat) / 432, ht⟩
    refine ⟨⟨(i 0 : Nat) / 432, ht⟩, flush0_3 _, ?_⟩
    show i ∈ ((View.whole main_v0_0).slice (win0_3.rect ⟨(i 0 : Nat) / 432, ht⟩)).set
    rw [View.set_slice_whole, Rect.mem_set_unit]
    intro a
    match a with
    | ⟨0, _⟩ =>
      show win0_3.index ⟨(i 0 : Nat) / 432, ht⟩ (0 : Fin 2) * 432 ≤ (i 0).val ∧ (i 0).val < win0_3.index ⟨(i 0 : Nat) / 432, ht⟩ (0 : Fin 2) * 432 + 432
      rw [e0]; dsimp only; omega
    | ⟨1, _⟩ =>
      show win0_3.index ⟨(i 0 : Nat) / 432, ht⟩ (1 : Fin 2) * 6144 ≤ (i 1).val ∧ (i 1).val < win0_3.index ⟨(i 0 : Nat) / 432, ht⟩ (1 : Fin 2) * 6144 + 6144
      rw [e1]; omega

theorem flushed_z (c : Dev nD) (t : Fin cfg0.N) :
    (dats m 0 c).flushed 4 t = ((cfg0.win 4).blk t).view.read (Elt Ideal) (normed m c) := by
  rw [flushed4]
  obtain ⟨e0, e1⟩ := index_z t
  funext y
  have hy0 : (y 0).val < 432 := (y 0).isLt
  have hy1 : (y 1).val < 1024 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 1024 + 1 * (y 1).val := rfl
  have hx : (cfg0.win 4).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_4 (F := Ideal) (iblk m c 0 t) (iblk m c 1 t) (iblk m c 2 t) ((cfg0.win 4).xinj (grid0.coords t) y) = normed m c (((cfg0.win 4).blk t).view.emb y)
  rw [hx, normed_at]
  unfold normed
  refine congrArg₂ (normedAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_z (c : Dev nD) : (dats m 0 c).arrAt 4 cfg0.N = normed m c :=
  (dats m 0 c).arrAt_eq_of_cover 4 (normed m c) (fun t _ => flushed_z m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_z ⟨(i 0 : Nat) / 432, ht⟩
    refine ⟨⟨(i 0 : Nat) / 432, ht⟩, flush0_4 _, ?_⟩
    show i ∈ ((View.whole main_v0_1).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 1024 ≤ (i 1).val ∧ (i 1).val < win0_4.index ⟨(i 0 : Nat) / 432, ht⟩ (1 : Fin 2) * 1024 + 1024
      rw [e1]; omega

/-! ## The plain lines -/

section Plain

open Cert.Reference11Ideal.Read

variable (x0 : (Mat 8208 1024).Idx → EReal) (x1 : (Mat 1 1024).Idx → EReal) (x2 : (Mat 1024 6144).Idx → EReal)

theorem plain_square (k : Fin 8208) : val_main_v6 (F := Ideal) x0 (ix2 k 0) = RowNorm.meanSquare (at2 x0 k) := by
  rw [val_main_v6_apply, val_main_v4_apply, val_main_v2_apply, val_main_v1_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v0_apply]
  refine congrArg (fun z : EReal => z * z) (congrArg x0 (funext fun a => ?_))
  match a with
  | ⟨0, _⟩ => rfl
  | ⟨1, _⟩ => rfl

theorem plain_scale (k : Fin 8208) : val_main_v7 (F := Ideal) x0 (ix2 k 0) = RowNorm.scale (at2 x0 k) := by
  rw [val_main_v7_apply, plain_square]; rfl

/-- The normed matrix, as the plain lines give it. -/
theorem plain_normed (k : Fin 8208) (j : Fin 1024) : val_main_v11 (F := Ideal) x0 x1 (ix2 k j)
    = (at2 x0 k j * RowNorm.scale (at2 x0 k)) * at2 x1 0 j := by
  rw [val_main_v11_apply, val_main_v9_apply, val_main_v8_apply, val_main_v10_apply]
  refine congrArg₂ (fun u v : EReal => (at2 x0 k j * u) * v)
    (Eq.trans (congrArg (val_main_v7 (F := Ideal) x0) ?_) (plain_scale x0 k)) (congrArg x1 ?_)
  · funext a
    match a with
    | ⟨0, _⟩ => rfl
    | ⟨1, _⟩ => rfl
  · funext a
    match a with
    | ⟨0, _⟩ => rfl
    | ⟨1, _⟩ => rfl

/-- The product, as the plain lines give it. -/
theorem plain_product (k : Fin 8208) (p : Fin 6144) : val_main_v13 (F := Ideal) x0 x1 x2 (ix2 k p)
    = (∑ q : Fin 1024, ((at2 x0 k q * RowNorm.scale (at2 x0 k)) * at2 x1 0 q) * at2 x2 q p : EReal) := by
  rw [val_main_v13_apply]
  refine Finset.sum_congr rfl fun q _ => ?_
  rw [val_main_v12_apply]
  refine congrArg₂ (fun u v : EReal => u * v) (Eq.trans (congrArg (val_main_v11 (F := Ideal) x0 x1) ?_) (plain_normed x0 x1 k q)) (congrArg x2 ?_)
  · funext a
    match a with
    | ⟨0, _⟩ => rfl
    | ⟨1, _⟩ => rfl
  · funext a
    match a with
    | ⟨0, _⟩ => rfl
    | ⟨1, _⟩ => rfl

end Plain

theorem plain_product_result (c : Dev nD) : Cert.Reference11Ideal.Read.val_main_v13 (F := Ideal) (argH m c) (argG m c) (argW m c) = product m c := by
  funext i
  have hi : i = ix2 (⟨(i 0).val, (i 0).isLt⟩ : Fin 8208) (⟨(i 1).val, (i 1).isLt⟩ : Fin 6144) :=
    funext fun a => by
      match a with
      | ⟨0, _⟩ => rfl
      | ⟨1, _⟩ => rfl
  rw [hi]
  exact plain_product _ _ _ _ _

theorem plain_normed_result (c : Dev nD) : Cert.Reference11Ideal.Read.val_main_v14 (F := Ideal) (argH m c) (argG m c) = normed m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi, Cert.Reference11Ideal.Read.val_main_v14_apply]
  exact plain_normed _ _ _ _

/-- The kernel computes the normed matrix and its product with the weight. -/
theorem algebraic : Cert.algebraic_Kernel11Ideal_Reference11Ideal := by
  intro m ρ m' ρ' _ hargs
  refine ⟨fun c => product m c, fun c => normed m c, ?_, ?_⟩
  · exact (θ_run _ _ _).mono (fun r h c => ⟨(h c).1.trans (final_p m c), (h c).2.1.trans (final_z m c), (h c).2.2⟩)
      (run_blocks (F := Ideal) m ρ)
  · refine (θ_run _ _ _).mono (fun r h c => ⟨(h c).1.trans ?_, (h c).2.1.trans ?_, (h c).2.2⟩)
      (Cert.Reference11Ideal.Value.run (F := Ideal) m' ρ')
    · rw [(hargs c).1, (hargs c).2.1, (hargs c).2.2]
      exact (Cert.Reference11Ideal.Read.val_main_v13_eq _ _ _).trans (plain_product_result m c)
    · rw [(hargs c).1, (hargs c).2.1]
      exact (Cert.Reference11Ideal.Read.val_main_v14_eq _ _).trans (plain_normed_result m c)

end Cert.Kernel11Ideal.NormedProduct

end
-- ==== Proof.ProductNorm12.lean ====
/-
  A product with a weight, normed and added to the residual, `h + rms_norm(a · w, g)`: the kernel multiplies a tile of 432
  rows, keeps the product, and norms it. Over the extended reals each entry is the plain lines'.
-/
module

public import proofs.«01_k».proof.Defs
public import proofs.«01_k».proof.Proof.NormTile
public import proofs.«01_k».proof.Proof.Gen.Kernel12Ideal.Value
public import proofs.«01_k».proof.Proof.Gen.Reference12Ideal.Run
public import proofs.«01_k».proof.Proof.Gen.Reference12Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel12Ideal.ProductNorm

open Cert.Kernel12Ideal Cert.Kernel12Ideal.Gen Cert.Kernel12Ideal.Value
open Idealize.ShloMosaic Idealize.ShloMosaic.TcCoe Idealize.SL.Sem
open Idealize.ShloMosaic.ValueIdx
open Cert.NormTile

theorem hz : (![0, 0] : Fin 2 → Nat) = fun _ => 0 := funext fun a => by fin_cases a <;> rfl

/-! ## A tile's numbers -/

/-- The product of a tile, at an entry. -/
theorem product_apply (x0 : Vec Ideal S432x1536 .bf16) (x1 : Vec Ideal S1536x1024 .bf16) (r : Fin 432) (j : Fin 1024) :
    k0_pay1 (F := Ideal) x0 x1 (ix2 r j) = (∑ q : Fin 1536, at2 x0 r q * at2 x1 q j : EReal) := by
  unfold k0_pay1
  refine (Ideal.matmul_plain_apply (M := 432) (K := 1536) (N := 1024) (φ₁ := .bf16) (φ₂ := .bf16) none x0 x1
    (constant S432x1024 .f32 0x00000000#32) r j).trans ?_
  show Ideal.ofBits .f32 0x00000000#32 + _ = _
  rw [Ideal.ofBits_zero_f32, zero_add]

/-- The normed tile added to the residual's, at an entry. -/
theorem sum_apply (x0 : Vec Ideal S432x1536 .bf16) (x1 : Vec Ideal S1536x1024 .bf16) (x2 : Vec Ideal S432x1024 .f32) (x3 : Vec Ideal S1x1024 .f32) (r : Fin 432) (j : Fin 1024) :
    k0_pay2 (F := Ideal) x0 x1 x2 x3 (ix2 r j)
      = at2 x2 r j + ((∑ q : Fin 1536, at2 x0 r q * at2 x1 q j : EReal)
          * RowNorm.scale (fun k => (∑ q : Fin 1536, at2 x0 r q * at2 x1 q k : EReal))) * at2 x3 0 j := by
  have h := normedTile_apply reduces_S432x1024_S432 shapeCasts_S432_S432x1 broadcasts_S432x1_S432x1024 (.inl rfl) rfl (k0_pay1 (F := Ideal) x0 x1) r j
  have hg : broadcastTo (Mat 432 1024) (x3 : (Mat 1 1024).Idx → EReal) broadcasts_S1x1024_S432x1024 (ix2 r j) = at2 x3 0 j :=
    broadcastTo_1b_ab_apply _ _ r j
  have hp : at2 (k0_pay1 (F := Ideal) x0 x1) r = fun k => (∑ q : Fin 1536, at2 x0 r q * at2 x1 q k : EReal) :=
    funext fun k => product_apply x0 x1 r k
  rw [hp] at h
  unfold k0_pay2
  exact congrArg₂ (fun u v : EReal => at2 x2 r j + u * v) h hg

/-- What a point leaves of the product. -/
theorem product_out (x0 : Vec Ideal S432x1536 .bf16) (x1 : Vec Ideal S1536x1024 .bf16) (x2 : Vec Ideal S432x1024 .f32) (x3 : Vec Ideal S1x1024 .f32) : out0_4 (F := Ideal) x0 x1 x2 x3 = k0_pay1 x0 x1 := by
  unfold out0_4
  rw [View.canon_unit_zero hz, View.ld_unit_zero (S := S432x1536) hz, View.ld_unit_zero (S := S1536x1024) hz]

/-- What a point leaves of the residual. -/
theorem sum_out (x0 : Vec Ideal S432x1536 .bf16) (x1 : Vec Ideal S1536x1024 .bf16) (x2 : Vec Ideal S432x1024 .f32) (x3 : Vec Ideal S1x1024 .f32) : out0_5 (F := Ideal) x0 x1 x2 x3 = k0_pay2 x0 x1 x2 x3 := by
  unfold out0_5
  rw [View.canon_unit_zero hz, View.ld_unit_zero (S := S432x1536) hz, View.ld_unit_zero (S := S1536x1024) hz,
    View.ld_unit_zero (S := S432x1024) hz, View.ld_unit_zero (S := S1x1024) hz]

/-! ## Over the grid -/

variable (m : (ℓ : Loc nD τ sig) → Buf (Elt Ideal) ℓ) (ρ : Dev nD → PrngReg)

/-- The arguments, as matrices of extended reals. -/
abbrev argA (c : Dev nD) : (Mat 8208 1536).Idx → EReal := m ((c : Thread nD τ).loc main_arg0)
abbrev argW (c : Dev nD) : (Mat 1536 1024).Idx → EReal := m ((c : Thread nD τ).loc main_arg1)
abbrev argH (c : Dev nD) : (Mat 8208 1024).Idx → EReal := m ((c : Thread nD τ).loc main_arg2)
abbrev argG (c : Dev nD) : (Mat 1 1024).Idx → EReal := m ((c : Thread nD τ).loc main_arg3)

theorem index_a : ∀ t : Fin cfg0.N, win0_0.index t (0 : Fin 2) = t.val ∧ win0_0.index t (1 : Fin 2) = 0 :=
  (by decide +kernel : ∀ t : Fin grid0.N, _)
theorem index_w : ∀ t : Fin cfg0.N, win0_1.index t (0 : Fin 2) = 0 ∧ win0_1.index t (1 : Fin 2) = 0 :=
  (by decide +kernel : ∀ t : Fin grid0.N, _)
theorem index_h : ∀ t : Fin cfg0.N, win0_2.index t (0 : Fin 2) = t.val ∧ win0_2.index t (1 : Fin 2) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_p : ∀ t : Fin cfg0.N, win0_4.index t (0 : Fin 2) = t.val ∧ win0_4.index t (1 : Fin 2) = 0 :=
  (by decide +kernel : ∀ t : Fin grid0.N, _)
theorem index_s : ∀ t : Fin cfg0.N, win0_5.index t (0 : Fin 2) = t.val ∧ win0_5.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_a (c : Dev nD) (t : Fin cfg0.N) (r : Fin 432) (j : Fin 1536) :
    at2 (a := 432) (b := 1536) (iblk m c 0 t) r j = at2 (argA m c) (rowOf t r) j := by
  obtain ⟨e0, e1⟩ := index_a t
  show argA m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1536 + 1 * j.val = j.val; rw [e1]; omega

theorem block_w (c : Dev nD) (t : Fin cfg0.N) (r : Fin 1536) (j : Fin 1024) :
    at2 (a := 1536) (b := 1024) (iblk m c 1 t) r j = at2 (argW m c) r j := by
  obtain ⟨e0, e1⟩ := index_w t
  show argW m c (((cfg0.win 1).blk t).view.emb (ix2 r j)) = _
  refine congrArg _ (funext fun a => Fin.ext ?_)
  match a with
  | ⟨0, _⟩ => show win0_1.index t (0 : Fin 2) * 1536 + 1 * r.val = r.val; rw [e0]; omega
  | ⟨1, _⟩ => show win0_1.index t (1 : Fin 2) * 1024 + 1 * j.val = j.val; rw [e1]; omega

theorem block_h (c : Dev nD) (t : Fin cfg0.N) (r : Fin 432) (j : Fin 1024) :
    at2 (a := 432) (b := 1024) (iblk m c 2 t) r j = at2 (argH m c) (rowOf t r) j := by
  obtain ⟨e0, e1⟩ := index_h t
  show argH m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_g (c : Dev nD) (t : Fin cfg0.N) (j : Fin 1024) :
    at2 (a := 1) (b := 1024) (iblk m c 3 t) 0 j = at2 (argG m c) 0 j := by
  obtain ⟨e0, e1⟩ := index_g t
  show argG m c (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * j.val = j.val; rw [e1]; omega

/-- The product at an entry. -/
def productAt (c : Dev nD) (k : Fin 8208) (j : Fin 1024) : EReal := ∑ q : Fin 1536, at2 (argA m c) k q * at2 (argW m c) q j

/-- The residual at an entry. -/
def sumAt (c : Dev nD) (k : Fin 8208) (j : Fin 1024) : EReal :=
  at2 (argH m c) k j + (productAt m c k j * RowNorm.scale (productAt m c k)) * at2 (argG m c) 0 j

theorem product_block (c : Dev nD) (t : Fin cfg0.N) (r : Fin 432) (j : Fin 1024) :
    (∑ q : Fin 1536, at2 (a := 432) (b := 1536) (iblk m c 0 t) r q * at2 (a := 1536) (b := 1024) (iblk m c 1 t) q j : EReal)
      = productAt m c (rowOf t r) j :=
  Finset.sum_congr rfl fun q _ => by rw [block_a, block_w]

theorem product_at (c : Dev nD) (t : Fin cfg0.N) (r : Fin 432) (j : Fin 1024) :
    out0_4 (F := Ideal) (iblk m c 0 t) (iblk m c 1 t) (iblk m c 2 t) (iblk m c 3 t) (ix2 r j) = productAt m c (rowOf t r) j := by
  rw [product_out]
  exact (product_apply _ _ r j).trans (product_block m c t r j)

theorem sum_at (c : Dev nD) (t : Fin cfg0.N) (r : Fin 432) (j : Fin 1024) :
    out0_5 (F := Ideal) (iblk m c 0 t) (iblk m c 1 t) (iblk m c 2 t) (iblk m c 3 t) (ix2 r j) = sumAt m c (rowOf t r) j := by
  have e : (fun k => (∑ q : Fin 1536, at2 (a := 432) (b := 1536) (iblk m c 0 t) r q * at2 (a := 1536) (b := 1024) (iblk m c 1 t) q k : EReal))
      = productAt m c (rowOf t r) := funext fun k => product_block m c t r k
  rw [sum_out]
  refine (sum_apply _ _ _ _ r j).trans ?_
  rw [e, product_block, block_h, block_g]
  rfl

/-! ## The two result arrays -/

/-- The product. -/
def product (c : Dev nD) : Buf (Elt Ideal) ((c : Thread nD τ).loc main_v0_0) :=
  fun i => productAt m c ⟨(i 0).val, (i 0).isLt⟩ ⟨(i 1).val, (i 1).isLt⟩

/-- The residual. -/
def residual (c : Dev nD) : Buf (Elt Ideal) ((c : Thread nD τ).loc main_v0_1) :=
  fun i => sumAt m c ⟨(i 0).val, (i 0).isLt⟩ ⟨(i 1).val, (i 1).isLt⟩

theorem flushed_p (c : Dev nD) (t : Fin cfg0.N) :
    (dats m 0 c).flushed 4 t = ((cfg0.win 4).blk t).view.read (Elt Ideal) (product m c) := by
  rw [flushed4]
  obtain ⟨e0, e1⟩ := index_p t
  funext y
  have hy0 : (y 0).val < 432 := (y 0).isLt
  have hy1 : (y 1).val < 1024 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 1024 + 1 * (y 1).val := rfl
  have hx : (cfg0.win 4).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_4 (F := Ideal) (iblk m c 0 t) (iblk m c 1 t) (iblk m c 2 t) (iblk m c 3 t) ((cfg0.win 4).xinj (grid0.coords t) y) = product m c (((cfg0.win 4).blk t).view.emb y)
  rw [hx, product_at]
  unfold product
  refine congrArg₂ (productAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_p (c : Dev nD) : (dats m 0 c).arrAt 4 cfg0.N = product m c :=
  (dats m 0 c).arrAt_eq_of_cover 4 (product m c) (fun t _ => flushed_p m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_p ⟨(i 0 : Nat) / 432, ht⟩
    refine ⟨⟨(i 0 : Nat) / 432, ht⟩, flush0_4 _, ?_⟩
    show i ∈ ((View.whole main_v0_0).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 1024 ≤ (i 1).val ∧ (i 1).val < win0_4.index ⟨(i 0 : Nat) / 432, ht⟩ (1 : Fin 2) * 1024 + 1024
      rw [e1]; omega

theorem flushed_s (c : Dev nD) (t : Fin cfg0.N) :
    (dats m 0 c).flushed 5 t = ((cfg0.win 5).blk t).view.read (Elt Ideal) (residual m c) := by
  rw [flushed5]
  obtain ⟨e0, e1⟩ := index_s t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_5 (F := Ideal) (iblk m c 0 t) (iblk m c 1 t) (iblk m c 2 t) (iblk m c 3 t) ((cfg0.win 5).xinj (grid0.coords t) y) = residual m c (((cfg0.win 5).blk t).view.emb y)
  rw [hx, sum_at]
  unfold residual
  refine congrArg₂ (sumAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_s (c : Dev nD) : (dats m 0 c).arrAt 5 cfg0.N = residual m c :=
  (dats m 0 c).arrAt_eq_of_cover 5 (residual m c) (fun t _ => flushed_s m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_s ⟨(i 0 : Nat) / 432, ht⟩
    refine ⟨⟨(i 0 : Nat) / 432, ht⟩, flush0_5 _, ?_⟩
    show i ∈ ((View.whole main_v0_1).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

/-! ## The plain lines -/

section Plain

open Cert.Reference12Ideal.Read

variable (x0 : (Mat 8208 1536).Idx → EReal) (x1 : (Mat 1536 1024).Idx → EReal) (x2 : (Mat 8208 1024).Idx → EReal) (x3 : (Mat 1 1024).Idx → EReal)

/-- The product, as the plain lines give it. -/
theorem plain_product (k : Fin 8208) (j : Fin 1024) : val_main_v2 (F := Ideal) x0 x1 (ix2 k j)
    = (∑ q : Fin 1536, at2 x0 k q * at2 x1 q j : EReal) := by
  rw [val_main_v2_apply]
  refine Finset.sum_congr rfl fun q _ => ?_
  rw [val_main_v0_apply, val_main_v1_apply]
  refine congrArg₂ (fun u v : EReal => u * v) (congrArg x0 ?_) (congrArg x1 ?_)
  · funext a
    match a with
    | ⟨0, _⟩ => rfl
    | ⟨1, _⟩ => rfl
  · funext a
    match a with
    | ⟨0, _⟩ => rfl
    | ⟨1, _⟩ => rfl

theorem plain_square (k : Fin 8208) : val_main_v9 (F := Ideal) x0 x1 (ix2 k 0)
    = RowNorm.meanSquare (fun j => (∑ q : Fin 1536, at2 x0 k q * at2 x1 q j : EReal)) := by
  rw [val_main_v9_apply, val_main_v7_apply, val_main_v5_apply, val_main_v4_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v3_apply]
  refine congrArg (fun z : EReal => z * z) (Eq.trans (congrArg (val_main_v2 (F := Ideal) x0 x1) (funext fun a => ?_)) (plain_product x0 x1 k j))
  match a with
  | ⟨0, _⟩ => rfl
  | ⟨1, _⟩ => rfl

theorem plain_scale (k : Fin 8208) : val_main_v10 (F := Ideal) x0 x1 (ix2 k 0)
    = RowNorm.scale (fun j => (∑ q : Fin 1536, at2 x0 k q * at2 x1 q j : EReal)) := by
  rw [val_main_v10_apply, plain_square]; rfl

/-- The residual, as the plain lines give it. -/
theorem plain_sum (k : Fin 8208) (j : Fin 1024) : val_main_v15 (F := Ideal) x0 x1 x2 x3 (ix2 k j)
    = at2 x2 k j + ((∑ q : Fin 1536, at2 x0 k q * at2 x1 q j : EReal)
        * RowNorm.scale (fun j => (∑ q : Fin 1536, at2 x0 k q * at2 x1 q j : EReal))) * at2 x3 0 j := by
  have e11 : idx_main_v11 (ix2 k j) = ix2 k 0 := funext fun a => by
    match a with
    | ⟨0, _⟩ => rfl
    | ⟨1, _⟩ => rfl
  have e13 : idx_main_v13 (ix2 k j) = ix2 0 j := funext fun a => by
    match a with
    | ⟨0, _⟩ => rfl
    | ⟨1, _⟩ => rfl
  rw [val_main_v15_apply, val_main_v14_apply, val_main_v12_apply, val_main_v11_apply, val_main_v13_apply, e11, e13, plain_scale, plain_product]
  rfl

end Plain

theorem plain_product_result (c : Dev nD) : Cert.Reference12Ideal.Read.val_main_v2 (F := Ideal) (argA m c) (argW m c) = product m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_product _ _ _ _

theorem plain_sum_result (c : Dev nD) : Cert.Reference12Ideal.Read.val_main_v15 (F := Ideal) (argA m c) (argW m c) (argH m c) (argG m c) = residual m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_sum _ _ _ _ _ _

/-- The kernel computes the product, and the residual with the normed product added. -/
theorem algebraic : Cert.algebraic_Kernel12Ideal_Reference12Ideal := by
  intro m ρ m' ρ' _ hargs
  refine ⟨fun c => product m c, fun c => residual m c, ?_, ?_⟩
  · exact (θ_run _ _ _).mono (fun r h c => ⟨(h c).1.trans (final_p m c), (h c).2.1.trans (final_s m c), (h c).2.2⟩)
      (run_blocks (F := Ideal) m ρ)
  · refine (θ_run _ _ _).mono (fun r h c => ⟨(h c).1.trans ?_, (h c).2.1.trans ?_, (h c).2.2⟩)
      (Cert.Reference12Ideal.Value.run (F := Ideal) m' ρ')
    · rw [(hargs c).1, (hargs c).2.1]
      exact (Cert.Reference12Ideal.Read.val_main_v2_eq _ _).trans (plain_product_result m c)
    · rw [(hargs c).1, (hargs c).2.1, (hargs c).2.2.1, (hargs c).2.2.2]
      exact (Cert.Reference12Ideal.Read.val_main_v15_eq _ _ _ _).trans (plain_sum_result m c)

end Cert.Kernel12Ideal.ProductNorm

end
-- ==== Proof.ProductNorm13.lean ====
/-
  A product with a weight, normed and added to the residual, `h + rms_norm(a · w, g)`: the kernel multiplies a tile of 432
  rows, keeps the product, and norms it. Over the extended reals each entry is the plain lines'.
-/
module

public import proofs.«01_k».proof.Defs
public import proofs.«01_k».proof.Proof.NormTile
public import proofs.«01_k».proof.Proof.Gen.Kernel13Ideal.Value
public import proofs.«01_k».proof.Proof.Gen.Reference13Ideal.Run
public import proofs.«01_k».proof.Proof.Gen.Reference13Ideal.Read
public import Idealize.ShloMosaic.Lib.MatmulPlain
public import Idealize.ShloMosaic.Lib.Pipeline.Value
public import Idealize.ShloMosaic.Lib.Pipeline.ValueKit.Tiles
public import Idealize.ShloMosaic.Lib.Tactic
public import Idealize.ShloMosaic.Lib.Quiescent

@[expose] public section

set_option maxRecDepth 16384

noncomputable section

namespace Cert.Kernel13Ideal.ProductNorm

open Cert.Kernel13Ideal Cert.Kernel13Ideal.Gen Cert.Kernel13Ideal.Value
open Idealize.ShloMosaic Idealize.ShloMosaic.TcCoe Idealize.SL.Sem
open Idealize.ShloMosaic.ValueIdx
open Cert.NormTile

theorem hz : (![0, 0] : Fin 2 → Nat) = fun _ => 0 := funext fun a => by fin_cases a <;> rfl

/-! ## A tile's numbers -/

/-- The product of a tile, at an entry. -/
theorem product_apply (x0 : Vec Ideal S432x3072 .bf16) (x1 : Vec Ideal S3072x1024 .bf16) (r : Fin 432) (j : Fin 1024) :
    k0_pay1 (F := Ideal) x0 x1 (ix2 r j) = (∑ q : Fin 3072, at2 x0 r q * at2 x1 q j : EReal) := by
  unfold k0_pay1
  refine (Ideal.matmul_plain_apply (M := 432) (K := 3072) (N := 1024) (φ₁ := .bf16) (φ₂ := .bf16) none x0 x1
    (constant S432x1024 .f32 0x00000000#32) r j).trans ?_
  show Ideal.ofBits .f32 0x00000000#32 + _ = _
  rw [Ideal.ofBits_zero_f32, zero_add]

/-- The normed tile added to the residual's, at an entry. -/
theorem sum_apply (x0 : Vec Ideal S432x3072 .bf16) (x1 : Vec Ideal S3072x1024 .bf16) (x2 : Vec Ideal S432x1024 .f32) (x3 : Vec Ideal S1x1024 .f32) (r : Fin 432) (j : Fin 1024) :
    k0_pay2 (F := Ideal) x0 x1 x2 x3 (ix2 r j)
      = at2 x2 r j + ((∑ q : Fin 3072, at2 x0 r q * at2 x1 q j : EReal)
          * RowNorm.scale (fun k => (∑ q : Fin 3072, at2 x0 r q * at2 x1 q k : EReal))) * at2 x3 0 j := by
  have h := normedTile_apply reduces_S432x1024_S432 shapeCasts_S432_S432x1 broadcasts_S432x1_S432x1024 (.inl rfl) rfl (k0_pay1 (F := Ideal) x0 x1) r j
  have hg : broadcastTo (Mat 432 1024) (x3 : (Mat 1 1024).Idx → EReal) broadcasts_S1x1024_S432x1024 (ix2 r j) = at2 x3 0 j :=
    broadcastTo_1b_ab_apply _ _ r j
  have hp : at2 (k0_pay1 (F := Ideal) x0 x1) r = fun k => (∑ q : Fin 3072, at2 x0 r q * at2 x1 q k : EReal) :=
    funext fun k => product_apply x0 x1 r k
  rw [hp] at h
  unfold k0_pay2
  exact congrArg₂ (fun u v : EReal => at2 x2 r j + u * v) h hg

/-- What a point leaves of the product. -/
theorem product_out (x0 : Vec Ideal S432x3072 .bf16) (x1 : Vec Ideal S3072x1024 .bf16) (x2 : Vec Ideal S432x1024 .f32) (x3 : Vec Ideal S1x1024 .f32) : out0_4 (F := Ideal) x0 x1 x2 x3 = k0_pay1 x0 x1 := by
  unfold out0_4
  rw [View.canon_unit_zero hz, View.ld_unit_zero (S := S432x3072) hz, View.ld_unit_zero (S := S3072x1024) hz]

/-- What a point leaves of the residual. -/
theorem sum_out (x0 : Vec Ideal S432x3072 .bf16) (x1 : Vec Ideal S3072x1024 .bf16) (x2 : Vec Ideal S432x1024 .f32) (x3 : Vec Ideal S1x1024 .f32) : out0_5 (F := Ideal) x0 x1 x2 x3 = k0_pay2 x0 x1 x2 x3 := by
  unfold out0_5
  rw [View.canon_unit_zero hz, View.ld_unit_zero (S := S432x3072) hz, View.ld_unit_zero (S := S3072x1024) hz,
    View.ld_unit_zero (S := S432x1024) hz, View.ld_unit_zero (S := S1x1024) hz]

/-! ## Over the grid -/

variable (m : (ℓ : Loc nD τ sig) → Buf (Elt Ideal) ℓ) (ρ : Dev nD → PrngReg)

/-- The arguments, as matrices of extended reals. -/
abbrev argA (c : Dev nD) : (Mat 8208 3072).Idx → EReal := m ((c : Thread nD τ).loc main_arg0)
abbrev argW (c : Dev nD) : (Mat 3072 1024).Idx → EReal := m ((c : Thread nD τ).loc main_arg1)
abbrev argH (c : Dev nD) : (Mat 8208 1024).Idx → EReal := m ((c : Thread nD τ).loc main_arg2)
abbrev argG (c : Dev nD) : (Mat 1 1024).Idx → EReal := m ((c : Thread nD τ).loc main_arg3)

theorem index_a : ∀ t : Fin cfg0.N, win0_0.index t (0 : Fin 2) = t.val ∧ win0_0.index t (1 : Fin 2) = 0 :=
  (by decide +kernel : ∀ t : Fin grid0.N, _)
theorem index_w : ∀ t : Fin cfg0.N, win0_1.index t (0 : Fin 2) = 0 ∧ win0_1.index t (1 : Fin 2) = 0 :=
  (by decide +kernel : ∀ t : Fin grid0.N, _)
theorem index_h : ∀ t : Fin cfg0.N, win0_2.index t (0 : Fin 2) = t.val ∧ win0_2.index t (1 : Fin 2) = 0 :=
  (by decide +kernel : ∀ t : Fin grid0.N, _)
theorem index_g : ∀ t : Fin cfg0.N, win0_3.index t (0 : Fin 2) = 0 ∧ win0_3.index t (1 : Fin 2) = 0 :=
  (by decide +kernel : ∀ t : Fin grid0.N, _)
theorem index_p : ∀ t : Fin cfg0.N, win0_4.index t (0 : Fin 2) = t.val ∧ win0_4.index t (1 : Fin 2) = 0 :=
  (by decide +kernel : ∀ t : Fin grid0.N, _)
theorem index_s : ∀ t : Fin cfg0.N, win0_5.index t (0 : Fin 2) = t.val ∧ win0_5.index t (1 : Fin 2) = 0 :=
  (by decide +kernel : ∀ t : Fin grid0.N, _)

theorem points (t : Fin cfg0.N) : t.val < 19 := lt_of_lt_of_eq t.isLt N_0

/-- Row `r` of point `t`'s tile is this row of the whole. -/
def rowOf (t : Fin cfg0.N) (r : Fin 432) : Fin 8208 := ⟨432 * t.val + r.val, by have := points t; have := r.isLt; omega⟩

theorem block_a (c : Dev nD) (t : Fin cfg0.N) (r : Fin 432) (j : Fin 3072) :
    at2 (a := 432) (b := 3072) (iblk m c 0 t) r j = at2 (argA m c) (rowOf t r) j := by
  obtain ⟨e0, e1⟩ := index_a t
  show argA m c (((cfg0.win 0).blk t).view.emb (ix2 r j)) = _
  refine congrArg _ (funext fun a => Fin.ext ?_)
  match a with
  | ⟨0, _⟩ => show win0_0.index t (0 : Fin 2) * 432 + 1 * r.val = 432 * t.val + r.val; rw [e0]; omega
  | ⟨1, _⟩ => show win0_0.index t (1 : Fin 2) * 3072 + 1 * j.val = j.val; rw [e1]; omega

theorem block_w (c : Dev nD) (t : Fin cfg0.N) (r : Fin 3072) (j : Fin 1024) :
    at2 (a := 3072) (b := 1024) (iblk m c 1 t) r j = at2 (argW m c) r j := by
  obtain ⟨e0, e1⟩ := index_w t
  show argW m c (((cfg0.win 1).blk t).view.emb (ix2 r j)) = _
  refine congrArg _ (funext fun a => Fin.ext ?_)
  match a with
  | ⟨0, _⟩ => show win0_1.index t (0 : Fin 2) * 3072 + 1 * r.val = r.val; rw [e0]; omega
  | ⟨1, _⟩ => show win0_1.index t (1 : Fin 2) * 1024 + 1 * j.val = j.val; rw [e1]; omega

theorem block_h (c : Dev nD) (t : Fin cfg0.N) (r : Fin 432) (j : Fin 1024) :
    at2 (a := 432) (b := 1024) (iblk m c 2 t) r j = at2 (argH m c) (rowOf t r) j := by
  obtain ⟨e0, e1⟩ := index_h t
  show argH m c (((cfg0.win 2).blk t).view.emb (ix2 r j)) = _
  refine congrArg _ (funext fun a => Fin.ext ?_)
  match a with
  | ⟨0, _⟩ => show win0_2.index t (0 : Fin 2) * 432 + 1 * r.val = 432 * t.val + r.val; rw [e0]; omega
  | ⟨1, _⟩ => show win0_2.index t (1 : Fin 2) * 1024 + 1 * j.val = j.val; rw [e1]; omega

theorem block_g (c : Dev nD) (t : Fin cfg0.N) (j : Fin 1024) :
    at2 (a := 1) (b := 1024) (iblk m c 3 t) 0 j = at2 (argG m c) 0 j := by
  obtain ⟨e0, e1⟩ := index_g t
  show argG m c (((cfg0.win 3).blk t).view.emb (ix2 0 j)) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1024 + 1 * j.val = j.val; rw [e1]; omega

/-- The product at an entry. -/
def productAt (c : Dev nD) (k : Fin 8208) (j : Fin 1024) : EReal := ∑ q : Fin 3072, at2 (argA m c) k q * at2 (argW m c) q j

/-- The residual at an entry. -/
def sumAt (c : Dev nD) (k : Fin 8208) (j : Fin 1024) : EReal :=
  at2 (argH m c) k j + (productAt m c k j * RowNorm.scale (productAt m c k)) * at2 (argG m c) 0 j

theorem product_block (c : Dev nD) (t : Fin cfg0.N) (r : Fin 432) (j : Fin 1024) :
    (∑ q : Fin 3072, at2 (a := 432) (b := 3072) (iblk m c 0 t) r q * at2 (a := 3072) (b := 1024) (iblk m c 1 t) q j : EReal)
      = productAt m c (rowOf t r) j :=
  Finset.sum_congr rfl fun q _ => by rw [block_a, block_w]

theorem product_at (c : Dev nD) (t : Fin cfg0.N) (r : Fin 432) (j : Fin 1024) :
    out0_4 (F := Ideal) (iblk m c 0 t) (iblk m c 1 t) (iblk m c 2 t) (iblk m c 3 t) (ix2 r j) = productAt m c (rowOf t r) j := by
  rw [product_out]
  exact (product_apply _ _ r j).trans (product_block m c t r j)

theorem sum_at (c : Dev nD) (t : Fin cfg0.N) (r : Fin 432) (j : Fin 1024) :
    out0_5 (F := Ideal) (iblk m c 0 t) (iblk m c 1 t) (iblk m c 2 t) (iblk m c 3 t) (ix2 r j) = sumAt m c (rowOf t r) j := by
  have e : (fun k => (∑ q : Fin 3072, at2 (a := 432) (b := 3072) (iblk m c 0 t) r q * at2 (a := 3072) (b := 1024) (iblk m c 1 t) q k : EReal))
      = productAt m c (rowOf t r) := funext fun k => product_block m c t r k
  rw [sum_out]
  refine (sum_apply _ _ _ _ r j).trans ?_
  rw [e, product_block, block_h, block_g]
  rfl

/-! ## The two result arrays -/

/-- The product. -/
def product (c : Dev nD) : Buf (Elt Ideal) ((c : Thread nD τ).loc main_v0_0) :=
  fun i => productAt m c ⟨(i 0).val, (i 0).isLt⟩ ⟨(i 1).val, (i 1).isLt⟩

/-- The residual. -/
def residual (c : Dev nD) : Buf (Elt Ideal) ((c : Thread nD τ).loc main_v0_1) :=
  fun i => sumAt m c ⟨(i 0).val, (i 0).isLt⟩ ⟨(i 1).val, (i 1).isLt⟩

theorem flushed_p (c : Dev nD) (t : Fin cfg0.N) :
    (dats m 0 c).flushed 4 t = ((cfg0.win 4).blk t).view.read (Elt Ideal) (product m c) := by
  rw [flushed4]
  obtain ⟨e0, e1⟩ := index_p t
  funext y
  have hy0 : (y 0).val < 432 := (y 0).isLt
  have hy1 : (y 1).val < 1024 := (y 1).isLt
  have hb0 : (((cfg0.win 4).blk t).view.emb y 0).val = win0_4.index t (0 : Fin 2) * 432 + 1 * (y 0).val := rfl
  have hb1 : (((cfg0.win 4).blk t).view.emb y 1).val = win0_4.index t (1 : Fin 2) * 1024 + 1 * (y 1).val := rfl
  have hx : (cfg0.win 4).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_4 (F := Ideal) (iblk m c 0 t) (iblk m c 1 t) (iblk m c 2 t) (iblk m c 3 t) ((cfg0.win 4).xinj (grid0.coords t) y) = product m c (((cfg0.win 4).blk t).view.emb y)
  rw [hx, product_at]
  unfold product
  refine congrArg₂ (productAt m c) (Fin.ext ?_) (Fin.ext ?_)
  · show 432 * t.val + (y 0).val = (((cfg0.win 4).blk t).view.emb y 0).val
    rw [hb0, e0]; omega
  · show (y 1).val = (((cfg0.win 4).blk t).view.emb y 1).val
    rw [hb1, e1]; omega

theorem final_p (c : Dev nD) : (dats m 0 c).arrAt 4 cfg0.N = product m c :=
  (dats m 0 c).arrAt_eq_of_cover 4 (product m c) (fun t _ => flushed_p m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_p ⟨(i 0 : Nat) / 432, ht⟩
    refine ⟨⟨(i 0 : Nat) / 432, ht⟩, flush0_4 _, ?_⟩
    show i ∈ ((View.whole main_v0_0).slice (win0_4.rect ⟨(i 0 : Nat) / 432, ht⟩)).set
    rw [View.set_slice_whole, Rect.mem_set_unit]
    intro a
    match a with
    | ⟨0, _⟩ =>
      show win0_4.index ⟨(i 0 : Nat) / 432, ht⟩ (0 : Fin 2) * 432 ≤ (i 0).val ∧ (i 0).val < win0_4.index ⟨(i 0 : Nat) / 432, ht⟩ (0 : Fin 2) * 432 + 432
      rw [e0]; dsimp only; omega
    | ⟨1, _⟩ =>
      show win0_4.index ⟨(i 0 : Nat) / 432, ht⟩ (1 : Fin 2) * 1024 ≤ (i 1).val ∧ (i 1).val < win0_4.index ⟨(i 0 : Nat) / 432, ht⟩ (1 : Fin 2) * 1024 + 1024
      rw [e1]; omega

theorem flushed_s (c : Dev nD) (t : Fin cfg0.N) :
    (dats m 0 c).flushed 5 t = ((cfg0.win 5).blk t).view.read (Elt Ideal) (residual m c) := by
  rw [flushed5]
  obtain ⟨e0, e1⟩ := index_s t
  funext y
  have hy0 : (y 0).val < 432 := (y 0).isLt
  have hy1 : (y 1).val < 1024 := (y 1).isLt
  have hb0 : (((cfg0.win 5).blk t).view.emb y 0).val = win0_5.index t (0 : Fin 2) * 432 + 1 * (y 0).val := rfl
  have hb1 : (((cfg0.win 5).blk t).view.emb y 1).val = win0_5.index t (1 : Fin 2) * 1024 + 1 * (y 1).val := rfl
  have hx : (cfg0.win 5).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show out0_5 (F := Ideal) (iblk m c 0 t) (iblk m c 1 t) (iblk m c 2 t) (iblk m c 3 t) ((cfg0.win 5).xinj (grid0.coords t) y) = residual m c (((cfg0.win 5).blk t).view.emb y)
  rw [hx, sum_at]
  unfold residual
  refine congrArg₂ (sumAt m c) (Fin.ext ?_) (Fin.ext ?_)
  · show 432 * t.val + (y 0).val = (((cfg0.win 5).blk t).view.emb y 0).val
    rw [hb0, e0]; omega
  · show (y 1).val = (((cfg0.win 5).blk t).view.emb y 1).val
    rw [hb1, e1]; omega

theorem final_s (c : Dev nD) : (dats m 0 c).arrAt 5 cfg0.N = residual m c :=
  (dats m 0 c).arrAt_eq_of_cover 5 (residual m c) (fun t _ => flushed_s m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_s ⟨(i 0 : Nat) / 432, ht⟩
    refine ⟨⟨(i 0 : Nat) / 432, ht⟩, flush0_5 _, ?_⟩
    show i ∈ ((View.whole main_v0_1).slice (win0_5.rect ⟨(i 0 : Nat) / 432, ht⟩)).set
    rw [View.set_slice_whole, Rect.mem_set_unit]
    intro a
    match a with
    | ⟨0, _⟩ =>
      show win0_5.index ⟨(i 0 : Nat) / 432, ht⟩ (0 : Fin 2) * 432 ≤ (i 0).val ∧ (i 0).val < win0_5.index ⟨(i 0 : Nat) / 432, ht⟩ (0 : Fin 2) * 432 + 432
      rw [e0]; dsimp only; omega
    | ⟨1, _⟩ =>
      show win0_5.index ⟨(i 0 : Nat) / 432, ht⟩ (1 : Fin 2) * 1024 ≤ (i 1).val ∧ (i 1).val < win0_5.index ⟨(i 0 : Nat) / 432, ht⟩ (1 : Fin 2) * 1024 + 1024
      rw [e1]; omega

/-! ## The plain lines -/

section Plain

open Cert.Reference13Ideal.Read

variable (x0 : (Mat 8208 3072).Idx → EReal) (x1 : (Mat 3072 1024).Idx → EReal) (x2 : (Mat 8208 1024).Idx → EReal) (x3 : (Mat 1 1024).Idx → EReal)

/-- The product, as the plain lines give it. -/
theorem plain_product (k : Fin 8208) (j : Fin 1024) : val_main_v2 (F := Ideal) x0 x1 (ix2 k j)
    = (∑ q : Fin 3072, at2 x0 k q * at2 x1 q j : EReal) := by
  rw [val_main_v2_apply]
  refine Finset.sum_congr rfl fun q _ => ?_
  rw [val_main_v0_apply, val_main_v1_apply]
  refine congrArg₂ (fun u v : EReal => u * v) (congrArg x0 ?_) (congrArg x1 ?_)
  · funext a
    match a with
    | ⟨0, _⟩ => rfl
    | ⟨1, _⟩ => rfl
  · funext a
    match a with
    | ⟨0, _⟩ => rfl
    | ⟨1, _⟩ => rfl

theorem plain_square (k : Fin 8208) : val_main_v9 (F := Ideal) x0 x1 (ix2 k 0)
    = RowNorm.meanSquare (fun j => (∑ q : Fin 3072, at2 x0 k q * at2 x1 q j : EReal)) := by
  rw [val_main_v9_apply, val_main_v7_apply, val_main_v5_apply, val_main_v4_apply]
  show Ideal.div (RowNorm.zero + ∑ j : Fin 1024, _) RowNorm.width + RowNorm.small = _
  rw [RowNorm.zero_eq, zero_add]
  unfold RowNorm.meanSquare
  refine congrArg (fun z : EReal => Ideal.div z RowNorm.width + RowNorm.small) (Finset.sum_congr rfl fun j _ => ?_)
  rw [val_main_v3_apply]
  refine congrArg (fun z : EReal => z * z) (Eq.trans (congrArg (val_main_v2 (F := Ideal) x0 x1) (funext fun a => ?_)) (plain_product x0 x1 k j))
  match a with
  | ⟨0, _⟩ => rfl
  | ⟨1, _⟩ => rfl

theorem plain_scale (k : Fin 8208) : val_main_v10 (F := Ideal) x0 x1 (ix2 k 0)
    = RowNorm.scale (fun j => (∑ q : Fin 3072, at2 x0 k q * at2 x1 q j : EReal)) := by
  rw [val_main_v10_apply, plain_square]; rfl

/-- The residual, as the plain lines give it. -/
theorem plain_sum (k : Fin 8208) (j : Fin 1024) : val_main_v15 (F := Ideal) x0 x1 x2 x3 (ix2 k j)
    = at2 x2 k j + ((∑ q : Fin 3072, at2 x0 k q * at2 x1 q j : EReal)
        * RowNorm.scale (fun j => (∑ q : Fin 3072, at2 x0 k q * at2 x1 q j : EReal))) * at2 x3 0 j := by
  have e11 : idx_main_v11 (ix2 k j) = ix2 k 0 := funext fun a => by
    match a with
    | ⟨0, _⟩ => rfl
    | ⟨1, _⟩ => rfl
  have e13 : idx_main_v13 (ix2 k j) = ix2 0 j := funext fun a => by
    match a with
    | ⟨0, _⟩ => rfl
    | ⟨1, _⟩ => rfl
  rw [val_main_v15_apply, val_main_v14_apply, val_main_v12_apply, val_main_v11_apply, val_main_v13_apply, e11, e13, plain_scale, plain_product]
  rfl

end Plain

theorem plain_product_result (c : Dev nD) : Cert.Reference13Ideal.Read.val_main_v2 (F := Ideal) (argA m c) (argW m c) = product m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_product _ _ _ _

theorem plain_sum_result (c : Dev nD) : Cert.Reference13Ideal.Read.val_main_v15 (F := Ideal) (argA m c) (argW m c) (argH m c) (argG m c) = residual m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_sum _ _ _ _ _ _

/-- The kernel computes the product, and the residual with the normed product added. -/
theorem algebraic : Cert.algebraic_Kernel13Ideal_Reference13Ideal := by
  intro m ρ m' ρ' _ hargs
  refine ⟨fun c => product m c, fun c => residual m c, ?_, ?_⟩
  · exact (θ_run _ _ _).mono (fun r h c => ⟨(h c).1.trans (final_p m c), (h c).2.1.trans (final_s m c), (h c).2.2⟩)
      (run_blocks (F := Ideal) m ρ)
  · refine (θ_run _ _ _).mono (fun r h c => ⟨(h c).1.trans ?_, (h c).2.1.trans ?_, (h c).2.2⟩)
      (Cert.Reference13Ideal.Value.run (F := Ideal) m' ρ')
    · rw [(hargs c).1, (hargs c).2.1]
      exact (Cert.Reference13Ideal.Read.val_main_v2_eq _ _).trans (plain_product_result m c)
    · rw [(hargs c).1, (hargs c).2.1, (hargs c).2.2.1, (hargs c).2.2.2]
      exact (Cert.Reference13Ideal.Read.val_main_v15_eq _ _ _ _).trans (plain_sum_result m c)

end Cert.Kernel13Ideal.ProductNorm

end
-- ==== Proof.AdamStep.lean ====
/-
  The optimiser's step on each array it is taken on: the kernel passes tiles of rows through the step entry by entry, so what
  it leaves in its three results is, entry by entry, what the plain lines give: the two moments' running means of the
  gradient and of its square, and the change of the weight from the two.
-/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import Idealize.ShloMosaic.Lib.Pipeline.Value
public import Idealize.ShloMosaic.Lib.Tactic
public import Idealize.ShloMosaic.Lib.Quiescent

@[expose] public section

set_option maxRecDepth 16384

noncomputable section

open Idealize.ShloMosaic Idealize.ShloMosaic.TcCoe Idealize.SL.Sem

/-! ## 4096 by 768 -/

namespace Cert.Kernel14Ideal.AdamStep

open Cert.Kernel14Ideal Cert.Kernel14Ideal.Value

section Plain

open Cert.Reference14Ideal.Read

variable (g w u v : S4096x768.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel14Ideal_Reference14Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference14Ideal.Value.run (F := Ideal) m' ρ')⟩
  · rw [(hargs c).1, (hargs c).2.1, (hargs c).2.2.1, (hargs c).2.2.2]
    exact (Cert.Reference14Ideal.Read.val_main_v23_eq _ _ _ _).trans (plain_change _ _ _ _)
  · rw [(hargs c).1, (hargs c).2.2.1]
    exact (Cert.Reference14Ideal.Read.val_main_v4_eq _ _).trans (plain_mean _ _)
  · rw [(hargs c).1, (hargs c).2.2.2]
    exact (Cert.Reference14Ideal.Read.val_main_v10_eq _ _).trans (plain_square _ _)

end Cert.Kernel14Ideal.AdamStep

/-! ## 1536 by 1024 -/

namespace Cert.Kernel15Ideal.AdamStep

open Cert.Kernel15Ideal Cert.Kernel15Ideal.Value

section Plain

open Cert.Reference15Ideal.Read

variable (g w u v : S1536x1024.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel15Ideal_Reference15Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference15Ideal.Value.run (F := Ideal) m' ρ')⟩
  · rw [(hargs c).1, (hargs c).2.1, (hargs c).2.2.1, (hargs c).2.2.2]
    exact (Cert.Reference15Ideal.Read.val_main_v23_eq _ _ _ _).trans (plain_change _ _ _ _)
  · rw [(hargs c).1, (hargs c).2.2.1]
    exact (Cert.Reference15Ideal.Read.val_main_v4_eq _ _).trans (plain_mean _ _)
  · rw [(hargs c).1, (hargs c).2.2.2]
    exact (Cert.Reference15Ideal.Read.val_main_v10_eq _ _).trans (plain_square _ _)

end Cert.Kernel15Ideal.AdamStep

/-! ## 4096 by 1536 -/

namespace Cert.Kernel16Ideal.AdamStep

open Cert.Kernel16Ideal Cert.Kernel16Ideal.Value

section Plain

open Cert.Reference16Ideal.Read

variable (g w u v : S4096x1536.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel16Ideal_Reference16Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference16Ideal.Value.run (F := Ideal) m' ρ')⟩
  · rw [(hargs c).1, (hargs c).2.1, (hargs c).2.2.1, (hargs c).2.2.2]
    exact (Cert.Reference16Ideal.Read.val_main_v23_eq _ _ _ _).trans (plain_change _ _ _ _)
  · rw [(hargs c).1, (hargs c).2.2.1]
    exact (Cert.Reference16Ideal.Read.val_main_v4_eq _ _).trans (plain_mean _ _)
  · rw [(hargs c).1, (hargs c).2.2.2]
    exact (Cert.Reference16Ideal.Read.val_main_v10_eq _ _).trans (plain_square _ _)

end Cert.Kernel16Ideal.AdamStep

/-! ## 3072 by 1024 -/

namespace Cert.Kernel17Ideal.AdamStep

open Cert.Kernel17Ideal Cert.Kernel17Ideal.Value

section Plain

open Cert.Reference17Ideal.Read

variable (g w u v : S3072x1024.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel17Ideal_Reference17Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference17Ideal.Value.run (F := Ideal) m' ρ')⟩
  · rw [(hargs c).1, (hargs c).2.1, (hargs c).2.2.1, (hargs c).2.2.2]
    exact (Cert.Reference17Ideal.Read.val_main_v23_eq _ _ _ _).trans (plain_change _ _ _ _)
  · rw [(hargs c).1, (hargs c).2.2.1]
    exact (Cert.Reference17Ideal.Read.val_main_v4_eq _ _).trans (plain_mean _ _)
  · rw [(hargs c).1, (hargs c).2.2.2]
    exact (Cert.Reference17Ideal.Read.val_main_v10_eq _ _).trans (plain_square _ _)

end Cert.Kernel17Ideal.AdamStep

/-! ## 1104 by 1024 -/

namespace Cert.Kernel18Ideal.AdamStep

open Cert.Kernel18Ideal Cert.Kernel18Ideal.Value

section Plain

open Cert.Reference18Ideal.Read

variable (g w u v : S1104x1024.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel18Ideal_Reference18Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference18Ideal.Value.run (F := Ideal) m' ρ')⟩
  · rw [(hargs c).1, (hargs c).2.1, (hargs c).2.2.1, (hargs c).2.2.2]
    exact (Cert.Reference18Ideal.Read.val_main_v23_eq _ _ _ _).trans (plain_change _ _ _ _)
  · rw [(hargs c).1, (hargs c).2.2.1]
    exact (Cert.Reference18Ideal.Read.val_main_v4_eq _ _).trans (plain_mean _ _)
  · rw [(hargs c).1, (hargs c).2.2.2]
    exact (Cert.Reference18Ideal.Read.val_main_v10_eq _ _).trans (plain_square _ _)

end Cert.Kernel18Ideal.AdamStep

/-! ## 48 by 1024 -/

namespace Cert.Kernel19Ideal.AdamStep

open Cert.Kernel19Ideal Cert.Kernel19Ideal.Value

section Plain

open Cert.Reference19Ideal.Read

variable (g w u v : S48x1024.Idx → EReal)

/-- The running mean of the gradient. -/
theorem plain_mean : val_main_v4 (F := Ideal) g u = G5 (F := Ideal) g u := funext fun i => by
  rw [val_main_v4_apply, val_main_v1_apply, val_main_v3_apply, val_main_v0_apply, val_main_v2_apply]
  rfl

/-- The running mean of its square. -/
theorem plain_square : val_main_v10 (F := Ideal) g v = G6 (F := Ideal) g v := funext fun i => by
  rw [val_main_v10_apply, val_main_v6_apply, val_main_v9_apply, val_main_v5_apply, val_main_v8_apply, val_main_v7_apply]
  rfl

/-- The change of the weight. -/
theorem plain_change : val_main_v23 (F := Ideal) g w u v = G4 (F := Ideal) g u v w := funext fun i => by
  rw [val_main_v23_apply, val_main_v22_apply, val_main_v21_apply, val_main_v20_apply, val_main_v19_apply, val_main_v18_apply,
    val_main_v17_apply, val_main_v16_apply, val_main_v15_apply, val_main_v14_apply, val_main_v13_apply, val_main_v12_apply,
    val_main_v11_apply, plain_mean, plain_square]
  rfl

end Plain

/-- The kernel computes the step. -/
theorem algebraic : Cert.algebraic_Kernel19Ideal_Reference19Ideal := by
  intro m ρ m' ρ' _ hargs
  refine ⟨_, _, _, run (F := Ideal) m ρ, (θ_run _ _ _).mono (fun r h c => ⟨(h c).1.trans ?_, (h c).2.1.trans ?_, (h c).2.2.1.trans ?_, (h c).2.2.2⟩)
    (Cert.Reference19Ideal.Value.run (F := Ideal) m' ρ')⟩
  · rw [(hargs c).1, (hargs c).2.1, (hargs c).2.2.1, (hargs c).2.2.2]
    exact (Cert.Reference19Ideal.Read.val_main_v23_eq _ _ _ _).trans (plain_change _ _ _ _)
  · rw [(hargs c).1, (hargs c).2.2.1]
    exact (Cert.Reference19Ideal.Read.val_main_v4_eq _ _).trans (plain_mean _ _)
  · rw [(hargs c).1, (hargs c).2.2.2]
    exact (Cert.Reference19Ideal.Read.val_main_v10_eq _ _).trans (plain_square _ _)

end Cert.Kernel19Ideal.AdamStep

end
-- ==== Proof.LossHead.lean ====
/-
  The loss of one device's tokens and its gradient. The kernel goes over 19 tiles of 432 rows: a row's error is its
  distance from the target, or nothing for the first 16 rows, which are no tokens. It writes the errors over the width, and
  adds up the squares of the errors column by column; the lines behind it add the columns and scale the sum. The plain
  lines drop the first 16 rows, take the mean of the squares row by row, and add the rows. Over the extended reals the two
  losses are one sum in two orders, and the kernel's gradient is the derivative of the plain loss.
-/
module

public import proofs.«01_k».proof.Defs
public import proofs.«01_k».proof.Proof.Sums
public import proofs.«01_k».proof.Proof.NormTile
public import proofs.«01_k».proof.Proof.Gen.Kernel20Ideal.Frame
public import proofs.«01_k».proof.Proof.Gen.Reference20Ideal.Run
public import proofs.«01_k».proof.Proof.Gen.Reference20Ideal.Read
public import Idealize.ShloMosaic.Lib.KernelVsHost
public import Idealize.ShloMosaic.Lib.Pipeline.Value
public import Idealize.ShloMosaic.Lib.Tactic
public import Idealize.ShloMosaic.Lib.Quiescent

@[expose] public section

set_option maxRecDepth 16384

noncomputable section

namespace Cert.Kernel20Ideal.LossHead

open Cert.Kernel20Ideal Cert.Kernel20Ideal.Gen
open Idealize.ShloMosaic Idealize.ShloMosaic.TcCoe Idealize.SL.Sem
open Idealize.ShloMosaic.ValueIdx
open Cert.Sums Cert.NormTile

theorem hz : (![0, 0] : Fin 2 → Nat) = fun _ => 0 := funext fun a => by fin_cases a <;> rfl

section Steps

variable {F : FTy → Type} [FloatOps F]
variable (c : Dev nD) (i : grid0.Coords) (a1 : Memref sig .tc .vmem S432x1024 .f32) (h1 : a1.IsWhole)
  (a2 : Memref sig .tc .vmem S432x1024 .f32) (h2 : a2.IsWhole) (a3 : Memref sig .tc .vmem S432x1024 .f32) (h3 : a3.IsWhole)
  (a4 : Memref sig .tc .vmem S1x1024 .f32) (h4 : a4.IsWhole)
  (x0 : Vec F S432x1024 .f32) (x1 : Vec F S432x1024 .f32) (s : Vec F S1x1024 .f32)

/-- What the first point writes for its tile. -/
theorem tile_first (hc : cond0_0 i) : out0_A_2 c i a1 h1 a2 h2 a3 h3 a4 h4 hc x0 x1 = k0_pay3 i x0 x1 := by
  unfold out0_A_2
  rw [View.read_writes_eq_canon _ _ _ (cover0_A_2 c i a1 h1 a2 h2 a3 h3 a4 h4 hc x0 x1)]
  unfold kernelRun0_A
  dsimp only
  sl_unfold_words
  rw [View.canon_unit_zero hz]
  simp only [View.readAt_eq_ld, h1.read_unread, h2.read_unread, View.ld_unit_zero (S := S432x1024) hz]

/-- What a later point writes for its tile. -/
theorem tile_later (hc : ¬cond0_0 i) : out0_B_2 c i a1 h1 a2 h2 a3 h3 a4 h4 hc x0 x1 s = k0_pay3 i x0 x1 := by
  unfold out0_B_2
  rw [View.read_writes_eq_canon _ _ _ (cover0_B_2 c i a1 h1 a2 h2 a3 h3 a4 h4 hc x0 x1 s)]
  unfold kernelRun0_B
  dsimp only
  sl_unfold_words
  rw [View.canon_unit_zero hz]
  simp only [View.readAt_eq_ld, h1.read_unread, h2.read_unread, View.ld_unit_zero (S := S432x1024) hz]

/-- The first point clears the columns' sums and adds its tile's squares. -/
theorem squares_first (hc : cond0_0 i) : out0_A_3 c i a1 h1 a2 h2 a3 h3 a4 h4 hc x0 x1 = k0_pay4 i x0 x1 k0_pay1 := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1024) hz, View.readCov_unit_zero (S := S1x1024) _ hz]
  simp only [View.readAt_eq_ld, h1.read_unread, h2.read_unread, View.ld_unit_zero (S := S432x1024) hz,
    View.ld_unit_zero (S := S1x1024) hz]

/-- A later point adds its tile's squares. -/
theorem squares_later (hc : ¬cond0_0 i) : out0_B_3 c i a1 h1 a2 h2 a3 h3 a4 h4 hc x0 x1 s = k0_pay4 i x0 x1 s := by
  unfold out0_B_3
  rw [View.read_writes_eq_canon _ _ _ (cover0_B_3 c i a1 h1 a2 h2 a3 h3 a4 h4 hc x0 x1 s)]
  unfold kernelRun0_B
  dsimp only
  sl_unfold_words
  rw [View.canon_unit_zero hz]
  simp only [View.readAt_eq_ld, h1.read_unread, h2.read_unread, h4.read_unread, View.ld_unit_zero (S := S432x1024) hz,
    View.ld_unit_zero (S := S1x1024) hz]

end Steps

/-! ## A tile's numbers -/

/-- The comparison of a row's number with 16, in 32-bit words: the numbers are small, so nothing wraps. -/
theorem compare_word {t r : ℕ} (ht : t < 19) (hr : r < 432) :
    (16#32).sle (BitVec.ofNat 32 r + BitVec.ofNat 32 t * 432#32) = decide (16 ≤ 432 * t + r) := by
  have e : BitVec.ofNat 32 r + BitVec.ofNat 32 t * 432#32 = BitVec.ofNat 32 (432 * t + r) := by
    apply BitVec.eq_of_toNat_eq
    simp only [BitVec.toNat_add, BitVec.toNat_mul, BitVec.toNat_ofNat]
    omega
  have h : (BitVec.ofNat 32 (432 * t + r)).toInt = ((432 * t + r : ℕ) : Int) := by
    have hn : (BitVec.ofNat 32 (432 * t + r)).toNat = 432 * t + r := by rw [BitVec.toNat_ofNat, Nat.mod_eq_of_lt (by omega)]
    rw [BitVec.toInt_eq_toNat_of_lt (by rw [hn]; omega), hn]
  rw [e, BitVec.sle_eq_decide, h, show (16#32 : BitVec 32).toInt = ((16 : ℕ) : Int) from rfl]
  exact decide_eq_decide.mpr Int.ofNat_le

/-- A tile's errors. -/
theorem error_apply (i : grid0.Coords) (x0 x1 : Vec Ideal S432x1024 .f32) (r : Fin 432) (j : Fin 1024) (hi : (i 0).val < 19) :
    k0_pay2 (F := Ideal) i x0 x1 (ix2 r j)
      = if 16 ≤ 432 * (i 0).val + r.val then at2 (a := 432) (b := 1024) x0 r j - at2 (a := 432) (b := 1024) x1 r j else (0 : EReal) := by
  unfold k0_pay2
  dsimp only
  rw [shapeCast_self]
  show (if BitVec.ofBool ((16#32).sle (BitVec.ofNat 32 (0 * 432 + r.val) + BitVec.ofNat 32 (i 0).val * 432#32)) = 1
      then x0 (ix2 r j) - x1 (ix2 r j) else Ideal.ofBits .f32 0x00000000#32) = _
  rw [Ideal.ofBits_zero_f32, Nat.zero_mul, Nat.zero_add, compare_word hi r.isLt]
  by_cases h : 16 ≤ 432 * (i 0).val + r.val
  · rw [decide_eq_true h, if_pos (by rfl), if_pos h]
  · rw [decide_eq_false h, if_neg (by decide), if_neg h]

/-- The gradient's tile. -/
theorem tile_apply (i : grid0.Coords) (x0 x1 : Vec Ideal S432x1024 .f32) (y : S432x1024.Idx) :
    k0_pay3 (F := Ideal) i x0 x1 y = Ideal.div (k0_pay2 (F := Ideal) i x0 x1 y) RowNorm.width := rfl

/-- The columns' sums after a tile. -/
theorem squares_apply (i : grid0.Coords) (x0 x1 : Vec Ideal S432x1024 .f32) (s : Vec Ideal S1x1024 .f32) (j : Fin 1024) :
    k0_pay4 (F := Ideal) i x0 x1 s (ix2 0 j)
      = at2 (a := 1) (b := 1024) s 0 j
        + ∑ r : Fin 432, k0_pay2 (F := Ideal) i x0 x1 (ix2 r j) * k0_pay2 (F := Ideal) i x0 x1 (ix2 r j) := by
  unfold k0_pay4
  dsimp only
  rw [shapeCast_self]
  show at2 (a := 1) (b := 1024) s 0 j + shapeCast (Mat 1 1024) _ shapeCasts_S1024_S1x1024 (ix2 0 j) = _
  rw [shapeCast_a_1a_apply]
  exact congrArg (fun z : EReal => at2 (a := 1) (b := 1024) s 0 j + z) (sumRows_apply (a := 432) (b := 1024) _ _ _ _ j)

theorem cleared (j : Fin 1024) : at2 (a := 1) (b := 1024) (k0_pay1 (F := Ideal)) 0 j = 0 := Ideal.ofBits_zero_f32

/-! ## Over the grid -/

variable (m : (ℓ : Loc nD τ sig) → Buf (Elt Ideal) ℓ) (ρ : Dev nD → PrngReg)

/-- The arguments, as matrices of extended reals. -/
abbrev argH (c : Dev nD) : (Mat 8208 1024).Idx → EReal := m ((c : Thread nD τ).loc main_arg0)
abbrev argT (c : Dev nD) : (Mat 8192 1024).Idx → EReal := m ((c : Thread nD τ).loc main_arg1)

/-- The error of row `k`, none in the first 16 rows. -/
def err (h : (Mat 8208 1024).Idx → EReal) (t : (Mat 8192 1024).Idx → EReal) (k : Fin 8208) (j : Fin 1024) : EReal :=
  if hk : 16 ≤ k.val then at2 h k j - at2 t ⟨k.val - 16, by have := k.isLt; omega⟩ j else 0

theorem points (t : Fin cfg0.N) : t.val < 19 := lt_of_lt_of_eq t.isLt N_0

theorem coord : ∀ t : Fin cfg0.N, (grid0.coords t 0).val = t.val := (by decide +kernel : ∀ t : Fin grid0.N, _)
theorem index_h : ∀ t : Fin cfg0.N, win0_0.index t (0 : Fin 2) = t.val ∧ win0_0.index t (1 : Fin 2) = 0 :=
  (by decide +kernel : ∀ t : Fin grid0.N, _)
theorem index_t : ∀ t : Fin cfg0.N, win0_1.index t (0 : Fin 2) = t.val ∧ win0_1.index t (1 : Fin 2) = 0 :=
  (by decide +kernel : ∀ t : Fin grid0.N, _)
theorem index_o : ∀ t : Fin cfg0.N, win0_2.index t (0 : Fin 2) = t.val ∧ win0_2.index t (1 : Fin 2) = 0 :=
  (by decide +kernel : ∀ t : Fin grid0.N, _)
theorem index_s : ∀ t : Fin cfg0.N, win0_3.index t (0 : Fin 2) = 0 ∧ win0_3.index t (1 : Fin 2) = 0 :=
  (by decide +kernel : ∀ t : Fin grid0.N, _)

/-- Row `r` of point `t`'s tile is this row of the whole. -/
def rowOf (t : Fin cfg0.N) (r : Fin 432) : Fin 8208 := ⟨432 * t.val + r.val, by have := points t; have := r.isLt; omega⟩

/-- The targets as the kernel finds them: 16 rows of the padding value before them. -/
theorem padded (c : Dev nD) : V m c main_v0
    = pad S8208x1024 ![16, 0] ![0, 0] ![0, 0] (argT m c) (sitofp (F := Ideal) .f32 (constantI S_ 32 0#32))
        pads_S8192x1024_S8208x1024_1600_000 h_S_ := by
  show StableHlo.after (List.flatten [hostOps0, hostOps0_1]) (fun b => m (c, b)) (Proc.devRef .tc main_v0) = _
  simp only [List.flatten_cons, List.flatten_nil, List.append_nil, List.cons_append, List.nil_append]
  after_results
  rfl

theorem block_h (c : Dev nD) (t : Fin cfg0.N) (r : Fin 432) (j : Fin 1024) :
    at2 (a := 432) (b := 1024) (iblk m c 0 t) r j = at2 (argH m c) (rowOf t r) j := by
  obtain ⟨e0, e1⟩ := index_h t
  show V m c main_arg0 (((cfg0.win 0).blk t).view.emb (ix2 r j)) = _
  rw [V_main_arg0]
  refine congrArg (argH m c) (funext fun a => Fin.ext ?_)
  match a with
  | ⟨0, _⟩ => show win0_0.index t (0 : Fin 2) * 432 + 1 * r.val = 432 * t.val + r.val; rw [e0]; omega
  | ⟨1, _⟩ => show win0_0.index t (1 : Fin 2) * 1024 + 1 * j.val = j.val; rw [e1]; omega

theorem block_t (c : Dev nD) (t : Fin cfg0.N) (r : Fin 432) (j : Fin 1024) (h : 16 ≤ 432 * t.val + r.val) :
    at2 (a := 432) (b := 1024) (iblk m c 1 t) r j
      = at2 (argT m c) ⟨432 * t.val + r.val - 16, by have := points t; have := r.isLt; omega⟩ j := by
  obtain ⟨e0, e1⟩ := index_t t
  show V m c main_v0 (((cfg0.win 1).blk t).view.emb (ix2 r j)) = _
  rw [padded]
  refine pad_apply_of_inside _ _ _ _ _ _ _ _ _ fun a => ?_
  match a with
  | ⟨0, _⟩ =>
    show win0_1.index t (0 : Fin 2) * 432 + 1 * r.val = 16 + (432 * t.val + r.val - 16) * 1
    rw [e0]; omega
  | ⟨1, _⟩ => show win0_1.index t (1 : Fin 2) * 1024 + 1 * j.val = 0 + j.val * 1; rw [e1]; omega

/-- Point `t`'s errors are those of its rows. -/
theorem error_at (c : Dev nD) (t : Fin cfg0.N) (r : Fin 432) (j : Fin 1024) :
    k0_pay2 (F := Ideal) (grid0.coords t) (iblk m c 0 t) (iblk m c 1 t) (ix2 r j) = err (argH m c) (argT m c) (rowOf t r) j := by
  rw [error_apply _ _ _ _ _ (by rw [coord]; exact points t), coord]
  unfold err
  by_cases h : 16 ≤ 432 * t.val + r.val
  · rw [if_pos h, dif_pos (show 16 ≤ (rowOf t r).val from h), block_h, block_t m c t r j h]
    rfl
  · rw [if_neg h, dif_neg (show ¬16 ≤ (rowOf t r).val from h)]

/-- The gradient's tile after point `t`. -/
theorem tile_at (c : Dev nD) (t : Fin cfg0.N) (r : Fin 432) (j : Fin 1024) :
    (outsAt0 m c t.val t.isLt).1 (ix2 r j) = Ideal.div (err (argH m c) (argT m c) (rowOf t r) j) RowNorm.width := by
  by_cases h0 : t.val % 19 = 0
  · rw [outsAt0_A m c t h0]
    dsimp only
    rw [tile_first, tile_apply, error_at]
  · rw [outsAt0_B m c t h0]
    dsimp only
    rw [tile_later, tile_apply, error_at]

/-- One row's square in a column. -/
def square (c : Dev nD) (j : Fin 1024) (k : Fin 8208) : EReal := err (argH m c) (argT m c) k j * err (argH m c) (argT m c) k j

/-- One tile's squares are the next block of the column's. -/
theorem contribution (c : Dev nD) (t : Fin cfg0.N) (j : Fin 1024) :
    (∑ r : Fin 432, k0_pay2 (F := Ideal) (grid0.coords t) (iblk m c 0 t) (iblk m c 1 t) (ix2 r j)
        * k0_pay2 (F := Ideal) (grid0.coords t) (iblk m c 0 t) (iblk m c 1 t) (ix2 r j) : EReal)
      = ∑ r : Fin 432, total (square m c j) (432 * t.val + r.val) := by
  refine Finset.sum_congr rfl fun r _ => ?_
  have h : 432 * t.val + r.val < 8208 := (rowOf t r).isLt
  rw [total_of_lt _ h, error_at]
  rfl

/-- The columns' sums after point `n`. -/
theorem carried (c : Dev nD) : ∀ (n : ℕ) (hn : n < cfg0.N) (j : Fin 1024),
    (outsAt0 m c n hn).2 (ix2 0 j) = upTo 432 (square m c j) (n + 1) := by
  intro n
  induction n with
  | zero =>
    intro hn j
    rw [outsAt0_A m c ⟨0, hn⟩ (Nat.zero_mod 19)]
    dsimp only
    rw [squares_first]
    refine (squares_apply _ _ _ _ j).trans ?_
    rw [cleared, zero_add, contribution m c ⟨0, hn⟩ j, upTo_succ, upTo_zero, zero_add]
  | succ n ih =>
    intro hn j
    have hN : n + 1 < 19 := lt_of_lt_of_eq hn N_0
    rw [outsAt0_B m c ⟨n + 1, hn⟩ (by show ¬(n + 1) % 19 = 0; omega)]
    dsimp only
    rw [squares_later]
    refine (squares_apply _ _ _ _ j).trans ?_
    rw [contribution m c ⟨n + 1, hn⟩ j, upTo_succ]
    exact congrArg (fun z : EReal => z + ∑ r : Fin 432, total (square m c j) (432 * (n + 1) + r.val)) (ih (Nat.lt_of_succ_lt hn) j)

/-! ## The two arrays the kernel leaves -/

/-- The gradient. -/
def gradient (c : Dev nD) : Buf (Elt Ideal) ((c : Thread nD τ).loc main_v1_0) :=
  fun i => Ideal.div (err (argH m c) (argT m c) ⟨(i 0).val, (i 0).isLt⟩ ⟨(i 1).val, (i 1).isLt⟩) RowNorm.width

/-- The columns' sums of squares. -/
def columns (c : Dev nD) : Buf (Elt Ideal) ((c : Thread nD τ).loc main_v1_1) :=
  fun i => (∑ k : Fin 8208, square m c ⟨(i 1).val, (i 1).isLt⟩ k : EReal)

theorem flushed_gradient (c : Dev nD) (t : Fin cfg0.N) :
    (dats m 0 c).flushed 2 t = ((cfg0.win 2).blk t).view.read (Elt Ideal) (gradient m c) := by
  obtain ⟨e0, e1⟩ := index_o t
  funext y
  have hy0 : (y 0).val < 432 := (y 0).isLt
  have hy1 : (y 1).val < 1024 := (y 1).isLt
  have hb0 : (((cfg0.win 2).blk t).view.emb y 0).val = win0_2.index t (0 : Fin 2) * 432 + 1 * (y 0).val := rfl
  have hb1 : (((cfg0.win 2).blk t).view.emb y 1).val = win0_2.index t (1 : Fin 2) * 1024 + 1 * (y 1).val := rfl
  have hx : (cfg0.win 2).xinj (grid0.coords t) y = ix2 (⟨(y 0).val, hy0⟩ : Fin 432) (⟨(y 1).val, hy1⟩ : Fin 1024) :=
    funext fun a => Fin.ext (match a with | ⟨0, _⟩ => rfl | ⟨1, _⟩ => rfl)
  show (dats m 0 c).after 2 t ((cfg0.win 2).xinj (grid0.coords t) y) = gradient m c (((cfg0.win 2).blk t).view.emb y)
  rw [after0_2, hx, tile_at]
  unfold gradient
  refine congrArg (fun z => Ideal.div z RowNorm.width) (congrArg₂ (err (argH m c) (argT m c)) (Fin.ext ?_) (Fin.ext ?_))
  · show 432 * t.val + (y 0).val = (((cfg0.win 2).blk t).view.emb y 0).val
    rw [hb0, e0]; omega
  · show (y 1).val = (((cfg0.win 2).blk t).view.emb y 1).val
    rw [hb1, e1]; omega

theorem final_gradient (c : Dev nD) : (dats m 0 c).arrAt 2 cfg0.N = gradient m c :=
  (dats m 0 c).arrAt_eq_of_cover 2 (gradient m c) (fun t _ => flushed_gradient m c t) fun i => by
    have h0 : (i 0 : Nat) < 8208 := (i 0).isLt
    have h1 : (i 1 : Nat) < 1024 := (i 1).isLt
    have ht : (i 0 : Nat) / 432 < cfg0.N := by show _ < grid0.N; rw [N_0]; omega
    obtain ⟨e0, e1⟩ := index_o ⟨(i 0 : Nat) / 432, ht⟩
    refine ⟨⟨(i 0 : Nat) / 432, ht⟩, flush0_2 _, ?_⟩
    show i ∈ ((View.whole main_v1_0).slice (win0_2.rect ⟨(i 0 : Nat) / 432, ht⟩)).set
    rw [View.set_slice_whole, Rect.mem_set_unit]
    intro a
    match a with
    | ⟨0, _⟩ =>
      show win0_2.index ⟨(i 0 : Nat) / 432, ht⟩ (0 : Fin 2) * 432 ≤ (i 0).val ∧ (i 0).val < win0_2.index ⟨(i 0 : Nat) / 432, ht⟩ (0 : Fin 2) * 432 + 432
      rw [e0]; dsimp only; omega
    | ⟨1, _⟩ =>
      show win0_2.index ⟨(i 0 : Nat) / 432, ht⟩ (1 : Fin 2) * 1024 ≤ (i 1).val ∧ (i 1).val < win0_2.index ⟨(i 0 : Nat) / 432, ht⟩ (1 : Fin 2) * 1024 + 1024
      rw [e1]; omega

theorem flushed_columns (c : Dev nD) (t : Fin cfg0.N) (hf : (cfg0.win 3).flush t = true) :
    (dats m 0 c).flushed 3 t = ((cfg0.win 3).blk t).view.read (Elt Ideal) (columns m c) := by
  have hm : t.val = 18 := by have := (flush0_3 t).mp hf; have := points t; omega
  obtain ⟨e0, e1⟩ := index_s t
  funext y
  have hy0 : (y 0).val < 1 := (y 0).isLt
  have hy1 : (y 1).val < 1024 := (y 1).isLt
  have hb1 : (((cfg0.win 3).blk t).view.emb y 1).val = win0_3.index t (1 : Fin 2) * 1024 + 1 * (y 1).val := rfl
  have hx : (cfg0.win 3).xinj (grid0.coords t) y = ix2 (0 : Fin 1) (⟨(y 1).val, hy1⟩ : Fin 1024) :=
    funext fun a => Fin.ext (match a with | ⟨0, _⟩ => (by show (y 0).val = 0; omega) | ⟨1, _⟩ => rfl)
  show (dats m 0 c).after 3 t ((cfg0.win 3).xinj (grid0.coords t) y) = columns m c (((cfg0.win 3).blk t).view.emb y)
  rw [after0_3]
  show (outsAt0 m c t.val t.isLt).2 ((cfg0.win 3).xinj (grid0.coords t) y) = columns m c (((cfg0.win 3).blk t).view.emb y)
  rw [hx, carried, hm, upTo_all 432 _ 19 rfl]
  unfold columns
  refine Finset.sum_congr rfl fun k _ => congrArg (fun j => square m c j k) (Fin.ext ?_)
  show (y 1).val = (((cfg0.win 3).blk t).view.emb y 1).val
  rw [hb1, e1]; omega

theorem final_columns (c : Dev nD) : (dats m 0 c).arrAt 3 cfg0.N = columns m c :=
  (dats m 0 c).arrAt_eq_of_cover 3 (columns m c) (flushed_columns m c) fun i => by
    have h0 : (i 0 : Nat) < 1 := (i 0).isLt
    have h1 : (i 1 : Nat) < 1024 := (i 1).isLt
    have ht : 18 < cfg0.N := by show _ < grid0.N; rw [N_0]; omega
    obtain ⟨e0, e1⟩ := index_s ⟨18, ht⟩
    refine ⟨⟨18, ht⟩, (flush0_3 _).mpr rfl, ?_⟩
    show i ∈ ((View.whole main_v1_1).slice (win0_3.rect ⟨18, ht⟩)).set
    rw [View.set_slice_whole, Rect.mem_set_unit]
    intro a
    match a with
    | ⟨0, _⟩ =>
      show win0_3.index ⟨18, ht⟩ (0 : Fin 2) * 1 ≤ (i 0).val ∧ (i 0).val < win0_3.index ⟨18, ht⟩ (0 : Fin 2) * 1 + 1
      rw [e0]; omega
    | ⟨1, _⟩ =>
      show win0_3.index ⟨18, ht⟩ (1 : Fin 2) * 1024 ≤ (i 1).val ∧ (i 1).val < win0_3.index ⟨18, ht⟩ (1 : Fin 2) * 1024 + 1024
      rw [e1]; omega

/-! ## The lines behind the kernel -/

/-- One half. -/
abbrev half : EReal := Ideal.ofBits .f32 0x3F000000#32

theorem half_eq : half = ((1 / 2 : ℝ) : EReal) := by
  simp [half, Ideal.ofBits, Ideal.ieee]
  norm_num
  rw [← EReal.coe_mul]
  norm_num

theorem one_eq : Ideal.ofBits .f32 0x3F800000#32 = ((1 : ℝ) : EReal) := by
  simp [Ideal.ofBits, Ideal.ieee]
  norm_num
  rw [← EReal.coe_mul]
  norm_num

theorem two_eq : Ideal.ofBits .f32 0x40000000#32 = ((2 : ℝ) : EReal) := by
  simp [Ideal.ofBits, Ideal.ieee]
  norm_num
  rw [← EReal.coe_mul]
  norm_num

/-- The loss the kernel's columns give. -/
def loss (c : Dev nD) : Buf (Elt Ideal) ((c : Thread nD τ).loc main_v4) :=
  fun _ => Ideal.div (half * (∑ j : Fin 1024, ∑ k : Fin 8208, square m c j k)) RowNorm.width

theorem arrays_distinct : Function.Injective (Pipeline.arrRef spec0) := by decide

theorem tail_loss (c : Dev nD) :
    Pipeline.afterTail₀ cfgs (dats m) 0 (V0 m) [hostOps1] c main_v4 = loss m c := by
  have hw : Pipeline.withArrays spec0 c (V0 m c) (fun w => (dats m 0 c).arrAt w cfg0.N) (Proc.devRef .tc main_v1_1) = columns m c :=
    (Pipeline.withArrays_arr spec0 arrays_distinct c (V0 m c) (fun w => (dats m 0 c).arrAt w cfg0.N) 3).trans (final_columns m c)
  have ht : Pipeline.afterTail₀ cfgs (dats m) 0 (V0 m) [hostOps1] c main_v4
      = Host.divf (mulf (constant S_ .f32 0x3F000000#32)
          (Host.reduceAdd (F := Ideal) (columns m c) (constant S_ .f32 0x00000000#32) reducesTo_S1x1024_S_d0_1 h_S_))
          (constant S_ .f32 0x44800000#32) := by
    rw [← hw]
    unfold Pipeline.afterTail₀
    show StableHlo.after (List.flatten [hostOps1]) (Pipeline.withArrays spec0 c (V0 m c) fun w => (dats m 0 c).arrAt w cfg0.N)
      (Proc.devRef .tc main_v4) = _
    generalize Pipeline.withArrays spec0 c (V0 m c) (fun w => (dats m 0 c).arrAt w cfg0.N) = W
    simp only [List.flatten_cons, List.flatten_nil, List.append_nil]
    after_results
  rw [ht]
  funext i
  show Ideal.div (half * Host.reduceAdd (F := Ideal) (columns m c) (constant S_ .f32 0x00000000#32) reducesTo_S1x1024_S_d0_1 h_S_ i) RowNorm.width = _
  refine congrArg (fun z : EReal => Ideal.div (half * z) RowNorm.width) ?_
  simp only [Host.reduceAdd, Ideal.hostReduceAdd_def]
  rw [Ideal.hostReduceAdd_total reducesTo_S1x1024_S_d0_1 (fun b => b.elim0)]
  show Ideal.ofBits .f32 0x00000000#32 + _ = _
  rw [Ideal.ofBits_zero_f32, zero_add, sum_idx2 (n0 := 1) (n1 := 1024), Fin.sum_univ_one]
  rfl

/-! ## The plain loss and its derivative -/

section Plain

open Cert.Reference20Ideal.Read

variable (h : (Mat 8208 1024).Idx → EReal) (t : (Mat 8192 1024).Idx → EReal)

/-- Token `k`'s row. -/
def tokenRow (k : Fin 8192) : Fin 8208 := ⟨16 + k.val, by have := k.isLt; omega⟩

theorem err_token (k : Fin 8192) (j : Fin 1024) : err h t (tokenRow k) j = at2 h (tokenRow k) j - at2 t k j := by
  unfold err
  rw [dif_pos (show 16 ≤ (tokenRow k).val from Nat.le_add_right _ _)]
  refine congrArg (fun q => at2 h (tokenRow k) j - at2 t q j) (Fin.ext ?_)
  show 16 + k.val - 16 = k.val
  omega

theorem plain_error (k : Fin 8192) (j : Fin 1024) : val_main_v1 (F := Ideal) h t (ix2 k j) = err h t (tokenRow k) j := by
  rw [err_token, val_main_v1_apply, val_main_v0_apply]
  refine congrArg (fun q => h q - t (ix2 k j)) (funext fun a => ?_)
  match a with
  | ⟨0, _⟩ => rfl
  | ⟨1, _⟩ => rfl

/-- A row's mean of squares. -/
theorem plain_mean (k : Fin 8192) : val_main_v7 (F := Ideal) h t (ix1 k)
    = ((1 / 1024 : ℝ) : EReal) * ∑ j : Fin 1024, err h t (tokenRow k) j * err h t (tokenRow k) j := by
  rw [val_main_v7_apply, val_main_v6_apply, val_main_v5_apply]
  show Ideal.div (Ideal.ofBits .f32 0x00000000#32 + _) RowNorm.width = _
  rw [Ideal.ofBits_zero_f32, zero_add, RowNorm.width_eq, Ideal.div_coe (by norm_num), mul_comm]
  refine congrArg (fun z : EReal => ((1 / 1024 : ℝ) : EReal) * z) (Finset.sum_congr rfl fun j _ => ?_)
  have hi : idx_main_v5 (ix1 k) j = ix2 k j := funext fun a => by
    match a with
    | ⟨0, _⟩ => rfl
    | ⟨1, _⟩ => rfl
  rw [hi]
  exact congrArg₂ (fun a b : EReal => a * b) (plain_error h t k j) (plain_error h t k j)

/-- The sum over all rows is the sum over the tokens': the first 16 rows have no error. -/
theorem rows_eq_tokens (j : Fin 1024) :
    (∑ k : Fin 8208, err h t k j * err h t k j : EReal) = ∑ k : Fin 8192, err h t (tokenRow k) j * err h t (tokenRow k) j := by
  refine (Fin.sum_univ_add (M := EReal) (a := 16) (b := 8192) fun k => err h t k j * err h t k j).trans ?_
  rw [Finset.sum_eq_zero fun k _ => ?_, zero_add]
  · rfl
  · have hk : ¬16 ≤ (Fin.castAdd 8192 k).val := by show ¬16 ≤ k.val; have := k.isLt; omega
    unfold err
    rw [dif_neg hk, zero_mul]

theorem plain_loss (i : Cert.Reference20Ideal.S_.Idx) : val_main_v9 (F := Ideal) h t i
    = Ideal.div (half * (∑ j : Fin 1024, ∑ k : Fin 8208, err h t k j * err h t k j)) RowNorm.width := by
  rw [val_main_v9_apply, val_main_v8_apply]
  show half * (Ideal.ofBits .f32 0x00000000#32 + _) = _
  rw [Ideal.ofBits_zero_f32, zero_add, RowNorm.width_eq, Ideal.div_coe (by norm_num), mul_assoc]
  refine congrArg (fun z : EReal => half * z) ?_
  have hs : (∑ q : Cert.Reference20Ideal.S8192.Idx, val_main_v7 (F := Ideal) h t q : EReal)
      = ∑ k : Fin 8192, val_main_v7 (F := Ideal) h t (ix1 k) :=
    Fintype.sum_equiv (Equiv.piUnique fun a : Fin 1 => Fin ((![8192] : Fin 1 → ℕ) a)) _ _ fun q => by
      refine congrArg (val_main_v7 (F := Ideal) h t) (funext fun a => ?_)
      match a with
      | ⟨0, _⟩ => rfl
  rw [hs, Finset.sum_congr rfl fun k _ => plain_mean h t k, ← RowNorm.pos_mul_sum _ _ (by norm_num : (0 : ℝ) < 1 / 1024), mul_comm,
    Finset.sum_comm]
  exact congrArg (fun z : EReal => z * ((1 / 1024 : ℝ) : EReal)) (Finset.sum_congr rfl fun j _ => (rows_eq_tokens h t j).symm)

/-- A token's gradient. -/
theorem plain_token (k : Fin 8192) (j : Fin 1024) : val_main_v15 (F := Ideal) h t (ix2 k j)
    = Ideal.div (err h t (tokenRow k) j) RowNorm.width := by
  rw [val_main_v15_apply, val_main_v14_apply, val_main_v13_apply, val_main_v12_apply, val_main_v11_apply, val_main_v4_apply,
    val_main_v3_apply, plain_error]
  show Ideal.div (half * Ideal.ofBits .f32 0x3F800000#32) RowNorm.width * (Ideal.ofBits .f32 0x40000000#32 * err h t (tokenRow k) j) = _
  rw [half_eq, one_eq, two_eq, RowNorm.width_eq, Ideal.div_coe (by norm_num), Ideal.div_coe (by norm_num), ← mul_assoc, ← EReal.coe_mul,
    ← EReal.coe_mul, ← EReal.coe_mul, mul_comm]
  norm_num

theorem plain_gradient (k : Fin 8208) (j : Fin 1024) : val_main_v16 (F := Ideal) h t (ix2 k j)
    = Ideal.div (err h t k j) RowNorm.width := by
  unfold val_main_v16
  have hk := k.isLt
  by_cases h16 : 16 ≤ k.val
  · have hr : tokenRow ⟨k.val - 16, by omega⟩ = k := Fin.ext (by show 16 + (k.val - 16) = k.val; omega)
    refine (pad_apply_of_inside _ _ _ _ _ _ _ _ (ix2 (⟨k.val - 16, by omega⟩ : Fin 8192) j) fun a => ?_).trans ?_
    · match a with
      | ⟨0, _⟩ => show k.val = 16 + (k.val - 16) * 1; omega
      | ⟨1, _⟩ => show j.val = 0 + j.val * 1; omega
    · rw [plain_token, hr]
  · refine (pad_apply_of_not_inside _ _ _ _ _ _ _ _ (0 : Fin 2) fun hc => h16 hc.1).trans ?_
    unfold err
    rw [dif_neg h16, RowNorm.width_eq, Ideal.div_coe (by norm_num), zero_mul]
    exact Ideal.ofBits_zero_f32

end Plain

theorem plain_loss_result (c : Dev nD) : Cert.Reference20Ideal.Read.val_main_v9 (F := Ideal) (argH m c) (argT m c) = loss m c :=
  funext fun i => plain_loss _ _ i

theorem plain_gradient_result (c : Dev nD) : Cert.Reference20Ideal.Read.val_main_v16 (F := Ideal) (argH m c) (argT m c) = gradient m c := by
  funext i
  have hi : i = ix2 (⟨(i 0).val, (i 0).isLt⟩ : Fin 8208) (⟨(i 1).val, (i 1).isLt⟩ : Fin 1024) :=
    funext fun a => by
      match a with
      | ⟨0, _⟩ => rfl
      | ⟨1, _⟩ => rfl
  rw [hi]
  exact plain_gradient _ _ _ _

/-- The kernel and the lines behind it compute the plain loss and its derivative. -/
theorem algebraic : Cert.algebraic_Kernel20Ideal_Reference20Ideal := by
  intro m ρ m' ρ' _ hargs
  refine ⟨fun c => loss m c, fun c => gradient m c, ?_, ?_⟩
  · exact (θ_run _ _ _).mono (fun r h c =>
      ⟨((h c).2 main_v4 (Pipeline.mem_restRefs_of main_v4 (by decide) (by decide))).trans (tail_loss m c),
       ((h c).1 2).trans (final_gradient m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
      (run_main (F := Ideal) m ρ)
  · refine (θ_run _ _ _).mono (fun r h c => ⟨(h c).1.trans ?_, (h c).2.1.trans ?_, (h c).2.2⟩)
      (Cert.Reference20Ideal.Value.run (F := Ideal) m' ρ')
    · rw [(hargs c).1, (hargs c).2]
      exact (Cert.Reference20Ideal.Read.val_main_v9_eq _ _).trans (plain_loss_result m c)
    · rw [(hargs c).1, (hargs c).2]
      exact (Cert.Reference20Ideal.Read.val_main_v16_eq _ _).trans (plain_gradient_result m c)

end Cert.Kernel20Ideal.LossHead

end
-- ==== Proof.GatedConv.lean ====
/-
  The feed-forward's activation: a causal convolution of three taps over the rows, column by column, and the product of
  the tanh form of gelu of the left half's columns with the right half's. The kernel goes over 57 tiles of 144 rows and
  keeps the last eight rows of a tile for the next one; before the first tile they are zero. Inside a tile it works on
  pieces of 16 rows and 128 columns, each with the eight rows before it, and takes the rows one and two back by rotating
  the piece. The plain lines shift the whole array by one and by two rows, filling with zeros.
-/
module

public import proofs.«01_k».proof.Defs
public import proofs.«01_k».proof.Proof.NormTile
public import proofs.«01_k».proof.Proof.Gen.Kernel21Ideal.Value
public import proofs.«01_k».proof.Proof.Gen.Reference21Ideal.Run
public import proofs.«01_k».proof.Proof.Gen.Reference21Ideal.Read
public import Idealize.ShloMosaic.Lib.KernelVsHost
public import Idealize.ShloMosaic.Lib.Pipeline.Value
public import Idealize.ShloMosaic.Lib.WholeRead
public import Idealize.ShloMosaic.Lib.Tactic
public import Idealize.ShloMosaic.Lib.Quiescent

@[expose] public section

set_option maxRecDepth 16384

noncomputable section

namespace Cert.Kernel21Ideal.GatedConv

open Cert.Kernel21Ideal Cert.Kernel21Ideal.Gen
open Idealize.ShloMosaic Idealize.ShloMosaic.TcCoe Idealize.SL.Sem
open Idealize.ShloMosaic.ValueIdx
open Cert.NormTile

/-! ## Entries by row and column -/

/-- The entry in a row and a column; nothing outside the matrix. -/
def rd {n k : ℕ} (x : (Mat n k).Idx → EReal) (a b : ℕ) : EReal :=
  if h : a < n ∧ b < k then x (ix2 ⟨a, h.1⟩ ⟨b, h.2⟩) else 0

theorem rd_of {n k : ℕ} (x : (Mat n k).Idx → EReal) (i : (Mat n k).Idx) : rd x (i 0).val (i 1).val = x i := by
  unfold rd
  rw [dif_pos ⟨(i 0).isLt, (i 1).isLt⟩]
  exact congrArg x (eq_ix2 i).symm

theorem rd_at {n k : ℕ} (x : (Mat n k).Idx → EReal) (i : (Mat n k).Idx) {a b : ℕ} (h0 : (i 0).val = a) (h1 : (i 1).val = b) :
    rd x a b = x i := by
  subst h0; subst h1
  exact rd_of x i

theorem rd_ix {n k : ℕ} (x : (Mat n k).Idx → EReal) {a b : ℕ} (ha : a < n) (hb : b < k) :
    rd x a b = x (ix2 ⟨a, ha⟩ ⟨b, hb⟩) := dif_pos ⟨ha, hb⟩

/-! ## One entry of the result -/

/-- Three taps and a bias. -/
def taps (w2 w1 w0 b f0 f1 f2 : EReal) : EReal := w2 * f0 + w1 * f1 + w0 * f2 + b

/-- The tanh form of gelu. -/
def gelu (z : EReal) : EReal :=
  Ideal.ofBits .f32 0x3F000000#32 * z
    * (Ideal.ofBits .f32 0x3F800000#32
      + FloatOps.tanh (F := Ideal) (φ := .f32) (Ideal.ofBits .f32 0x3F4C422A#32 * (z + Ideal.ofBits .f32 0x3D372713#32 * (z * z * z))))

/-- The convolution in a column, from the entries none, one and two rows back. -/
def conv (w : (Mat 3 6144).Idx → EReal) (b : (Mat 1 6144).Idx → EReal) (f : ℕ → ℕ → EReal) (c : ℕ) : EReal :=
  taps (rd w 2 c) (rd w 1 c) (rd w 0 c) (rd b 0 c) (f 0 c) (f 1 c) (f 2 c)

/-- The activation in a column. -/
def gated (w : (Mat 3 6144).Idx → EReal) (b : (Mat 1 6144).Idx → EReal) (f : ℕ → ℕ → EReal) (c : ℕ) : EReal :=
  gelu (conv w b f c) * conv w b f (c + 3072)

theorem gated_congr (w : (Mat 3 6144).Idx → EReal) (b : (Mat 1 6144).Idx → EReal) (f g : ℕ → ℕ → EReal) (c : ℕ)
    (h : ∀ k, k ≤ 2 → ∀ q, f k q = g k q) : gated w b f c = gated w b g c := by
  unfold gated conv
  rw [h 0 (by omega), h 1 (by omega), h 2 (by omega), h 0 (by omega), h 1 (by omega), h 2 (by omega)]

/-! ## The kernel's piece -/

section Piece

variable (g : FVec Ideal S24x128 .f32) (w2 w1 w0 b : FVec Ideal S1x128 .f32)

theorem slice_apply (z : S16x128.Idx) :
    extractStridedSlice S16x128 ![8, 0] g slices_S24x128_o8_0_S16x128 z = rd (n := 24) (k := 128) g ((z 0).val + 8) (z 1).val := by
  have h0 : (z 0).val < 16 := (z 0).isLt
  have h1 : (z 1).val < 128 := (z 1).isLt
  rw [rd_ix (n := 24) (k := 128) g (by omega : (z 0).val + 8 < 24) h1]
  exact extractStridedSlice_apply _ _ _ _ _ fun a => by
    match a with
    | ⟨0, _⟩ => show (z 0).val + 8 = 8 + (z 0).val; omega
    | ⟨1, _⟩ => show (z 1).val = 0 + (z 1).val; omega

theorem rotated_apply (s : BitVec 32) (n : ℕ) (hs : s.toNat = n) (hn : n ≤ 8) (z : S16x128.Idx) :
    extractStridedSlice S16x128 ![8, 0] (dynamicRotate 0 s none g rotates_S24x128_d0) slices_S24x128_o8_0_S16x128 z
      = rd (n := 24) (k := 128) g ((z 0).val + 8 - n) (z 1).val := by
  have h0 : (z 0).val < 16 := (z 0).isLt
  have h1 : (z 1).val < 128 := (z 1).isLt
  rw [slice_apply, rd_ix (n := 24) (k := 128) _ (by omega : (z 0).val + 8 < 24) h1,
    rd_ix (n := 24) (k := 128) g (by omega : (z 0).val + 8 - n < 24) h1]
  exact dynamicRotate_apply _ _ _ _ _ _ fun a => by
    match a with
    | ⟨0, _⟩ =>
      show (z 0).val + 8 - n = ((z 0).val + 8 + 24 - s.toNat % 24) % 24
      rw [hs]; omega
    | ⟨1, _⟩ => rfl

theorem row_apply (v : FVec Ideal S1x128 .f32) (z : S16x128.Idx) :
    broadcastTo S16x128 v broadcasts_S1x128_S16x128 z = rd (n := 1) (k := 128) v 0 (z 1).val := by
  have h1 : (z 1).val < 128 := (z 1).isLt
  rw [rd_ix (n := 1) (k := 128) v (by omega : 0 < 1) h1]
  exact broadcastTo_apply _ _ _ _ fun a => by
    match a with
    | ⟨0, _⟩ => rfl
    | ⟨1, _⟩ => rfl

/-- The convolution of a piece. -/
def convTile : FVec Ideal S16x128 .f32 :=
  addf (addf (addf (mulf (broadcastTo S16x128 w2 broadcasts_S1x128_S16x128)
      (extractStridedSlice S16x128 ![8, 0] g slices_S24x128_o8_0_S16x128))
    (mulf (broadcastTo S16x128 w1 broadcasts_S1x128_S16x128)
      (extractStridedSlice S16x128 ![8, 0] (dynamicRotate 0 1#32 none g rotates_S24x128_d0) slices_S24x128_o8_0_S16x128)))
    (mulf (broadcastTo S16x128 w0 broadcasts_S1x128_S16x128)
      (extractStridedSlice S16x128 ![8, 0] (dynamicRotate 0 2#32 none g rotates_S24x128_d0) slices_S24x128_o8_0_S16x128)))
    (broadcastTo S16x128 b broadcasts_S1x128_S16x128)

theorem convTile_apply (z : S16x128.Idx) : convTile g w2 w1 w0 b z
    = taps (rd (n := 1) (k := 128) w2 0 (z 1).val) (rd (n := 1) (k := 128) w1 0 (z 1).val) (rd (n := 1) (k := 128) w0 0 (z 1).val)
      (rd (n := 1) (k := 128) b 0 (z 1).val) (rd (n := 24) (k := 128) g ((z 0).val + 8) (z 1).val)
      (rd (n := 24) (k := 128) g ((z 0).val + 8 - 1) (z 1).val) (rd (n := 24) (k := 128) g ((z 0).val + 8 - 2) (z 1).val) := by
  rw [← slice_apply, ← rotated_apply g 1#32 1 rfl (by omega), ← rotated_apply g 2#32 2 rfl (by omega), ← row_apply w2, ← row_apply w1,
    ← row_apply w0, ← row_apply b]
  rfl

/-- Gelu of a piece. -/
def geluTile (v : FVec Ideal S16x128 .f32) : FVec Ideal S16x128 .f32 :=
  mulf (mulf (broadcast S16x128 (Scalar.ofBits .f32 0x3F000000#32)) v)
    (addf (broadcast S16x128 (Scalar.ofBits .f32 0x3F800000#32))
      (tanh (mulf (broadcast S16x128 (Scalar.ofBits .f32 0x3F4C422A#32))
        (addf v (mulf (broadcast S16x128 (Scalar.ofBits .f32 0x3D372713#32)) (mulf (mulf v v) v))))))

theorem geluTile_apply (v : FVec Ideal S16x128 .f32) (z : S16x128.Idx) : geluTile v z = gelu (v z) := rfl

end Piece

/-- What the kernel stores of a piece. -/
def tile (g u : FVec Ideal S24x128 .f32) (w2 w1 w0 b w2' w1' w0' b' : FVec Ideal S1x128 .f32) : FVec Ideal S16x128 .bf16 :=
  truncf .bf16 (mulf (geluTile (convTile g w2 w1 w0 b)) (convTile u w2' w1' w0' b')) bitsLt_bf16_f32

theorem tile_apply (g u : FVec Ideal S24x128 .f32) (w2 w1 w0 b w2' w1' w0' b' : FVec Ideal S1x128 .f32) (z : S16x128.Idx) :
    tile g u w2 w1 w0 b w2' w1' w0' b' z = gelu (convTile g w2 w1 w0 b z) * convTile u w2' w1' w0' b' z := rfl

/-! ## A piece as a part of the tile -/

/-- A tile's rows, after the eight rows before them. -/
def ext (x : (Mat 144 6144).Idx → EReal) (o : (Mat 8 6144).Idx → EReal) (r c : ℕ) : EReal :=
  if r < 8 then rd o r c else rd x (r - 8) c

theorem ext_old (x : (Mat 144 6144).Idx → EReal) (o : (Mat 8 6144).Idx → EReal) {r : ℕ} (h : r < 8) (c : ℕ) : ext x o r c = rd o r c :=
  if_pos h

theorem ext_new (x : (Mat 144 6144).Idx → EReal) (o : (Mat 8 6144).Idx → EReal) {r q : ℕ} (h : r = q + 8) (c : ℕ) : ext x o r c = rd x q c := by
  subst h
  unfold ext
  rw [if_neg (by omega), Nat.add_sub_cancel]

/-- What the kernel leaves of a tile. -/
def whole (x : (Mat 144 6144).Idx → EReal) (w : (Mat 3 6144).Idx → EReal) (b : (Mat 1 6144).Idx → EReal)
    (o : (Mat 8 6144).Idx → EReal) (y : S144x3072.Idx) : EReal :=
  gated w b (fun k c => ext x o ((y 0).val + 8 - k) c) (y 1).val

section Parts

variable (x : (Mat 144 6144).Idx → EReal) (w : (Mat 3 6144).Idx → EReal) (b : (Mat 1 6144).Idx → EReal) (o : (Mat 8 6144).Idx → EReal)

/-- A loaded piece is the part of the tile from row `r` (eight rows earlier) and column `c`. -/
def IsPart (r c : ℕ) (g : FVec Ideal S24x128 .f32) : Prop :=
  ∀ p q, p < 24 → q < 128 → rd (n := 24) (k := 128) g p q = ext x o (r + p) (c + q)

/-- A loaded row is the part of a row from column `c`. -/
def IsRow (f : ℕ → EReal) (c : ℕ) (v : FVec Ideal S1x128 .f32) : Prop := ∀ q, q < 128 → rd (n := 1) (k := 128) v 0 q = f (c + q)

theorem conv_part {r c : ℕ} {g : FVec Ideal S24x128 .f32} {w2 w1 w0 b0 : FVec Ideal S1x128 .f32} (hg : IsPart x o r c g)
    (h2 : IsRow (rd w 2) c w2) (h1 : IsRow (rd w 1) c w1) (h0 : IsRow (rd w 0) c w0) (hb : IsRow (rd b 0) c b0) (z : S16x128.Idx) :
    convTile g w2 w1 w0 b0 z = conv w b (fun k q => ext x o (r + (z 0).val + 8 - k) q) (c + (z 1).val) := by
  have e0 : (z 0).val < 16 := (z 0).isLt
  have e1 : (z 1).val < 128 := (z 1).isLt
  rw [convTile_apply, h2 _ e1, h1 _ e1, h0 _ e1, hb _ e1, hg _ _ (by omega) e1, hg _ _ (by omega) e1, hg _ _ (by omega) e1]
  unfold conv
  dsimp only
  rw [show r + ((z 0).val + 8) = r + (z 0).val + 8 - 0 from by omega, show r + ((z 0).val + 8 - 1) = r + (z 0).val + 8 - 1 from by omega,
    show r + ((z 0).val + 8 - 2) = r + (z 0).val + 8 - 2 from by omega]

/-- A stored piece is its part of what the kernel leaves. -/
theorem part_agrees {off : Fin 2 → ℕ} {inb : ∀ a : Fin 2, off a + ![16, 128] a ≤ S144x3072.size a} {r c c' : ℕ} (hoff : off = ![r, c]) (hc : c' = c + 3072)
    {g u : FVec Ideal S24x128 .f32} {w2 w1 w0 b0 w2' w1' w0' b0' : FVec Ideal S1x128 .f32} (hg : IsPart x o r c g)
    (h2 : IsRow (rd w 2) c w2) (h1 : IsRow (rd w 1) c w1) (h0 : IsRow (rd w 0) c w0) (hb : IsRow (rd b 0) c b0)
    (hu : IsPart x o r c' u)
    (h2' : IsRow (rd w 2) c' w2') (h1' : IsRow (rd w 1) c' w1') (h0' : IsRow (rd w 0) c' w0') (hb' : IsRow (rd b 0) c' b0')
    (z : S16x128.Idx) :
    tile g u w2 w1 w0 b0 w2' w1' w0' b0' z = whole x w b o ((Rect.unit (s := S144x3072) off ![16, 128] inb).emb z) := by
  subst hoff
  rw [tile_apply, conv_part x w b o hg h2 h1 h0 hb, conv_part x w b o hu h2' h1' h0' hb', hc]
  have e0 : ((Rect.unit (s := S144x3072) ![r, c] ![16, 128] inb).emb z 0).val = r + (z 0).val := by
    show r + 1 * (z 0).val = _; omega
  have e1 : ((Rect.unit (s := S144x3072) ![r, c] ![16, 128] inb).emb z 1).val = c + (z 1).val := by
    show c + 1 * (z 1).val = _; omega
  unfold whole gated
  rw [e0, e1, show c + 3072 + (z 1).val = c + (z 1).val + 3072 from by omega]

end Parts

/-! ## What the loads read -/

theorem load_apply {n k n' k' : ℕ} {m : Memref sig .tc .vmem (Mat n k) .f32} (h : m.IsWhole) (X : (Mat n k).Idx → EReal)
    {off : Fin 2 → ℕ} (inb : ∀ a : Fin 2, off a + ![n', k'] a ≤ (Mat n k).size a) {r c : ℕ} (ho : off = ![r, c]) {p q : ℕ} (hp : p < n') (hq : q < k') :
    rd (n := n') (k := k') (m.view.readAt (Elt Ideal) (Rect.unit (s := Mat n k) off ![n', k'] inb).toLoadRect (h.unread X)) p q
      = rd X (r + p) (c + q) := by
  subst ho
  rw [rd_ix _ hp hq]
  rw [rd_at X ((Rect.unit (s := Mat n k) ![r, c] ![n', k'] inb).toLoadRect.idx (ix2 ⟨p, hp⟩ ⟨q, hq⟩))
    (show r + 1 * p = r + p by omega) (show c + 1 * q = c + q by omega)]
  exact h.readAt_unread (Val := Elt Ideal) X _ _

section Loads

variable {x : (Mat 144 6144).Idx → EReal} {w : (Mat 3 6144).Idx → EReal} {b : (Mat 1 6144).Idx → EReal} {o : (Mat 8 6144).Idx → EReal}

/-- A piece behind the tile's first 16 rows is loaded with the eight rows before it. -/
theorem later_part {m : Memref sig .tc .vmem S144x6144 .f32} (h : m.IsWhole) {off : Fin 2 → ℕ}
    {inb : ∀ a : Fin 2, off a + ![24, 128] a ≤ S144x6144.size a} {r c : ℕ} (ho : off = ![r, c]) :
    IsPart x o (r + 8) c (m.view.readAt (Elt Ideal) (Rect.unit (s := S144x6144) off ![24, 128] inb).toLoadRect (h.unread x)) := fun p q hp hq =>
  (load_apply h x inb ho hp hq).trans (ext_new x o (by omega) _).symm

/-- The tile's first 16 rows are put behind the eight rows kept. -/
theorem first_part {c : ℕ} {l : S8x128.Idx → EReal} {v : S16x128.Idx → EReal}
    (hl : ∀ p q, p < 8 → q < 128 → rd (n := 8) (k := 128) l p q = rd o p (c + q))
    (hv : ∀ p q, p < 16 → q < 128 → rd (n := 16) (k := 128) v p q = rd x (0 + p) (c + q)) :
    IsPart x o 0 c (concatenate S24x128 0 [⟨S8x128, l⟩, ⟨S16x128, v⟩] concatenates_S8x128_S16x128_S24x128_d0) := fun p q hp hq => by
  rw [rd_ix (n := 24) (k := 128) _ hp hq, Nat.zero_add]
  by_cases h8 : p < 8
  · rw [ext_old x o h8, ← hl p q h8 hq, rd_ix (n := 8) (k := 128) l h8 hq]
    exact concatenate_pair_apply_left (t := S24x128) (s₁ := S8x128) (s₂ := S16x128) (0 : Fin 2) l v
      concatenates_S8x128_S16x128_S24x128_d0 (ix2 ⟨p, hp⟩ ⟨q, hq⟩) rfl (ix2 ⟨p, h8⟩ ⟨q, hq⟩) fun a => by
        match a with
        | ⟨0, _⟩ => rfl
        | ⟨1, _⟩ => rfl
  · rw [ext_new x o (show p = (p - 8) + 8 by omega), ← Nat.zero_add (p - 8), ← hv (p - 8) q (by omega) hq,
      rd_ix (n := 16) (k := 128) v (by omega : p - 8 < 16) hq]
    exact concatenate_pair_apply_right (t := S24x128) (s₁ := S8x128) (s₂ := S16x128) (0 : Fin 2) l v
      concatenates_S8x128_S16x128_S24x128_d0 (ix2 ⟨p, hp⟩ ⟨q, hq⟩) rfl rfl (ix2 ⟨p - 8, by omega⟩ ⟨q, hq⟩)
      (fun a ha => by
        match a with
        | ⟨0, _⟩ => exact absurd rfl ha
        | ⟨1, _⟩ => rfl)
      (by show p - 8 + 8 = p; omega)

/-- A row of the taps. -/
theorem tap_row {m : Memref sig .tc .vmem S3x6144 .f32} (h : m.IsWhole) {k c : ℕ} {inb : ∀ a : Fin 2, ![k, c] a + ![1, 128] a ≤ S3x6144.size a} :
    IsRow (rd w k) c (m.view.readAt (Elt Ideal) (Rect.unit (s := S3x6144) ![k, c] ![1, 128] inb).toLoadRect (h.unread w)) := fun q hq =>
  load_apply h w inb rfl Nat.zero_lt_one hq

/-- The row of biases. -/
theorem bias_row {m : Memref sig .tc .vmem S1x6144 .f32} (h : m.IsWhole) {c : ℕ} {inb : ∀ a : Fin 2, ![0, c] a + ![1, 128] a ≤ S1x6144.size a} :
    IsRow (rd b 0) c (m.view.readAt (Elt Ideal) (Rect.unit (s := S1x6144) ![0, c] ![1, 128] inb).toLoadRect (h.unread b)) := fun q hq =>
  load_apply h b inb rfl Nat.zero_lt_one hq

end Loads

/-- Writes that agree with one function leave that function wherever they wrote. -/
theorem canon_of_agree {s : Shape} {e : EltTy} (G : s.Idx → Elt Ideal e) : ∀ (L : List (View.Piece (Elt Ideal) s e)),
    (∀ p ∈ L, ∀ z, p.2 z = G (p.1.emb z)) → ∀ y, (∃ p ∈ L, y ∈ p.1.set) → View.canon L y = G y
  | [], _, _, ⟨_, hp, _⟩ => absurd hp (List.not_mem_nil)
  | ⟨r, v⟩ :: L, h, y, hy => by
    by_cases hm : y ∈ r.set
    · obtain ⟨z, rfl⟩ := r.toLoadRect.exists_idx_of_mem hm
      exact (View.canon_cons_emb r v L z).trans (h ⟨r, v⟩ (List.mem_cons_self ..) z)
    · rw [View.canon_cons_of_not_mem ⟨r, v⟩ L hm]
      refine canon_of_agree G L (fun p hp => h p (List.mem_cons_of_mem _ hp)) y ?_
      obtain ⟨p, hp, hyp⟩ := hy
      rcases List.mem_cons.1 hp with rfl | hp
      · exact absurd hyp hm
      · exact ⟨p, hp, hyp⟩

end Cert.Kernel21Ideal.GatedConv

end
-- ==== Proof.GatedConvTile.lean ====
/-
  The pieces that the activation's kernel stores of a tile: 24 pieces of 128 columns for the first 16 rows, and the same for
  each 16 rows behind them. Every piece is its part of one function of the tile and the eight rows kept from before, so
  the tile holds that function.
-/
module

public import proofs.«01_k».proof.Proof.GatedConv

@[expose] public section

set_option maxRecDepth 16384

noncomputable section

namespace Cert.Kernel21Ideal.GatedConv

open Cert.Kernel21Ideal Cert.Kernel21Ideal.Gen
open Idealize.ShloMosaic Idealize.ShloMosaic.TcCoe Idealize.SL.Sem
open Idealize.ShloMosaic.ValueIdx
open Cert.NormTile

section Pieces

variable {arg1 : Memref sig .tc .vmem S144x6144 .f32} (harg1 : arg1.IsWhole) {arg2 : Memref sig .tc .vmem S3x6144 .f32} (harg2 : arg2.IsWhole)
  {arg3 : Memref sig .tc .vmem S1x6144 .f32} (harg3 : arg3.IsWhole) {arg4 : Memref sig .tc .vmem S144x3072 .bf16} (harg4 : arg4.IsWhole)
  {arg5 : Memref sig .tc .vmem S8x6144 .f32} (harg5 : arg5.IsWhole)
  (x0 : Vec Ideal S144x6144 .f32) (x1 : Vec Ideal S3x6144 .f32) (x2 : Vec Ideal S1x6144 .f32) (o : Vec Ideal S8x6144 .f32)

/-- The piece whose loads are the parts `g` and `u`, with the taps and the biases of its columns. -/
theorem piece_agrees {g u : FVec Ideal S24x128 .f32} {r c : ℕ} (hg : IsPart x0 o r c g) (hu : IsPart x0 o r (c + 3072) u)
    {e : Fin 2 → ℕ} (he : e = ![r, c]) {i2 i1 i0 i2' i1' i0' : _} {ib ib' : _} {ie : ∀ a : Fin 2, e a + ![16, 128] a ≤ S144x3072.size a}
    (z : S16x128.Idx) :
    tile g u
      (arg2.view.readAt (Elt Ideal) (Rect.unit (s := S3x6144) ![2, c] ![1, 128] i2).toLoadRect (harg2.unread x1))
      (arg2.view.readAt (Elt Ideal) (Rect.unit (s := S3x6144) ![1, c] ![1, 128] i1).toLoadRect (harg2.unread x1))
      (arg2.view.readAt (Elt Ideal) (Rect.unit (s := S3x6144) ![0, c] ![1, 128] i0).toLoadRect (harg2.unread x1))
      (arg3.view.readAt (Elt Ideal) (Rect.unit (s := S1x6144) ![0, c] ![1, 128] ib).toLoadRect (harg3.unread x2))
      (arg2.view.readAt (Elt Ideal) (Rect.unit (s := S3x6144) ![2, c + 3072] ![1, 128] i2').toLoadRect (harg2.unread x1))
      (arg2.view.readAt (Elt Ideal) (Rect.unit (s := S3x6144) ![1, c + 3072] ![1, 128] i1').toLoadRect (harg2.unread x1))
      (arg2.view.readAt (Elt Ideal) (Rect.unit (s := S3x6144) ![0, c + 3072] ![1, 128] i0').toLoadRect (harg2.unread x1))
      (arg3.view.readAt (Elt Ideal) (Rect.unit (s := S1x6144) ![0, c + 3072] ![1, 128] ib').toLoadRect (harg3.unread x2)) z
      = whole x0 x1 x2 o ((Rect.unit (s := S144x3072) e ![16, 128] ie).emb z) :=
  part_agrees x0 x1 x2 o he rfl hg (tap_row harg2) (tap_row harg2) (tap_row harg2) (bias_row harg3) hu (tap_row harg2) (tap_row harg2)
    (tap_row harg2) (bias_row harg3) z

/-- The pieces of one trip. -/
theorem trip_agrees (𝒱 : Variants) (d : Dev nD) (bd : Option 𝒱.V) (i : grid0.Coords) (k : Fin k0_t1_loop.trips) :
    ∀ p ∈ (trip_k0_t1 (F := Ideal) 𝒱 d bd i arg1 harg1 arg2 harg2 arg3 harg3 arg4 harg4 arg5 harg5 (harg1.unread x0) (harg2.unread x1)
      (harg3.unread x2) k).1, ∀ z, p.2 z = whole x0 x1 x2 o (p.1.emb z) := by
  unfold trip_k0_t1
  dsimp only
  refine List.forall_mem_cons.2 ⟨?_, ?_⟩
  · exact fun z => piece_agrees harg2 harg3 x0 x1 x2 o (c := 2944) (later_part harg1 (k0_off70_eq k))
      (later_part harg1 (k0_off71_eq k)) (ie := k0_off72_inb k) (k0_off72_eq k) z
  refine List.forall_mem_cons.2 ⟨?_, ?_⟩
  · exact fun z => piece_agrees harg2 harg3 x0 x1 x2 o (c := 2816) (later_part harg1 (k0_off67_eq k))
      (later_part harg1 (k0_off68_eq k)) (ie := k0_off69_inb k) (k0_off69_eq k) z
  refine List.forall_mem_cons.2 ⟨?_, ?_⟩
  · exact fun z => piece_agrees harg2 harg3 x0 x1 x2 o (c := 2688) (later_part harg1 (k0_off64_eq k))
      (later_part harg1 (k0_off65_eq k)) (ie := k0_off66_inb k) (k0_off66_eq k) z
  refine List.forall_mem_cons.2 ⟨?_, ?_⟩
  · exact fun z => piece_agrees harg2 harg3 x0 x1 x2 o (c := 2560) (later_part harg1 (k0_off61_eq k))
      (later_part harg1 (k0_off62_eq k)) (ie := k0_off63_inb k) (k0_off63_eq k) z
  refine List.forall_mem_cons.2 ⟨?_, ?_⟩
  · exact fun z => piece_agrees harg2 harg3 x0 x1 x2 o (c := 2432) (later_part harg1 (k0_off58_eq k))
      (later_part harg1 (k0_off59_eq k)) (ie := k0_off60_inb k) (k0_off60_eq k) z
  refine List.forall_mem_cons.2 ⟨?_, ?_⟩
  · exact fun z => piece_agrees harg2 harg3 x0 x1 x2 o (c := 2304) (later_part harg1 (k0_off55_eq k))
      (later_part harg1 (k0_off56_eq k)) (ie := k0_off57_inb k) (k0_off57_eq k) z
  refine List.forall_mem_cons.2 ⟨?_, ?_⟩
  · exact fun z => piece_agrees harg2 harg3 x0 x1 x2 o (c := 2176) (later_part harg1 (k0_off52_eq k))
      (later_part harg1 (k0_off53_eq k)) (ie := k0_off54_inb k) (k0_off54_eq k) z
  refine List.forall_mem_cons.2 ⟨?_, ?_⟩
  · exact fun z => piece_agrees harg2 harg3 x0 x1 x2 o (c := 2048) (later_part harg1 (k0_off49_eq k))
      (later_part harg1 (k0_off50_eq k)) (ie := k0_off51_inb k) (k0_off51_eq k) z
  refine List.forall_mem_cons.2 ⟨?_, ?_⟩
  · exact fun z => piece_agrees harg2 harg3 x0 x1 x2 o (c := 1920) (later_part harg1 (k0_off46_eq k))
      (later_part harg1 (k0_off47_eq k)) (ie := k0_off48_inb k) (k0_off48_eq k) z
  refine List.forall_mem_cons.2 ⟨?_, ?_⟩
  · exact fun z => piece_agrees harg2 harg3 x0 x1 x2 o (c := 1792) (later_part harg1 (k0_off43_eq k))
      (later_part harg1 (k0_off44_eq k)) (ie := k0_off45_inb k) (k0_off45_eq k) z
  refine List.forall_mem_cons.2 ⟨?_, ?_⟩
  · exact fun z => piece_agrees harg2 harg3 x0 x1 x2 o (c := 1664) (later_part harg1 (k0_off40_eq k))
      (later_part harg1 (k0_off41_eq k)) (ie := k0_off42_inb k) (k0_off42_eq k) z
  refine List.forall_mem_cons.2 ⟨?_, ?_⟩
  · exact fun z => piece_agrees harg2 harg3 x0 x1 x2 o (c := 1536) (later_part harg1 (k0_off37_eq k))
      (later_part harg1 (k0_off38_eq k)) (ie := k0_off39_inb k) (k0_off39_eq k) z
  refine List.forall_mem_cons.2 ⟨?_, ?_⟩
  · exact fun z => piece_agrees harg2 harg3 x0 x1 x2 o (c := 1408) (later_part harg1 (k0_off34_eq k))
      (later_part harg1 (k0_off35_eq k)) (ie := k0_off36_inb k) (k0_off36_eq k) z
  refine List.forall_mem_cons.2 ⟨?_, ?_⟩
  · exact fun z => piece_agrees harg2 harg3 x0 x1 x2 o (c := 1280) (later_part harg1 (k0_off31_eq k))
      (later_part harg1 (k0_off32_eq k)) (ie := k0_off33_inb k) (k0_off33_eq k) z
  refine List.forall_mem_cons.2 ⟨?_, ?_⟩
  · exact fun z => piece_agrees harg2 harg3 x0 x1 x2 o (c := 1152) (later_part harg1 (k0_off28_eq k))
      (later_part harg1 (k0_off29_eq k)) (ie := k0_off30_inb k) (k0_off30_eq k) z
  refine List.forall_mem_cons.2 ⟨?_, ?_⟩
  · exact fun z => piece_agrees harg2 harg3 x0 x1 x2 o (c := 1024) (later_part harg1 (k0_off25_eq k))
      (later_part harg1 (k0_off26_eq k)) (ie := k0_off27_inb k) (k0_off27_eq k) z
  refine List.forall_mem_cons.2 ⟨?_, ?_⟩
  · exact fun z => piece_agrees harg2 harg3 x0 x1 x2 o (c := 896) (later_part harg1 (k0_off22_eq k))
      (later_part harg1 (k0_off23_eq k)) (ie := k0_off24_inb k) (k0_off24_eq k) z
  refine List.forall_mem_cons.2 ⟨?_, ?_⟩
  · exact fun z => piece_agrees harg2 harg3 x0 x1 x2 o (c := 768) (later_part harg1 (k0_off19_eq k))
      (later_part harg1 (k0_off20_eq k)) (ie := k0_off21_inb k) (k0_off21_eq k) z
  refine List.forall_mem_cons.2 ⟨?_, ?_⟩
  · exact fun z => piece_agrees harg2 harg3 x0 x1 x2 o (c := 640) (later_part harg1 (k0_off16_eq k))
      (later_part harg1 (k0_off17_eq k)) (ie := k0_off18_inb k) (k0_off18_eq k) z
  refine List.forall_mem_cons.2 ⟨?_, ?_⟩
  · exact fun z => piece_agrees harg2 harg3 x0 x1 x2 o (c := 512) (later_part harg1 (k0_off13_eq k))
      (later_part harg1 (k0_off14_eq k)) (ie := k0_off15_inb k) (k0_off15_eq k) z
  refine List.forall_mem_cons.2 ⟨?_, ?_⟩
  · exact fun z => piece_agrees harg2 harg3 x0 x1 x2 o (c := 384) (later_part harg1 (k0_off10_eq k))
      (later_part harg1 (k0_off11_eq k)) (ie := k0_off12_inb k) (k0_off12_eq k) z
  refine List.forall_mem_cons.2 ⟨?_, ?_⟩
  · exact fun z => piece_agrees harg2 harg3 x0 x1 x2 o (c := 256) (later_part harg1 (k0_off7_eq k))
      (later_part harg1 (k0_off8_eq k)) (ie := k0_off9_inb k) (k0_off9_eq k) z
  refine List.forall_mem_cons.2 ⟨?_, ?_⟩
  · exact fun z => piece_agrees harg2 harg3 x0 x1 x2 o (c := 128) (later_part harg1 (k0_off4_eq k))
      (later_part harg1 (k0_off5_eq k)) (ie := k0_off6_inb k) (k0_off6_eq k) z
  refine List.forall_mem_cons.2 ⟨?_, ?_⟩
  · exact fun z => piece_agrees harg2 harg3 x0 x1 x2 o (c := 0) (later_part harg1 (k0_off1_eq k))
      (later_part harg1 (k0_off2_eq k)) (ie := k0_off3_inb k) (k0_off3_eq k) z
  exact fun p hp => absurd hp List.not_mem_nil

/-- The pieces of the trips before `n`. -/
theorem trips_agree (𝒱 : Variants) (d : Dev nD) (bd : Option 𝒱.V) (i : grid0.Coords) (n : ℕ) :
    ∀ p ∈ pb_k0_t1 (F := Ideal) 𝒱 d bd i arg1 harg1 arg2 harg2 arg3 harg3 arg4 harg4 arg5 harg5 (harg1.unread x0) (harg2.unread x1)
      (harg3.unread x2) n, ∀ z, p.2 z = whole x0 x1 x2 o (p.1.emb z) := by
  induction n with
  | zero => exact fun p hp => absurd hp List.not_mem_nil
  | succ n ih =>
    rw [pb_k0_t1.eq_2]
    unfold pb_k0_t1Step
    by_cases h : n < k0_t1_loop.trips
    · rw [dif_pos h]
      exact List.forall_mem_append.2 ⟨trip_agrees harg1 harg2 harg3 harg4 harg5 x0 x1 x2 o 𝒱 d bd i ⟨n, h⟩, ih⟩
    · rw [dif_neg h]
      exact ih

/-- The eight rows kept, in some columns. -/
theorem kept_columns {v : FVec Ideal S8x6144 .f32} (hv : v = o) {c : ℕ} {h : S8x6144.Slices ![0, c] S8x128} (p q : ℕ) (hp : p < 8) (hq : q < 128) :
    rd (n := 8) (k := 128) (extractStridedSlice S8x128 ![0, c] v h) p q = rd (n := 8) (k := 6144) o p (c + q) := by
  subst hv
  have hc : c + 128 ≤ 6144 := h.2 1
  rw [rd_ix (n := 8) (k := 128) _ hp hq, rd_ix (n := 8) (k := 6144) v hp (by omega : c + q < 6144)]
  exact extractStridedSlice_apply _ _ _ _ _ fun a => by
    match a with
    | ⟨0, _⟩ => show p = 0 + p; omega
    | ⟨1, _⟩ => rfl

/-- The eight rows kept where they were stored just before. -/
theorem kept_stored (v : FVec Ideal S8x6144 .f32) {i0 : ∀ a : Fin 2, ![0, 0] a + ![8, 6144] a ≤ S8x6144.size a} :
    arg5.view.readCov [(⟨Rect.unit (s := S8x6144) ![0, 0] S8x6144.size i0, v⟩ : View.Piece (Elt Ideal) S8x6144 .f32)]
      (Rect.unit (s := S8x6144) ![0, 0] S8x6144.size i0).toLoadRect = v :=
  View.readCov_unit_zero (S := S8x6144) _ (funext fun a => by fin_cases a <;> rfl) _ _

/-- The eight rows kept as the tile before left them. -/
theorem kept_before {i0 : ∀ a : Fin 2, ![0, 0] a + ![8, 6144] a ≤ S8x6144.size a} :
    arg5.view.readAt (Elt Ideal) (Rect.unit (s := S8x6144) ![0, 0] ![8, 6144] i0).toLoadRect (harg5.unread o) = o := by
  refine funext fun j => (harg5.readAt_unread (Val := Elt Ideal) o _ j).trans (congrArg o (funext fun a => Fin.ext ?_))
  match a with
  | ⟨0, _⟩ => show 0 + 1 * (j 0).val = (j 0).val; omega
  | ⟨1, _⟩ => show 0 + 1 * (j 1).val = (j 1).val; omega

/-- The tile's first rows, in some columns. -/
theorem first_rows {c : ℕ} {ic : ∀ a : Fin 2, ![0, c] a + ![16, 128] a ≤ S144x6144.size a} (p q : ℕ) (hp : p < 16) (hq : q < 128) :
    rd (n := 16) (k := 128) (arg1.view.readAt (Elt Ideal) (Rect.unit (s := S144x6144) ![0, c] ![16, 128] ic).toLoadRect (harg1.unread x0)) p q
      = rd (n := 144) (k := 6144) x0 (0 + p) (c + q) :=
  load_apply harg1 x0 ic rfl hp hq

set_option maxHeartbeats 4000000 in
/-- The pieces of the first tile. -/
theorem pieces_agree_A (d : Dev nD) (i : grid0.Coords) (hc : cond0_0 i) :
    ∀ p ∈ (kernelRun0_A (F := Ideal) d i arg1 harg1 arg2 harg2 arg3 harg3 arg4 harg4 arg5 harg5 hc x0 x1 x2).1,
      ∀ z, p.2 z = whole x0 x1 x2 (k0_pay120 (F := Ideal)) (p.1.emb z) := by
  unfold kernelRun0_A
  dsimp only
  refine List.forall_mem_append.2 ⟨trips_agree harg1 harg2 harg3 harg4 harg5 x0 x1 x2 (k0_pay120 (F := Ideal)) _ d _ i _, ?_⟩
  refine List.forall_mem_cons.2 ⟨?_, ?_⟩
  · exact fun z => piece_agrees harg2 harg3 x0 x1 x2 (k0_pay120 (F := Ideal)) (c := 2944) (first_part (kept_columns _ (kept_stored _) (h := slices_S8x6144_o0_2944_S8x128)) (first_rows harg1 x0))
      (first_part (kept_columns _ (kept_stored _) (h := slices_S8x6144_o0_6016_S8x128)) (first_rows harg1 x0)) (ie := inb_S144x3072_S16x128_0_2944) rfl z
  refine List.forall_mem_cons.2 ⟨?_, ?_⟩
  · exact fun z => piece_agrees harg2 harg3 x0 x1 x2 (k0_pay120 (F := Ideal)) (c := 2816) (first_part (kept_columns _ (kept_stored _) (h := slices_S8x6144_o0_2816_S8x128)) (first_rows harg1 x0))
      (first_part (kept_columns _ (kept_stored _) (h := slices_S8x6144_o0_5888_S8x128)) (first_rows harg1 x0)) (ie := inb_S144x3072_S16x128_0_2816) rfl z
  refine List.forall_mem_cons.2 ⟨?_, ?_⟩
  · exact fun z => piece_agrees harg2 harg3 x0 x1 x2 (k0_pay120 (F := Ideal)) (c := 2688) (first_part (kept_columns _ (kept_stored _) (h := slices_S8x6144_o0_2688_S8x128)) (first_rows harg1 x0))
      (first_part (kept_columns _ (kept_stored _) (h := slices_S8x6144_o0_5760_S8x128)) (first_rows harg1 x0)) (ie := inb_S144x3072_S16x128_0_2688) rfl z
  refine List.forall_mem_cons.2 ⟨?_, ?_⟩
  · exact fun z => piece_agrees harg2 harg3 x0 x1 x2 (k0_pay120 (F := Ideal)) (c := 2560) (first_part (kept_columns _ (kept_stored _) (h := slices_S8x6144_o0_2560_S8x128)) (first_rows harg1 x0))
      (first_part (kept_columns _ (kept_stored _) (h := slices_S8x6144_o0_5632_S8x128)) (first_rows harg1 x0)) (ie := inb_S144x3072_S16x128_0_2560) rfl z
  refine List.forall_mem_cons.2 ⟨?_, ?_⟩
  · exact fun z => piece_agrees harg2 harg3 x0 x1 x2 (k0_pay120 (F := Ideal)) (c := 2432) (first_part (kept_columns _ (kept_stored _) (h := slices_S8x6144_o0_2432_S8x128)) (first_rows harg1 x0))
      (first_part (kept_columns _ (kept_stored _) (h := slices_S8x6144_o0_5504_S8x128)) (first_rows harg1 x0)) (ie := inb_S144x3072_S16x128_0_2432) rfl z
  refine List.forall_mem_cons.2 ⟨?_, ?_⟩
  · exact fun z => piece_agrees harg2 harg3 x0 x1 x2 (k0_pay120 (F := Ideal)) (c := 2304) (first_part (kept_columns _ (kept_stored _) (h := slices_S8x6144_o0_2304_S8x128)) (first_rows harg1 x0))
      (first_part (kept_columns _ (kept_stored _) (h := slices_S8x6144_o0_5376_S8x128)) (first_rows harg1 x0)) (ie := inb_S144x3072_S16x128_0_2304) rfl z
  refine List.forall_mem_cons.2 ⟨?_, ?_⟩
  · exact fun z => piece_agrees harg2 harg3 x0 x1 x2 (k0_pay120 (F := Ideal)) (c := 2176) (first_part (kept_columns _ (kept_stored _) (h := slices_S8x6144_o0_2176_S8x128)) (first_rows harg1 x0))
      (first_part (kept_columns _ (kept_stored _) (h := slices_S8x6144_o0_5248_S8x128)) (first_rows harg1 x0)) (ie := inb_S144x3072_S16x128_0_2176) rfl z
  refine List.forall_mem_cons.2 ⟨?_, ?_⟩
  · exact fun z => piece_agrees harg2 harg3 x0 x1 x2 (k0_pay120 (F := Ideal)) (c := 2048) (first_part (kept_columns _ (kept_stored _) (h := slices_S8x6144_o0_2048_S8x128)) (first_rows harg1 x0))
      (first_part (kept_columns _ (kept_stored _) (h := slices_S8x6144_o0_5120_S8x128)) (first_rows harg1 x0)) (ie := inb_S144x3072_S16x128_0_2048) rfl z
  refine List.forall_mem_cons.2 ⟨?_, ?_⟩
  · exact fun z => piece_agrees harg2 harg3 x0 x1 x2 (k0_pay120 (F := Ideal)) (c := 1920) (first_part (kept_columns _ (kept_stored _) (h := slices_S8x6144_o0_1920_S8x128)) (first_rows harg1 x0))
      (first_part (kept_columns _ (kept_stored _) (h := slices_S8x6144_o0_4992_S8x128)) (first_rows harg1 x0)) (ie := inb_S144x3072_S16x128_0_1920) rfl z
  refine List.forall_mem_cons.2 ⟨?_, ?_⟩
  · exact fun z => piece_agrees harg2 harg3 x0 x1 x2 (k0_pay120 (F := Ideal)) (c := 1792) (first_part (kept_columns _ (kept_stored _) (h := slices_S8x6144_o0_1792_S8x128)) (first_rows harg1 x0))
      (first_part (kept_columns _ (kept_stored _) (h := slices_S8x6144_o0_4864_S8x128)) (first_rows harg1 x0)) (ie := inb_S144x3072_S16x128_0_1792) rfl z
  refine List.forall_mem_cons.2 ⟨?_, ?_⟩
  · exact fun z => piece_agrees harg2 harg3 x0 x1 x2 (k0_pay120 (F := Ideal)) (c := 1664) (first_part (kept_columns _ (kept_stored _) (h := slices_S8x6144_o0_1664_S8x128)) (first_rows harg1 x0))
      (first_part (kept_columns _ (kept_stored _) (h := slices_S8x6144_o0_4736_S8x128)) (first_rows harg1 x0)) (ie := inb_S144x3072_S16x128_0_1664) rfl z
  refine List.forall_mem_cons.2 ⟨?_, ?_⟩
  · exact fun z => piece_agrees harg2 harg3 x0 x1 x2 (k0_pay120 (F := Ideal)) (c := 1536) (first_part (kept_columns _ (kept_stored _) (h := slices_S8x6144_o0_1536_S8x128)) (first_rows harg1 x0))
      (first_part (kept_columns _ (kept_stored _) (h := slices_S8x6144_o0_4608_S8x128)) (first_rows harg1 x0)) (ie := inb_S144x3072_S16x128_0_1536) rfl z
  refine List.forall_mem_cons.2 ⟨?_, ?_⟩
  · exact fun z => piece_agrees harg2 harg3 x0 x1 x2 (k0_pay120 (F := Ideal)) (c := 1408) (first_part (kept_columns _ (kept_stored _) (h := slices_S8x6144_o0_1408_S8x128)) (first_rows harg1 x0))
      (first_part (kept_columns _ (kept_stored _) (h := slices_S8x6144_o0_4480_S8x128)) (first_rows harg1 x0)) (ie := inb_S144x3072_S16x128_0_1408) rfl z
  refine List.forall_mem_cons.2 ⟨?_, ?_⟩
  · exact fun z => piece_agrees harg2 harg3 x0 x1 x2 (k0_pay120 (F := Ideal)) (c := 1280) (first_part (kept_columns _ (kept_stored _) (h := slices_S8x6144_o0_1280_S8x128)) (first_rows harg1 x0))
      (first_part (kept_columns _ (kept_stored _) (h := slices_S8x6144_o0_4352_S8x128)) (first_rows harg1 x0)) (ie := inb_S144x3072_S16x128_0_1280) rfl z
  refine List.forall_mem_cons.2 ⟨?_, ?_⟩
  · exact fun z => piece_agrees harg2 harg3 x0 x1 x2 (k0_pay120 (F := Ideal)) (c := 1152) (first_part (kept_columns _ (kept_stored _) (h := slices_S8x6144_o0_1152_S8x128)) (first_rows harg1 x0))
      (first_part (kept_columns _ (kept_stored _) (h := slices_S8x6144_o0_4224_S8x128)) (first_rows harg1 x0)) (ie := inb_S144x3072_S16x128_0_1152) rfl z
  refine List.forall_mem_cons.2 ⟨?_, ?_⟩
  · exact fun z => piece_agrees harg2 harg3 x0 x1 x2 (k0_pay120 (F := Ideal)) (c := 1024) (first_part (kept_columns _ (kept_stored _) (h := slices_S8x6144_o0_1024_S8x128)) (first_rows harg1 x0))
      (first_part (kept_columns _ (kept_stored _) (h := slices_S8x6144_o0_4096_S8x128)) (first_rows harg1 x0)) (ie := inb_S144x3072_S16x128_0_1024) rfl z
  refine List.forall_mem_cons.2 ⟨?_, ?_⟩
  · exact fun z => piece_agrees harg2 harg3 x0 x1 x2 (k0_pay120 (F := Ideal)) (c := 896) (first_part (kept_columns _ (kept_stored _) (h := slices_S8x6144_o0_896_S8x128)) (first_rows harg1 x0))
      (first_part (kept_columns _ (kept_stored _) (h := slices_S8x6144_o0_3968_S8x128)) (first_rows harg1 x0)) (ie := inb_S144x3072_S16x128_0_896) rfl z
  refine List.forall_mem_cons.2 ⟨?_, ?_⟩
  · exact fun z => piece_agrees harg2 harg3 x0 x1 x2 (k0_pay120 (F := Ideal)) (c := 768) (first_part (kept_columns _ (kept_stored _) (h := slices_S8x6144_o0_768_S8x128)) (first_rows harg1 x0))
      (first_part (kept_columns _ (kept_stored _) (h := slices_S8x6144_o0_3840_S8x128)) (first_rows harg1 x0)) (ie := inb_S144x3072_S16x128_0_768) rfl z
  refine List.forall_mem_cons.2 ⟨?_, ?_⟩
  · exact fun z => piece_agrees harg2 harg3 x0 x1 x2 (k0_pay120 (F := Ideal)) (c := 640) (first_part (kept_columns _ (kept_stored _) (h := slices_S8x6144_o0_640_S8x128)) (first_rows harg1 x0))
      (first_part (kept_columns _ (kept_stored _) (h := slices_S8x6144_o0_3712_S8x128)) (first_rows harg1 x0)) (ie := inb_S144x3072_S16x128_0_640) rfl z
  refine List.forall_mem_cons.2 ⟨?_, ?_⟩
  · exact fun z => piece_agrees harg2 harg3 x0 x1 x2 (k0_pay120 (F := Ideal)) (c := 512) (first_part (kept_columns _ (kept_stored _) (h := slices_S8x6144_o0_512_S8x128)) (first_rows harg1 x0))
      (first_part (kept_columns _ (kept_stored _) (h := slices_S8x6144_o0_3584_S8x128)) (first_rows harg1 x0)) (ie := inb_S144x3072_S16x128_0_512) rfl z
  refine List.forall_mem_cons.2 ⟨?_, ?_⟩
  · exact fun z => piece_agrees harg2 harg3 x0 x1 x2 (k0_pay120 (F := Ideal)) (c := 384) (first_part (kept_columns _ (kept_stored _) (h := slices_S8x6144_o0_384_S8x128)) (first_rows harg1 x0))
      (first_part (kept_columns _ (kept_stored _) (h := slices_S8x6144_o0_3456_S8x128)) (first_rows harg1 x0)) (ie := inb_S144x3072_S16x128_0_384) rfl z
  refine List.forall_mem_cons.2 ⟨?_, ?_⟩
  · exact fun z => piece_agrees harg2 harg3 x0 x1 x2 (k0_pay120 (F := Ideal)) (c := 256) (first_part (kept_columns _ (kept_stored _) (h := slices_S8x6144_o0_256_S8x128)) (first_rows harg1 x0))
      (first_part (kept_columns _ (kept_stored _) (h := slices_S8x6144_o0_3328_S8x128)) (first_rows harg1 x0)) (ie := inb_S144x3072_S16x128_0_256) rfl z
  refine List.forall_mem_cons.2 ⟨?_, ?_⟩
  · exact fun z => piece_agrees harg2 harg3 x0 x1 x2 (k0_pay120 (F := Ideal)) (c := 128) (first_part (kept_columns _ (kept_stored _) (h := slices_S8x6144_o0_128_S8x128)) (first_rows harg1 x0))
      (first_part (kept_columns _ (kept_stored _) (h := slices_S8x6144_o0_3200_S8x128)) (first_rows harg1 x0)) (ie := inb_S144x3072_S16x128_0_128) rfl z
  refine List.forall_mem_cons.2 ⟨?_, ?_⟩
  · exact fun z => piece_agrees harg2 harg3 x0 x1 x2 (k0_pay120 (F := Ideal)) (c := 0) (first_part (kept_columns _ (kept_stored _) (h := slices_S8x6144_o0_0_S8x128)) (first_rows harg1 x0))
      (first_part (kept_columns _ (kept_stored _) (h := slices_S8x6144_o0_3072_S8x128)) (first_rows harg1 x0)) (ie := inb_S144x3072_S16x128_0_0) rfl z
  exact fun p hp => absurd hp List.not_mem_nil

set_option maxHeartbeats 4000000 in
/-- The pieces of a later tile. -/
theorem pieces_agree_B (d : Dev nD) (i : grid0.Coords) (hc : ¬cond0_0 i) :
    ∀ p ∈ (kernelRun0_B (F := Ideal) d i arg1 harg1 arg2 harg2 arg3 harg3 arg4 harg4 arg5 harg5 hc x0 x1 x2 o).1,
      ∀ z, p.2 z = whole x0 x1 x2 o (p.1.emb z) := by
  unfold kernelRun0_B
  dsimp only
  refine List.forall_mem_append.2 ⟨trips_agree harg1 harg2 harg3 harg4 harg5 x0 x1 x2 o _ d _ i _, ?_⟩
  refine List.forall_mem_cons.2 ⟨?_, ?_⟩
  · exact fun z => piece_agrees harg2 harg3 x0 x1 x2 o (c := 2944) (first_part (kept_columns _ (kept_before harg5 o) (h := slices_S8x6144_o0_2944_S8x128)) (first_rows harg1 x0))
      (first_part (kept_columns _ (kept_before harg5 o) (h := slices_S8x6144_o0_6016_S8x128)) (first_rows harg1 x0)) (ie := inb_S144x3072_S16x128_0_2944) rfl z
  refine List.forall_mem_cons.2 ⟨?_, ?_⟩
  · exact fun z => piece_agrees harg2 harg3 x0 x1 x2 o (c := 2816) (first_part (kept_columns _ (kept_before harg5 o) (h := slices_S8x6144_o0_2816_S8x128)) (first_rows harg1 x0))
      (first_part (kept_columns _ (kept_before harg5 o) (h := slices_S8x6144_o0_5888_S8x128)) (first_rows harg1 x0)) (ie := inb_S144x3072_S16x128_0_2816) rfl z
  refine List.forall_mem_cons.2 ⟨?_, ?_⟩
  · exact fun z => piece_agrees harg2 harg3 x0 x1 x2 o (c := 2688) (first_part (kept_columns _ (kept_before harg5 o) (h := slices_S8x6144_o0_2688_S8x128)) (first_rows harg1 x0))
      (first_part (kept_columns _ (kept_before harg5 o) (h := slices_S8x6144_o0_5760_S8x128)) (first_rows harg1 x0)) (ie := inb_S144x3072_S16x128_0_2688) rfl z
  refine List.forall_mem_cons.2 ⟨?_, ?_⟩
  · exact fun z => piece_agrees harg2 harg3 x0 x1 x2 o (c := 2560) (first_part (kept_columns _ (kept_before harg5 o) (h := slices_S8x6144_o0_2560_S8x128)) (first_rows harg1 x0))
      (first_part (kept_columns _ (kept_before harg5 o) (h := slices_S8x6144_o0_5632_S8x128)) (first_rows harg1 x0)) (ie := inb_S144x3072_S16x128_0_2560) rfl z
  refine List.forall_mem_cons.2 ⟨?_, ?_⟩
  · exact fun z => piece_agrees harg2 harg3 x0 x1 x2 o (c := 2432) (first_part (kept_columns _ (kept_before harg5 o) (h := slices_S8x6144_o0_2432_S8x128)) (first_rows harg1 x0))
      (first_part (kept_columns _ (kept_before harg5 o) (h := slices_S8x6144_o0_5504_S8x128)) (first_rows harg1 x0)) (ie := inb_S144x3072_S16x128_0_2432) rfl z
  refine List.forall_mem_cons.2 ⟨?_, ?_⟩
  · exact fun z => piece_agrees harg2 harg3 x0 x1 x2 o (c := 2304) (first_part (kept_columns _ (kept_before harg5 o) (h := slices_S8x6144_o0_2304_S8x128)) (first_rows harg1 x0))
      (first_part (kept_columns _ (kept_before harg5 o) (h := slices_S8x6144_o0_5376_S8x128)) (first_rows harg1 x0)) (ie := inb_S144x3072_S16x128_0_2304) rfl z
  refine List.forall_mem_cons.2 ⟨?_, ?_⟩
  · exact fun z => piece_agrees harg2 harg3 x0 x1 x2 o (c := 2176) (first_part (kept_columns _ (kept_before harg5 o) (h := slices_S8x6144_o0_2176_S8x128)) (first_rows harg1 x0))
      (first_part (kept_columns _ (kept_before harg5 o) (h := slices_S8x6144_o0_5248_S8x128)) (first_rows harg1 x0)) (ie := inb_S144x3072_S16x128_0_2176) rfl z
  refine List.forall_mem_cons.2 ⟨?_, ?_⟩
  · exact fun z => piece_agrees harg2 harg3 x0 x1 x2 o (c := 2048) (first_part (kept_columns _ (kept_before harg5 o) (h := slices_S8x6144_o0_2048_S8x128)) (first_rows harg1 x0))
      (first_part (kept_columns _ (kept_before harg5 o) (h := slices_S8x6144_o0_5120_S8x128)) (first_rows harg1 x0)) (ie := inb_S144x3072_S16x128_0_2048) rfl z
  refine List.forall_mem_cons.2 ⟨?_, ?_⟩
  · exact fun z => piece_agrees harg2 harg3 x0 x1 x2 o (c := 1920) (first_part (kept_columns _ (kept_before harg5 o) (h := slices_S8x6144_o0_1920_S8x128)) (first_rows harg1 x0))
      (first_part (kept_columns _ (kept_before harg5 o) (h := slices_S8x6144_o0_4992_S8x128)) (first_rows harg1 x0)) (ie := inb_S144x3072_S16x128_0_1920) rfl z
  refine List.forall_mem_cons.2 ⟨?_, ?_⟩
  · exact fun z => piece_agrees harg2 harg3 x0 x1 x2 o (c := 1792) (first_part (kept_columns _ (kept_before harg5 o) (h := slices_S8x6144_o0_1792_S8x128)) (first_rows harg1 x0))
      (first_part (kept_columns _ (kept_before harg5 o) (h := slices_S8x6144_o0_4864_S8x128)) (first_rows harg1 x0)) (ie := inb_S144x3072_S16x128_0_1792) rfl z
  refine List.forall_mem_cons.2 ⟨?_, ?_⟩
  · exact fun z => piece_agrees harg2 harg3 x0 x1 x2 o (c := 1664) (first_part (kept_columns _ (kept_before harg5 o) (h := slices_S8x6144_o0_1664_S8x128)) (first_rows harg1 x0))
      (first_part (kept_columns _ (kept_before harg5 o) (h := slices_S8x6144_o0_4736_S8x128)) (first_rows harg1 x0)) (ie := inb_S144x3072_S16x128_0_1664) rfl z
  refine List.forall_mem_cons.2 ⟨?_, ?_⟩
  · exact fun z => piece_agrees harg2 harg3 x0 x1 x2 o (c := 1536) (first_part (kept_columns _ (kept_before harg5 o) (h := slices_S8x6144_o0_1536_S8x128)) (first_rows harg1 x0))
      (first_part (kept_columns _ (kept_before harg5 o) (h := slices_S8x6144_o0_4608_S8x128)) (first_rows harg1 x0)) (ie := inb_S144x3072_S16x128_0_1536) rfl z
  refine List.forall_mem_cons.2 ⟨?_, ?_⟩
  · exact fun z => piece_agrees harg2 harg3 x0 x1 x2 o (c := 1408) (first_part (kept_columns _ (kept_before harg5 o) (h := slices_S8x6144_o0_1408_S8x128)) (first_rows harg1 x0))
      (first_part (kept_columns _ (kept_before harg5 o) (h := slices_S8x6144_o0_4480_S8x128)) (first_rows harg1 x0)) (ie := inb_S144x3072_S16x128_0_1408) rfl z
  refine List.forall_mem_cons.2 ⟨?_, ?_⟩
  · exact fun z => piece_agrees harg2 harg3 x0 x1 x2 o (c := 1280) (first_part (kept_columns _ (kept_before harg5 o) (h := slices_S8x6144_o0_1280_S8x128)) (first_rows harg1 x0))
      (first_part (kept_columns _ (kept_before harg5 o) (h := slices_S8x6144_o0_4352_S8x128)) (first_rows harg1 x0)) (ie := inb_S144x3072_S16x128_0_1280) rfl z
  refine List.forall_mem_cons.2 ⟨?_, ?_⟩
  · exact fun z => piece_agrees harg2 harg3 x0 x1 x2 o (c := 1152) (first_part (kept_columns _ (kept_before harg5 o) (h := slices_S8x6144_o0_1152_S8x128)) (first_rows harg1 x0))
      (first_part (kept_columns _ (kept_before harg5 o) (h := slices_S8x6144_o0_4224_S8x128)) (first_rows harg1 x0)) (ie := inb_S144x3072_S16x128_0_1152) rfl z
  refine List.forall_mem_cons.2 ⟨?_, ?_⟩
  · exact fun z => piece_agrees harg2 harg3 x0 x1 x2 o (c := 1024) (first_part (kept_columns _ (kept_before harg5 o) (h := slices_S8x6144_o0_1024_S8x128)) (first_rows harg1 x0))
      (first_part (kept_columns _ (kept_before harg5 o) (h := slices_S8x6144_o0_4096_S8x128)) (first_rows harg1 x0)) (ie := inb_S144x3072_S16x128_0_1024) rfl z
  refine List.forall_mem_cons.2 ⟨?_, ?_⟩
  · exact fun z => piece_agrees harg2 harg3 x0 x1 x2 o (c := 896) (first_part (kept_columns _ (kept_before harg5 o) (h := slices_S8x6144_o0_896_S8x128)) (first_rows harg1 x0))
      (first_part (kept_columns _ (kept_before harg5 o) (h := slices_S8x6144_o0_3968_S8x128)) (first_rows harg1 x0)) (ie := inb_S144x3072_S16x128_0_896) rfl z
  refine List.forall_mem_cons.2 ⟨?_, ?_⟩
  · exact fun z => piece_agrees harg2 harg3 x0 x1 x2 o (c := 768) (first_part (kept_columns _ (kept_before harg5 o) (h := slices_S8x6144_o0_768_S8x128)) (first_rows harg1 x0))
      (first_part (kept_columns _ (kept_before harg5 o) (h := slices_S8x6144_o0_3840_S8x128)) (first_rows harg1 x0)) (ie := inb_S144x3072_S16x128_0_768) rfl z
  refine List.forall_mem_cons.2 ⟨?_, ?_⟩
  · exact fun z => piece_agrees harg2 harg3 x0 x1 x2 o (c := 640) (first_part (kept_columns _ (kept_before harg5 o) (h := slices_S8x6144_o0_640_S8x128)) (first_rows harg1 x0))
      (first_part (kept_columns _ (kept_before harg5 o) (h := slices_S8x6144_o0_3712_S8x128)) (first_rows harg1 x0)) (ie := inb_S144x3072_S16x128_0_640) rfl z
  refine List.forall_mem_cons.2 ⟨?_, ?_⟩
  · exact fun z => piece_agrees harg2 harg3 x0 x1 x2 o (c := 512) (first_part (kept_columns _ (kept_before harg5 o) (h := slices_S8x6144_o0_512_S8x128)) (first_rows harg1 x0))
      (first_part (kept_columns _ (kept_before harg5 o) (h := slices_S8x6144_o0_3584_S8x128)) (first_rows harg1 x0)) (ie := inb_S144x3072_S16x128_0_512) rfl z
  refine List.forall_mem_cons.2 ⟨?_, ?_⟩
  · exact fun z => piece_agrees harg2 harg3 x0 x1 x2 o (c := 384) (first_part (kept_columns _ (kept_before harg5 o) (h := slices_S8x6144_o0_384_S8x128)) (first_rows harg1 x0))
      (first_part (kept_columns _ (kept_before harg5 o) (h := slices_S8x6144_o0_3456_S8x128)) (first_rows harg1 x0)) (ie := inb_S144x3072_S16x128_0_384) rfl z
  refine List.forall_mem_cons.2 ⟨?_, ?_⟩
  · exact fun z => piece_agrees harg2 harg3 x0 x1 x2 o (c := 256) (first_part (kept_columns _ (kept_before harg5 o) (h := slices_S8x6144_o0_256_S8x128)) (first_rows harg1 x0))
      (first_part (kept_columns _ (kept_before harg5 o) (h := slices_S8x6144_o0_3328_S8x128)) (first_rows harg1 x0)) (ie := inb_S144x3072_S16x128_0_256) rfl z
  refine List.forall_mem_cons.2 ⟨?_, ?_⟩
  · exact fun z => piece_agrees harg2 harg3 x0 x1 x2 o (c := 128) (first_part (kept_columns _ (kept_before harg5 o) (h := slices_S8x6144_o0_128_S8x128)) (first_rows harg1 x0))
      (first_part (kept_columns _ (kept_before harg5 o) (h := slices_S8x6144_o0_3200_S8x128)) (first_rows harg1 x0)) (ie := inb_S144x3072_S16x128_0_128) rfl z
  refine List.forall_mem_cons.2 ⟨?_, ?_⟩
  · exact fun z => piece_agrees harg2 harg3 x0 x1 x2 o (c := 0) (first_part (kept_columns _ (kept_before harg5 o) (h := slices_S8x6144_o0_0_S8x128)) (first_rows harg1 x0))
      (first_part (kept_columns _ (kept_before harg5 o) (h := slices_S8x6144_o0_3072_S8x128)) (first_rows harg1 x0)) (ie := inb_S144x3072_S16x128_0_0) rfl z
  exact fun p hp => absurd hp List.not_mem_nil

end Pieces

end Cert.Kernel21Ideal.GatedConv

end
-- ==== Proof.GatedConvGrid.lean ====
/-
  The activation over the grid: what each tile leaves, with the last eight rows of the tile before it, is a part of the
  activation of the whole array; and the plain lines give the same.
-/
module

public import proofs.«01_k».proof.Proof.GatedConvTile

@[expose] public section

set_option maxRecDepth 16384

noncomputable section

namespace Cert.Kernel21Ideal.GatedConv

open Cert.Kernel21Ideal Cert.Kernel21Ideal.Gen Cert.Kernel21Ideal.Value
open Idealize.ShloMosaic Idealize.ShloMosaic.TcCoe Idealize.SL.Sem
open Idealize.ShloMosaic.ValueIdx
open Cert.NormTile

theorem hz : (![0, 0] : Fin 2 → Nat) = fun _ => 0 := funext fun a => by fin_cases a <;> rfl

theorem rd_outside {n k : ℕ} (x : (Mat n k).Idx → EReal) {a b : ℕ} (h : ¬ b < k) : rd x a b = 0 := dif_neg fun z => h z.2

/-! ## What a tile leaves -/

section Cases

variable {arg1 : Memref sig .tc .vmem S144x6144 .f32} (harg1 : arg1.IsWhole) {arg2 : Memref sig .tc .vmem S3x6144 .f32} (harg2 : arg2.IsWhole)
  {arg3 : Memref sig .tc .vmem S1x6144 .f32} (harg3 : arg3.IsWhole) {arg4 : Memref sig .tc .vmem S144x3072 .bf16} (harg4 : arg4.IsWhole)
  {arg5 : Memref sig .tc .vmem S8x6144 .f32} (harg5 : arg5.IsWhole)
  (x0 : Vec Ideal S144x6144 .f32) (x1 : Vec Ideal S3x6144 .f32) (x2 : Vec Ideal S1x6144 .f32) (o : Vec Ideal S8x6144 .f32)
  (d : Dev nD) (i : grid0.Coords)

/-- What the first tile leaves of the result. -/
theorem out_A (hc : cond0_0 i) :
    out0_A_3 (F := Ideal) d i arg1 harg1 arg2 harg2 arg3 harg3 arg4 harg4 arg5 harg5 hc x0 x1 x2 = whole x0 x1 x2 (k0_pay120 (F := Ideal)) := by
  unfold out0_A_3
  refine (View.read_writes_junk_eq_canon _ _).trans (funext fun y => ?_)
  exact canon_of_agree (s := S144x3072) (e := .bf16) (whole x0 x1 x2 (k0_pay120 (F := Ideal))) _ (pieces_agree_A harg1 harg2 harg3 harg4 harg5 x0 x1 x2 d i hc) y
    (cover0_A_3 d i arg1 harg1 arg2 harg2 arg3 harg3 arg4 harg4 arg5 harg5 hc x0 x1 x2 y)

/-- What the first tile keeps: its last eight rows. -/
theorem last_A (hc : cond0_0 i) (p q : ℕ) (hp : p < 8) :
    rd (n := 8) (k := 6144) (sout0_A_0 (F := Ideal) d i arg1 harg1 arg2 harg2 arg3 harg3 arg4 harg4 arg5 harg5 hc x0 x1 x2) p q = rd (n := 144) (k := 6144) x0 (136 + p) q := by
  by_cases hq : q < 6144
  · have h : sout0_A_0 (F := Ideal) d i arg1 harg1 arg2 harg2 arg3 harg3 arg4 harg4 arg5 harg5 hc x0 x1 x2
        = arg1.view.readAt (Elt Ideal) (Rect.unit (s := S144x6144) ![136, 0] ![8, 6144] inb_S144x6144_S8x6144_136_0).toLoadRect (harg1.unread x0) := by
      unfold sout0_A_0
      refine (View.read_writes_junk_eq_canon _ _).trans ?_
      unfold kernelRun0_A
      dsimp only
      refine (View.canon_cons_unit_zero (S := S8x6144) hz _ _ _).trans ?_
      exact shapeCast_self _ _
    rw [h]
    exact (load_apply harg1 x0 inb_S144x6144_S8x6144_136_0 rfl hp hq).trans (by rw [Nat.zero_add])
  · rw [rd_outside _ hq, rd_outside _ hq]

/-- What a later tile leaves of the result. -/
theorem out_B (hc : ¬cond0_0 i) :
    out0_B_3 (F := Ideal) d i arg1 harg1 arg2 harg2 arg3 harg3 arg4 harg4 arg5 harg5 hc x0 x1 x2 o = whole x0 x1 x2 o := by
  unfold out0_B_3
  refine (View.read_writes_junk_eq_canon _ _).trans (funext fun y => ?_)
  exact canon_of_agree (s := S144x3072) (e := .bf16) (whole x0 x1 x2 o) _ (pieces_agree_B harg1 harg2 harg3 harg4 harg5 x0 x1 x2 o d i hc) y
    (cover0_B_3 d i arg1 harg1 arg2 harg2 arg3 harg3 arg4 harg4 arg5 harg5 hc x0 x1 x2 o y)

/-- What a later tile keeps: its last eight rows. -/
theorem last_B (hc : ¬cond0_0 i) (p q : ℕ) (hp : p < 8) :
    rd (n := 8) (k := 6144) (sout0_B_0 (F := Ideal) d i arg1 harg1 arg2 harg2 arg3 harg3 arg4 harg4 arg5 harg5 hc x0 x1 x2 o) p q = rd (n := 144) (k := 6144) x0 (136 + p) q := by
  by_cases hq : q < 6144
  · have h : sout0_B_0 (F := Ideal) d i arg1 harg1 arg2 harg2 arg3 harg3 arg4 harg4 arg5 harg5 hc x0 x1 x2 o
        = arg1.view.readAt (Elt Ideal) (Rect.unit (s := S144x6144) ![136, 0] ![8, 6144] inb_S144x6144_S8x6144_136_0).toLoadRect (harg1.unread x0) := by
      unfold sout0_B_0
      refine (View.read_writes_junk_eq_canon _ _).trans ?_
      unfold kernelRun0_B
      dsimp only
      refine (View.canon_cons_unit_zero (S := S8x6144) hz _ _ _).trans ?_
      exact shapeCast_self _ _
    rw [h]
    exact (load_apply harg1 x0 inb_S144x6144_S8x6144_136_0 rfl hp hq).trans (by rw [Nat.zero_add])
  · rw [rd_outside _ hq, rd_outside _ hq]

end Cases

/-! ## Over the grid -/

variable (m : (ℓ : Loc nD τ sig) → Buf (Elt Ideal) ℓ) (ρ : Dev nD → PrngReg)

/-- The arguments, as matrices of extended reals. -/
abbrev argU (c : Dev nD) : (Mat 8208 6144).Idx → EReal := m ((c : Thread nD τ).loc main_arg0)
abbrev argW (c : Dev nD) : (Mat 3 6144).Idx → EReal := m ((c : Thread nD τ).loc main_arg1)
abbrev argB (c : Dev nD) : (Mat 1 6144).Idx → EReal := m ((c : Thread nD τ).loc main_arg2)

theorem index_u : ∀ t : Fin cfg0.N, win0_0.index t (0 : Fin 2) = t.val ∧ win0_0.index t (1 : Fin 2) = 0 :=
  (by decide +kernel : ∀ t : Fin grid0.N, _)
theorem index_w : ∀ t : Fin cfg0.N, win0_1.index t (0 : Fin 2) = 0 ∧ win0_1.index t (1 : Fin 2) = 0 :=
  (by decide +kernel : ∀ t : Fin grid0.N, _)
theorem index_b : ∀ t : Fin cfg0.N, win0_2.index t (0 : Fin 2) = 0 ∧ win0_2.index t (1 : Fin 2) = 0 :=
  (by decide +kernel : ∀ t : Fin grid0.N, _)
theorem index_a : ∀ t : Fin cfg0.N, win0_3.index t (0 : Fin 2) = t.val ∧ win0_3.index t (1 : Fin 2) = 0 :=
  (by decide +kernel : ∀ t : Fin grid0.N, _)

theorem points (t : Fin cfg0.N) : t.val < 57 := lt_of_lt_of_eq t.isLt N_0

theorem block_u (c : Dev nD) (t : Fin cfg0.N) (p q : ℕ) (hp : p < 144) :
    rd (n := 144) (k := 6144) (iblk m c 0 t) p q = rd (argU m c) (144 * t.val + p) q := by
  by_cases hq : q < 6144
  · obtain ⟨e0, e1⟩ := index_u t
    have ht := points t
    rw [rd_ix (n := 144) (k := 6144) _ hp hq, rd_ix (argU m c) (by omega : 144 * t.val + p < 8208) hq]
    show argU m c (((cfg0.win 0).blk t).view.emb (ix2 (⟨p, hp⟩ : Fin 144) (⟨q, hq⟩ : Fin 6144))) = _
    refine congrArg _ (funext fun a => Fin.ext ?_)
    match a with
    | ⟨0, _⟩ => show win0_0.index t (0 : Fin 2) * 144 + 1 * p = 144 * t.val + p; rw [e0]; omega
    | ⟨1, _⟩ => show win0_0.index t (1 : Fin 2) * 6144 + 1 * q = q; rw [e1]; omega
  · rw [rd_outside _ hq, rd_outside _ hq]

theorem block_w (c : Dev nD) (t : Fin cfg0.N) : iblk m c 1 t = argW m c := by
  obtain ⟨e0, e1⟩ := index_w t
  funext j
  show argW m c (((cfg0.win 1).blk t).view.emb j) = _
  refine congrArg _ (funext fun a => Fin.ext ?_)
  match a with
  | ⟨0, _⟩ => show win0_1.index t (0 : Fin 2) * 3 + 1 * (j 0).val = (j 0).val; rw [e0]; omega
  | ⟨1, _⟩ => show win0_1.index t (1 : Fin 2) * 6144 + 1 * (j 1).val = (j 1).val; rw [e1]; omega

theorem block_b (c : Dev nD) (t : Fin cfg0.N) : iblk m c 2 t = argB m c := by
  obtain ⟨e0, e1⟩ := index_b t
  funext j
  show argB m c (((cfg0.win 2).blk t).view.emb j) = _
  refine congrArg _ (funext fun a => Fin.ext ?_)
  match a with
  | ⟨0, _⟩ => show win0_2.index t (0 : Fin 2) * 1 + 1 * (j 0).val = (j 0).val; rw [e0]; omega
  | ⟨1, _⟩ => show win0_2.index t (1 : Fin 2) * 6144 + 1 * (j 1).val = (j 1).val; rw [e1]; omega

/-- The entry `k` rows back; zero before the first row. -/
def back (u : (Mat 8208 6144).Idx → EReal) (r k q : ℕ) : EReal := if k ≤ r then rd u (r - k) q else 0

theorem back_of (u : (Mat 8208 6144).Idx → EReal) {r k s : ℕ} (h : r = s + k) (q : ℕ) : back u r k q = rd u s q := by
  subst h
  unfold back
  rw [if_pos (by omega), Nat.add_sub_cancel]

theorem back_congr (u : (Mat 8208 6144).Idx → EReal) {r k r' k' : ℕ} (h : r + k' = r' + k) (q : ℕ) : back u r k q = back u r' k' q := by
  unfold back
  by_cases hk : k ≤ r
  · rw [if_pos hk, if_pos (by omega), show r - k = r' - k' from by omega]
  · rw [if_neg hk, if_neg (by omega)]

/-- The eight rows before tile `t`. -/
def Kept (c : Dev nD) (t : ℕ) (o : (Mat 8 6144).Idx → EReal) : Prop := ∀ p q, p < 8 → rd o p q = back (argU m c) (144 * t + p) 8 q

theorem kept_first (c : Dev nD) : Kept m c 0 (k0_pay120 (F := Ideal)) := fun p q hp => by
  unfold back
  rw [if_neg (by omega)]
  by_cases hq : q < 6144
  · rw [rd_ix _ hp hq]
    exact Ideal.ofBits_zero_f32
  · exact rd_outside _ hq

theorem kept_next (c : Dev nD) (t : Fin cfg0.N) : Kept m c (t.val + 1) (outsAt0 m c t.val t.isLt).2 := fun p q hp => by
  rw [back_of (argU m c) (show 144 * (t.val + 1) + p = (144 * t.val + (136 + p)) + 8 by omega) q, ← block_u m c t (136 + p) q (by omega)]
  by_cases h0 : t.val % 57 = 0
  · have h := congrArg Prod.snd (outsAt0_A m c t h0)
    dsimp only at h
    rw [h]
    exact last_A (hs0_0 t) (hs0_1 t) (hs0_2 t) (hs0_3 t) (Memref.isWhole_whole _) (iblk m c 0 t) (iblk m c 1 t) (iblk m c 2 t) c
      (grid0.coords t) _ p q hp
  · have h := congrArg Prod.snd (outsAt0_B m c t h0)
    dsimp only at h
    rw [h]
    exact last_B (hs0_0 t) (hs0_1 t) (hs0_2 t) (hs0_3 t) (Memref.isWhole_whole _) (iblk m c 0 t) (iblk m c 1 t) (iblk m c 2 t)
      (outsAt0 m c (t.val - 1) (Nat.lt_of_le_of_lt (Nat.sub_le _ _) t.isLt)).2 c (grid0.coords t) _ p q hp

/-- A tile and the rows before it are rows of the whole. -/
theorem whole_at (c : Dev nD) (t : Fin cfg0.N) {o : Vec Ideal S8x6144 .f32} (ho : Kept m c t.val o) (y : S144x3072.Idx) :
    whole (iblk m c 0 t) (iblk m c 1 t) (iblk m c 2 t) o y
      = gated (argW m c) (argB m c) (back (argU m c) (144 * t.val + (y 0).val)) (y 1).val := by
  have h0 : (y 0).val < 144 := (y 0).isLt
  rw [block_w, block_b]
  refine gated_congr _ _ _ _ _ fun k hk q => ?_
  by_cases h8 : (y 0).val + 8 - k < 8
  · exact (ext_old _ _ h8 q).trans ((ho _ q h8).trans (back_congr _ (by omega) q))
  · refine (ext_new _ _ (show (y 0).val + 8 - k = ((y 0).val - k) + 8 by omega) q).trans ((block_u m c t _ q (by omega)).trans ?_)
    exact (back_of _ (by omega) q).symm

theorem out_at (c : Dev nD) (t : Fin cfg0.N) (y : S144x3072.Idx) : (outsAt0 m c t.val t.isLt).1 y
    = gated (argW m c) (argB m c) (back (argU m c) (144 * t.val + (y 0).val)) (y 1).val := by
  have ht := points t
  by_cases h0 : t.val % 57 = 0
  · rw [outsAt0_A m c t h0]
    refine (congrFun (out_A _ _ _ _ _ _ _ _ _ _ _) y).trans (whole_at m c t ?_ y)
    rw [show t.val = 0 by omega]
    exact kept_first m c
  · rw [outsAt0_B m c t h0]
    refine (congrFun (out_B _ _ _ _ _ _ _ _ _ _ _ _) y).trans (whole_at m c t ?_ y)
    have h := kept_next m c ⟨t.val - 1, Nat.lt_of_le_of_lt (Nat.sub_le _ _) t.isLt⟩
    rw [show (⟨t.val - 1, Nat.lt_of_le_of_lt (Nat.sub_le _ _) t.isLt⟩ : Fin cfg0.N).val + 1 = t.val from by dsimp only; omega] at h
    exact h

/-- The activation. -/
def activated (c : Dev nD) : Buf (Elt Ideal) ((c : Thread nD τ).loc main_v0) :=
  fun i => gated (argW m c) (argB m c) (back (argU m c) (i 0).val) (i 1).val

theorem flushed_a (c : Dev nD) (t : Fin cfg0.N) :
    (dats m 0 c).flushed 3 t = ((cfg0.win 3).blk t).view.read (Elt Ideal) (activated m c) := by
  rw [flushed3]
  obtain ⟨e0, e1⟩ := index_a t
  funext y
  have hb0 : (((cfg0.win 3).blk t).view.emb y 0).val = win0_3.index t (0 : Fin 2) * 144 + 1 * (y 0).val := rfl
  have hb1 : (((cfg0.win 3).blk t).view.emb y 1).val = win0_3.index t (1 : Fin 2) * 3072 + 1 * (y 1).val := rfl
  refine (out_at m c t ((cfg0.win 3).xinj (grid0.coords t) y)).trans ?_
  show gated (argW m c) (argB m c) (back (argU m c) (144 * t.val + (y 0).val)) (y 1).val
    = gated (argW m c) (argB m c) (back (argU m c) (((cfg0.win 3).blk t).view.emb y 0).val) (((cfg0.win 3).blk t).view.emb y 1).val
  rw [hb0, hb1, e0, e1, show 144 * t.val + (y 0).val = t.val * 144 + 1 * (y 0).val from by omega,
    show 0 * 3072 + 1 * (y 1).val = (y 1).val from by omega]

theorem final_a (c : Dev nD) : (dats m 0 c).arrAt 3 cfg0.N = activated m c :=
  (dats m 0 c).arrAt_eq_of_cover 3 (activated m c) (fun t _ => flushed_a m c t) fun i => (covered_iff3 i).2 (by
    have h0 : (i 0).val < 8208 := (i 0).isLt
    have h1 : (i 1).val < 3072 := (i 1).isLt
    omega)

/-! ## The plain lines -/

section Plain

open Cert.Reference21Ideal.Read

variable (u : (Mat 8208 6144).Idx → EReal) (w : (Mat 3 6144).Idx → EReal) (b : (Mat 1 6144).Idx → EReal)

theorem pad_value : FloatOps.sitofp (F := Ideal) .f32 (0#32 : BitVec 32) = (0 : EReal) := by
  show (((0#32 : BitVec 32).toInt : ℝ) : EReal) = 0
  norm_num

theorem plain_back2 (i : (Mat 8208 6144).Idx) : val_main_v3 (F := Ideal) u i = back u (i 0).val 2 (i 1).val := by
  have h0 : (i 0).val < 8208 := (i 0).isLt
  have h1 : (i 1).val < 6144 := (i 1).isLt
  rw [val_main_v3_apply]
  unfold val_main_v2 back
  by_cases h : 2 ≤ (i 0).val
  · rw [if_pos h, rd_ix u (by omega : (i 0).val - 2 < 8208) h1]
    exact pad_apply_of_inside _ _ _ _ _ _ _ _ _ fun a => by
      match a with
      | ⟨0, _⟩ => show (i 0).val = 2 + ((i 0).val - 2) * 1; omega
      | ⟨1, _⟩ => show (i 1).val = 0 + (i 1).val * 1; omega
  · rw [if_neg h]
    refine (pad_apply_of_not_inside _ _ _ _ _ _ _ _ (0 : Fin 2) fun z => h z.1).trans ?_
    exact pad_value

theorem plain_back1 (i : (Mat 8208 6144).Idx) : val_main_v10 (F := Ideal) u i = back u (i 0).val 1 (i 1).val := by
  have h0 : (i 0).val < 8208 := (i 0).isLt
  have h1 : (i 1).val < 6144 := (i 1).isLt
  rw [val_main_v10_apply]
  unfold val_main_v9 back
  by_cases h : 1 ≤ (i 0).val
  · rw [if_pos h, rd_ix u (by omega : (i 0).val - 1 < 8208) h1]
    exact pad_apply_of_inside _ _ _ _ _ _ _ _ _ fun a => by
      match a with
      | ⟨0, _⟩ => show (i 0).val = 1 + ((i 0).val - 1) * 1; omega
      | ⟨1, _⟩ => show (i 1).val = 0 + (i 1).val * 1; omega
  · rw [if_neg h]
    refine (pad_apply_of_not_inside _ _ _ _ _ _ _ _ (0 : Fin 2) fun z => h z.1).trans ?_
    exact pad_value

theorem plain_tap0 (i : (Mat 8208 6144).Idx) : val_main_v5 (F := Ideal) w i = rd w 0 (i 1).val := by
  have h1 : (i 1).val < 6144 := (i 1).isLt
  rw [val_main_v5_apply, val_main_v4_apply, val_main_v1_apply, val_main_v0_apply]
  exact (rd_at w _ rfl (show (i 1).val % 6144 = (i 1).val by omega)).symm

theorem plain_tap1 (i : (Mat 8208 6144).Idx) : val_main_v12 (F := Ideal) w i = rd w 1 (i 1).val := by
  have h1 : (i 1).val < 6144 := (i 1).isLt
  rw [val_main_v12_apply, val_main_v11_apply, val_main_v8_apply, val_main_v7_apply]
  exact (rd_at w _ rfl (show (i 1).val % 6144 = (i 1).val by omega)).symm

theorem plain_tap2 (i : (Mat 8208 6144).Idx) : val_main_v18 (F := Ideal) w i = rd w 2 (i 1).val := by
  have h1 : (i 1).val < 6144 := (i 1).isLt
  rw [val_main_v18_apply, val_main_v17_apply, val_main_v16_apply, val_main_v15_apply]
  exact (rd_at w _ rfl (show (i 1).val % 6144 = (i 1).val by omega)).symm

theorem plain_bias (i : (Mat 8208 6144).Idx) : val_main_v21 (F := Ideal) b i = rd b 0 (i 1).val := by
  rw [val_main_v21_apply]
  exact (rd_at b _ rfl rfl).symm

/-- The convolution, as the plain lines give it. -/
theorem plain_conv (i : (Mat 8208 6144).Idx) {r q : ℕ} (hr : (i 0).val = r) (hq : (i 1).val = q) :
    val_main_v22 (F := Ideal) u w b i = conv w b (back u r) q := by
  subst hr; subst hq
  rw [val_main_v22_apply, val_main_v20_apply, val_main_v14_apply, val_main_v6_apply, val_main_v13_apply, val_main_v19_apply,
    plain_back2, plain_back1, plain_tap0, plain_tap1, plain_tap2, plain_bias]
  have hu : u i = back u (i 0).val 0 (i 1).val := ((back_of u (Nat.add_zero _).symm _).trans (rd_of u i)).symm
  rw [hu]
  unfold conv taps
  show rd w 0 (i 1).val * back u (i 0).val 2 (i 1).val + rd w 1 (i 1).val * back u (i 0).val 1 (i 1).val
      + rd w 2 (i 1).val * back u (i 0).val 0 (i 1).val + rd b 0 (i 1).val = _
  refine congrArg (fun z : EReal => z + rd b 0 (i 1).val) ?_
  rw [add_comm (rd w 0 (i 1).val * back u (i 0).val 2 (i 1).val), add_comm _ (rd w 2 (i 1).val * back u (i 0).val 0 (i 1).val), ← add_assoc]

/-- The plain lines' gelu. -/
theorem plain_gelu (z : EReal) :
    (z * (Ideal.ofBits .f32 0x3F000000#32 * (Ideal.ofBits .f32 0x3F800000#32
      + FloatOps.hostUnary (F := Ideal) (φ := .f32) .tanh (Ideal.ofBits .f32 0x3F4C422A#32 * (z + Ideal.ofBits .f32 0x3D372713#32 * (z * z * z))))) : EReal) = gelu z := by
  unfold gelu
  rw [← mul_assoc, mul_comm z]
  rfl

/-- The activation, as the plain lines give it. -/
theorem plain_activated (i : (Mat 8208 3072).Idx) :
    val_main_v39 (F := Ideal) u w b i = gated w b (back u (i 0).val) (i 1).val := by
  have e23 : val_main_v23 (F := Ideal) u w b i = conv w b (back u (i 0).val) (i 1).val := by
    rw [val_main_v23_apply]
    exact plain_conv u w b _ rfl rfl
  have e24 : val_main_v24 (F := Ideal) u w b i = conv w b (back u (i 0).val) ((i 1).val + 3072) := by
    rw [val_main_v24_apply]
    exact plain_conv u w b _ rfl (Nat.add_comm _ _)
  rw [val_main_v39_apply, val_main_v38_apply, val_main_v37_apply, val_main_v36_apply, val_main_v35_apply, val_main_v34_apply,
    val_main_v33_apply, val_main_v32_apply, val_main_v31_apply, val_main_v30_apply, val_main_v29_apply, val_main_v28_apply,
    val_main_v27_apply, val_main_v26_apply, val_main_v25_apply, e23, e24]
  unfold gated
  exact congrArg (fun z : EReal => z * conv w b (back u (i 0).val) ((i 1).val + 3072)) (plain_gelu _)

end Plain

/-- The kernel computes the activation of the convolved rows. -/
theorem algebraic : Cert.algebraic_Kernel21Ideal_Reference21Ideal := by
  intro m ρ m' ρ' _ hargs
  refine ⟨fun c => activated m c, ?_, ?_⟩
  · exact (θ_run _ _ _).mono (fun r h c => ⟨(h c).1.trans (final_a m c), (h c).2⟩) (run_blocks (F := Ideal) m ρ)
  · refine (θ_run _ _ _).mono (fun r h c => ⟨(h c).1.trans ?_, (h c).2⟩) (Cert.Reference21Ideal.Value.run (F := Ideal) m' ρ')
    refine (Cert.Reference21Ideal.Read.val_main_v39_eq m' c).trans ?_
    rw [(hargs c).1, (hargs c).2.1, (hargs c).2.2]
    exact funext fun i => plain_activated (argU m c) (argW m c) (argB m c) i

end Cert.Kernel21Ideal.GatedConv

end
-- ==== Proof.SlotSum.lean ====
/-
  The sum of the eight devices' gradients of the small weights. The kernel takes all of its rows at once: it reads the
  eight slots one after another and adds each to the sum of those before it. The plain line is the sum over the first axis.
-/
module

public import proofs.«01_k».proof.Defs
public import proofs.«01_k».proof.Proof.Gen.Kernel22Ideal.Frame
public import proofs.«01_k».proof.Proof.Gen.Reference22Ideal.Run
public import proofs.«01_k».proof.Proof.Gen.Reference22Ideal.Read
public import Idealize.ShloMosaic.PureOps.Ideal.Laws
public import Idealize.ShloMosaic.Lib.ValueIdxCore
public import Idealize.ShloMosaic.Lib.ValueLayout
public import Idealize.ShloMosaic.Lib.Pipeline.Value
public import Idealize.ShloMosaic.Lib.Tactic
public import Idealize.ShloMosaic.Lib.Quiescent

@[expose] public section

set_option maxRecDepth 16384

noncomputable section

namespace Cert.Kernel22Ideal.SlotSum

open Cert.Kernel22Ideal Cert.Kernel22Ideal.Gen
open Idealize.ShloMosaic Idealize.ShloMosaic.TcCoe Idealize.SL.Sem
open Idealize.ShloMosaic.ValueIdx

theorem hz : (![0, 0] : Fin 2 → Nat) = fun _ => 0 := funext fun a => by fin_cases a <;> rfl

/-- Slot `k`'s entry `(r, j)` of the eight. -/
abbrev slot (x : S8x160x1024.Idx → EReal) (k : Fin 8) (r : Fin 160) (j : Fin 1024) : EReal := x (ix3 k r j)

/-- One slot, read as a matrix. -/
theorem slot_apply (x : Vec Ideal S8x160x1024 .f32) (k : Fin 8) (inb : ∀ a, (![k.val, 0, 0] : Fin 3 → Nat) a + S1x160x1024.size a ≤ S8x160x1024.size a)
    (r : Fin 160) (j : Fin 1024) :
    shapeCast S160x1024 (View.ld x (Rect.unit (s := S8x160x1024) ![k.val, 0, 0] S1x160x1024.size inb))
      shapeCasts_S1x160x1024_S160x1024 (ix2 r j) = slot x k r j := by
  refine (shapeCast_1ab_ab_apply (a := 160) (b := 1024) _ _ r j).trans ?_
  refine congrArg x (funext fun a => Fin.ext ?_)
  match a with
  | ⟨0, _⟩ => show k.val + 1 * 0 = k.val; omega
  | ⟨1, _⟩ => show 0 + 1 * r.val = r.val; omega
  | ⟨2, _⟩ => show 0 + 1 * j.val = j.val; omega

/-- What the kernel stores is the sum over the slots. -/
theorem stored_apply (x : Vec Ideal S8x160x1024 .f32) (r : Fin 160) (j : Fin 1024) :
    out0_1 (F := Ideal) x (ix2 r j) = ∑ k : Fin 8, slot x k r j := by
  unfold out0_1
  rw [View.canon_unit_zero hz]
  unfold k0_pay1
  rw [Fin.sum_univ_eight]
  have h0 := slot_apply x 0 inb_S8x160x1024_S1x160x1024_0_0_0 r j
  have h1 := slot_apply x 1 inb_S8x160x1024_S1x160x1024_1_0_0 r j
  have h2 := slot_apply x 2 inb_S8x160x1024_S1x160x1024_2_0_0 r j
  have h3 := slot_apply x 3 inb_S8x160x1024_S1x160x1024_3_0_0 r j
  have h4 := slot_apply x 4 inb_S8x160x1024_S1x160x1024_4_0_0 r j
  have h5 := slot_apply x 5 inb_S8x160x1024_S1x160x1024_5_0_0 r j
  have h6 := slot_apply x 6 inb_S8x160x1024_S1x160x1024_6_0_0 r j
  have h7 := slot_apply x 7 inb_S8x160x1024_S1x160x1024_7_0_0 r j
  rw [← h0, ← h1, ← h2, ← h3, ← h4, ← h5, ← h6, ← h7]
  rfl

variable (m : (ℓ : Loc nD τ sig) → Buf (Elt Ideal) ℓ) (ρ : Dev nD → PrngReg)

/-- The argument: the eight slots. -/
abbrev argS (c : Dev nD) : S8x160x1024.Idx → EReal := m ((c : Thread nD τ).loc main_arg0)

theorem index_in : ∀ t : Fin cfg0.N, win0_0.index t (0 : Fin 3) = 0 ∧ win0_0.index t (1 : Fin 3) = 0 ∧ win0_0.index t (2 : Fin 3) = 0 :=
  (by decide +kernel : ∀ t : Fin grid0.N, _)
theorem index_out : ∀ t : Fin cfg0.N, win0_1.index t (0 : Fin 2) = 0 ∧ win0_1.index t (1 : Fin 2) = 0 :=
  (by decide +kernel : ∀ t : Fin grid0.N, _)

/-- The one block is the whole argument. -/
theorem block_in (c : Dev nD) (t : Fin cfg0.N) (k : Fin 8) (r : Fin 160) (j : Fin 1024) :
    slot (iblk m c 0 t) k r j = slot (argS m c) k r j := by
  obtain ⟨e0, e1, e2⟩ := index_in t
  show V m c main_arg0 (((cfg0.win 0).blk t).view.emb (ix3 k r j)) = _
  rw [V_main_arg0]
  refine congrArg (argS m c) (funext fun a => Fin.ext ?_)
  match a with
  | ⟨0, _⟩ => show win0_0.index t (0 : Fin 3) * 8 + 1 * k.val = k.val; rw [e0]; omega
  | ⟨1, _⟩ => show win0_0.index t (1 : Fin 3) * 160 + 1 * r.val = r.val; rw [e1]; omega
  | ⟨2, _⟩ => show win0_0.index t (2 : Fin 3) * 1024 + 1 * j.val = j.val; rw [e2]; omega

/-- The sum over the slots. -/
def total (c : Dev nD) : Buf (Elt Ideal) ((c : Thread nD τ).loc main_v0) :=
  fun i => (∑ k : Fin 8, slot (argS m c) k ⟨(i 0).val, (i 0).isLt⟩ ⟨(i 1).val, (i 1).isLt⟩ : EReal)

theorem flushed_total (c : Dev nD) (t : Fin cfg0.N) :
    (dats m 0 c).flushed 1 t = ((cfg0.win 1).blk t).view.read (Elt Ideal) (total m c) := by
  obtain ⟨e0, e1⟩ := index_out t
  funext y
  have hy0 : (y 0).val < 160 := (y 0).isLt
  have hy1 : (y 1).val < 1024 := (y 1).isLt
  have hb0 : (((cfg0.win 1).blk t).view.emb y 0).val = win0_1.index t (0 : Fin 2) * 160 + 1 * (y 0).val := rfl
  have hb1 : (((cfg0.win 1).blk t).view.emb y 1).val = win0_1.index t (1 : Fin 2) * 1024 + 1 * (y 1).val := rfl
  have hx : (cfg0.win 1).xinj (grid0.coords t) y = ix2 (⟨(y 0).val, hy0⟩ : Fin 160) (⟨(y 1).val, hy1⟩ : Fin 1024) :=
    funext fun a => Fin.ext (match a with | ⟨0, _⟩ => rfl | ⟨1, _⟩ => rfl)
  show (dats m 0 c).after 1 t ((cfg0.win 1).xinj (grid0.coords t) y) = total m c (((cfg0.win 1).blk t).view.emb y)
  rw [after0_1, hx, stored_apply]
  unfold total
  refine (Finset.sum_congr rfl fun k _ => ?_ : (∑ k : Fin 8, _ : EReal) = ∑ k : Fin 8, _)
  rw [block_in]
  refine congrArg₂ (slot (argS m c) k) (Fin.ext ?_) (Fin.ext ?_)
  · show (y 0).val = (((cfg0.win 1).blk t).view.emb y 0).val
    rw [hb0, e0]; omega
  · show (y 1).val = (((cfg0.win 1).blk t).view.emb y 1).val
    rw [hb1, e1]; omega

theorem final_total (c : Dev nD) : (dats m 0 c).arrAt 1 cfg0.N = total m c :=
  (dats m 0 c).arrAt_eq_of_cover 1 (total m c) (fun t _ => flushed_total m c t) fun i => by
    have h0 : (i 0 : Nat) < 160 := (i 0).isLt
    have h1 : (i 1 : Nat) < 1024 := (i 1).isLt
    have ht : 0 < cfg0.N := by decide
    obtain ⟨e0, e1⟩ := index_out ⟨0, ht⟩
    refine ⟨⟨0, ht⟩, flush0_1 _, ?_⟩
    show i ∈ ((View.whole main_v0).slice (win0_1.rect ⟨0, ht⟩)).set
    rw [View.set_slice_whole, Rect.mem_set_unit]
    intro a
    match a with
    | ⟨0, _⟩ =>
      show win0_1.index ⟨0, ht⟩ (0 : Fin 2) * 160 ≤ (i 0).val ∧ (i 0).val < win0_1.index ⟨0, ht⟩ (0 : Fin 2) * 160 + 160
      rw [e0]; omega
    | ⟨1, _⟩ =>
      show win0_1.index ⟨0, ht⟩ (1 : Fin 2) * 1024 ≤ (i 1).val ∧ (i 1).val < win0_1.index ⟨0, ht⟩ (1 : Fin 2) * 1024 + 1024
      rw [e1]; omega

open Cert.Reference22Ideal.Read in
/-- The plain sum is the same. -/
theorem reference_eq (c : Dev nD) : val_main_v0 (F := Ideal) (argS m c) = total m c := by
  funext i
  rw [val_main_v0_apply]
  show Ideal.ofBits .f32 0x00000000#32 + _ = _
  rw [Ideal.ofBits_zero_f32, zero_add]
  unfold total
  refine Finset.sum_congr rfl fun k _ => congrArg (argS m c) (funext fun a => ?_)
  match a with
  | ⟨0, _⟩ => rfl
  | ⟨1, _⟩ => rfl
  | ⟨2, _⟩ => rfl

/-- The kernel sums the slots. -/
theorem algebraic : Cert.algebraic_Kernel22Ideal_Reference22Ideal := by
  intro m ρ m' ρ' _ hargs
  refine ⟨fun c => total m c, ?_, ?_⟩
  · exact (θ_run _ _ _).mono (fun r h c =>
      ⟨((h c).1 1).trans (final_total m c),
       ((h c).1 0).trans (((dats m 0 c).arrAt_in 0 rfl _).trans ((A_eq m c 0).trans (V_main_arg0 m c)))⟩)
      (run_main (F := Ideal) m ρ)
  · refine (θ_run _ _ _).mono (fun r h c => ⟨(h c).1.trans ?_, (h c).2⟩)
      (Cert.Reference22Ideal.Value.run (F := Ideal) m' ρ')
    rw [hargs c]
    exact (Cert.Reference22Ideal.Read.val_main_v0_eq _).trans (reference_eq m c)

end Cert.Kernel22Ideal.SlotSum

end
-- ==== Proof.lean ====
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.WeightGrad2
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.NormedProductGrad3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.ProductNormGrad4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.NormedProductGrad5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.ProductNormGrad6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.WeightGrad7
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.WeightGrad8
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.WeightGrad9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.NormedProduct10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.NormedProduct11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.ProductNorm12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ProductNorm13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.AdamStep
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.LossHead
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.GatedConvGrid
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Reference22Ideal.Read
public import proofs.«01_k».proof.Proof.SlotSum
public import Idealize.ShloMosaic.Adequacy
public import Idealize.ShloMosaic.Init

/-! The certificate: for each call that holds a product of the step its
    frames, and that it computes over the extended reals what its reference does. -/

@[expose] public section

noncomputable section

namespace Cert.Proof

open Idealize.ShloMosaic Idealize.SL.Sem

theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts,
   fun m ρ _ => Cert.Kernel2.Gen.frame m ρ,
   fun m ρ _ => Cert.Kernel2Ideal.Gen.frame m ρ,
   fun m ρ _ => (θ_run Cert.Reference2Ideal.defs _ _).mono (fun r h => ⟨fun c => (h c).2, sem_eq_zero_of_no_sems (by decide) r.2⟩)
     (Cert.Reference2Ideal.Value.run (F := Ideal) m ρ),
   fun m ρ _ => Cert.Kernel3.Gen.frame m ρ,
   fun m ρ _ => Cert.Kernel3Ideal.Gen.frame m ρ,
   fun m ρ _ => (θ_run Cert.Reference3Ideal.defs _ _).mono (fun r h => ⟨fun c => (h c).2.2, sem_eq_zero_of_no_sems (by decide) r.2⟩)
     (Cert.Reference3Ideal.Value.run (F := Ideal) m ρ),
   fun m ρ _ => Cert.Kernel4.Gen.frame m ρ,
   fun m ρ _ => Cert.Kernel4Ideal.Gen.frame m ρ,
   fun m ρ _ => (θ_run Cert.Reference4Ideal.defs _ _).mono (fun r h => ⟨fun c => (h c).2.2.2, sem_eq_zero_of_no_sems (by decide) r.2⟩)
     (Cert.Reference4Ideal.Value.run (F := Ideal) m ρ),
   fun m ρ _ => Cert.Kernel5.Gen.frame m ρ,
   fun m ρ _ => Cert.Kernel5Ideal.Gen.frame m ρ,
   fun m ρ _ => (θ_run Cert.Reference5Ideal.defs _ _).mono (fun r h => ⟨fun c => (h c).2.2.2, sem_eq_zero_of_no_sems (by decide) r.2⟩)
     (Cert.Reference5Ideal.Value.run (F := Ideal) m ρ),
   fun m ρ _ => Cert.Kernel6.Gen.frame m ρ,
   fun m ρ _ => Cert.Kernel6Ideal.Gen.frame m ρ,
   fun m ρ _ => (θ_run Cert.Reference6Ideal.defs _ _).mono (fun r h => ⟨fun c => (h c).2.2.2, sem_eq_zero_of_no_sems (by decide) r.2⟩)
     (Cert.Reference6Ideal.Value.run (F := Ideal) m ρ),
   fun m ρ _ => Cert.Kernel7.Gen.frame m ρ,
   fun m ρ _ => Cert.Kernel7Ideal.Gen.frame m ρ,
   fun m ρ _ => (θ_run Cert.Reference7Ideal.defs _ _).mono (fun r h => ⟨fun c => (h c).2, sem_eq_zero_of_no_sems (by decide) r.2⟩)
     (Cert.Reference7Ideal.Value.run (F := Ideal) m ρ),
   fun m ρ _ => Cert.Kernel8.Gen.frame m ρ,
   fun m ρ _ => Cert.Kernel8Ideal.Gen.frame m ρ,
   fun m ρ _ => (θ_run Cert.Reference8Ideal.defs _ _).mono (fun r h => ⟨fun c => (h c).2, sem_eq_zero_of_no_sems (by decide) r.2⟩)
     (Cert.Reference8Ideal.Value.run (F := Ideal) m ρ),
   fun m ρ _ => Cert.Kernel9.Gen.frame m ρ,
   fun m ρ _ => Cert.Kernel9Ideal.Gen.frame m ρ,
   fun m ρ _ => (θ_run Cert.Reference9Ideal.defs _ _).mono (fun r h => ⟨fun c => (h c).2, sem_eq_zero_of_no_sems (by decide) r.2⟩)
     (Cert.Reference9Ideal.Value.run (F := Ideal) m ρ),
   fun m ρ _ => Cert.Kernel10.Gen.frame m ρ,
   fun m ρ _ => Cert.Kernel10Ideal.Gen.frame m ρ,
   fun m ρ _ => (θ_run Cert.Reference10Ideal.defs _ _).mono (fun r h => ⟨fun c => (h c).2.2, sem_eq_zero_of_no_sems (by decide) r.2⟩)
     (Cert.Reference10Ideal.Value.run (F := Ideal) m ρ),
   fun m ρ _ => Cert.Kernel11.Gen.frame m ρ,
   fun m ρ _ => Cert.Kernel11Ideal.Gen.frame m ρ,
   fun m ρ _ => (θ_run Cert.Reference11Ideal.defs _ _).mono (fun r h => ⟨fun c => (h c).2.2, sem_eq_zero_of_no_sems (by decide) r.2⟩)
     (Cert.Reference11Ideal.Value.run (F := Ideal) m ρ),
   fun m ρ _ => Cert.Kernel12.Gen.frame m ρ,
   fun m ρ _ => Cert.Kernel12Ideal.Gen.frame m ρ,
   fun m ρ _ => (θ_run Cert.Reference12Ideal.defs _ _).mono (fun r h => ⟨fun c => (h c).2.2, sem_eq_zero_of_no_sems (by decide) r.2⟩)
     (Cert.Reference12Ideal.Value.run (F := Ideal) m ρ),
   fun m ρ _ => Cert.Kernel13.Gen.frame m ρ,
   fun m ρ _ => Cert.Kernel13Ideal.Gen.frame m ρ,
   fun m ρ _ => (θ_run Cert.Reference13Ideal.defs _ _).mono (fun r h => ⟨fun c => (h c).2.2, sem_eq_zero_of_no_sems (by decide) r.2⟩)
     (Cert.Reference13Ideal.Value.run (F := Ideal) m ρ),
   fun m ρ _ => Cert.Kernel14.Gen.frame m ρ,
   fun m ρ _ => Cert.Kernel14Ideal.Gen.frame m ρ,
   fun m ρ _ => (θ_run Cert.Reference14Ideal.defs _ _).mono (fun r h => ⟨fun c => (h c).2.2.2, sem_eq_zero_of_no_sems (by decide) r.2⟩)
     (Cert.Reference14Ideal.Value.run (F := Ideal) m ρ),
   fun m ρ _ => Cert.Kernel15.Gen.frame m ρ,
   fun m ρ _ => Cert.Kernel15Ideal.Gen.frame m ρ,
   fun m ρ _ => (θ_run Cert.Reference15Ideal.defs _ _).mono (fun r h => ⟨fun c => (h c).2.2.2, sem_eq_zero_of_no_sems (by decide) r.2⟩)
     (Cert.Reference15Ideal.Value.run (F := Ideal) m ρ),
   fun m ρ _ => Cert.Kernel16.Gen.frame m ρ,
   fun m ρ _ => Cert.Kernel16Ideal.Gen.frame m ρ,
   fun m ρ _ => (θ_run Cert.Reference16Ideal.defs _ _).mono (fun r h => ⟨fun c => (h c).2.2.2, sem_eq_zero_of_no_sems (by decide) r.2⟩)
     (Cert.Reference16Ideal.Value.run (F := Ideal) m ρ),
   fun m ρ _ => Cert.Kernel17.Gen.frame m ρ,
   fun m ρ _ => Cert.Kernel17Ideal.Gen.frame m ρ,
   fun m ρ _ => (θ_run Cert.Reference17Ideal.defs _ _).mono (fun r h => ⟨fun c => (h c).2.2.2, sem_eq_zero_of_no_sems (by decide) r.2⟩)
     (Cert.Reference17Ideal.Value.run (F := Ideal) m ρ),
   fun m ρ _ => Cert.Kernel18.Gen.frame m ρ,
   fun m ρ _ => Cert.Kernel18Ideal.Gen.frame m ρ,
   fun m ρ _ => (θ_run Cert.Reference18Ideal.defs _ _).mono (fun r h => ⟨fun c => (h c).2.2.2, sem_eq_zero_of_no_sems (by decide) r.2⟩)
     (Cert.Reference18Ideal.Value.run (F := Ideal) m ρ),
   fun m ρ _ => Cert.Kernel19.Gen.frame m ρ,
   fun m ρ _ => Cert.Kernel19Ideal.Gen.frame m ρ,
   fun m ρ _ => (θ_run Cert.Reference19Ideal.defs _ _).mono (fun r h => ⟨fun c => (h c).2.2.2, sem_eq_zero_of_no_sems (by decide) r.2⟩)
     (Cert.Reference19Ideal.Value.run (F := Ideal) m ρ),
   fun m ρ _ => Cert.Kernel20.Gen.frame m ρ,
   fun m ρ _ => Cert.Kernel20Ideal.Gen.frame m ρ,
   fun m ρ _ => (θ_run Cert.Reference20Ideal.defs _ _).mono (fun r h => ⟨fun c => (h c).2.2, sem_eq_zero_of_no_sems (by decide) r.2⟩)
     (Cert.Reference20Ideal.Value.run (F := Ideal) m ρ),
   fun m ρ _ => Cert.Kernel21.Gen.frame m ρ,
   fun m ρ _ => Cert.Kernel21Ideal.Gen.frame m ρ,
   fun m ρ _ => (θ_run Cert.Reference21Ideal.defs _ _).mono (fun r h => ⟨fun c => (h c).2, sem_eq_zero_of_no_sems (by decide) r.2⟩)
     (Cert.Reference21Ideal.Value.run (F := Ideal) m ρ),
   fun m ρ _ => Cert.Kernel22.Gen.frame m ρ,
   fun m ρ _ => Cert.Kernel22Ideal.Gen.frame m ρ,
   fun m ρ _ => (θ_run Cert.Reference22Ideal.defs _ _).mono (fun r h => ⟨fun c => (h c).2, sem_eq_zero_of_no_sems (by decide) r.2⟩)
     (Cert.Reference22Ideal.Value.run (F := Ideal) m ρ),
   trivial,
   Cert.Kernel2Ideal.WeightGrad.algebraic,
   trivial,
   Cert.Kernel3Ideal.NormedProductGrad.algebraic,
   trivial,
   Cert.Kernel4Ideal.ProductNormGrad.algebraic,
   trivial,
   Cert.Kernel5Ideal.NormedProductGrad.algebraic,
   trivial,
   Cert.Kernel6Ideal.ProductNormGrad.algebraic,
   trivial,
   Cert.Kernel7Ideal.WeightGrad.algebraic,
   trivial,
   Cert.Kernel8Ideal.WeightGrad.algebraic,
   trivial,
   Cert.Kernel9Ideal.WeightGrad.algebraic,
   trivial,
   Cert.Kernel10Ideal.NormedProduct.algebraic,
   trivial,
   Cert.Kernel11Ideal.NormedProduct.algebraic,
   trivial,
   Cert.Kernel12Ideal.ProductNorm.algebraic,
   trivial,
   Cert.Kernel13Ideal.ProductNorm.algebraic,
   trivial,
   Cert.Kernel14Ideal.AdamStep.algebraic,
   trivial,
   Cert.Kernel15Ideal.AdamStep.algebraic,
   trivial,
   Cert.Kernel16Ideal.AdamStep.algebraic,
   trivial,
   Cert.Kernel17Ideal.AdamStep.algebraic,
   trivial,
   Cert.Kernel18Ideal.AdamStep.algebraic,
   trivial,
   Cert.Kernel19Ideal.AdamStep.algebraic,
   trivial,
   Cert.Kernel20Ideal.LossHead.algebraic,
   trivial,
   Cert.Kernel21Ideal.GatedConv.algebraic,
   trivial,
   Cert.Kernel22Ideal.SlotSum.algebraic⟩

end Cert.Proof

end
